-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MoeUp [hPre_up_blocks : Cert.Pre_up_blocks.Facts] (m : (ℓ : Loc Cert.MoeUp.nD Cert.MoeUp.τ Cert.MoeUp.sig) → Buf (Elt Bits) ℓ) : Prop :=
  ∀ c : Dev Cert.MoeUp.nD,
    (Cert.Pre_up_blocks.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5))) = (fun _ => 1#1)

def Pre_MoeUpIdeal [hPre_up_blocks : Cert.Pre_up_blocks.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_up_blocks.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5))) = (fun _ => 1#1)

def Pre_MoeUpReferenceIdeal [hPre_up_blocks : Cert.Pre_up_blocks.Facts] (m : (ℓ : Loc Cert.MoeUpReferenceIdeal.nD Cert.MoeUpReferenceIdeal.τ Cert.MoeUpReferenceIdeal.sig) → Buf (Elt Ideal) ℓ) : Prop :=
  ∀ c : Dev Cert.MoeUpReferenceIdeal.nD,
    (Cert.Pre_up_blocks.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5))) = (fun _ => 1#1)

def Pre_MoeDown [hPre_down_blocks : Cert.Pre_down_blocks.Facts] (m : (ℓ : Loc Cert.MoeDown.nD Cert.MoeDown.τ Cert.MoeDown.sig) → Buf (Elt Bits) ℓ) : Prop :=
  ∀ c : Dev Cert.MoeDown.nD,
    (Cert.Pre_down_blocks.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_down_blocks : Cert.Pre_down_blocks.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_blocks.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownReferenceIdeal [hPre_down_blocks : Cert.Pre_down_blocks.Facts] (m : (ℓ : Loc Cert.MoeDownReferenceIdeal.nD Cert.MoeDownReferenceIdeal.τ Cert.MoeDownReferenceIdeal.sig) → Buf (Elt Ideal) ℓ) : Prop :=
  ∀ c : Dev Cert.MoeDownReferenceIdeal.nD,
    (Cert.Pre_down_blocks.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3))) = (fun _ => 1#1)

def Pre_SampleProj (m : (ℓ : Loc Cert.SampleProj.nD Cert.SampleProj.τ Cert.SampleProj.sig) → Buf (Elt Bits) ℓ) : Prop :=
  True

def Pre_SampleProjIdeal (m : (ℓ : Loc Cert.SampleProjIdeal.nD Cert.SampleProjIdeal.τ Cert.SampleProjIdeal.sig) → Buf (Elt Ideal) ℓ) : Prop :=
  True

def Pre_SampleProjReferenceIdeal (m : (ℓ : Loc Cert.SampleProjReferenceIdeal.nD Cert.SampleProjReferenceIdeal.τ Cert.SampleProjReferenceIdeal.sig) → Buf (Elt Ideal) ℓ) : Prop :=
  True

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_MoeUp [hMoeUp : Cert.MoeUp.Facts] [hPre_up_blocks : Cert.Pre_up_blocks.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4)
      ∧ r.2.mem ((c.tc : Thread Cert.MoeUp.nD Cert.MoeUp.τ).loc Cert.MoeUp.main_arg5) = m ((c.tc : Thread Cert.MoeUp.nD Cert.MoeUp.τ).loc Cert.MoeUp.main_arg5))
      ∧ r.2.sem = fun _ => 0)

def quiescent_MoeUpIdeal [hMoeUpIdeal : Cert.MoeUpIdeal.Facts] [hPre_up_blocks : Cert.Pre_up_blocks.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ r.2.sem = fun _ => 0)

def quiescent_MoeUpReferenceIdeal [hMoeUpReferenceIdeal : Cert.MoeUpReferenceIdeal.Facts] [hPre_up_blocks : Cert.Pre_up_blocks.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4)
      ∧ r.2.mem ((c.tc : Thread Cert.MoeUpReferenceIdeal.nD Cert.MoeUpReferenceIdeal.τ).loc Cert.MoeUpReferenceIdeal.main_arg5) = m ((c.tc : Thread Cert.MoeUpReferenceIdeal.nD Cert.MoeUpReferenceIdeal.τ).loc Cert.MoeUpReferenceIdeal.main_arg5))
      ∧ r.2.sem = fun _ => 0)

def quiescent_MoeDown [hMoeDown : Cert.MoeDown.Facts] [hPre_down_blocks : Cert.Pre_down_blocks.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_down_blocks : Cert.Pre_down_blocks.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownReferenceIdeal [hMoeDownReferenceIdeal : Cert.MoeDownReferenceIdeal.Facts] [hPre_down_blocks : Cert.Pre_down_blocks.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3))
      ∧ r.2.sem = fun _ => 0)

def quiescent_SampleProj [hSampleProj : Cert.SampleProj.Facts] : Prop :=
  ∀ (m : (ℓ : Loc Cert.SampleProj.nD Cert.SampleProj.τ Cert.SampleProj.sig) → Buf (Elt Bits) ℓ) (g : Dev Cert.SampleProj.nD → PrngReg), Pre_SampleProj m →
    θ_run (Cert.SampleProj.defs (F := Bits)) (onTc (τ := Cert.SampleProj.τ) (Cert.SampleProj.main (F := Bits))) ⟨m, fun _ => 0, g⟩ (fun r => (∀ c : Dev Cert.SampleProj.nD,
      r.2.mem ((c.tc : Thread Cert.SampleProj.nD Cert.SampleProj.τ).loc Cert.SampleProj.main_arg0) = m ((c.tc : Thread Cert.SampleProj.nD Cert.SampleProj.τ).loc Cert.SampleProj.main_arg0)
      ∧ r.2.mem ((c.tc : Thread Cert.SampleProj.nD Cert.SampleProj.τ).loc Cert.SampleProj.main_arg1) = m ((c.tc : Thread Cert.SampleProj.nD Cert.SampleProj.τ).loc Cert.SampleProj.main_arg1))
      ∧ r.2.sem = fun _ => 0)

def quiescent_SampleProjIdeal [hSampleProjIdeal : Cert.SampleProjIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1))
      ∧ r.2.sem = fun _ => 0)

def quiescent_SampleProjReferenceIdeal [hSampleProjReferenceIdeal : Cert.SampleProjReferenceIdeal.Facts] : Prop :=
  ∀ (m : (ℓ : Loc Cert.SampleProjReferenceIdeal.nD Cert.SampleProjReferenceIdeal.τ Cert.SampleProjReferenceIdeal.sig) → Buf (Elt Ideal) ℓ) (g : Dev Cert.SampleProjReferenceIdeal.nD → PrngReg), Pre_SampleProjReferenceIdeal m →
    θ_run (Cert.SampleProjReferenceIdeal.defs (F := Ideal)) (onTc (τ := Cert.SampleProjReferenceIdeal.τ) (Cert.SampleProjReferenceIdeal.main (F := Ideal))) ⟨m, fun _ => 0, g⟩ (fun r => (∀ c : Dev Cert.SampleProjReferenceIdeal.nD,
      r.2.mem ((c.tc : Thread Cert.SampleProjReferenceIdeal.nD Cert.SampleProjReferenceIdeal.τ).loc Cert.SampleProjReferenceIdeal.main_arg0) = m ((c.tc : Thread Cert.SampleProjReferenceIdeal.nD Cert.SampleProjReferenceIdeal.τ).loc Cert.SampleProjReferenceIdeal.main_arg0)
      ∧ r.2.mem ((c.tc : Thread Cert.SampleProjReferenceIdeal.nD Cert.SampleProjReferenceIdeal.τ).loc Cert.SampleProjReferenceIdeal.main_arg1) = m ((c.tc : Thread Cert.SampleProjReferenceIdeal.nD Cert.SampleProjReferenceIdeal.τ).loc Cert.SampleProjReferenceIdeal.main_arg1))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2)
      ∧ r.2.mem ((c.tc : Thread Cert.SampleKernel.nD Cert.SampleKernel.τ).loc Cert.SampleKernel.main_arg3) = m ((c.tc : Thread Cert.SampleKernel.nD Cert.SampleKernel.τ).loc Cert.SampleKernel.main_arg3)
      ∧ r.2.mem ((c.tc : Thread Cert.SampleKernel.nD Cert.SampleKernel.τ).loc Cert.SampleKernel.main_arg4) = m ((c.tc : Thread Cert.SampleKernel.nD Cert.SampleKernel.τ).loc Cert.SampleKernel.main_arg4)
      ∧ r.2.mem ((c.tc : Thread Cert.SampleKernel.nD Cert.SampleKernel.τ).loc Cert.SampleKernel.main_arg5) = m ((c.tc : Thread Cert.SampleKernel.nD Cert.SampleKernel.τ).loc Cert.SampleKernel.main_arg5)
      ∧ r.2.mem ((c.tc : Thread Cert.SampleKernel.nD Cert.SampleKernel.τ).loc Cert.SampleKernel.main_arg6) = m ((c.tc : Thread Cert.SampleKernel.nD Cert.SampleKernel.τ).loc Cert.SampleKernel.main_arg6))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v22) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_MoeUp_MoeUpIdeal : Prop :=
  True

def algebraic_MoeUpIdeal_MoeUpReferenceIdeal [hMoeUpIdeal : Cert.MoeUpIdeal.Facts] [hMoeUpReferenceIdeal : Cert.MoeUpReferenceIdeal.Facts] [hPre_up_blocks : Cert.Pre_up_blocks.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpReferenceIdeal.nD Cert.MoeUpReferenceIdeal.τ Cert.MoeUpReferenceIdeal.sig) → Buf (Elt Ideal) ℓ) (g' : Dev Cert.MoeUpReferenceIdeal.nD → PrngReg), Pre_MoeUpIdeal m →
    (∀ c : Dev Cert.MoeUpIdeal.nD,
      m' ((c.tc : Thread Cert.MoeUpReferenceIdeal.nD Cert.MoeUpReferenceIdeal.τ).loc Cert.MoeUpReferenceIdeal.main_arg0) = m ((c.tc : Thread Cert.MoeUpIdeal.nD Cert.MoeUpIdeal.τ).loc Cert.MoeUpIdeal.main_arg0)
      ∧ m' ((c.tc : Thread Cert.MoeUpReferenceIdeal.nD Cert.MoeUpReferenceIdeal.τ).loc Cert.MoeUpReferenceIdeal.main_arg1) = m ((c.tc : Thread Cert.MoeUpIdeal.nD Cert.MoeUpIdeal.τ).loc Cert.MoeUpIdeal.main_arg1)
      ∧ m' ((c.tc : Thread Cert.MoeUpReferenceIdeal.nD Cert.MoeUpReferenceIdeal.τ).loc Cert.MoeUpReferenceIdeal.main_arg2) = m ((c.tc : Thread Cert.MoeUpIdeal.nD Cert.MoeUpIdeal.τ).loc Cert.MoeUpIdeal.main_arg2)
      ∧ m' ((c.tc : Thread Cert.MoeUpReferenceIdeal.nD Cert.MoeUpReferenceIdeal.τ).loc Cert.MoeUpReferenceIdeal.main_arg3) = m ((c.tc : Thread Cert.MoeUpIdeal.nD Cert.MoeUpIdeal.τ).loc Cert.MoeUpIdeal.main_arg3)
      ∧ m' ((c.tc : Thread Cert.MoeUpReferenceIdeal.nD Cert.MoeUpReferenceIdeal.τ).loc Cert.MoeUpReferenceIdeal.main_arg4) = m ((c.tc : Thread Cert.MoeUpIdeal.nD Cert.MoeUpIdeal.τ).loc Cert.MoeUpIdeal.main_arg4)
      ∧ m' ((c.tc : Thread Cert.MoeUpReferenceIdeal.nD Cert.MoeUpReferenceIdeal.τ).loc Cert.MoeUpReferenceIdeal.main_arg5) = m ((c.tc : Thread Cert.MoeUpIdeal.nD Cert.MoeUpIdeal.τ).loc Cert.MoeUpIdeal.main_arg5)) →
    ∃ (v0 : (c : Dev Cert.MoeUpIdeal.nD) → Buf (Elt Ideal) ((c.tc : Thread Cert.MoeUpIdeal.nD Cert.MoeUpIdeal.τ).loc Cert.MoeUpIdeal.main_v68)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v68) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
          ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ θ_run (Cert.MoeUpReferenceIdeal.defs (F := Ideal)) (onTc (τ := Cert.MoeUpReferenceIdeal.τ) (Cert.MoeUpReferenceIdeal.main (F := Ideal))) ⟨m', fun _ => 0, g'⟩ (fun r => ∀ c : Dev Cert.MoeUpReferenceIdeal.nD,
          r.2.mem ((c.tc : Thread Cert.MoeUpReferenceIdeal.nD Cert.MoeUpReferenceIdeal.τ).loc Cert.MoeUpReferenceIdeal.main_v78) = v0 c
          ∧ r.2.mem ((c.tc : Thread Cert.MoeUpReferenceIdeal.nD Cert.MoeUpReferenceIdeal.τ).loc Cert.MoeUpReferenceIdeal.main_arg0) = m' ((c.tc : Thread Cert.MoeUpReferenceIdeal.nD Cert.MoeUpReferenceIdeal.τ).loc Cert.MoeUpReferenceIdeal.main_arg0)
          ∧ r.2.mem ((c.tc : Thread Cert.MoeUpReferenceIdeal.nD Cert.MoeUpReferenceIdeal.τ).loc Cert.MoeUpReferenceIdeal.main_arg1) = m' ((c.tc : Thread Cert.MoeUpReferenceIdeal.nD Cert.MoeUpReferenceIdeal.τ).loc Cert.MoeUpReferenceIdeal.main_arg1)
          ∧ r.2.mem ((c.tc : Thread Cert.MoeUpReferenceIdeal.nD Cert.MoeUpReferenceIdeal.τ).loc Cert.MoeUpReferenceIdeal.main_arg2) = m' ((c.tc : Thread Cert.MoeUpReferenceIdeal.nD Cert.MoeUpReferenceIdeal.τ).loc Cert.MoeUpReferenceIdeal.main_arg2)
          ∧ r.2.mem ((c.tc : Thread Cert.MoeUpReferenceIdeal.nD Cert.MoeUpReferenceIdeal.τ).loc Cert.MoeUpReferenceIdeal.main_arg3) = m' ((c.tc : Thread Cert.MoeUpReferenceIdeal.nD Cert.MoeUpReferenceIdeal.τ).loc Cert.MoeUpReferenceIdeal.main_arg3)
          ∧ r.2.mem ((c.tc : Thread Cert.MoeUpReferenceIdeal.nD Cert.MoeUpReferenceIdeal.τ).loc Cert.MoeUpReferenceIdeal.main_arg4) = m' ((c.tc : Thread Cert.MoeUpReferenceIdeal.nD Cert.MoeUpReferenceIdeal.τ).loc Cert.MoeUpReferenceIdeal.main_arg4)
          ∧ r.2.mem ((c.tc : Thread Cert.MoeUpReferenceIdeal.nD Cert.MoeUpReferenceIdeal.τ).loc Cert.MoeUpReferenceIdeal.main_arg5) = m' ((c.tc : Thread Cert.MoeUpReferenceIdeal.nD Cert.MoeUpReferenceIdeal.τ).loc Cert.MoeUpReferenceIdeal.main_arg5))

def preserves_MoeDown_MoeDownIdeal : Prop :=
  True

def algebraic_MoeDownIdeal_MoeDownReferenceIdeal [hMoeDownIdeal : Cert.MoeDownIdeal.Facts] [hMoeDownReferenceIdeal : Cert.MoeDownReferenceIdeal.Facts] [hPre_down_blocks : Cert.Pre_down_blocks.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownReferenceIdeal.nD Cert.MoeDownReferenceIdeal.τ Cert.MoeDownReferenceIdeal.sig) → Buf (Elt Ideal) ℓ) (g' : Dev Cert.MoeDownReferenceIdeal.nD → PrngReg), Pre_MoeDownIdeal m →
    (∀ c : Dev Cert.MoeDownIdeal.nD,
      m' ((c.tc : Thread Cert.MoeDownReferenceIdeal.nD Cert.MoeDownReferenceIdeal.τ).loc Cert.MoeDownReferenceIdeal.main_arg0) = m ((c.tc : Thread Cert.MoeDownIdeal.nD Cert.MoeDownIdeal.τ).loc Cert.MoeDownIdeal.main_arg0)
      ∧ m' ((c.tc : Thread Cert.MoeDownReferenceIdeal.nD Cert.MoeDownReferenceIdeal.τ).loc Cert.MoeDownReferenceIdeal.main_arg1) = m ((c.tc : Thread Cert.MoeDownIdeal.nD Cert.MoeDownIdeal.τ).loc Cert.MoeDownIdeal.main_arg1)
      ∧ m' ((c.tc : Thread Cert.MoeDownReferenceIdeal.nD Cert.MoeDownReferenceIdeal.τ).loc Cert.MoeDownReferenceIdeal.main_arg2) = m ((c.tc : Thread Cert.MoeDownIdeal.nD Cert.MoeDownIdeal.τ).loc Cert.MoeDownIdeal.main_arg2)
      ∧ m' ((c.tc : Thread Cert.MoeDownReferenceIdeal.nD Cert.MoeDownReferenceIdeal.τ).loc Cert.MoeDownReferenceIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v67)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v67) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownReferenceIdeal.defs (F := Ideal)) (onTc (τ := Cert.MoeDownReferenceIdeal.τ) (Cert.MoeDownReferenceIdeal.main (F := Ideal))) ⟨m', fun _ => 0, g'⟩ (fun r => ∀ c : Dev Cert.MoeDownReferenceIdeal.nD,
          r.2.mem ((c.tc : Thread Cert.MoeDownReferenceIdeal.nD Cert.MoeDownReferenceIdeal.τ).loc Cert.MoeDownReferenceIdeal.main_v40) = v0 c
          ∧ r.2.mem ((c.tc : Thread Cert.MoeDownReferenceIdeal.nD Cert.MoeDownReferenceIdeal.τ).loc Cert.MoeDownReferenceIdeal.main_arg0) = m' ((c.tc : Thread Cert.MoeDownReferenceIdeal.nD Cert.MoeDownReferenceIdeal.τ).loc Cert.MoeDownReferenceIdeal.main_arg0)
          ∧ r.2.mem ((c.tc : Thread Cert.MoeDownReferenceIdeal.nD Cert.MoeDownReferenceIdeal.τ).loc Cert.MoeDownReferenceIdeal.main_arg1) = m' ((c.tc : Thread Cert.MoeDownReferenceIdeal.nD Cert.MoeDownReferenceIdeal.τ).loc Cert.MoeDownReferenceIdeal.main_arg1)
          ∧ r.2.mem ((c.tc : Thread Cert.MoeDownReferenceIdeal.nD Cert.MoeDownReferenceIdeal.τ).loc Cert.MoeDownReferenceIdeal.main_arg2) = m' ((c.tc : Thread Cert.MoeDownReferenceIdeal.nD Cert.MoeDownReferenceIdeal.τ).loc Cert.MoeDownReferenceIdeal.main_arg2)
          ∧ r.2.mem ((c.tc : Thread Cert.MoeDownReferenceIdeal.nD Cert.MoeDownReferenceIdeal.τ).loc Cert.MoeDownReferenceIdeal.main_arg3) = m' ((c.tc : Thread Cert.MoeDownReferenceIdeal.nD Cert.MoeDownReferenceIdeal.τ).loc Cert.MoeDownReferenceIdeal.main_arg3))

def preserves_SampleProj_SampleProjIdeal : Prop :=
  True

def algebraic_SampleProjIdeal_SampleProjReferenceIdeal [hSampleProjIdeal : Cert.SampleProjIdeal.Facts] [hSampleProjReferenceIdeal : Cert.SampleProjReferenceIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg)
    (m' : (ℓ : Loc Cert.SampleProjReferenceIdeal.nD Cert.SampleProjReferenceIdeal.τ Cert.SampleProjReferenceIdeal.sig) → Buf (Elt Ideal) ℓ) (g' : Dev Cert.SampleProjReferenceIdeal.nD → PrngReg), Pre_SampleProjIdeal m →
    (∀ c : Dev Cert.SampleProjIdeal.nD,
      m' ((c.tc : Thread Cert.SampleProjReferenceIdeal.nD Cert.SampleProjReferenceIdeal.τ).loc Cert.SampleProjReferenceIdeal.main_arg0) = m ((c.tc : Thread Cert.SampleProjIdeal.nD Cert.SampleProjIdeal.τ).loc Cert.SampleProjIdeal.main_arg0)
      ∧ m' ((c.tc : Thread Cert.SampleProjReferenceIdeal.nD Cert.SampleProjReferenceIdeal.τ).loc Cert.SampleProjReferenceIdeal.main_arg1) = m ((c.tc : Thread Cert.SampleProjIdeal.nD Cert.SampleProjIdeal.τ).loc Cert.SampleProjIdeal.main_arg1)) →
    ∃ (v0 : (c : Dev Cert.SampleProjIdeal.nD) → Buf (Elt Ideal) ((c.tc : Thread Cert.SampleProjIdeal.nD Cert.SampleProjIdeal.τ).loc Cert.SampleProjIdeal.main_v2)),
      θ_run (Cert.SampleProjIdeal.defs (F := Ideal)) (onTc (τ := Cert.SampleProjIdeal.τ) (Cert.SampleProjIdeal.main (F := Ideal))) ⟨m, fun _ => 0, g⟩ (fun r => ∀ c : Dev Cert.SampleProjIdeal.nD,
          r.2.mem ((c.tc : Thread Cert.SampleProjIdeal.nD Cert.SampleProjIdeal.τ).loc Cert.SampleProjIdeal.main_v2) = v0 c
          ∧ r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
          ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1))
      ∧ θ_run (Cert.SampleProjReferenceIdeal.defs (F := Ideal)) (onTc (τ := Cert.SampleProjReferenceIdeal.τ) (Cert.SampleProjReferenceIdeal.main (F := Ideal))) ⟨m', fun _ => 0, g'⟩ (fun r => ∀ c : Dev Cert.SampleProjReferenceIdeal.nD,
          r.2.mem ((c.tc : Thread Cert.SampleProjReferenceIdeal.nD Cert.SampleProjReferenceIdeal.τ).loc Cert.SampleProjReferenceIdeal.main_v1) = v0 c
          ∧ r.2.mem ((c.tc : Thread Cert.SampleProjReferenceIdeal.nD Cert.SampleProjReferenceIdeal.τ).loc Cert.SampleProjReferenceIdeal.main_arg0) = m' ((c.tc : Thread Cert.SampleProjReferenceIdeal.nD Cert.SampleProjReferenceIdeal.τ).loc Cert.SampleProjReferenceIdeal.main_arg0)
          ∧ r.2.mem ((c.tc : Thread Cert.SampleProjReferenceIdeal.nD Cert.SampleProjReferenceIdeal.τ).loc Cert.SampleProjReferenceIdeal.main_arg1) = m' ((c.tc : Thread Cert.SampleProjReferenceIdeal.nD Cert.SampleProjReferenceIdeal.τ).loc Cert.SampleProjReferenceIdeal.main_arg1))

def preserves_SampleKernel_SampleKernelIdeal : Prop :=
  True

def algebraic_SampleKernelIdeal_SampleReferenceIdeal [hSampleKernelIdeal : Cert.SampleKernelIdeal.Facts] [hSampleReferenceIdeal : Cert.SampleReferenceIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)
      ∧ m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3)
      ∧ m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4)
      ∧ m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5)
      ∧ m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6)) →
    ∃ (v0 : (c : Dev Cert.SampleKernelIdeal.nD) → Buf (Elt Ideal) ((c.tc : Thread Cert.SampleKernelIdeal.nD Cert.SampleKernelIdeal.τ).loc Cert.SampleKernelIdeal.main_v8_0)) (v1 : (c : Dev Cert.SampleKernelIdeal.nD) → Buf (Elt Ideal) ((c.tc : Thread Cert.SampleKernelIdeal.nD Cert.SampleKernelIdeal.τ).loc Cert.SampleKernelIdeal.main_v8_1)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v8_0) = v0 c
          ∧ r.2.mem ((c.tc : Thread Cert.SampleKernelIdeal.nD Cert.SampleKernelIdeal.τ).loc Cert.SampleKernelIdeal.main_v8_1) = v1 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
          ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
          ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
          ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
          ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v15) = v0 c
          ∧ r.2.mem ((c.tc : Thread Cert.SampleReferenceIdeal.nD Cert.SampleReferenceIdeal.τ).loc Cert.SampleReferenceIdeal.main_v13_7) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hMoeUp : Cert.MoeUp.Facts) (hMoeUpIdeal : Cert.MoeUpIdeal.Facts) (hMoeUpReferenceIdeal : Cert.MoeUpReferenceIdeal.Facts) (hMoeDown : Cert.MoeDown.Facts) (hMoeDownIdeal : Cert.MoeDownIdeal.Facts) (hMoeDownReferenceIdeal : Cert.MoeDownReferenceIdeal.Facts) (hSampleProj : Cert.SampleProj.Facts) (hSampleProjIdeal : Cert.SampleProjIdeal.Facts) (hSampleProjReferenceIdeal : Cert.SampleProjReferenceIdeal.Facts) (hSampleKernel : Cert.SampleKernel.Facts) (hSampleKernelIdeal : Cert.SampleKernelIdeal.Facts) (hSampleReferenceIdeal : Cert.SampleReferenceIdeal.Facts) (hPre_up_blocks : Cert.Pre_up_blocks.Facts) (hPre_down_blocks : Cert.Pre_down_blocks.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_MoeUp (hMoeUp := hMoeUp) (hPre_up_blocks := hPre_up_blocks)
    ∧ quiescent_MoeUpIdeal (hMoeUpIdeal := hMoeUpIdeal) (hPre_up_blocks := hPre_up_blocks)
    ∧ quiescent_MoeUpReferenceIdeal (hMoeUpReferenceIdeal := hMoeUpReferenceIdeal) (hPre_up_blocks := hPre_up_blocks)
    ∧ quiescent_MoeDown (hMoeDown := hMoeDown) (hPre_down_blocks := hPre_down_blocks)
    ∧ quiescent_MoeDownIdeal (hMoeDownIdeal := hMoeDownIdeal) (hPre_down_blocks := hPre_down_blocks)
    ∧ quiescent_MoeDownReferenceIdeal (hMoeDownReferenceIdeal := hMoeDownReferenceIdeal) (hPre_down_blocks := hPre_down_blocks)
    ∧ quiescent_SampleProj (hSampleProj := hSampleProj)
    ∧ quiescent_SampleProjIdeal (hSampleProjIdeal := hSampleProjIdeal)
    ∧ quiescent_SampleProjReferenceIdeal (hSampleProjReferenceIdeal := hSampleProjReferenceIdeal)
    ∧ quiescent_SampleKernel (hSampleKernel := hSampleKernel)
    ∧ quiescent_SampleKernelIdeal (hSampleKernelIdeal := hSampleKernelIdeal)
    ∧ quiescent_SampleReferenceIdeal (hSampleReferenceIdeal := hSampleReferenceIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_MoeUp_MoeUpIdeal
    ∧ algebraic_MoeUpIdeal_MoeUpReferenceIdeal (hMoeUpIdeal := hMoeUpIdeal) (hMoeUpReferenceIdeal := hMoeUpReferenceIdeal) (hPre_up_blocks := hPre_up_blocks)
    ∧ preserves_MoeDown_MoeDownIdeal
    ∧ algebraic_MoeDownIdeal_MoeDownReferenceIdeal (hMoeDownIdeal := hMoeDownIdeal) (hMoeDownReferenceIdeal := hMoeDownReferenceIdeal) (hPre_down_blocks := hPre_down_blocks)
    ∧ preserves_SampleProj_SampleProjIdeal
    ∧ algebraic_SampleProjIdeal_SampleProjReferenceIdeal (hSampleProjIdeal := hSampleProjIdeal) (hSampleProjReferenceIdeal := hSampleProjReferenceIdeal)
    ∧ preserves_SampleKernel_SampleKernelIdeal
    ∧ algebraic_SampleKernelIdeal_SampleReferenceIdeal (hSampleKernelIdeal := hSampleKernelIdeal) (hSampleReferenceIdeal := hSampleReferenceIdeal)
-- ==== Pre_down_blocks.lean ====
abbrev S32 : Shape := ⟨1, ![32]⟩
abbrev S49664x2048 : Shape := ⟨2, ![49664, 2048]⟩
abbrev S2x32x2048x4096 : Shape := ⟨4, ![2, 32, 2048, 4096]⟩
abbrev S2x32x4096 : Shape := ⟨3, ![2, 32, 4096]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S49664x2048 .bf16) (main_arg2 : FVec F S2x32x2048x4096 .f32) (main_arg3 : FVec F S2x32x4096 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 97#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 1#32
  let main_v7 : IVec S_ 1 := cmpi .sge main_v6 main_c_3
  let main_v8 : IVec S_ 1 := andi main_v5 main_v7
  let main_c_4 : IVec S_ 32 := constantI S_ 32 0#32
  let main_v9 : IVec S_ 32 := (fun x v => Host.reduce IntOp.addi x v reducesTo_S32_S_d0 h_S_) main_arg0 main_c_4
  let main_c_5 : IVec S_ 32 := constantI S_ 32 97#32
  let main_v10 : IVec S_ 1 := cmpi .sle main_v9 main_c_5
  let main_v11 : IVec S_ 1 := andi main_v8 main_v10
  main_v11
-- ==== Pre_up_blocks.lean ====
abbrev S32 : Shape := ⟨1, ![32]⟩
abbrev S49664x4096 : Shape := ⟨2, ![49664, 4096]⟩
abbrev S2x32x4096x2048 : Shape := ⟨4, ![2, 32, 4096, 2048]⟩
abbrev S2x32x2048 : Shape := ⟨3, ![2, 32, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S49664x4096 .bf16) (main_arg2 : FVec F S2x32x4096x2048 .f32) (main_arg3 : FVec F S2x32x4096x2048 .f32) (main_arg4 : FVec F S2x32x2048 .f32) (main_arg5 : FVec F S2x32x2048 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 97#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 1#32
  let main_v7 : IVec S_ 1 := cmpi .sge main_v6 main_c_3
  let main_v8 : IVec S_ 1 := andi main_v5 main_v7
  let main_c_4 : IVec S_ 32 := constantI S_ 32 0#32
  let main_v9 : IVec S_ 32 := (fun x v => Host.reduce IntOp.addi x v reducesTo_S32_S_d0 h_S_) main_arg0 main_c_4
  let main_c_5 : IVec S_ 32 := constantI S_ 32 97#32
  let main_v10 : IVec S_ 1 := cmpi .sle main_v9 main_c_5
  let main_v11 : IVec S_ 1 := andi main_v8 main_v10
  main_v11
-- ==== Kernel.lean ====
abbrev S4x2048x8x128 : Shape := ⟨4, ![4, 2048, 8, 128]⟩
abbrev S4x8x2048x64 : Shape := ⟨4, ![4, 8, 2048, 64]⟩
abbrev S4x2048x8 : Shape := ⟨3, ![4, 2048, 8]⟩
abbrev S4x8x128x128 : Shape := ⟨4, ![4, 8, 128, 128]⟩
abbrev S4x32x64x8 : Shape := ⟨4, ![4, 32, 64, 8]⟩
abbrev S_ : Shape := ⟨0, ![]⟩
abbrev S4x8x32x64 : Shape := ⟨4, ![4, 8, 32, 64]⟩
abbrev S4x8x2048x1 : Shape := ⟨4, ![4, 8, 2048, 1]⟩
abbrev S4x2048x1024 : Shape := ⟨3, ![4, 2048, 1024]⟩
abbrev S1x2048x256 : Shape := ⟨3, ![1, 2048, 256]⟩
abbrev S1x2x2048x64 : Shape := ⟨4, ![1, 2, 2048, 64]⟩
abbrev S1x2x2048x1 : Shape := ⟨4, ![1, 2, 2048, 1]⟩
abbrev S1x2x32x64 : Shape := ⟨4, ![1, 2, 32, 64]⟩
abbrev S1x2x128x128 : Shape := ⟨4, ![1, 2, 128, 128]⟩
abbrev S1x64x128 : Shape := ⟨3, ![1, 64, 128]⟩
abbrev S64x128 : Shape := ⟨2, ![64, 128]⟩
abbrev S1x1x64x1 : Shape := ⟨4, ![1, 1, 64, 1]⟩
abbrev S64x1 : Shape := ⟨2, ![64, 1]⟩
abbrev S1x1x1x64 : Shape := ⟨4, ![1, 1, 1, 64]⟩
abbrev S1x64 : Shape := ⟨2, ![1, 64]⟩
abbrev S1x1 : Shape := ⟨2, ![1, 1]⟩
abbrev S1x1x128x128 : Shape := ⟨4, ![1, 1, 128, 128]⟩
abbrev S128x128 : Shape := ⟨2, ![128, 128]⟩
abbrev S1x1x64x64 : Shape := ⟨4, ![1, 1, 64, 64]⟩
abbrev S64x64 : Shape := ⟨2, ![64, 64]⟩

abbrev nBuf : Space → Nat
  | .hbm => 19
  | .vmem => 20
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x2048x8x128, .f32⟩
  | .hbm, ⟨4, _⟩ => ⟨S4x8x2048x64, .f32⟩
  | .hbm, ⟨5, _⟩ => ⟨S4x2048x8, .f32⟩
  | .hbm, ⟨6, _⟩ => ⟨S4x8x128x128, .f32⟩
  | .hbm, ⟨7, _⟩ => ⟨S4x32x64x8, .f32⟩
  | .hbm, ⟨8, _⟩ => ⟨S_, .f32⟩
  | .hbm, ⟨9, _⟩ => ⟨S_, .f32⟩
  | .hbm, ⟨10, _⟩ => ⟨S4x32x64x8, .f32⟩
  | .hbm, ⟨11, _⟩ => ⟨S4x8x32x64, .f32⟩
  | .hbm, ⟨12, _⟩ => ⟨S4x8x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x8x128x128, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2x2048x64, .f32⟩
  | .local _ .vmem, ⟨9, _⟩ => ⟨S1x2x2048x64, .f32⟩
  | .local _ .vmem, ⟨10, _⟩ => ⟨S1x2x2048x1, .f32⟩
  | .local _ .vmem, ⟨11, _⟩ => ⟨S1x2x2048x1, .f32⟩
  | .local _ .vmem, ⟨12, _⟩ => ⟨S1x2x32x64, .f32⟩
  | .local _ .vmem, ⟨13, _⟩ => ⟨S1x2x32x64, .f32⟩
  | .local _ .vmem, ⟨14, _⟩ => ⟨S1x2x128x128, .f32⟩
  | .local _ .vmem, ⟨15, _⟩ => ⟨S1x2x128x128, .f32⟩
  | .local _ .vmem, ⟨16, _⟩ => ⟨S1x2048x256, .f32⟩
  | .local _ .vmem, ⟨17, _⟩ => ⟨S1x2048x256, .f32⟩
  | .local _ .vmem, ⟨18, _⟩ => ⟨S1x2x128x128, .f32⟩
  | .local _ .vmem, ⟨19, _⟩ => ⟨S1x2x128x128, .f32⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  v3
def k0_off1 (k0_t1 : Fin k0_t1_loop.trips) : Fin 3 → Nat :=
  let c0_8 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v5 : Index := Scalar.indexCast v4
  let c0_9 : Index := 0#32
  ![0, v5.toNat, 0]
def k0_off2 (k0_t1 : Fin k0_t1_loop.trips) : Fin 4 → Nat :=
  let c0_12 : Index := 0#32
  let c0_13 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v11 : Index := Scalar.indexCast v4
  let c0_14 : Index := 0#32
  ![0, 0, v11.toNat, 0]
def k0_off3 (k0_t1 : Fin k0_t1_loop.trips) : Fin 4 → Nat :=
  let c0_15 : Index := 0#32
  let c0_16 : Index := 0#32
  let c0_i32 : BitVec 32 := 0#32
  let c1_i32 : BitVec 32 := 1#32
  let arg12 : BitVec 32 := Scf.iv c0_i32 c1_i32 k0_t1
  let v14 : Index := Scalar.indexCast arg12
  let c0_17 : Index := 0#32
  ![0, 0, v14.toNat, 0]
def k0_off4 (k0_t1 : Fin k0_t1_loop.trips) : Fin 4 → Nat :=
  let c0_27 : Index := 0#32
  let c0_28 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v36 : Index := Scalar.indexCast v4
  let c0_29 : Index := 0#32
  ![0, 0, v36.toNat, 0]
def k0_off5 (k0_t1 : Fin k0_t1_loop.trips) : Fin 3 → Nat :=
  let c0_38 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v62 : Index := Scalar.indexCast v4
  let c128 : Index := 128#32
  ![0, v62.toNat, 128]
def k0_off6 (k0_t1 : Fin k0_t1_loop.trips) : Fin 4 → Nat :=
  let c0_41 : Index := 0#32
  let c1 : Index := 1#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v68 : Index := Scalar.indexCast v4
  let c0_42 : Index := 0#32
  ![0, 1, v68.toNat, 0]
def k0_off7 (k0_t1 : Fin k0_t1_loop.trips) : Fin 4 → Nat :=
  let c0_43 : Index := 0#32
  let c1_44 : Index := 1#32
  let c0_i32 : BitVec 32 := 0#32
  let c1_i32 : BitVec 32 := 1#32
  let arg12 : BitVec 32 := Scf.iv c0_i32 c1_i32 k0_t1
  let v71 : Index := Scalar.indexCast arg12
  let c0_45 : Index := 0#32
  ![0, 1, v71.toNat, 0]
def k0_off8 (k0_t1 : Fin k0_t1_loop.trips) : Fin 4 → Nat :=
  let c0_56 : Index := 0#32
  let c1_57 : Index := 1#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v93 : Index := Scalar.indexCast v4
  let c0_58 : Index := 0#32
  ![0, 1, v93.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
abbrev S4x2048x8x128 : Shape := ⟨4, ![4, 2048, 8, 128]⟩
abbrev S4x8x2048x64 : Shape := ⟨4, ![4, 8, 2048, 64]⟩
abbrev S4x2048x8 : Shape := ⟨3, ![4, 2048, 8]⟩
abbrev S4x8x128x128 : Shape := ⟨4, ![4, 8, 128, 128]⟩
abbrev S4x32x64x8 : Shape := ⟨4, ![4, 32, 64, 8]⟩
abbrev S_ : Shape := ⟨0, ![]⟩
abbrev S4x8x32x64 : Shape := ⟨4, ![4, 8, 32, 64]⟩
abbrev S4x8x2048x1 : Shape := ⟨4, ![4, 8, 2048, 1]⟩
abbrev S4x2048x1024 : Shape := ⟨3, ![4, 2048, 1024]⟩
abbrev S1x2048x256 : Shape := ⟨3, ![1, 2048, 256]⟩
abbrev S1x2x2048x64 : Shape := ⟨4, ![1, 2, 2048, 64]⟩
abbrev S1x2x2048x1 : Shape := ⟨4, ![1, 2, 2048, 1]⟩
abbrev S1x2x32x64 : Shape := ⟨4, ![1, 2, 32, 64]⟩
abbrev S1x2x128x128 : Shape := ⟨4, ![1, 2, 128, 128]⟩
abbrev S1x64x128 : Shape := ⟨3, ![1, 64, 128]⟩
abbrev S64x128 : Shape := ⟨2, ![64, 128]⟩
abbrev S1x1x64x1 : Shape := ⟨4, ![1, 1, 64, 1]⟩
abbrev S64x1 : Shape := ⟨2, ![64, 1]⟩
abbrev S1x1x1x64 : Shape := ⟨4, ![1, 1, 1, 64]⟩
abbrev S1x64 : Shape := ⟨2, ![1, 64]⟩
abbrev S1x1 : Shape := ⟨2, ![1, 1]⟩
abbrev S1x1x128x128 : Shape := ⟨4, ![1, 1, 128, 128]⟩
abbrev S128x128 : Shape := ⟨2, ![128, 128]⟩
abbrev S1x1x64x64 : Shape := ⟨4, ![1, 1, 64, 64]⟩
abbrev S64x64 : Shape := ⟨2, ![64, 64]⟩

abbrev nBuf : Space → Nat
  | .hbm => 19
  | .vmem => 20
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x2048x8x128, .f32⟩
  | .hbm, ⟨4, _⟩ => ⟨S4x8x2048x64, .f32⟩
  | .hbm, ⟨5, _⟩ => ⟨S4x2048x8, .f32⟩
  | .hbm, ⟨6, _⟩ => ⟨S4x8x128x128, .f32⟩
  | .hbm, ⟨7, _⟩ => ⟨S4x32x64x8, .f32⟩
  | .hbm, ⟨8, _⟩ => ⟨S_, .f32⟩
  | .hbm, ⟨9, _⟩ => ⟨S_, .f32⟩
  | .hbm, ⟨10, _⟩ => ⟨S4x32x64x8, .f32⟩
  | .hbm, ⟨11, _⟩ => ⟨S4x8x32x64, .f32⟩
  | .hbm, ⟨12, _⟩ => ⟨S4x8x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x8x128x128, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2x2048x64, .f32⟩
  | .local _ .vmem, ⟨9, _⟩ => ⟨S1x2x2048x64, .f32⟩
  | .local _ .vmem, ⟨10, _⟩ => ⟨S1x2x2048x1, .f32⟩
  | .local _ .vmem, ⟨11, _⟩ => ⟨S1x2x2048x1, .f32⟩
  | .local _ .vmem, ⟨12, _⟩ => ⟨S1x2x32x64, .f32⟩
  | .local _ .vmem, ⟨13, _⟩ => ⟨S1x2x32x64, .f32⟩
  | .local _ .vmem, ⟨14, _⟩ => ⟨S1x2x128x128, .f32⟩
  | .local _ .vmem, ⟨15, _⟩ => ⟨S1x2x128x128, .f32⟩
  | .local _ .vmem, ⟨16, _⟩ => ⟨S1x2048x256, .f32⟩
  | .local _ .vmem, ⟨17, _⟩ => ⟨S1x2048x256, .f32⟩
  | .local _ .vmem, ⟨18, _⟩ => ⟨S1x2x128x128, .f32⟩
  | .local _ .vmem, ⟨19, _⟩ => ⟨S1x2x128x128, .f32⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  v3
def k0_off1 (k0_t1 : Fin k0_t1_loop.trips) : Fin 3 → Nat :=
  let c0_8 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v5 : Index := Scalar.indexCast v4
  let c0_9 : Index := 0#32
  ![0, v5.toNat, 0]
def k0_off2 (k0_t1 : Fin k0_t1_loop.trips) : Fin 4 → Nat :=
  let c0_12 : Index := 0#32
  let c0_13 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v11 : Index := Scalar.indexCast v4
  let c0_14 : Index := 0#32
  ![0, 0, v11.toNat, 0]
def k0_off3 (k0_t1 : Fin k0_t1_loop.trips) : Fin 4 → Nat :=
  let c0_15 : Index := 0#32
  let c0_16 : Index := 0#32
  let c0_i32 : BitVec 32 := 0#32
  let c1_i32 : BitVec 32 := 1#32
  let arg12 : BitVec 32 := Scf.iv c0_i32 c1_i32 k0_t1
  let v14 : Index := Scalar.indexCast arg12
  let c0_17 : Index := 0#32
  ![0, 0, v14.toNat, 0]
def k0_off4 (k0_t1 : Fin k0_t1_loop.trips) : Fin 4 → Nat :=
  let c0_27 : Index := 0#32
  let c0_28 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v36 : Index := Scalar.indexCast v4
  let c0_29 : Index := 0#32
  ![0, 0, v36.toNat, 0]
def k0_off5 (k0_t1 : Fin k0_t1_loop.trips) : Fin 3 → Nat :=
  let c0_38 : Index := 0#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v62 : Index := Scalar.indexCast v4
  let c128 : Index := 128#32
  ![0, v62.toNat, 128]
def k0_off6 (k0_t1 : Fin k0_t1_loop.trips) : Fin 4 → Nat :=
  let c0_41 : Index := 0#32
  let c1 : Index := 1#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v68 : Index := Scalar.indexCast v4
  let c0_42 : Index := 0#32
  ![0, 1, v68.toNat, 0]
def k0_off7 (k0_t1 : Fin k0_t1_loop.trips) : Fin 4 → Nat :=
  let c0_43 : Index := 0#32
  let c1_44 : Index := 1#32
  let c0_i32 : BitVec 32 := 0#32
  let c1_i32 : BitVec 32 := 1#32
  let arg12 : BitVec 32 := Scf.iv c0_i32 c1_i32 k0_t1
  let v71 : Index := Scalar.indexCast arg12
  let c0_45 : Index := 0#32
  ![0, 1, v71.toNat, 0]
def k0_off8 (k0_t1 : Fin k0_t1_loop.trips) : Fin 4 → Nat :=
  let c0_56 : Index := 0#32
  let c1_57 : Index := 1#32
  let c0_i32 : BitVec 32 := 0#32
  let c1_i32 : BitVec 32 := 1#32
  let arg12 : BitVec 32 := Scf.iv c0_i32 c1_i32 k0_t1
  let c64_i32 : BitVec 32 := 64#32
  let v3 : BitVec 32 := Scalar.muli arg12 c64_i32
  let v4 : BitVec 32 := v3
  let v93 : Index := Scalar.indexCast v4
  let c0_58 : Index := 0#32
  ![0, 1, v93.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x2048x8x128 : Shape := ⟨4, ![4, 2048, 8, 128]⟩
abbrev S4x8x2048x64 : Shape := ⟨4, ![4, 8, 2048, 64]⟩
abbrev S4x2048x8 : Shape := ⟨3, ![4, 2048, 8]⟩
abbrev S4x8x128x128 : Shape := ⟨4, ![4, 8, 128, 128]⟩
abbrev S4x32x64x8x128 : Shape := ⟨5, ![4, 32, 64, 8, 128]⟩
abbrev S32x4x8x64x128 : Shape := ⟨5, ![32, 4, 8, 64, 128]⟩
abbrev S4x32x64x8 : Shape := ⟨4, ![4, 32, 64, 8]⟩
abbrev S32x4x8x64 : Shape := ⟨4, ![32, 4, 8, 64]⟩
abbrev S4x8x32x64x64 : Shape := ⟨5, ![4, 8, 32, 64, 64]⟩
abbrev S32x4x8x64x64 : Shape := ⟨5, ![32, 4, 8, 64, 64]⟩
abbrev S_ : Shape := ⟨0, ![]⟩
abbrev S1x4x8x64x128 : Shape := ⟨5, ![1, 4, 8, 64, 128]⟩
abbrev S4x8x64x128 : Shape := ⟨4, ![4, 8, 64, 128]⟩
abbrev S1x4x8x64x64 : Shape := ⟨5, ![1, 4, 8, 64, 64]⟩
abbrev S4x8x64x64 : Shape := ⟨4, ![4, 8, 64, 64]⟩
abbrev S1x4x8x64 : Shape := ⟨4, ![1, 4, 8, 64]⟩
abbrev S4x8x64 : Shape := ⟨3, ![4, 8, 64]⟩
abbrev S4x8x64x1 : Shape := ⟨4, ![4, 8, 64, 1]⟩
abbrev S4x8x1 : Shape := ⟨3, ![4, 8, 1]⟩
abbrev S4x8 : Shape := ⟨2, ![4, 8]⟩
abbrev S4x8x1x1 : Shape := ⟨4, ![4, 8, 1, 1]⟩
abbrev S4x2048x1024 : Shape := ⟨3, ![4, 2048, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x2048x8x128, .f32⟩
  | .hbm, ⟨4, _⟩ => ⟨S4x8x2048x64, .f32⟩
  | .hbm, ⟨5, _⟩ => ⟨S4x2048x8, .f32⟩
  | .hbm, ⟨6, _⟩ => ⟨S4x8x128x128, .f32⟩
  | .hbm, ⟨7, _⟩ => ⟨S4x32x64x8x128, .f32⟩
  | .hbm, ⟨8, _⟩ => ⟨S32x4x8x64x128, .f32⟩
  | .hbm, ⟨9, _⟩ => ⟨S4x32x64x8x128, .f32⟩
  | .hbm, ⟨10, _⟩ => ⟨S32x4x8x64x128, .f32⟩
  | .hbm, ⟨11, _⟩ => ⟨S4x32x64x8x128, .f32⟩
  | .hbm, ⟨12, _⟩ => ⟨S32x4x8x64x128, .f32⟩
  | .hbm, ⟨13, _⟩ => ⟨S4x32x64x8x128, .f32⟩
  | .hbm, ⟨14, _⟩ => ⟨S32x4x8x64x128, .f32⟩
  | .hbm, ⟨15, _⟩ => ⟨S4x32x64x8, .f32⟩
  | .hbm, ⟨16, _⟩ => ⟨S32x4x8x64, .f32⟩
  | .hbm, ⟨17, _⟩ => ⟨S4x8x32x64x64, .f32⟩
  | .hbm, ⟨18, _⟩ => ⟨S32x4x8x64x64, .f32⟩
  | .hbm, ⟨19, _⟩ => ⟨S_, .f32⟩
  | .hbm, ⟨20, _⟩ => ⟨S32x4x8x64x128, .f32⟩
  | .hbm, ⟨21, _⟩ => ⟨S_, .i32⟩
  | .hbm, ⟨22, _⟩ => ⟨S32x4x8x64x128, .f32⟩
  | .hbm, ⟨23, _⟩ => ⟨S32x4x8x64x128, .f32⟩
  | .hbm, ⟨24, _⟩ => ⟨S32x4x8x64x128, .f32⟩
  | .hbm, ⟨25, _⟩ => ⟨S32x4x8x64x128, .f32⟩
  | .hbm, ⟨26, _⟩ => ⟨S32x4x8x64x64, .f32⟩
  | .hbm, ⟨27, _⟩ => ⟨S32x4x8x64, .f32⟩
  | .hbm, ⟨28, _⟩ => ⟨S_, .i32⟩
  | .hbm, ⟨29, _⟩ => ⟨S4x8x128x128, .f32⟩
  | .hbm, ⟨30, _⟩ => ⟨S32x4x8x64x128, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x4x8x64x128, .f32⟩
  | .hbm, ⟨38, _⟩ => ⟨S4x8x64x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x8x64x128, .f32⟩
  | .hbm, ⟨44, _⟩ => ⟨S4x8x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x8x64x128, .f32⟩
  | .hbm, ⟨50, _⟩ => ⟨S4x8x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x4x8x64x128, .f32⟩
  | .hbm, ⟨56, _⟩ => ⟨S4x8x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x4x8x64x64, .f32⟩
  | .hbm, ⟨62, _⟩ => ⟨S4x8x64x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x4x8x64, .f32⟩
  | .hbm, ⟨67, _⟩ => ⟨S4x8x64, .f32⟩
  | .hbm, ⟨68, _⟩ => ⟨S_, .f32⟩
  | .hbm, ⟨69, _⟩ => ⟨S_, .f32⟩
  | .hbm, ⟨70, _⟩ => ⟨S4x8x64, .f32⟩
  | .hbm, ⟨71, _⟩ => ⟨S4x8x64x128, .f32⟩
  | .hbm, ⟨72, _⟩ => ⟨S4x8x64x128, .f32⟩
  | .hbm, ⟨73, _⟩ => ⟨S4x8x64, .f32⟩
  | .hbm, ⟨74, _⟩ => ⟨S4x8x64x1, .f32⟩
  | .hbm, ⟨75, _⟩ => ⟨S4x8x64x128, .f32⟩
  | .hbm, ⟨76, _⟩ => ⟨S4x8x64x128, .f32⟩
  | .hbm, ⟨77, _⟩ => ⟨S4x8x64x128, .f32⟩
  | .hbm, ⟨78, _⟩ => ⟨S4x8x64x128, .f32⟩
  | .hbm, ⟨79, _⟩ => ⟨S4x8x64x128, .f32⟩
  | .hbm, ⟨80, _⟩ => ⟨S4x8x1, .f32⟩
  | .hbm, ⟨81, _⟩ => ⟨S4x8, .f32⟩
  | .hbm, ⟨82, _⟩ => ⟨S4x8, .f32⟩
  | .hbm, ⟨83, _⟩ => ⟨S4x8x1x1, .f32⟩
  | .hbm, ⟨84, _⟩ => ⟨S4x8x128x128, .f32⟩
  | .hbm, ⟨85, _⟩ => ⟨S4x8x128x128, .f32⟩
  | .hbm, ⟨86, _⟩ => ⟨S4x8x1, .f32⟩
  | .hbm, ⟨87, _⟩ => ⟨S4x8x64, .f32⟩
  | .hbm, ⟨88, _⟩ => ⟨S4x8x64, .f32⟩
  | .hbm, ⟨89, _⟩ => ⟨S4x8x64, .f32⟩
  | .hbm, ⟨90, _⟩ => ⟨S4x8x64x1, .f32⟩
  | .hbm, ⟨91, _⟩ => ⟨S4x8x64x128, .f32⟩
  | .hbm, ⟨92, _⟩ => ⟨S4x8x64x128, .f32⟩
  | .hbm, ⟨93, _⟩ => ⟨S4x8x128x128, .f32⟩
  | .hbm, ⟨94, _⟩ => ⟨S4x8x128x128, .f32⟩
  | .hbm, ⟨95, _⟩ => ⟨S1x4x8x64x128, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S32x4x8x64x128, .f32⟩
  | .hbm, ⟨101, _⟩ => ⟨S_, .i32⟩
  | .hbm, ⟨102, _⟩ => ⟨S_, .i32⟩
  | .hbm, ⟨103, _⟩ => ⟨S4x32x64x8x128, .f32⟩
  | .hbm, ⟨104, _⟩ => ⟨S4x2048x1024, .f32⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev main_while0c_c_8 : Ref sig .tc := ⟨.hbm, 31, rfl⟩
abbrev main_while0c_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v0 : Ref sig .tc := ⟨.hbm, 37, rfl⟩
abbrev main_while0b_v16 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v17 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v18 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_call3_v0 : Ref sig .tc := ⟨.hbm, 55, rfl⟩
abbrev main_while0b_v19 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_c_2 : Ref sig .tc := ⟨.hbm, 60, rfl⟩
abbrev main_while0b_call4_v0 : Ref sig .tc := ⟨.hbm, 61, rfl⟩
abbrev main_while0b_v20 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_c_1 : Ref sig .tc := ⟨.hbm, 65, rfl⟩
abbrev main_while0b_call5_v0 : Ref sig .tc := ⟨.hbm, 66, rfl⟩
abbrev main_while0b_v21 : Ref sig .tc := ⟨.hbm, 67, rfl⟩
abbrev main_while0b_call6_call0_cst : Ref sig .tc := ⟨.hbm, 68, rfl⟩
abbrev main_while0b_call6_call0_v0 : Ref sig .tc := ⟨.hbm, 69, rfl⟩
abbrev main_while0b_v22 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_v26 : Ref sig .tc := ⟨.hbm, 74, rfl⟩
abbrev main_while0b_v27 : Ref sig .tc := ⟨.hbm, 75, rfl⟩
abbrev main_while0b_v28 : Ref sig .tc := ⟨.hbm, 76, rfl⟩
abbrev main_while0b_v29 : Ref sig .tc := ⟨.hbm, 77, rfl⟩
abbrev main_while0b_v30 : Ref sig .tc := ⟨.hbm, 78, rfl⟩
abbrev main_while0b_v31 : Ref sig .tc := ⟨.hbm, 79, rfl⟩
abbrev main_while0b_v32 : Ref sig .tc := ⟨.hbm, 80, rfl⟩
abbrev main_while0b_v33 : Ref sig .tc := ⟨.hbm, 81, rfl⟩
abbrev main_while0b_v34 : Ref sig .tc := ⟨.hbm, 82, rfl⟩
abbrev main_while0b_v35 : Ref sig .tc := ⟨.hbm, 83, rfl⟩
abbrev main_while0b_v36 : Ref sig .tc := ⟨.hbm, 84, rfl⟩
abbrev main_while0b_v37 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_call7_v0 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_call7_c_1 : Ref sig .tc := ⟨.hbm, 98, rfl⟩
abbrev main_while0b_call7_c_2 : Ref sig .tc := ⟨.hbm, 99, rfl⟩
abbrev main_while0b_v47 : Ref sig .tc := ⟨.hbm, 100, rfl⟩
abbrev main_while0b_c_8 : Ref sig .tc := ⟨.hbm, 101, rfl⟩
abbrev main_while0b_v48 : Ref sig .tc := ⟨.hbm, 102, rfl⟩
abbrev main_v14 : Ref sig .tc := ⟨.hbm, 103, rfl⟩
abbrev main_v15 : Ref sig .tc := ⟨.hbm, 104, rfl⟩

abbrev nD : Nat := 1
abbrev τ : Topo := Topo.v7x

variable {F : FTy → Type} [FloatOps F]

abbrev main_while0_count : Scf.Loop 32 := ⟨0#32, 32#32, 1#32⟩
-- ==== Proj.lean ====
abbrev S4x2048x4096 : Shape := ⟨3, ![4, 2048, 4096]⟩
abbrev S4096x24656 : Shape := ⟨2, ![4096, 24656]⟩
abbrev S8192x4096 : Shape := ⟨2, ![8192, 4096]⟩
abbrev S8192x24656 : Shape := ⟨2, ![8192, 24656]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x24656, .f32⟩
  | .hbm, ⟨2, _⟩ => ⟨S8192x4096, .f32⟩
  | .hbm, ⟨3, _⟩ => ⟨S8192x4096, .bf16⟩
  | .hbm, ⟨4, _⟩ => ⟨S8192x24656, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![49, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjIdeal.lean ====
abbrev S4x2048x4096 : Shape := ⟨3, ![4, 2048, 4096]⟩
abbrev S4096x24656 : Shape := ⟨2, ![4096, 24656]⟩
abbrev S8192x4096 : Shape := ⟨2, ![8192, 4096]⟩
abbrev S8192x24656 : Shape := ⟨2, ![8192, 24656]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x24656, .f32⟩
  | .hbm, ⟨2, _⟩ => ⟨S8192x4096, .f32⟩
  | .hbm, ⟨3, _⟩ => ⟨S8192x4096, .bf16⟩
  | .hbm, ⟨4, _⟩ => ⟨S8192x24656, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![49, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S4x2048x4096 : Shape := ⟨3, ![4, 2048, 4096]⟩
abbrev S4096x24656 : Shape := ⟨2, ![4096, 24656]⟩
abbrev S4x2048x24656 : Shape := ⟨3, ![4, 2048, 24656]⟩
abbrev S8192x24656 : Shape := ⟨2, ![8192, 24656]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x24656, .f32⟩
  | .hbm, ⟨2, _⟩ => ⟨S4x2048x24656, .f32⟩
  | .hbm, ⟨3, _⟩ => ⟨S8192x24656, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S4x2048x1024 : Shape := ⟨3, ![4, 2048, 1024]⟩
abbrev S4x2048x2048 : Shape := ⟨3, ![4, 2048, 2048]⟩
abbrev S4x2048x12288 : Shape := ⟨3, ![4, 2048, 12288]⟩
abbrev S1024x4096 : Shape := ⟨2, ![1024, 4096]⟩
abbrev S2048x4096 : Shape := ⟨2, ![2048, 4096]⟩
abbrev S8192x1024 : Shape := ⟨2, ![8192, 1024]⟩
abbrev S8192x2048 : Shape := ⟨2, ![8192, 2048]⟩
abbrev S8192x12288 : Shape := ⟨2, ![8192, 12288]⟩
abbrev S8192x4096 : Shape := ⟨2, ![8192, 4096]⟩
abbrev S512x1024 : Shape := ⟨2, ![512, 1024]⟩
abbrev S512x2048 : Shape := ⟨2, ![512, 2048]⟩
abbrev S512x512 : Shape := ⟨2, ![512, 512]⟩
abbrev S1024x512 : Shape := ⟨2, ![1024, 512]⟩
abbrev S2048x512 : Shape := ⟨2, ![2048, 512]⟩

abbrev nBuf : Space → Nat
  | .hbm => 15
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S4x2048x1024, .f32⟩
  | .hbm, ⟨3, _⟩ => ⟨S4x2048x12288, .f32⟩
  | .hbm, ⟨4, _⟩ => ⟨S1024x4096, .f32⟩
  | .hbm, ⟨5, _⟩ => ⟨S2048x4096, .f32⟩
  | .hbm, ⟨6, _⟩ => ⟨S1024x4096, .f32⟩
  | .hbm, ⟨7, _⟩ => ⟨S8192x1024, .f32⟩
  | .hbm, ⟨8, _⟩ => ⟨S8192x2048, .f32⟩
  | .hbm, ⟨9, _⟩ => ⟨S8192x1024, .f32⟩
  | .hbm, ⟨10, _⟩ => ⟨S8192x12288, .f32⟩
  | .hbm, ⟨11, _⟩ => ⟨S8192x1024, .bf16⟩
  | .hbm, ⟨12, _⟩ => ⟨S8192x2048, .bf16⟩
  | .hbm, ⟨13, _⟩ => ⟨S8192x1024, .bf16⟩
  | .hbm, ⟨14, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x512, .f32⟩
  | .local _ .vmem, ⟨13, _⟩ => ⟨S1024x512, .f32⟩
  | .local _ .vmem, ⟨14, _⟩ => ⟨S2048x512, .f32⟩
  | .local _ .vmem, ⟨15, _⟩ => ⟨S2048x512, .f32⟩
  | .local _ .vmem, ⟨16, _⟩ => ⟨S1024x512, .f32⟩
  | .local _ .vmem, ⟨17, _⟩ => ⟨S1024x512, .f32⟩
  | .local _ .vmem, ⟨18, _⟩ => ⟨S512x512, .bf16⟩
  | .local _ .vmem, ⟨19, _⟩ => ⟨S512x512, .bf16⟩
  | .local _ .vmem, ⟨20, _⟩ => ⟨S1024x512, .bf16⟩
  | .local _ .vmem, ⟨21, _⟩ => ⟨S2048x512, .bf16⟩
  | .local _ .vmem, ⟨22, _⟩ => ⟨S1024x512, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S4x2048x1024 : Shape := ⟨3, ![4, 2048, 1024]⟩
abbrev S4x2048x2048 : Shape := ⟨3, ![4, 2048, 2048]⟩
abbrev S4x2048x12288 : Shape := ⟨3, ![4, 2048, 12288]⟩
abbrev S1024x4096 : Shape := ⟨2, ![1024, 4096]⟩
abbrev S2048x4096 : Shape := ⟨2, ![2048, 4096]⟩
abbrev S4x2048x3x4096 : Shape := ⟨4, ![4, 2048, 3, 4096]⟩
abbrev S_ : Shape := ⟨0, ![]⟩
abbrev S4x2048x1x4096 : Shape := ⟨4, ![4, 2048, 1, 4096]⟩
abbrev S4x2048x4096 : Shape := ⟨3, ![4, 2048, 4096]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S4x2048x1024, .f32⟩
  | .hbm, ⟨3, _⟩ => ⟨S4x2048x12288, .f32⟩
  | .hbm, ⟨4, _⟩ => ⟨S1024x4096, .f32⟩
  | .hbm, ⟨5, _⟩ => ⟨S2048x4096, .f32⟩
  | .hbm, ⟨6, _⟩ => ⟨S1024x4096, .f32⟩
  | .hbm, ⟨7, _⟩ => ⟨S4x2048x3x4096, .f32⟩
  | .hbm, ⟨8, _⟩ => ⟨S4x2048x3x4096, .f32⟩
  | .hbm, ⟨9, _⟩ => ⟨S4x2048x3x4096, .f32⟩
  | .hbm, ⟨10, _⟩ => ⟨S_, .f32⟩
  | .hbm, ⟨11, _⟩ => ⟨S4x2048x3x4096, .f32⟩
  | .hbm, ⟨12, _⟩ => ⟨S4x2048x3x4096, .f32⟩
  | .hbm, ⟨13, _⟩ => ⟨S_, .f32⟩
  | .hbm, ⟨14, _⟩ => ⟨S4x2048x3x4096, .f32⟩
  | .hbm, ⟨15, _⟩ => ⟨S4x2048x3x4096, .f32⟩
  | .hbm, ⟨16, _⟩ => ⟨S4x2048x1x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S4x2048x1x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x1x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .bf16⟩
  | .hbm, ⟨31, _⟩ => ⟨S8192x4096, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Out.lean ====
abbrev S4x2048x4096 : Shape := ⟨3, ![4, 2048, 4096]⟩
abbrev S4096x4096 : Shape := ⟨2, ![4096, 4096]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S4x2048x4096 : Shape := ⟨3, ![4, 2048, 4096]⟩
abbrev S4096x4096 : Shape := ⟨2, ![4096, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MoeUp.lean ====
abbrev S32 : Shape := ⟨1, ![32]⟩
abbrev S49664x4096 : Shape := ⟨2, ![49664, 4096]⟩
abbrev S2x32x4096x2048 : Shape := ⟨4, ![2, 32, 4096, 2048]⟩
abbrev S2x32x2048 : Shape := ⟨3, ![2, 32, 2048]⟩
abbrev S_ : Shape := ⟨0, ![]⟩
abbrev S388 : Shape := ⟨1, ![388]⟩
abbrev S1x32 : Shape := ⟨2, ![1, 32]⟩
abbrev S388x1 : Shape := ⟨2, ![388, 1]⟩
abbrev S388x32 : Shape := ⟨2, ![388, 32]⟩
abbrev S2x32x1x2048 : Shape := ⟨4, ![2, 32, 1, 2048]⟩
abbrev S49664x2048 : Shape := ⟨2, ![49664, 2048]⟩
abbrev S512x4096 : Shape := ⟨2, ![512, 4096]⟩
abbrev S1 : Shape := ⟨1, ![1]⟩
abbrev S1x1x4096x512 : Shape := ⟨4, ![1, 1, 4096, 512]⟩
abbrev S1x1x1x512 : Shape := ⟨4, ![1, 1, 1, 512]⟩
abbrev S512x512 : Shape := ⟨2, ![512, 512]⟩
abbrev S4096x512 : Shape := ⟨2, ![4096, 512]⟩
abbrev S1x512 : Shape := ⟨2, ![1, 512]⟩

abbrev nBuf : Space → Nat
  | .hbm => 161
  | .vmem => 14
  | .smem => 5
  | _ => 0

abbrev hbmTy0_0 (i : Nat) : BufTy := match i % 128 with
  | 0 => ⟨S32, .i32⟩
  | 1 => ⟨S49664x4096, .bf16⟩
  | 2 => ⟨S2x32x4096x2048, .f32⟩
  | 3 => ⟨S2x32x4096x2048, .f32⟩
  | 4 => ⟨S2x32x2048, .f32⟩
  | 5 => ⟨S2x32x2048, .f32⟩
  | 6 => ⟨S_, .i32⟩
  | 7 => ⟨S_, .i32⟩
  | 8 => ⟨S32, .i32⟩
  | 9 => ⟨S32, .i32⟩
  | 10 => ⟨S388, .i32⟩
  | 11 => ⟨S_, .i32⟩
  | 12 => ⟨S_, .i32⟩
  | 13 => ⟨S_, .i32⟩
  | 14 => ⟨S_, .i32⟩
  | 15 => ⟨S388, .i32⟩
  | 16 => ⟨S388, .i1⟩
  | 17 => ⟨S_, .i32⟩
  | 18 => ⟨S_, .i32⟩
  | 19 => ⟨S388, .i32⟩
  | 20 => ⟨S388, .i32⟩
  | 21 => ⟨S_, .i32⟩
  | 22 => ⟨S_, .i32⟩
  | 23 => ⟨S32, .i32⟩
  | 24 => ⟨S_, .i32⟩
  | 25 => ⟨S32, .i32⟩
  | 26 => ⟨S32, .i32⟩
  | 27 => ⟨S1x32, .i32⟩
  | 28 => ⟨S388x1, .i32⟩
  | 29 => ⟨S388x32, .i32⟩
  | 30 => ⟨S388x32, .i32⟩
  | 31 => ⟨S388x32, .i1⟩
  | 32 => ⟨S388x32, .i32⟩
  | 33 => ⟨S_, .i32⟩
  | 34 => ⟨S388, .i32⟩
  | 35 => ⟨S_, .i32⟩
  | 36 => ⟨S388, .i32⟩
  | 37 => ⟨S_, .i32⟩
  | 38 => ⟨S388, .i32⟩
  | 39 => ⟨S388, .i1⟩
  | 40 => ⟨S_, .i32⟩
  | 41 => ⟨S388, .i32⟩
  | 42 => ⟨S388, .i32⟩
  | 43 => ⟨S388, .i32⟩
  | 44 => ⟨S388x1, .i32⟩
  | 45 => ⟨S388, .i32⟩
  | 46 => ⟨S_, .i32⟩
  | 47 => ⟨S388, .i32⟩
  | 48 => ⟨S388, .i32⟩
  | 49 => ⟨S388, .i32⟩
  | 50 => ⟨S_, .i32⟩
  | 51 => ⟨S388, .i32⟩
  | 52 => ⟨S388, .i1⟩
  | 53 => ⟨S_, .i32⟩
  | 54 => ⟨S388, .i32⟩
  | 55 => ⟨S388, .i32⟩
  | 56 => ⟨S388, .i32⟩
  | 57 => ⟨S388x1, .i32⟩
  | 58 => ⟨S388, .i32⟩
  | 59 => ⟨S_, .i32⟩
  | 60 => ⟨S388, .i32⟩
  | 61 => ⟨S388, .i32⟩
  | 62 => ⟨S388, .i32⟩
  | 63 => ⟨S388, .i32⟩
  | 64 => ⟨S388, .i32⟩
  | 65 => ⟨S388, .i1⟩
  | 66 => ⟨S388, .i32⟩
  | 67 => ⟨S_, .i32⟩
  | 68 => ⟨S388, .i32⟩
  | 69 => ⟨S388, .i1⟩
  | 70 => ⟨S388, .i1⟩
  | 71 => ⟨S_, .i32⟩
  | 72 => ⟨S388, .i32⟩
  | 73 => ⟨S388, .i32⟩
  | 74 => ⟨S_, .i32⟩
  | 75 => ⟨S388, .i32⟩
  | 76 => ⟨S388, .i1⟩
  | 77 => ⟨S_, .i32⟩
  | 78 => ⟨S388, .i32⟩
  | 79 => ⟨S388, .i32⟩
  | 80 => ⟨S388, .i32⟩
  | 81 => ⟨S_, .i32⟩
  | 82 => ⟨S388, .i32⟩
  | 83 => ⟨S388, .i1⟩
  | 84 => ⟨S_, .i32⟩
  | 85 => ⟨S388, .i32⟩
  | 86 => ⟨S388, .i1⟩
  | 87 => ⟨S_, .i32⟩
  | 88 => ⟨S388, .i32⟩
  | 89 => ⟨S388, .i1⟩
  | 90 => ⟨S388, .i1⟩
  | 91 => ⟨S388, .i1⟩
  | 92 => ⟨S388, .i32⟩
  | 93 => ⟨S388, .i32⟩
  | 94 => ⟨S388, .i32⟩
  | 95 => ⟨S388, .i32⟩
  | 96 => ⟨S_, .i32⟩
  | 97 => ⟨S388, .i32⟩
  | 98 => ⟨S388, .i1⟩
  | 99 => ⟨S_, .i32⟩
  | 100 => ⟨S388, .i32⟩
  | 101 => ⟨S388, .i32⟩
  | 102 => ⟨S388, .i32⟩
  | 103 => ⟨S388x1, .i32⟩
  | 104 => ⟨S388, .i32⟩
  | 105 => ⟨S388, .i32⟩
  | 106 => ⟨S_, .i32⟩
  | 107 => ⟨S_, .i32⟩
  | 108 => ⟨S388, .i32⟩
  | 109 => ⟨S388, .i32⟩
  | 110 => ⟨S388, .i32⟩
  | 111 => ⟨S_, .i32⟩
  | 112 => ⟨S388, .i32⟩
  | 113 => ⟨S388, .i1⟩
  | 114 => ⟨S388, .i32⟩
  | 115 => ⟨S388, .i32⟩
  | 116 => ⟨S_, .i32⟩
  | 117 => ⟨S388, .i32⟩
  | 118 => ⟨S388, .i1⟩
  | 119 => ⟨S388, .i1⟩
  | 120 => ⟨S_, .i32⟩
  | 121 => ⟨S388, .i32⟩
  | 122 => ⟨S388, .i32⟩
  | 123 => ⟨S388, .i32⟩
  | 124 => ⟨S388, .i32⟩
  | 125 => ⟨S388, .i32⟩
  | 126 => ⟨S_, .i32⟩
  | 127 => ⟨S_, .i32⟩
  | _ => ⟨S32, .i32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S388, .i32⟩
  | 5 => ⟨S388, .i32⟩
  | 6 => ⟨S_, .i32⟩
  | 7 => ⟨S388, .i32⟩
  | 8 => ⟨S388, .i1⟩
  | 9 => ⟨S_, .i32⟩
  | 10 => ⟨S388, .i32⟩
  | 11 => ⟨S388, .i1⟩
  | 12 => ⟨S_, .i32⟩
  | 13 => ⟨S_, .i1⟩
  | 14 => ⟨S388, .i1⟩
  | 15 => ⟨S388, .i1⟩
  | 16 => ⟨S388, .i1⟩
  | 17 => ⟨S388, .i32⟩
  | 18 => ⟨S388, .i32⟩
  | 19 => ⟨S388, .i32⟩
  | 20 => ⟨S_, .i32⟩
  | 21 => ⟨S388, .i32⟩
  | 22 => ⟨S388, .i1⟩
  | 23 => ⟨S388, .i32⟩
  | 24 => ⟨S_, .i32⟩
  | 25 => ⟨S388, .i32⟩
  | 26 => ⟨S388, .i32⟩
  | 27 => ⟨S_, .i32⟩
  | 28 => ⟨S388, .i32⟩
  | 29 => ⟨S388, .i32⟩
  | 30 => ⟨S2x32x1x2048, .f32⟩
  | 31 => ⟨S2x32x1x2048, .f32⟩
  | 32 => ⟨S49664x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .vmem, ⟨12, _⟩ => ⟨S4096x512, .bf16⟩
  | .local _ .vmem, ⟨13, _⟩ => ⟨S4096x512, .bf16⟩
  | .local _ .smem, ⟨0, _⟩ => ⟨S388, .i32⟩
  | .local _ .smem, ⟨1, _⟩ => ⟨S388, .i32⟩
  | .local _ .smem, ⟨2, _⟩ => ⟨S388, .i32⟩
  | .local _ .smem, ⟨3, _⟩ => ⟨S388, .i32⟩
  | .local _ .smem, ⟨4, _⟩ => ⟨S388, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_call0_c : Ref sig .tc := ⟨.hbm, 21, rfl⟩
abbrev main_call1_call0_v0 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_c_0 : Ref sig .tc := ⟨.hbm, 71, rfl⟩
abbrev main_call2_v8 : Ref sig .tc := ⟨.hbm, 72, rfl⟩
abbrev main_call2_v9 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_c_11 : Ref sig .tc := ⟨.hbm, 96, rfl⟩
abbrev main_v45 : Ref sig .tc := ⟨.hbm, 97, rfl⟩
abbrev main_v46 : Ref sig .tc := ⟨.hbm, 98, rfl⟩
abbrev main_c_12 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_c_13 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_c : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_0 : Ref sig .tc := ⟨.hbm, 120, rfl⟩
abbrev main_call4_v12 : Ref sig .tc := ⟨.hbm, 121, rfl⟩
abbrev main_call4_v13 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_c_14 : Ref sig .tc := ⟨.hbm, 126, rfl⟩
abbrev main_call6_v0 : Ref sig .tc := ⟨.hbm, 127, rfl⟩
abbrev main_call6_c : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_c_1 : Ref sig .tc := ⟨.hbm, 134, rfl⟩
abbrev main_call6_v5 : Ref sig .tc := ⟨.hbm, 135, rfl⟩
abbrev main_call6_v6 : Ref sig .tc := ⟨.hbm, 136, rfl⟩
abbrev main_call6_c_2 : Ref sig .tc := ⟨.hbm, 137, rfl⟩
abbrev main_call6_v7 : Ref sig .tc := ⟨.hbm, 138, rfl⟩
abbrev main_call6_v8 : Ref sig .tc := ⟨.hbm, 139, rfl⟩
abbrev main_call6_c_3 : Ref sig .tc := ⟨.hbm, 140, rfl⟩
abbrev main_call6_v9 : Ref sig .tc := ⟨.hbm, 141, rfl⟩
abbrev main_call6_v10 : Ref sig .tc := ⟨.hbm, 142, rfl⟩
abbrev main_call6_v11 : Ref sig .tc := ⟨.hbm, 143, rfl⟩
abbrev main_call6_v12 : Ref sig .tc := ⟨.hbm, 144, rfl⟩
abbrev main_call6_v13 : Ref sig .tc := ⟨.hbm, 145, rfl⟩
abbrev main_call6_v14 : Ref sig .tc := ⟨.hbm, 146, rfl⟩
abbrev main_v57 : Ref sig .tc := ⟨.hbm, 147, rfl⟩
abbrev main_c_15 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_c_16 : Ref sig .tc := ⟨.hbm, 152, rfl⟩
abbrev main_v62 : Ref sig .tc := ⟨.hbm, 153, rfl⟩
abbrev main_v63 : Ref sig .tc := ⟨.hbm, 154, rfl⟩
abbrev main_c_17 : Ref sig .tc := ⟨.hbm, 155, rfl⟩
abbrev main_call8_v0 : Ref sig .tc := ⟨.hbm, 156, rfl⟩
abbrev main_v64 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v56 : Ref sig .tc := ⟨.smem, 0, rfl⟩
abbrev main_v58 : Ref sig .tc := ⟨.smem, 1, rfl⟩
abbrev main_v21 : Ref sig .tc := ⟨.smem, 2, rfl⟩
abbrev main_v41 : Ref sig .tc := ⟨.smem, 3, rfl⟩
abbrev main_v65 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![388], ![false]⟩

abbrev pre0 : Pipeline.Prefetch sig := ⟨5, ![main_v56.idx, main_v58.idx, main_v21.idx, main_v41.idx, main_v65.idx], fun | 0 => main_v56.names | 1 => main_v58.names | 2 => main_v21.names | 3 => main_v41.names | 4 => main_v65.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c2_i32 : BitVec 32 := 2#32
  let v2 : BitVec 1 := Scalar.cmpi .sge v1 c2_i32
  let v3 : BitVec 32 := Scalar.extui v2
  let c0_i32 : BitVec 32 := 0#32
  let v4 : BitVec 1 := Scalar.cmpi .ne v3 c0_i32
  v4

def k0_cond3 (v1 : BitVec 32) : BitVec 1 :=
  let c2_i32_0 : BitVec 32 := 2#32
  let v5 : BitVec 1 := Scalar.cmpi .slt v1 c2_i32_0
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S388.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S388) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S388.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S388) ![v0.toNat] S1.size (k0_off1_inb i)) numel1_S1
  let v2 : Index := Scalar.indexCast arg0
  let v3 : BitVec 32 := pf.at 3 (Rect.unit (s := S388) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S388.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S388) ![v0.toNat] S1.size (k0_off1_inb i)) numel1_S1
  let v2 : Index := Scalar.indexCast arg0
  let v3 : BitVec 32 := pf.at 3 (Rect.unit (s := S388) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_3 (k0_off1_inb : ∀ i : grid0.Coords, ∀ a, (k0_off1 i) a + S1.size a ≤ S388.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S388) ![v0.toNat] S1.size (k0_off1_inb i)) numel1_S1
  let v2 : Index := Scalar.indexCast arg0
  let v3 : BitVec 32 := pf.at 3 (Rect.unit (s := S388) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_4 (k0_off1_inb : ∀ i : grid0.Coords, ∀ a, (k0_off1 i) a + S1.size a ≤ S388.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S388) ![v0.toNat] S1.size (k0_off1_inb i)) numel1_S1
  let v2 : Index := Scalar.indexCast arg0
  let v3 : BitVec 32 := pf.at 3 (Rect.unit (s := S388) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_5 (k0_off1_inb : ∀ i : grid0.Coords, ∀ a, (k0_off1 i) a + S1.size a ≤ S388.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S388) ![v0.toNat] S1.size (k0_off1_inb i)) numel1_S1
  let v2 : Index := Scalar.indexCast arg0
  let v3 : BitVec 32 := pf.at 1 (Rect.unit (s := S388) ![v2.toNat] S1.size (k0_off1_inb i)) numel1_S1
  let c0_i32 : BitVec 32 := 0#32
  ![v1.toNat, v3.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeUpReferenceIdeal.lean ====
abbrev S32 : Shape := ⟨1, ![32]⟩
abbrev S49664x4096 : Shape := ⟨2, ![49664, 4096]⟩
abbrev S2x32x4096x2048 : Shape := ⟨4, ![2, 32, 4096, 2048]⟩
abbrev S2x32x2048 : Shape := ⟨3, ![2, 32, 2048]⟩
abbrev S97 : Shape := ⟨1, ![97]⟩
abbrev S_ : Shape := ⟨0, ![]⟩
abbrev S1x32 : Shape := ⟨2, ![1, 32]⟩
abbrev S97x1 : Shape := ⟨2, ![97, 1]⟩
abbrev S97x32 : Shape := ⟨2, ![97, 32]⟩
abbrev S97x512x4096 : Shape := ⟨3, ![97, 512, 4096]⟩
abbrev S1x32x4096x2048 : Shape := ⟨4, ![1, 32, 4096, 2048]⟩
abbrev S32x4096x2048 : Shape := ⟨3, ![32, 4096, 2048]⟩
abbrev S97x4096x2048 : Shape := ⟨3, ![97, 4096, 2048]⟩
abbrev S97x512x2048 : Shape := ⟨3, ![97, 512, 2048]⟩
abbrev S1x32x2048 : Shape := ⟨3, ![1, 32, 2048]⟩
abbrev S32x2048 : Shape := ⟨2, ![32, 2048]⟩
abbrev S97x2048 : Shape := ⟨2, ![97, 2048]⟩
abbrev S97x1x2048 : Shape := ⟨3, ![97, 1, 2048]⟩
abbrev S97x1x1 : Shape := ⟨3, ![97, 1, 1]⟩
abbrev S49664x2048 : Shape := ⟨2, ![49664, 2048]⟩

abbrev nBuf : Space → Nat
  | .hbm => 114
  | .vmem => 0
  | .smem => 0
  | _ => 0

abbrev bufTy : (tb : Table) → Fin (tcTables nBuf tb) → BufTy
  | .hbm, ⟨0, _⟩ => ⟨S32, .i32⟩
  | .hbm, ⟨1, _⟩ => ⟨S49664x4096, .bf16⟩
  | .hbm, ⟨2, _⟩ => ⟨S2x32x4096x2048, .f32⟩
  | .hbm, ⟨3, _⟩ => ⟨S2x32x4096x2048, .f32⟩
  | .hbm, ⟨4, _⟩ => ⟨S2x32x2048, .f32⟩
  | .hbm, ⟨5, _⟩ => ⟨S2x32x2048, .f32⟩
  | .hbm, ⟨6, _⟩ => ⟨S97, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S1x32, .i32⟩
  | .hbm, ⟨11, _⟩ => ⟨S97x1, .i32⟩
  | .hbm, ⟨12, _⟩ => ⟨S97x32, .i32⟩
  | .hbm, ⟨13, _⟩ => ⟨S97x32, .i32⟩
  | .hbm, ⟨14, _⟩ => ⟨S97x32, .i1⟩
  | .hbm, ⟨15, _⟩ => ⟨S97x32, .i32⟩
  | .hbm, ⟨16, _⟩ => ⟨S_, .i32⟩
  | .hbm, ⟨17, _⟩ => ⟨S97, .i32⟩
  | .hbm, ⟨18, _⟩ => ⟨S_, .i32⟩
  | .hbm, ⟨19, _⟩ => ⟨S97, .i32⟩
  | .hbm, ⟨20, _⟩ => ⟨S97, .i32⟩
  | .hbm, ⟨21, _⟩ => ⟨S49664x4096, .f32⟩
  | .hbm, ⟨22, _⟩ => ⟨S97x512x4096, .f32⟩
  | .hbm, ⟨23, _⟩ => ⟨S1x32x4096x2048, .f32⟩
  | .hbm, ⟨24, _⟩ => ⟨S32x4096x2048, .f32⟩
  | .hbm, ⟨25, _⟩ => ⟨S_, .i32⟩
  | .hbm, ⟨26, _⟩ => ⟨S97, .i32⟩
  | .hbm, ⟨27, _⟩ => ⟨S97, .i1⟩
  | .hbm, ⟨28, _⟩ => ⟨S_, .i32⟩
  | .hbm, ⟨29, _⟩ => ⟨S97, .i32⟩
  | .hbm, ⟨30, _⟩ => ⟨S97, .i32⟩
  | .hbm, ⟨31, _⟩ => ⟨S97, .i32⟩
  | .hbm, ⟨32, _⟩ => ⟨S97x1, .i32⟩
  | .hbm, ⟨33, _⟩ => ⟨S97x4096x2048, .f32⟩
  | .hbm, ⟨34, _⟩ => ⟨S97x512x2048, .f32⟩
  | .hbm, ⟨35, _⟩ => ⟨S1x32x2048, .f32⟩
  | .hbm, ⟨36, _⟩ => ⟨S32x2048, .f32⟩
  | .hbm, ⟨37, _⟩ => ⟨S_, .i32⟩
  | .hbm, ⟨38, _⟩ => ⟨S97, .i32⟩
  | .hbm, ⟨39, _⟩ => ⟨S97, .i1⟩
  | .hbm, ⟨40, _⟩ => ⟨S_, .i32⟩
  | .hbm, ⟨41, _⟩ => ⟨S97, .i32⟩
  | .hbm, ⟨42, _⟩ => ⟨S97, .i32⟩
  | .hbm, ⟨43, _⟩ => ⟨S97, .i32⟩
  | .hbm, ⟨44, _⟩ => ⟨S97x1, .i32⟩
  | .hbm, ⟨45, _⟩ => ⟨S97x2048, .f32⟩
  | .hbm, ⟨46, _⟩ => ⟨S97x1x2048, .f32⟩
  | .hbm, ⟨47, _⟩ => ⟨S97x512x2048, .f32⟩
  | .hbm, ⟨48, _⟩ => ⟨S97x512x2048, .f32⟩
  | .hbm, ⟨49, _⟩ => ⟨S_, .f32⟩
  | .hbm, ⟨50, _⟩ => ⟨S97x512x2048, .f32⟩
  | .hbm, ⟨51, _⟩ => ⟨S97x512x2048, .f32⟩
  | .hbm, ⟨52, _⟩ => ⟨S1x32x4096x2048, .f32⟩
  | .hbm, ⟨53, _⟩ => ⟨S32x4096x2048, .f32⟩
  | .hbm, ⟨54, _⟩ => ⟨S_, .i32⟩
  | .hbm, ⟨55, _⟩ => ⟨S97, .i32⟩
  | .hbm, ⟨56, _⟩ => ⟨S97, .i1⟩
  | .hbm, ⟨57, _⟩ => ⟨S_, .i32⟩
  | .hbm, ⟨58, _⟩ => ⟨S97, .i32⟩
  | .hbm, ⟨59, _⟩ => ⟨S97, .i32⟩
  | .hbm, ⟨60, _⟩ => ⟨S97, .i32⟩
  | .hbm, ⟨61, _⟩ => ⟨S97x1, .i32⟩
  | .hbm, ⟨62, _⟩ => ⟨S97x4096x2048, .f32⟩
  | .hbm, ⟨63, _⟩ => ⟨S97x512x2048, .f32⟩
  | .hbm, ⟨64, _⟩ => ⟨S1x32x2048, .f32⟩
  | .hbm, ⟨65, _⟩ => ⟨S32x2048, .f32⟩
  | .hbm, ⟨66, _⟩ => ⟨S_, .i32⟩
  | .hbm, ⟨67, _⟩ => ⟨S97, .i32⟩
  | .hbm, ⟨68, _⟩ => ⟨S97, .i1⟩
  | .hbm, ⟨69, _⟩ => ⟨S_, .i32⟩
  | .hbm, ⟨70, _⟩ => ⟨S97, .i32⟩
  | .hbm, ⟨71, _⟩ => ⟨S97, .i32⟩
  | .hbm, ⟨72, _⟩ => ⟨S97, .i32⟩
  | .hbm, ⟨73, _⟩ => ⟨S97x1, .i32⟩
  | .hbm, ⟨74, _⟩ => ⟨S97x2048, .f32⟩
  | .hbm, ⟨75, _⟩ => ⟨S97x1x2048, .f32⟩
  | .hbm, ⟨76, _⟩ => ⟨S97x512x2048, .f32⟩
  | .hbm, ⟨77, _⟩ => ⟨S97x512x2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S97x512x2048, .f32⟩
  | .hbm, ⟨82, _⟩ => ⟨S97x512x2048, .f32⟩
  | .hbm, ⟨83, _⟩ => ⟨S_, .f32⟩
  | .hbm, ⟨84, _⟩ => ⟨S97x512x2048, .f32⟩
  | .hbm, ⟨85, _⟩ => ⟨S97x512x2048, .f32⟩
  | .hbm, ⟨86, _⟩ => ⟨S_, .f32⟩
  | .hbm, ⟨87, _⟩ => ⟨S97x512x2048, .f32⟩
  | .hbm, ⟨88, _⟩ => ⟨S97x512x2048, .f32⟩
  | .hbm, ⟨89, _⟩ => ⟨S97x512x2048, .f32⟩
  | .hbm, ⟨90, _⟩ => ⟨S_, .f32⟩
  | .hbm, ⟨91, _⟩ => ⟨S97x512x2048, .f32⟩
  | .hbm, ⟨92, _⟩ => ⟨S97x512x2048, .f32⟩
  | .hbm, ⟨93, _⟩ => ⟨S97x512x2048, .f32⟩
  | .hbm, ⟨94, _⟩ => ⟨S97x512x2048, .f32⟩
  | .hbm, ⟨95, _⟩ => ⟨S_, .f32⟩
  | .hbm, ⟨96, _⟩ => ⟨S97x512x2048, .f32⟩
  | .hbm, ⟨97, _⟩ => ⟨S97x512x2048, .f32⟩
  | .hbm, ⟨98, _⟩ => ⟨S_, .f32⟩
  | .hbm, ⟨99, _⟩ => ⟨S97x512x2048, .f32⟩
  | .hbm, ⟨100, _⟩ => ⟨S97x512x2048, .f32⟩
  | .hbm, ⟨101, _⟩ => ⟨S97x512x2048, .f32⟩
  | .hbm, ⟨102, _⟩ => ⟨S_, .i32⟩
  | .hbm, ⟨103, _⟩ => ⟨S_, .i32⟩
  | .hbm, ⟨104, _⟩ => ⟨S97, .i32⟩
  | .hbm, ⟨105, _⟩ => ⟨S97, .i1⟩
  | .hbm, ⟨106, _⟩ => ⟨S97x1x1, .i1⟩
  | .hbm, ⟨107, _⟩ => ⟨S_, .f32⟩
  | .hbm, ⟨108, _⟩ => ⟨S_, .f32⟩
  | .hbm, ⟨109, _⟩ => ⟨S97x512x2048, .i1⟩
  | .hbm, ⟨110, _⟩ => ⟨S97x512x2048, .f32⟩
  | .hbm, ⟨111, _⟩ => ⟨S97x512x2048, .f32⟩
  | .hbm, ⟨112, _⟩ => ⟨S97x512x2048, .bf16⟩
  | .hbm, ⟨113, _⟩ => ⟨S49664x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_cst_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== MoeDown.lean ====
abbrev S32 : Shape := ⟨1, ![32]⟩
abbrev S49664x2048 : Shape := ⟨2, ![49664, 2048]⟩
abbrev S2x32x2048x4096 : Shape := ⟨4, ![2, 32, 2048, 4096]⟩
abbrev S2x32x4096 : Shape := ⟨3, ![2, 32, 4096]⟩
abbrev S_ : Shape := ⟨0, ![]⟩
abbrev S388 : Shape := ⟨1, ![388]⟩
abbrev S1x32 : Shape := ⟨2, ![1, 32]⟩
abbrev S388x1 : Shape := ⟨2, ![388, 1]⟩
abbrev S388x32 : Shape := ⟨2, ![388, 32]⟩
abbrev S2x32x1x4096 : Shape := ⟨4, ![2, 32, 1, 4096]⟩
abbrev S49664x4096 : Shape := ⟨2, ![49664, 4096]⟩
abbrev S512x2048 : Shape := ⟨2, ![512, 2048]⟩
abbrev S1 : Shape := ⟨1, ![1]⟩
abbrev S1x1x2048x1024 : Shape := ⟨4, ![1, 1, 2048, 1024]⟩
abbrev S1x1x1x1024 : Shape := ⟨4, ![1, 1, 1, 1024]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 158
  | .vmem => 9
  | .smem => 5
  | _ => 0

abbrev hbmTy0_0 (i : Nat) : BufTy := match i % 128 with
  | 0 => ⟨S32, .i32⟩
  | 1 => ⟨S49664x2048, .bf16⟩
  | 2 => ⟨S2x32x2048x4096, .f32⟩
  | 3 => ⟨S2x32x4096, .f32⟩
  | 4 => ⟨S_, .i32⟩
  | 5 => ⟨S_, .i32⟩
  | 6 => ⟨S32, .i32⟩
  | 7 => ⟨S32, .i32⟩
  | 8 => ⟨S388, .i32⟩
  | 9 => ⟨S_, .i32⟩
  | 10 => ⟨S_, .i32⟩
  | 11 => ⟨S_, .i32⟩
  | 12 => ⟨S_, .i32⟩
  | 13 => ⟨S388, .i32⟩
  | 14 => ⟨S388, .i1⟩
  | 15 => ⟨S_, .i32⟩
  | 16 => ⟨S_, .i32⟩
  | 17 => ⟨S388, .i32⟩
  | 18 => ⟨S388, .i32⟩
  | 19 => ⟨S_, .i32⟩
  | 20 => ⟨S_, .i32⟩
  | 21 => ⟨S32, .i32⟩
  | 22 => ⟨S_, .i32⟩
  | 23 => ⟨S32, .i32⟩
  | 24 => ⟨S32, .i32⟩
  | 25 => ⟨S1x32, .i32⟩
  | 26 => ⟨S388x1, .i32⟩
  | 27 => ⟨S388x32, .i32⟩
  | 28 => ⟨S388x32, .i32⟩
  | 29 => ⟨S388x32, .i1⟩
  | 30 => ⟨S388x32, .i32⟩
  | 31 => ⟨S_, .i32⟩
  | 32 => ⟨S388, .i32⟩
  | 33 => ⟨S_, .i32⟩
  | 34 => ⟨S388, .i32⟩
  | 35 => ⟨S_, .i32⟩
  | 36 => ⟨S388, .i32⟩
  | 37 => ⟨S388, .i1⟩
  | 38 => ⟨S_, .i32⟩
  | 39 => ⟨S388, .i32⟩
  | 40 => ⟨S388, .i32⟩
  | 41 => ⟨S388, .i32⟩
  | 42 => ⟨S388x1, .i32⟩
  | 43 => ⟨S388, .i32⟩
  | 44 => ⟨S_, .i32⟩
  | 45 => ⟨S388, .i32⟩
  | 46 => ⟨S388, .i32⟩
  | 47 => ⟨S388, .i32⟩
  | 48 => ⟨S_, .i32⟩
  | 49 => ⟨S388, .i32⟩
  | 50 => ⟨S388, .i1⟩
  | 51 => ⟨S_, .i32⟩
  | 52 => ⟨S388, .i32⟩
  | 53 => ⟨S388, .i32⟩
  | 54 => ⟨S388, .i32⟩
  | 55 => ⟨S388x1, .i32⟩
  | 56 => ⟨S388, .i32⟩
  | 57 => ⟨S_, .i32⟩
  | 58 => ⟨S388, .i32⟩
  | 59 => ⟨S388, .i32⟩
  | 60 => ⟨S388, .i32⟩
  | 61 => ⟨S388, .i32⟩
  | 62 => ⟨S388, .i32⟩
  | 63 => ⟨S388, .i1⟩
  | 64 => ⟨S388, .i32⟩
  | 65 => ⟨S_, .i32⟩
  | 66 => ⟨S388, .i32⟩
  | 67 => ⟨S388, .i1⟩
  | 68 => ⟨S388, .i1⟩
  | 69 => ⟨S_, .i32⟩
  | 70 => ⟨S388, .i32⟩
  | 71 => ⟨S388, .i32⟩
  | 72 => ⟨S_, .i32⟩
  | 73 => ⟨S388, .i32⟩
  | 74 => ⟨S388, .i1⟩
  | 75 => ⟨S_, .i32⟩
  | 76 => ⟨S388, .i32⟩
  | 77 => ⟨S388, .i32⟩
  | 78 => ⟨S388, .i32⟩
  | 79 => ⟨S_, .i32⟩
  | 80 => ⟨S388, .i32⟩
  | 81 => ⟨S388, .i1⟩
  | 82 => ⟨S_, .i32⟩
  | 83 => ⟨S388, .i32⟩
  | 84 => ⟨S388, .i1⟩
  | 85 => ⟨S_, .i32⟩
  | 86 => ⟨S388, .i32⟩
  | 87 => ⟨S388, .i1⟩
  | 88 => ⟨S388, .i1⟩
  | 89 => ⟨S388, .i1⟩
  | 90 => ⟨S388, .i32⟩
  | 91 => ⟨S388, .i32⟩
  | 92 => ⟨S388, .i32⟩
  | 93 => ⟨S388, .i32⟩
  | 94 => ⟨S_, .i32⟩
  | 95 => ⟨S388, .i32⟩
  | 96 => ⟨S388, .i1⟩
  | 97 => ⟨S_, .i32⟩
  | 98 => ⟨S388, .i32⟩
  | 99 => ⟨S388, .i32⟩
  | 100 => ⟨S388, .i32⟩
  | 101 => ⟨S388x1, .i32⟩
  | 102 => ⟨S388, .i32⟩
  | 103 => ⟨S388, .i32⟩
  | 104 => ⟨S_, .i32⟩
  | 105 => ⟨S_, .i32⟩
  | 106 => ⟨S388, .i32⟩
  | 107 => ⟨S388, .i32⟩
  | 108 => ⟨S388, .i32⟩
  | 109 => ⟨S_, .i32⟩
  | 110 => ⟨S388, .i32⟩
  | 111 => ⟨S388, .i1⟩
  | 112 => ⟨S388, .i32⟩
  | 113 => ⟨S388, .i32⟩
  | 114 => ⟨S_, .i32⟩
  | 115 => ⟨S388, .i32⟩
  | 116 => ⟨S388, .i1⟩
  | 117 => ⟨S388, .i1⟩
  | 118 => ⟨S_, .i32⟩
  | 119 => ⟨S388, .i32⟩
  | 120 => ⟨S388, .i32⟩
  | 121 => ⟨S388, .i32⟩
  | 122 => ⟨S388, .i32⟩
  | 123 => ⟨S388, .i32⟩
  | 124 => ⟨S_, .i32⟩
  | 125 => ⟨S_, .i32⟩
  | 126 => ⟨S_, .i32⟩
  | 127 => ⟨S_, .i1⟩
  | _ => ⟨S32, .i32⟩

abbrev hbmTy0_1 (i : Nat) : BufTy := match i % 128 with
  | 0 => ⟨S_, .i32⟩
  | 1 => ⟨S_, .i32⟩
  | 2 => ⟨S388, .i32⟩
  | 3 => ⟨S388, .i32⟩
  | 4 => ⟨S_, .i32⟩
  | 5 => ⟨S388, .i32⟩
  | 6 => ⟨S388, .i1⟩
  | 7 => ⟨S_, .i32⟩
  | 8 => ⟨S388, .i32⟩
  | 9 => ⟨S388, .i1⟩
  | 10 => ⟨S_, .i32⟩
  | 11 => ⟨S_, .i1⟩
  | 12 => ⟨S388, .i1⟩
  | 13 => ⟨S388, .i1⟩
  | 14 => ⟨S388, .i1⟩
  | 15 => ⟨S388, .i32⟩
  | 16 => ⟨S388, .i32⟩
  | 17 => ⟨S388, .i32⟩
  | 18 => ⟨S_, .i32⟩
  | 19 => ⟨S388, .i32⟩
  | 20 => ⟨S388, .i1⟩
  | 21 => ⟨S388, .i32⟩
  | 22 => ⟨S_, .i32⟩
  | 23 => ⟨S388, .i32⟩
  | 24 => ⟨S388, .i32⟩
  | 25 => ⟨S_, .i32⟩
  | 26 => ⟨S388, .i32⟩
  | 27 => ⟨S388, .i32⟩
  | 28 => ⟨S2x32x1x4096, .f32⟩
  | 29 => ⟨S49664x4096, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .smem, ⟨0, _⟩ => ⟨S388, .i32⟩
  | .local _ .smem, ⟨1, _⟩ => ⟨S388, .i32⟩
  | .local _ .smem, ⟨2, _⟩ => ⟨S388, .i32⟩
  | .local _ .smem, ⟨3, _⟩ => ⟨S388, .i32⟩
  | .local _ .smem, ⟨4, _⟩ => ⟨S388, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_call0_c : Ref sig .tc := ⟨.hbm, 19, rfl⟩
abbrev main_call1_call0_v0 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_c_0 : Ref sig .tc := ⟨.hbm, 69, rfl⟩
abbrev main_call2_v8 : Ref sig .tc := ⟨.hbm, 70, rfl⟩
abbrev main_call2_v9 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_c_11 : Ref sig .tc := ⟨.hbm, 94, rfl⟩
abbrev main_v45 : Ref sig .tc := ⟨.hbm, 95, rfl⟩
abbrev main_v46 : Ref sig .tc := ⟨.hbm, 96, rfl⟩
abbrev main_c_12 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_13 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_c_14 : Ref sig .tc := ⟨.hbm, 124, rfl⟩
abbrev main_call6_v0 : Ref sig .tc := ⟨.hbm, 125, rfl⟩
abbrev main_call6_c : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_v5 : Ref sig .tc := ⟨.hbm, 133, rfl⟩
abbrev main_call6_v6 : Ref sig .tc := ⟨.hbm, 134, rfl⟩
abbrev main_call6_c_2 : Ref sig .tc := ⟨.hbm, 135, rfl⟩
abbrev main_call6_v7 : Ref sig .tc := ⟨.hbm, 136, rfl⟩
abbrev main_call6_v8 : Ref sig .tc := ⟨.hbm, 137, rfl⟩
abbrev main_call6_c_3 : Ref sig .tc := ⟨.hbm, 138, rfl⟩
abbrev main_call6_v9 : Ref sig .tc := ⟨.hbm, 139, rfl⟩
abbrev main_call6_v10 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_v14 : Ref sig .tc := ⟨.hbm, 144, rfl⟩
abbrev main_v57 : Ref sig .tc := ⟨.hbm, 145, rfl⟩
abbrev main_c_15 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_c_16 : Ref sig .tc := ⟨.hbm, 150, rfl⟩
abbrev main_v62 : Ref sig .tc := ⟨.hbm, 151, rfl⟩
abbrev main_v63 : Ref sig .tc := ⟨.hbm, 152, rfl⟩
abbrev main_c_17 : Ref sig .tc := ⟨.hbm, 153, rfl⟩
abbrev main_call8_v0 : Ref sig .tc := ⟨.hbm, 154, rfl⟩
abbrev main_v64 : Ref sig .tc := ⟨.hbm, 155, rfl⟩
abbrev main_v66 : Ref sig .tc := ⟨.hbm, 156, rfl⟩
abbrev main_v67 : Ref sig .tc := ⟨.hbm, 157, rfl⟩
abbrev main_v56 : Ref sig .tc := ⟨.smem, 0, rfl⟩
abbrev main_v58 : Ref sig .tc := ⟨.smem, 1, rfl⟩
abbrev main_v21 : Ref sig .tc := ⟨.smem, 2, rfl⟩
abbrev main_v41 : Ref sig .tc := ⟨.smem, 3, rfl⟩
abbrev main_v65 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![388], ![false]⟩

abbrev pre0 : Pipeline.Prefetch sig := ⟨5, ![main_v56.idx, main_v58.idx, main_v21.idx, main_v41.idx, main_v65.idx], fun | 0 => main_v56.names | 1 => main_v58.names | 2 => main_v21.names | 3 => main_v41.names | 4 => main_v65.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c2_i32 : BitVec 32 := 2#32
  let v2 : BitVec 1 := Scalar.cmpi .sge v1 c2_i32
  let v3 : BitVec 32 := Scalar.extui v2
  let c0_i32 : BitVec 32 := 0#32
  let v4 : BitVec 1 := Scalar.cmpi .ne v3 c0_i32
  v4

def k0_cond3 (v1 : BitVec 32) : BitVec 1 :=
  let c2_i32_0 : BitVec 32 := 2#32
  let v5 : BitVec 1 := Scalar.cmpi .slt v1 c2_i32_0
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S388.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S388) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S388.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S388) ![v0.toNat] S1.size (k0_off1_inb i)) numel1_S1
  let v2 : Index := Scalar.indexCast arg0
  let v3 : BitVec 32 := pf.at 3 (Rect.unit (s := S388) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S388.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S388) ![v0.toNat] S1.size (k0_off1_inb i)) numel1_S1
  let v2 : Index := Scalar.indexCast arg0
  let v3 : BitVec 32 := pf.at 3 (Rect.unit (s := S388) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_3 (k0_off1_inb : ∀ i : grid0.Coords, ∀ a, (k0_off1 i) a + S1.size a ≤ S388.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S388) ![v0.toNat] S1.size (k0_off1_inb i)) numel1_S1
  let v2 : Index := Scalar.indexCast arg0
  let v3 : BitVec 32 := pf.at 1 (Rect.unit (s := S388) ![v2.toNat] S1.size (k0_off1_inb i)) numel1_S1
  let c0_i32 : BitVec 32 := 0#32
  ![v1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MoeDownReferenceIdeal.lean ====
abbrev S32 : Shape := ⟨1, ![32]⟩
abbrev S49664x2048 : Shape := ⟨2, ![49664, 2048]⟩
abbrev S2x32x2048x4096 : Shape := ⟨4, ![2, 32, 2048, 4096]⟩
abbrev S2x32x4096 : Shape := ⟨3, ![2, 32, 4096]⟩
abbrev S97 : Shape := ⟨1, ![97]⟩
abbrev S_ : Shape := ⟨0, ![]⟩
abbrev S1x32 : Shape := ⟨2, ![1, 32]⟩
abbrev S97x1 : Shape := ⟨2, ![97, 1]⟩
abbrev S97x32 : Shape := ⟨2, ![97, 32]⟩
abbrev S97x512x2048 : Shape := ⟨3, ![97, 512, 2048]⟩
abbrev S1x32x2048x4096 : Shape := ⟨4, ![1, 32, 2048, 4096]⟩
abbrev S32x2048x4096 : Shape := ⟨3, ![32, 2048, 4096]⟩
abbrev S97x2048x4096 : Shape := ⟨3, ![97, 2048, 4096]⟩
abbrev S97x512x4096 : Shape := ⟨3, ![97, 512, 4096]⟩
abbrev S1x32x4096 : Shape := ⟨3, ![1, 32, 4096]⟩
abbrev S32x4096 : Shape := ⟨2, ![32, 4096]⟩
abbrev S97x4096 : Shape := ⟨2, ![97, 4096]⟩
abbrev S97x1x4096 : Shape := ⟨3, ![97, 1, 4096]⟩
abbrev S97x1x1 : Shape := ⟨3, ![97, 1, 1]⟩
abbrev S49664x4096 : Shape := ⟨2, ![49664, 4096]⟩

abbrev nBuf : Space → Nat
  | .hbm => 58
  | .vmem => 0
  | .smem => 0
  | _ => 0

abbrev bufTy : (tb : Table) → Fin (tcTables nBuf tb) → BufTy
  | .hbm, ⟨0, _⟩ => ⟨S32, .i32⟩
  | .hbm, ⟨1, _⟩ => ⟨S49664x2048, .bf16⟩
  | .hbm, ⟨2, _⟩ => ⟨S2x32x2048x4096, .f32⟩
  | .hbm, ⟨3, _⟩ => ⟨S2x32x4096, .f32⟩
  | .hbm, ⟨4, _⟩ => ⟨S97, .i32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S1x32, .i32⟩
  | .hbm, ⟨9, _⟩ => ⟨S97x1, .i32⟩
  | .hbm, ⟨10, _⟩ => ⟨S97x32, .i32⟩
  | .hbm, ⟨11, _⟩ => ⟨S97x32, .i32⟩
  | .hbm, ⟨12, _⟩ => ⟨S97x32, .i1⟩
  | .hbm, ⟨13, _⟩ => ⟨S97x32, .i32⟩
  | .hbm, ⟨14, _⟩ => ⟨S_, .i32⟩
  | .hbm, ⟨15, _⟩ => ⟨S97, .i32⟩
  | .hbm, ⟨16, _⟩ => ⟨S_, .i32⟩
  | .hbm, ⟨17, _⟩ => ⟨S97, .i32⟩
  | .hbm, ⟨18, _⟩ => ⟨S97, .i32⟩
  | .hbm, ⟨19, _⟩ => ⟨S49664x2048, .f32⟩
  | .hbm, ⟨20, _⟩ => ⟨S97x512x2048, .f32⟩
  | .hbm, ⟨21, _⟩ => ⟨S1x32x2048x4096, .f32⟩
  | .hbm, ⟨22, _⟩ => ⟨S32x2048x4096, .f32⟩
  | .hbm, ⟨23, _⟩ => ⟨S_, .i32⟩
  | .hbm, ⟨24, _⟩ => ⟨S97, .i32⟩
  | .hbm, ⟨25, _⟩ => ⟨S97, .i1⟩
  | .hbm, ⟨26, _⟩ => ⟨S_, .i32⟩
  | .hbm, ⟨27, _⟩ => ⟨S97, .i32⟩
  | .hbm, ⟨28, _⟩ => ⟨S97, .i32⟩
  | .hbm, ⟨29, _⟩ => ⟨S97, .i32⟩
  | .hbm, ⟨30, _⟩ => ⟨S97x1, .i32⟩
  | .hbm, ⟨31, _⟩ => ⟨S97x2048x4096, .f32⟩
  | .hbm, ⟨32, _⟩ => ⟨S97x512x4096, .f32⟩
  | .hbm, ⟨33, _⟩ => ⟨S1x32x4096, .f32⟩
  | .hbm, ⟨34, _⟩ => ⟨S32x4096, .f32⟩
  | .hbm, ⟨35, _⟩ => ⟨S_, .i32⟩
  | .hbm, ⟨36, _⟩ => ⟨S97, .i32⟩
  | .hbm, ⟨37, _⟩ => ⟨S97, .i1⟩
  | .hbm, ⟨38, _⟩ => ⟨S_, .i32⟩
  | .hbm, ⟨39, _⟩ => ⟨S97, .i32⟩
  | .hbm, ⟨40, _⟩ => ⟨S97, .i32⟩
  | .hbm, ⟨41, _⟩ => ⟨S97, .i32⟩
  | .hbm, ⟨42, _⟩ => ⟨S97x1, .i32⟩
  | .hbm, ⟨43, _⟩ => ⟨S97x4096, .f32⟩
  | .hbm, ⟨44, _⟩ => ⟨S97x1x4096, .f32⟩
  | .hbm, ⟨45, _⟩ => ⟨S97x512x4096, .f32⟩
  | .hbm, ⟨46, _⟩ => ⟨S97x512x4096, .f32⟩
  | .hbm, ⟨47, _⟩ => ⟨S_, .i32⟩
  | .hbm, ⟨48, _⟩ => ⟨S_, .i32⟩
  | .hbm, ⟨49, _⟩ => ⟨S97, .i32⟩
  | .hbm, ⟨50, _⟩ => ⟨S97, .i1⟩
  | .hbm, ⟨51, _⟩ => ⟨S97x1x1, .i1⟩
  | .hbm, ⟨52, _⟩ => ⟨S_, .f32⟩
  | .hbm, ⟨53, _⟩ => ⟨S_, .f32⟩
  | .hbm, ⟨54, _⟩ => ⟨S97x512x4096, .i1⟩
  | .hbm, ⟨55, _⟩ => ⟨S97x512x4096, .f32⟩
  | .hbm, ⟨56, _⟩ => ⟨S97x512x4096, .f32⟩
  | .hbm, ⟨57, _⟩ => ⟨S49664x4096, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_c : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== SampleProj.lean ====
abbrev S8x4x4096 : Shape := ⟨3, ![8, 4, 4096]⟩
abbrev S4096x24656 : Shape := ⟨2, ![4096, 24656]⟩
abbrev S32x4096 : Shape := ⟨2, ![32, 4096]⟩
abbrev S32x24656 : Shape := ⟨2, ![32, 24656]⟩
abbrev S4096x512 : Shape := ⟨2, ![4096, 512]⟩
abbrev S32x512 : Shape := ⟨2, ![32, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x4x4096, .f32⟩
  | .hbm, ⟨1, _⟩ => ⟨S4096x24656, .f32⟩
  | .hbm, ⟨2, _⟩ => ⟨S32x4096, .f32⟩
  | .hbm, ⟨3, _⟩ => ⟨S32x4096, .bf16⟩
  | .hbm, ⟨4, _⟩ => ⟨S32x24656, .f32⟩
  | .local _ .vmem, ⟨0, _⟩ => ⟨S32x4096, .bf16⟩
  | .local _ .vmem, ⟨1, _⟩ => ⟨S4096x512, .f32⟩
  | .local _ .vmem, ⟨2, _⟩ => ⟨S4096x512, .f32⟩
  | .local _ .vmem, ⟨3, _⟩ => ⟨S32x512, .f32⟩
  | .local _ .vmem, ⟨4, _⟩ => ⟨S32x512, .f32⟩
  | .local _ .vmem, ⟨5, _⟩ => ⟨S4096x512, .bf16⟩
  | _, _ => ⟨S8x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![49, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SampleProjReferenceIdeal.lean ====
abbrev S8x4x4096 : Shape := ⟨3, ![8, 4, 4096]⟩
abbrev S4096x24656 : Shape := ⟨2, ![4096, 24656]⟩
abbrev S8x4x24656 : Shape := ⟨3, ![8, 4, 24656]⟩
abbrev S32x24656 : Shape := ⟨2, ![32, 24656]⟩

abbrev nBuf : Space → Nat
  | .hbm => 4
  | .vmem => 0
  | .smem => 0
  | _ => 0

abbrev bufTy : (tb : Table) → Fin (tcTables nBuf tb) → BufTy
  | .hbm, ⟨0, _⟩ => ⟨S8x4x4096, .f32⟩
  | .hbm, ⟨1, _⟩ => ⟨S4096x24656, .f32⟩
  | .hbm, ⟨2, _⟩ => ⟨S8x4x24656, .f32⟩
  | .hbm, ⟨3, _⟩ => ⟨S32x24656, .f32⟩
  | _, _ => ⟨S8x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SampleKernel.lean ====
abbrev S8x64x8x128 : Shape := ⟨4, ![8, 64, 8, 128]⟩
abbrev S8x8x64x64 : Shape := ⟨4, ![8, 8, 64, 64]⟩
abbrev S8x64x8 : Shape := ⟨3, ![8, 64, 8]⟩
abbrev S8x8x128x128 : Shape := ⟨4, ![8, 8, 128, 128]⟩
abbrev S8x1x64x8 : Shape := ⟨4, ![8, 1, 64, 8]⟩
abbrev S_ : Shape := ⟨0, ![]⟩
abbrev S8x8x1x64 : Shape := ⟨4, ![8, 8, 1, 64]⟩
abbrev S8x8x64x1 : Shape := ⟨4, ![8, 8, 64, 1]⟩
abbrev S8x64x1024 : Shape := ⟨3, ![8, 64, 1024]⟩
abbrev S1x64x256 : Shape := ⟨3, ![1, 64, 256]⟩
abbrev S1x2x64x64 : Shape := ⟨4, ![1, 2, 64, 64]⟩
abbrev S1x2x64x1 : Shape := ⟨4, ![1, 2, 64, 1]⟩
abbrev S1x2x1x64 : Shape := ⟨4, ![1, 2, 1, 64]⟩
abbrev S1x2x128x128 : Shape := ⟨4, ![1, 2, 128, 128]⟩
abbrev S1x64x128 : Shape := ⟨3, ![1, 64, 128]⟩
abbrev S64x128 : Shape := ⟨2, ![64, 128]⟩
abbrev S1x1x64x1 : Shape := ⟨4, ![1, 1, 64, 1]⟩
abbrev S64x1 : Shape := ⟨2, ![64, 1]⟩
abbrev S1x1x1x64 : Shape := ⟨4, ![1, 1, 1, 64]⟩
abbrev S1x64 : Shape := ⟨2, ![1, 64]⟩
abbrev S1x1 : Shape := ⟨2, ![1, 1]⟩
abbrev S1x1x128x128 : Shape := ⟨4, ![1, 1, 128, 128]⟩
abbrev S128x128 : Shape := ⟨2, ![128, 128]⟩
abbrev S1x1x64x64 : Shape := ⟨4, ![1, 1, 64, 64]⟩
abbrev S64x64 : Shape := ⟨2, ![64, 64]⟩

abbrev nBuf : Space → Nat
  | .hbm => 19
  | .vmem => 20
  | .smem => 0
  | _ => 0

abbrev bufTy : (tb : Table) → Fin (tcTables nBuf tb) → BufTy
  | .hbm, ⟨0, _⟩ => ⟨S8x64x8x128, .f32⟩
  | .hbm, ⟨1, _⟩ => ⟨S8x64x8x128, .f32⟩
  | .hbm, ⟨2, _⟩ => ⟨S8x64x8x128, .f32⟩
  | .hbm, ⟨3, _⟩ => ⟨S8x64x8x128, .f32⟩
  | .hbm, ⟨4, _⟩ => ⟨S8x8x64x64, .f32⟩
  | .hbm, ⟨5, _⟩ => ⟨S8x64x8, .f32⟩
  | .hbm, ⟨6, _⟩ => ⟨S8x8x128x128, .f32⟩
  | .hbm, ⟨7, _⟩ => ⟨S8x1x64x8, .f32⟩
  | .hbm, ⟨8, _⟩ => ⟨S_, .f32⟩
  | .hbm, ⟨9, _⟩ => ⟨S_, .f32⟩
  | .hbm, ⟨10, _⟩ => ⟨S8x1x64x8, .f32⟩
  | .hbm, ⟨11, _⟩ => ⟨S8x8x1x64, .f32⟩
  | .hbm, ⟨12, _⟩ => ⟨S8x8x64x1, .f32⟩
  | .hbm, ⟨13, _⟩ => ⟨S8x64x1024, .f32⟩
  | .hbm, ⟨14, _⟩ => ⟨S8x64x1024, .f32⟩
  | .hbm, ⟨15, _⟩ => ⟨S8x64x1024, .f32⟩
  | .hbm, ⟨16, _⟩ => ⟨S8x64x1024, .f32⟩
  | .hbm, ⟨17, _⟩ => ⟨S8x64x1024, .f32⟩
  | .hbm, ⟨18, _⟩ => ⟨S8x8x128x128, .f32⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x2x64x64, .f32⟩
  | .local _ .vmem, ⟨9, _⟩ => ⟨S1x2x64x64, .f32⟩
  | .local _ .vmem, ⟨10, _⟩ => ⟨S1x2x64x1, .f32⟩
  | .local _ .vmem, ⟨11, _⟩ => ⟨S1x2x64x1, .f32⟩
  | .local _ .vmem, ⟨12, _⟩ => ⟨S1x2x1x64, .f32⟩
  | .local _ .vmem, ⟨13, _⟩ => ⟨S1x2x1x64, .f32⟩
  | .local _ .vmem, ⟨14, _⟩ => ⟨S1x2x128x128, .f32⟩
  | .local _ .vmem, ⟨15, _⟩ => ⟨S1x2x128x128, .f32⟩
  | .local _ .vmem, ⟨16, _⟩ => ⟨S1x64x256, .f32⟩
  | .local _ .vmem, ⟨17, _⟩ => ⟨S1x64x256, .f32⟩
  | .local _ .vmem, ⟨18, _⟩ => ⟨S1x2x128x128, .f32⟩
  | .local _ .vmem, ⟨19, _⟩ => ⟨S1x2x128x128, .f32⟩
  | _, _ => ⟨S8x64x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c64_i32 : BitVec 32 := 64#32
  let v2 : BitVec 32 := Scalar.muli c0_i32 c64_i32
  v2
def k0_off1 : Fin 3 → Nat :=
  let c0_7 : Index := 0#32
  let c0_i32 : BitVec 32 := 0#32
  let c64_i32 : BitVec 32 := 64#32
  let v2 : BitVec 32 := Scalar.muli c0_i32 c64_i32
  let v3 : BitVec 32 := v2
  let v4 : Index := Scalar.indexCast v3
  let c0_8 : Index := 0#32
  ![0, v4.toNat, 0]
def k0_off2 : Fin 4 → Nat :=
  let c0_11 : Index := 0#32
  let c0_12 : Index := 0#32
  let c0_i32 : BitVec 32 := 0#32
  let c64_i32 : BitVec 32 := 64#32
  let v2 : BitVec 32 := Scalar.muli c0_i32 c64_i32
  let v3 : BitVec 32 := v2
  let v10 : Index := Scalar.indexCast v3
  let c0_13 : Index := 0#32
  ![0, 0, v10.toNat, 0]
def k0_off3 : Fin 4 → Nat :=
  let c0_26 : Index := 0#32
  let c0_27 : Index := 0#32
  let c0_i32 : BitVec 32 := 0#32
  let c64_i32 : BitVec 32 := 64#32
  let v2 : BitVec 32 := Scalar.muli c0_i32 c64_i32
  let v3 : BitVec 32 := v2
  let v35 : Index := Scalar.indexCast v3
  let c0_28 : Index := 0#32
  ![0, 0, v35.toNat, 0]
def k0_off4 : Fin 3 → Nat :=
  let c0_37 : Index := 0#32
  let c0_i32 : BitVec 32 := 0#32
  let c64_i32 : BitVec 32 := 64#32
  let v2 : BitVec 32 := Scalar.muli c0_i32 c64_i32
  let v3 : BitVec 32 := v2
  let v61 : Index := Scalar.indexCast v3
  let c128 : Index := 128#32
  ![0, v61.toNat, 128]
def k0_off5 : Fin 4 → Nat :=
  let c0_40 : Index := 0#32
  let c1 : Index := 1#32
  let c0_i32 : BitVec 32 := 0#32
  let c64_i32 : BitVec 32 := 64#32
  let v2 : BitVec 32 := Scalar.muli c0_i32 c64_i32
  let v3 : BitVec 32 := v2
  let v67 : Index := Scalar.indexCast v3
  let c0_41 : Index := 0#32
  ![0, 1, v67.toNat, 0]
def k0_off6 : Fin 4 → Nat :=
  let c0_55 : Index := 0#32
  let c1_56 : Index := 1#32
  let c0_i32 : BitVec 32 := 0#32
  let c64_i32 : BitVec 32 := 64#32
  let v2 : BitVec 32 := Scalar.muli c0_i32 c64_i32
  let v3 : BitVec 32 := v2
  let v92 : Index := Scalar.indexCast v3
  let c0_57 : Index := 0#32
  ![0, 1, v92.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SampleReferenceIdeal.lean ====
abbrev S8x64x8x128 : Shape := ⟨4, ![8, 64, 8, 128]⟩
abbrev S8x8x64x64 : Shape := ⟨4, ![8, 8, 64, 64]⟩
abbrev S8x64x8 : Shape := ⟨3, ![8, 64, 8]⟩
abbrev S8x8x128x128 : Shape := ⟨4, ![8, 8, 128, 128]⟩
abbrev S8x1x64x8x128 : Shape := ⟨5, ![8, 1, 64, 8, 128]⟩
abbrev S1x8x8x64x128 : Shape := ⟨5, ![1, 8, 8, 64, 128]⟩
abbrev S8x1x64x8 : Shape := ⟨4, ![8, 1, 64, 8]⟩
abbrev S1x8x8x64 : Shape := ⟨4, ![1, 8, 8, 64]⟩
abbrev S8x8x1x64x64 : Shape := ⟨5, ![8, 8, 1, 64, 64]⟩
abbrev S1x8x8x64x64 : Shape := ⟨5, ![1, 8, 8, 64, 64]⟩
abbrev S_ : Shape := ⟨0, ![]⟩
abbrev S8x8x64x128 : Shape := ⟨4, ![8, 8, 64, 128]⟩
abbrev S8x8x64 : Shape := ⟨3, ![8, 8, 64]⟩
abbrev S8x8x64x1 : Shape := ⟨4, ![8, 8, 64, 1]⟩
abbrev S8x8x1 : Shape := ⟨3, ![8, 8, 1]⟩
abbrev S8x8 : Shape := ⟨2, ![8, 8]⟩
abbrev S8x8x1x1 : Shape := ⟨4, ![8, 8, 1, 1]⟩
abbrev S8x64x1024 : Shape := ⟨3, ![8, 64, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x64x8x128, .f32⟩
  | .hbm, ⟨1, _⟩ => ⟨S8x64x8x128, .f32⟩
  | .hbm, ⟨2, _⟩ => ⟨S8x64x8x128, .f32⟩
  | .hbm, ⟨3, _⟩ => ⟨S8x64x8x128, .f32⟩
  | .hbm, ⟨4, _⟩ => ⟨S8x8x64x64, .f32⟩
  | .hbm, ⟨5, _⟩ => ⟨S8x64x8, .f32⟩
  | .hbm, ⟨6, _⟩ => ⟨S8x8x128x128, .f32⟩
  | .hbm, ⟨7, _⟩ => ⟨S8x1x64x8x128, .f32⟩
  | .hbm, ⟨8, _⟩ => ⟨S1x8x8x64x128, .f32⟩
  | .hbm, ⟨9, _⟩ => ⟨S8x1x64x8x128, .f32⟩
  | .hbm, ⟨10, _⟩ => ⟨S1x8x8x64x128, .f32⟩
  | .hbm, ⟨11, _⟩ => ⟨S8x1x64x8x128, .f32⟩
  | .hbm, ⟨12, _⟩ => ⟨S1x8x8x64x128, .f32⟩
  | .hbm, ⟨13, _⟩ => ⟨S8x1x64x8x128, .f32⟩
  | .hbm, ⟨14, _⟩ => ⟨S1x8x8x64x128, .f32⟩
  | .hbm, ⟨15, _⟩ => ⟨S8x1x64x8, .f32⟩
  | .hbm, ⟨16, _⟩ => ⟨S1x8x8x64, .f32⟩
  | .hbm, ⟨17, _⟩ => ⟨S8x8x1x64x64, .f32⟩
  | .hbm, ⟨18, _⟩ => ⟨S1x8x8x64x64, .f32⟩
  | .hbm, ⟨19, _⟩ => ⟨S_, .f32⟩
  | .hbm, ⟨20, _⟩ => ⟨S1x8x8x64x128, .f32⟩
  | .hbm, ⟨21, _⟩ => ⟨S_, .i32⟩
  | .hbm, ⟨22, _⟩ => ⟨S1x8x8x64x128, .f32⟩
  | .hbm, ⟨23, _⟩ => ⟨S1x8x8x64x128, .f32⟩
  | .hbm, ⟨24, _⟩ => ⟨S1x8x8x64x128, .f32⟩
  | .hbm, ⟨25, _⟩ => ⟨S1x8x8x64x128, .f32⟩
  | .hbm, ⟨26, _⟩ => ⟨S1x8x8x64x64, .f32⟩
  | .hbm, ⟨27, _⟩ => ⟨S1x8x8x64, .f32⟩
  | .hbm, ⟨28, _⟩ => ⟨S_, .i32⟩
  | .hbm, ⟨29, _⟩ => ⟨S8x8x128x128, .f32⟩
  | .hbm, ⟨30, _⟩ => ⟨S1x8x8x64x128, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x8x8x64x128, .f32⟩
  | .hbm, ⟨38, _⟩ => ⟨S8x8x64x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x8x8x64x128, .f32⟩
  | .hbm, ⟨44, _⟩ => ⟨S8x8x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x8x8x64x128, .f32⟩
  | .hbm, ⟨50, _⟩ => ⟨S8x8x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x8x8x64x128, .f32⟩
  | .hbm, ⟨56, _⟩ => ⟨S8x8x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x8x8x64x64, .f32⟩
  | .hbm, ⟨62, _⟩ => ⟨S8x8x64x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x8x8x64, .f32⟩
  | .hbm, ⟨67, _⟩ => ⟨S8x8x64, .f32⟩
  | .hbm, ⟨68, _⟩ => ⟨S_, .f32⟩
  | .hbm, ⟨69, _⟩ => ⟨S_, .f32⟩
  | .hbm, ⟨70, _⟩ => ⟨S8x8x64, .f32⟩
  | .hbm, ⟨71, _⟩ => ⟨S8x8x64x128, .f32⟩
  | .hbm, ⟨72, _⟩ => ⟨S8x8x64x128, .f32⟩
  | .hbm, ⟨73, _⟩ => ⟨S8x8x64, .f32⟩
  | .hbm, ⟨74, _⟩ => ⟨S8x8x64x1, .f32⟩
  | .hbm, ⟨75, _⟩ => ⟨S8x8x64x128, .f32⟩
  | .hbm, ⟨76, _⟩ => ⟨S8x8x64x128, .f32⟩
  | .hbm, ⟨77, _⟩ => ⟨S8x8x64x128, .f32⟩
  | .hbm, ⟨78, _⟩ => ⟨S8x8x64x128, .f32⟩
  | .hbm, ⟨79, _⟩ => ⟨S8x8x64x128, .f32⟩
  | .hbm, ⟨80, _⟩ => ⟨S8x8x1, .f32⟩
  | .hbm, ⟨81, _⟩ => ⟨S8x8, .f32⟩
  | .hbm, ⟨82, _⟩ => ⟨S8x8, .f32⟩
  | .hbm, ⟨83, _⟩ => ⟨S8x8x1x1, .f32⟩
  | .hbm, ⟨84, _⟩ => ⟨S8x8x128x128, .f32⟩
  | .hbm, ⟨85, _⟩ => ⟨S8x8x128x128, .f32⟩
  | .hbm, ⟨86, _⟩ => ⟨S8x8x1, .f32⟩
  | .hbm, ⟨87, _⟩ => ⟨S8x8x64, .f32⟩
  | .hbm, ⟨88, _⟩ => ⟨S8x8x64, .f32⟩
  | .hbm, ⟨89, _⟩ => ⟨S8x8x64, .f32⟩
  | .hbm, ⟨90, _⟩ => ⟨S8x8x64x1, .f32⟩
  | .hbm, ⟨91, _⟩ => ⟨S8x8x64x128, .f32⟩
  | .hbm, ⟨92, _⟩ => ⟨S8x8x64x128, .f32⟩
  | .hbm, ⟨93, _⟩ => ⟨S8x8x128x128, .f32⟩
  | .hbm, ⟨94, _⟩ => ⟨S8x8x128x128, .f32⟩
  | .hbm, ⟨95, _⟩ => ⟨S1x8x8x64x128, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S1x8x8x64x128, .f32⟩
  | .hbm, ⟨101, _⟩ => ⟨S_, .i32⟩
  | .hbm, ⟨102, _⟩ => ⟨S_, .i32⟩
  | .hbm, ⟨103, _⟩ => ⟨S8x1x64x8x128, .f32⟩
  | .hbm, ⟨104, _⟩ => ⟨S8x64x1024, .f32⟩
  | _, _ => ⟨S8x64x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev main_while0c_c_8 : Ref sig .tc := ⟨.hbm, 31, rfl⟩
abbrev main_while0c_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v0 : Ref sig .tc := ⟨.hbm, 37, rfl⟩
abbrev main_while0b_v16 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v17 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v18 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_call3_v0 : Ref sig .tc := ⟨.hbm, 55, rfl⟩
abbrev main_while0b_v19 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_c_2 : Ref sig .tc := ⟨.hbm, 60, rfl⟩
abbrev main_while0b_call4_v0 : Ref sig .tc := ⟨.hbm, 61, rfl⟩
abbrev main_while0b_v20 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_c_1 : Ref sig .tc := ⟨.hbm, 65, rfl⟩
abbrev main_while0b_call5_v0 : Ref sig .tc := ⟨.hbm, 66, rfl⟩
abbrev main_while0b_v21 : Ref sig .tc := ⟨.hbm, 67, rfl⟩
abbrev main_while0b_call6_call0_cst : Ref sig .tc := ⟨.hbm, 68, rfl⟩
abbrev main_while0b_call6_call0_v0 : Ref sig .tc := ⟨.hbm, 69, rfl⟩
abbrev main_while0b_v22 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_v26 : Ref sig .tc := ⟨.hbm, 74, rfl⟩
abbrev main_while0b_v27 : Ref sig .tc := ⟨.hbm, 75, rfl⟩
abbrev main_while0b_v28 : Ref sig .tc := ⟨.hbm, 76, rfl⟩
abbrev main_while0b_v29 : Ref sig .tc := ⟨.hbm, 77, rfl⟩
abbrev main_while0b_v30 : Ref sig .tc := ⟨.hbm, 78, rfl⟩
abbrev main_while0b_v31 : Ref sig .tc := ⟨.hbm, 79, rfl⟩
abbrev main_while0b_v32 : Ref sig .tc := ⟨.hbm, 80, rfl⟩
abbrev main_while0b_v33 : Ref sig .tc := ⟨.hbm, 81, rfl⟩
abbrev main_while0b_v34 : Ref sig .tc := ⟨.hbm, 82, rfl⟩
abbrev main_while0b_v35 : Ref sig .tc := ⟨.hbm, 83, rfl⟩
abbrev main_while0b_v36 : Ref sig .tc := ⟨.hbm, 84, rfl⟩
abbrev main_while0b_v37 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_call7_v0 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_call7_c_1 : Ref sig .tc := ⟨.hbm, 98, rfl⟩
abbrev main_while0b_call7_c_2 : Ref sig .tc := ⟨.hbm, 99, rfl⟩
abbrev main_while0b_v47 : Ref sig .tc := ⟨.hbm, 100, rfl⟩
abbrev main_while0b_c_8 : Ref sig .tc := ⟨.hbm, 101, rfl⟩
abbrev main_while0b_v48 : Ref sig .tc := ⟨.hbm, 102, rfl⟩
abbrev main_v14 : Ref sig .tc := ⟨.hbm, 103, rfl⟩
abbrev main_v15 : Ref sig .tc := ⟨.hbm, 104, rfl⟩

abbrev nD : Nat := 1
abbrev τ : Topo := Topo.v7x

variable {F : FTy → Type} [FloatOps F]

abbrev main_while0_count : Scf.Loop 32 := ⟨0#32, 1#32, 1#32⟩
-- ==== Proof.Gdn.Trip.lean ====
module
public import proofs.«01_k».proof.Proof.Gen.KernelIdeal.Frame.Runs
public import Idealize.ShloMosaic.Lib.WritesUnit
@[expose] public section
set_option maxRecDepth 16384
noncomputable section
namespace Cert.KernelIdeal.Gdn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- The loop of the kernel's body makes 32 trips, one per chunk of 64 positions. -/
theorem trips_eq : k0_t1_loop.trips = 32 := by decide +kernel

/-- Where chunk `k` of a head begins in the blocks, in numerals. -/
theorem off1_eq : ∀ k : Fin k0_t1_loop.trips, k0_off1 k = ![0, 64 * k.val, 0] := by decide +kernel
theorem off2_eq : ∀ k : Fin k0_t1_loop.trips, k0_off2 k = ![0, 0, 64 * k.val, 0] := by decide +kernel
theorem off3_eq : ∀ k : Fin k0_t1_loop.trips, k0_off3 k = ![0, 0, k.val, 0] := by decide +kernel
theorem off4_eq : ∀ k : Fin k0_t1_loop.trips, k0_off4 k = ![0, 0, 64 * k.val, 0] := by decide +kernel
theorem off5_eq : ∀ k : Fin k0_t1_loop.trips, k0_off5 k = ![0, 64 * k.val, 128] := by decide +kernel
theorem off6_eq : ∀ k : Fin k0_t1_loop.trips, k0_off6 k = ![0, 1, 64 * k.val, 0] := by decide +kernel
theorem off7_eq : ∀ k : Fin k0_t1_loop.trips, k0_off7 k = ![0, 1, k.val, 0] := by decide +kernel
theorem off8_eq : ∀ k : Fin k0_t1_loop.trips, k0_off8 k = ![0, 1, 64 * k.val, 0] := by decide +kernel

section Step

variable (x0 x1 x2 x3 : Vec F S1x2048x256 .f32) (x4 : Vec F S1x2x2048x64 .f32) (x5 : Vec F S1x2x2048x1 .f32)
  (x6 : Vec F S1x2x32x64 .f32) (k : Fin k0_t1_loop.trips) (S : Vec F S1x2x128x128 .f32)

/-- The state of the block's first head. -/
def hA : Vec F S1x1x128x128 .f32 := View.ld S (Rect.unit (s := S1x2x128x128) ![0, 0, 0, 0] S1x1x128x128.size inb_S1x2x128x128_S1x1x128x128_0_0_0_0)
/-- The state of the block's second head. -/
def hB : Vec F S1x1x128x128 .f32 := View.ld S (Rect.unit (s := S1x2x128x128) ![0, 1, 0, 0] S1x1x128x128.size inb_S1x2x128x128_S1x1x128x128_0_1_0_0)
/-- Chunk `k` of a sequence block, first head. -/
def cA (x : Vec F S1x2048x256 .f32) : Vec F S1x64x128 .f32 := View.ld x (Rect.unit (s := S1x2048x256) (k0_off1 k) S1x64x128.size (k0_off1_inb k))
/-- Chunk `k` of a sequence block, second head. -/
def cB (x : Vec F S1x2048x256 .f32) : Vec F S1x64x128 .f32 := View.ld x (Rect.unit (s := S1x2048x256) (k0_off5 k) S1x64x128.size (k0_off5_inb k))
/-- The running sums of the gates of chunk `k` as a column, first head. -/
def gA : Vec F S1x1x64x1 .f32 := View.ld x5 (Rect.unit (s := S1x2x2048x1) (k0_off2 k) S1x1x64x1.size (k0_off2_inb k))
/-- The running sums of the gates of chunk `k` as a column, second head. -/
def gB : Vec F S1x1x64x1 .f32 := View.ld x5 (Rect.unit (s := S1x2x2048x1) (k0_off6 k) S1x1x64x1.size (k0_off6_inb k))
/-- The running sums of the gates of chunk `k` as a row, first head. -/
def rA : Vec F S1x1x1x64 .f32 := View.ld x6 (Rect.unit (s := S1x2x32x64) (k0_off3 k) S1x1x1x64.size (k0_off3_inb k))
/-- The running sums of the gates of chunk `k` as a row, second head. -/
def rB : Vec F S1x1x1x64 .f32 := View.ld x6 (Rect.unit (s := S1x2x32x64) (k0_off7 k) S1x1x1x64.size (k0_off7_inb k))
/-- The weights within chunk `k`, first head. -/
def aA : Vec F S1x1x64x64 .f32 := View.ld x4 (Rect.unit (s := S1x2x2048x64) (k0_off4 k) S1x1x64x64.size (k0_off4_inb k))
/-- The weights within chunk `k`, second head. -/
def aB : Vec F S1x1x64x64 .f32 := View.ld x4 (Rect.unit (s := S1x2x2048x64) (k0_off8 k) S1x1x64x64.size (k0_off8_inb k))

/-- What the chunk outputs for the first head. -/
def oA : Vec F S1x64x128 .f32 := k0_pay8 (k0_pay6 (hA S) (cA k x2) (cA k x3)) (k0_pay7 (cA k x0) (gA x5 k) (hA S)) (aA x4 k)
/-- What the chunk outputs for the second head. -/
def oB : Vec F S1x64x128 .f32 := k0_pay16 (k0_pay10 (cB k x0)) (k0_pay12 (gB x5 k)) (hB S) (cB k x2) (cB k x3) (aB x4 k)
/-- The first head's state after the chunk. -/
def sA : Vec F S1x1x128x128 .f32 := k0_pay9 (k0_pay2 (cA k x1)) (k0_pay3 (gA x5 k)) (k0_pay4 (rA x6 k)) (k0_pay5 (hA S)) (k0_pay6 (hA S) (cA k x2) (cA k x3))
/-- The second head's state after the chunk. -/
def sB : Vec F S1x1x128x128 .f32 := k0_pay1 (k0_pay17 (k0_pay11 (cB k x1)) (k0_pay12 (gB x5 k)) (k0_pay13 (rB x6 k)) (hB S) (cB k x2) (cB k x3))

/-- The block's two states after chunk `k`. -/
def stepS : Vec F S1x2x128x128 .f32 := fun y =>
  if h : ∀ a, (![0, 1, 0, 0] : Fin 4 → ℕ) a ≤ (y a).val ∧ (y a).val < (![0, 1, 0, 0] : Fin 4 → ℕ) a + S1x1x128x128.size a then
    sB x1 x2 x3 x5 x6 k S (Rect.unitLocal (s := S1x2x128x128) (off := ![0, 1, 0, 0]) (size := S1x1x128x128.size) y h)
  else if h : ∀ a, (![0, 0, 0, 0] : Fin 4 → ℕ) a ≤ (y a).val ∧ (y a).val < (![0, 0, 0, 0] : Fin 4 → ℕ) a + S1x1x128x128.size a then
    sA x1 x2 x3 x5 x6 k S (Rect.unitLocal (s := S1x2x128x128) (off := ![0, 0, 0, 0]) (size := S1x1x128x128.size) y h)
  else S y

/-- The output block after chunk `k`, over what it held. -/
def stepO (O : Vec F S1x2048x256 .f32) : Vec F S1x2048x256 .f32 := fun y =>
  if h : ∀ a, (![0, 64 * k.val, 128] : Fin 3 → ℕ) a ≤ (y a).val ∧ (y a).val < (![0, 64 * k.val, 128] : Fin 3 → ℕ) a + S1x64x128.size a then
    oB x0 x2 x3 x4 x5 k S (Rect.unitLocal (s := S1x2048x256) (off := ![0, 64 * k.val, 128]) (size := S1x64x128.size) y h)
  else if h : ∀ a, (![0, 64 * k.val, 0] : Fin 3 → ℕ) a ≤ (y a).val ∧ (y a).val < (![0, 64 * k.val, 0] : Fin 3 → ℕ) a + S1x64x128.size a then
    oA x0 x2 x3 x4 x5 k S (Rect.unitLocal (s := S1x2048x256) (off := ![0, 64 * k.val, 0]) (size := S1x64x128.size) y h)
  else O y

/-- The output block and the two states after the first `n` chunks. -/
def iter (O : Vec F S1x2048x256 .f32) : ℕ → Vec F S1x2048x256 .f32 × Vec F S1x2x128x128 .f32
  | 0 => (O, S)
  | n + 1 => if h : n < k0_t1_loop.trips then
      (stepO x0 x2 x3 x4 x5 ⟨n, h⟩ (iter O n).2 (iter O n).1, stepS x1 x2 x3 x5 x6 ⟨n, h⟩ (iter O n).2)
    else iter O n

/-- What the output block held before does not matter to the states, nor to the rows of the chunks already done. -/
theorem iter_indep (O O' : Vec F S1x2048x256 .f32) : ∀ n, n ≤ 32 →
    (iter x0 x1 x2 x3 x4 x5 x6 S O n).2 = (iter x0 x1 x2 x3 x4 x5 x6 S O' n).2
    ∧ ∀ y : S1x2048x256.Idx, (y 1).val < 64 * n → (iter x0 x1 x2 x3 x4 x5 x6 S O n).1 y = (iter x0 x1 x2 x3 x4 x5 x6 S O' n).1 y
  | 0, _ => ⟨rfl, fun y h => absurd h (by omega)⟩
  | n + 1, hn => by
    obtain ⟨h1, h2⟩ := iter_indep O O' n (by omega)
    have hlt : n < k0_t1_loop.trips := by rw [trips_eq]; omega
    simp only [iter, dif_pos hlt]
    refine ⟨by rw [h1], fun y hy => ?_⟩
    unfold stepO
    rw [h1]
    by_cases hB : ∀ a, (![0, 64 * n, 128] : Fin 3 → ℕ) a ≤ (y a).val ∧ (y a).val < (![0, 64 * n, 128] : Fin 3 → ℕ) a + S1x64x128.size a
    · rw [dif_pos hB, dif_pos hB]
    rw [dif_neg hB, dif_neg hB]
    by_cases hA : ∀ a, (![0, 64 * n, 0] : Fin 3 → ℕ) a ≤ (y a).val ∧ (y a).val < (![0, 64 * n, 0] : Fin 3 → ℕ) a + S1x64x128.size a
    · rw [dif_pos hA, dif_pos hA]
    rw [dif_neg hA, dif_neg hA]
    refine h2 y ?_
    by_contra hc
    have h0 : (y 0).val < 1 := (y 0).isLt
    have h2 : (y 2).val < 256 := (y 2).isLt
    rcases Nat.lt_or_ge (y 2).val 128 with hl | hl
    · refine hA fun a => ?_
      fin_cases a
      · show 0 ≤ (y 0).val ∧ (y 0).val < 0 + 1; omega
      · show 64 * n ≤ (y 1).val ∧ (y 1).val < 64 * n + 64; omega
      · show 0 ≤ (y 2).val ∧ (y 2).val < 0 + 128; omega
    · refine hB fun a => ?_
      fin_cases a
      · show 0 ≤ (y 0).val ∧ (y 0).val < 0 + 1; omega
      · show 64 * n ≤ (y 1).val ∧ (y 1).val < 64 * n + 64; omega
      · show 128 ≤ (y 2).val ∧ (y 2).val < 128 + 128; omega

/-- The output block after all chunks. -/
def outO : Vec F S1x2048x256 .f32 := (iter x0 x1 x2 x3 x4 x5 x6 S x0 32).1
/-- The two states after all chunks. -/
def outS : Vec F S1x2x128x128 .f32 := (iter x0 x1 x2 x3 x4 x5 x6 S x0 32).2

end Step

section Pieces

variable (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x2x2048x64 .f32) (harg6 : arg6.IsWhole) (arg7 : Memref sig .tc .vmem S1x2x2048x1 .f32) (harg7 : arg7.IsWhole) (arg8 : Memref sig .tc .vmem S1x2x32x64 .f32) (harg8 : arg8.IsWhole) (arg9 : Memref sig .tc .vmem S1x2x128x128 .f32) (harg9 : arg9.IsWhole) (arg10 : Memref sig .tc .vmem S1x2048x256 .f32) (harg10 : arg10.IsWhole) (arg11 : Memref sig .tc .vmem S1x2x128x128 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)  (k : Fin k0_t1_loop.trips) (f10 : BufTy.Contents (Elt F) arg10.view.ty) (f11 : BufTy.Contents (Elt F) arg11.view.ty)

/-- The pieces one trip writes, read back: `stepO` and `stepS` of what the trip found. -/
theorem trip_read :
    arg10.view.read (Elt F) (arg10.view.writes (Elt F) f10 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k f10 f11).1)
      = stepO (arg2.view.read (Elt F) X_arg2) (arg4.view.read (Elt F) X_arg4) (arg5.view.read (Elt F) X_arg5) (arg6.view.read (Elt F) X_arg6) (arg7.view.read (Elt F) X_arg7) k (arg11.view.read (Elt F) f11) (arg10.view.read (Elt F) f10)
    ∧ arg11.view.read (Elt F) (arg11.view.writes (Elt F) f11 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k f10 f11).2)
      = stepS (arg3.view.read (Elt F) X_arg3) (arg4.view.read (Elt F) X_arg4) (arg5.view.read (Elt F) X_arg5) (arg7.view.read (Elt F) X_arg7) (arg8.view.read (Elt F) X_arg8) k (arg11.view.read (Elt F) f11) := by
  constructor
  · funext y
    unfold tripL_k0_t1 trip_k0_t1
    dsimp only
    refine (View.read_writes_cons_unit _ _ _ _ _ _ (off5_eq k)).trans ?_
    unfold stepO
    split
    · rfl
    refine (View.read_writes_cons_unit _ _ _ _ _ _ (off1_eq k)).trans ?_
    split
    · rfl
    · rfl
  · funext y
    unfold tripL_k0_t1 trip_k0_t1
    dsimp only
    refine (View.read_writes_cons_unit _ _ _ _ _ _ rfl).trans ?_
    unfold stepS
    split
    · rfl
    refine (View.read_writes_cons_unit _ _ _ _ _ _ rfl).trans ?_
    split
    · rfl
    · rfl

/-- The pieces of the first `n` trips, read back: `iter` of what the loop found. -/
theorem pb_read : ∀ n, n ≤ 32 →
    (arg10.view.read (Elt F) (arg10.view.writes (Elt F) f10 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 f10 f11 n).1),
      arg11.view.read (Elt F) (arg11.view.writes (Elt F) f11 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 f10 f11 n).2))
      = iter (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg11.view.read (Elt F) f11) (arg10.view.read (Elt F) f10) n
  | 0, _ => rfl
  | n + 1, hn => by
    have hlt : n < k0_t1_loop.trips := by rw [trips_eq]; omega
    have ih := pb_read n (by omega)
    have e := pb_k0_t1_succ (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 f10 f11 ⟨n, hlt⟩
    dsimp only at e
    simp only [iter, dif_pos hlt]
    rw [← ih, e]
    simp only [View.writes_append]
    rw [(trip_read (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 ⟨n, hlt⟩ _ _).1, (trip_read (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 ⟨n, hlt⟩ _ _).2]

end Pieces

end Cert.KernelIdeal.Gdn
-- ==== Proof.Gdn.Body.lean ====
module
public import proofs.«01_k».proof.Proof.Gen.KernelIdeal.Frame.Runs
public import proofs.«01_k».proof.Proof.Gdn.Trip
public import Idealize.ShloMosaic.Lib.Claim
public import Idealize.ShloMosaic.Lib.VecWindow
@[expose] public section
set_option maxRecDepth 16384
noncomputable section
namespace Cert.KernelIdeal.Gdn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

set_option maxHeartbeats 2000000 in
/-- The kernel's body on whole memrefs: the inputs stay, the two output blocks end with `outO` and `outS` of the inputs. -/
theorem body_run (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x2x2048x64 .f32) (harg6 : arg6.IsWhole) (arg7 : Memref sig .tc .vmem S1x2x2048x1 .f32) (harg7 : arg7.IsWhole) (arg8 : Memref sig .tc .vmem S1x2x32x64 .f32) (harg8 : arg8.IsWhole) (arg9 : Memref sig .tc .vmem S1x2x128x128 .f32) (harg9 : arg9.IsWhole) (arg10 : Memref sig .tc .vmem S1x2048x256 .f32) (harg10 : arg10.IsWhole) (arg11 : Memref sig .tc .vmem S1x2x128x128 .f32) (harg11 : arg11.IsWhole)
    (x0 : Vec F S1x2048x256 .f32) (x1 : Vec F S1x2048x256 .f32) (x2 : Vec F S1x2048x256 .f32) (x3 : Vec F S1x2048x256 .f32) (x4 : Vec F S1x2x2048x64 .f32) (x5 : Vec F S1x2x2048x1 .f32) (x6 : Vec F S1x2x32x64 .f32) (x7 : Vec F S1x2x128x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outO x0 x1 x2 x3 x4 x5 x6 x7) ∗ owns (c : Thread nD τ) arg11 fullShare (outS x0 x1 x2 x3 x4 x5 x6 x7)) -∗ K ⟨⟩))
          ⊢ wp frame (wpE (defs₀ (F := F)) Variants.none c none) E (cc0_gdn_state i arg2 harg2 arg3 harg3 arg4 harg4 arg5 harg5 arg6 harg6 arg7 harg7 arg8 harg8 arg9 harg9 arg10 harg10 arg11 harg11) K := by
  simp only [cc0_gdn_state_eq_skeleton]; unfold cc0_gdn_state_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  have e9 : arg11.view.read (Elt F) (arg11.view.writes (Elt F) arg11.view.junk (body_run.sl.H9_1 c arg9 harg9 x7)) = x7 := by
    unfold body_run.sl.H9_1
    exact (View.read_writes_full _ _ _ _ _).trans ((View.readAt_full _ _ _).trans (harg9.read_unread _))
  have key := pb_read (F := F) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6) f8 (arg11.view.writes (Elt F) arg11.view.junk (body_run.sl.H9_1 c arg9 harg9 x7)) 32 le_rfl
  have et : Scf.trips k0_t1_loop.lb k0_t1_loop.ub k0_t1_loop.st = 32 := trips_eq
  rw [e9, harg2.read_unread, harg3.read_unread, harg4.read_unread, harg5.read_unread, harg6.read_unread, harg7.read_unread, harg8.read_unread] at key
  have ind := iter_indep x0 x1 x2 x3 x4 x5 x6 x7 (arg10.view.read (Elt F) f8) x0 32 le_rfl
  isplitl [H8]
  · iexists _; isplitr; swap
    · iexact H8
    ipureintro
    rw [et]
    funext y
    exact (congrFun (congrArg Prod.fst key) y).trans (ind.2 y (by have h : (y 1).val < 2048 := (y 1).isLt; omega))
  iexists _; isplitr; swap
  · iexact H9
  ipureintro
  rw [et, View.writes_append]
  exact (congrArg Prod.snd key).trans ind.1

end Cert.KernelIdeal.Gdn
-- ==== Proof.Gdn.Run.lean ====
module
public import proofs.«01_k».proof.Proof.Gen.KernelIdeal.Frame.Runs
public import proofs.«01_k».proof.Proof.Gdn.Body
public import Idealize.ShloMosaic.Lib.Claim
@[expose] public section
set_option maxRecDepth 16384
noncomputable section
namespace Cert.KernelIdeal.Gdn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the windows' staging buffers hold after the body at a point: each input its block, the two outputs `outO` and
    `outS` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outO (iblk m c 0 t) (iblk m c 1 t) (iblk m c 2 t) (iblk m c 3 t) (iblk m c 4 t) (iblk m c 5 t) (iblk m c 6 t) (iblk m c 7 t)
    | ⟨9, _⟩ => outS (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The arrays as the launch finds them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outO (iblk m c 0 t) (iblk m c 1 t) (iblk m c 2 t) (iblk m c 3 t) (iblk m c 4 t) (iblk m c 5 t) (iblk m c 6 t) (iblk m c 7 t) := by dsimp only [dats]
theorem after_9 (c : Dev nD) (t : Fin cfg0.N) : (dats m 0 c).after 9 t = outS (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point of the grid. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _  _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem row (t : Fin cfg0.N) :
    defs₀ (F := F) .tc cfg0.body (cfg0.bodyArgs t (cfg0.slots t)) = bodyAt0 t := by
  unfold defs₀; rw [Defs.onTc_tc]

/-- The obligation the pipeline's rule asks of the body. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch: every execution ends, with the arrays at what the proof data say and every counter at zero. -/
theorem launch_run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Cert.KernelIdeal.Gdn
-- ==== Proof.Gdn.Spec.lean ====
module

public import Idealize.ShloMosaic.Lib.Pointwise

@[expose] public section

noncomputable section

namespace Cert.GdnSpec

open Idealize.ShloMosaic

/-- The running sum of 64 gates up to and with position `i`, as a window of 64 padded low sums them. -/
def csum (f : Fin 64 → EReal) (i : Fin 64) : EReal :=
  (List.finRange 64).foldl (fun r m => r + (if h : 63 ≤ i.val + m.val then f ⟨i.val + m.val - 63, by omega⟩ else 0)) 0

/-- The window sum of a host's running sum is `csum`, from what its window's positions read. -/
theorem foldl_eq_csum {N : ℕ} (hN : N = 64) (g : EReal → Fin N → EReal) (f : Fin 64 → EReal) (i : Fin 64) (v : EReal) (hv : v = 0)
    (h : ∀ r (m : Fin 64), g r (m.cast hN.symm) = r + (if h : 63 ≤ i.val + m.val then f ⟨i.val + m.val - 63, by omega⟩ else 0)) :
    (List.finRange N).foldl g v = csum f i := by
  subst hN
  subst hv
  unfold csum
  congr 1
  funext r m
  exact h r m

/-- What one head of one sequence gives the recurrence, per chunk of 64 positions. -/
structure Head where
  q : Fin 32 → Fin 64 → Fin 128 → EReal
  k : Fin 32 → Fin 64 → Fin 128 → EReal
  u : Fin 32 → Fin 64 → Fin 128 → EReal
  w : Fin 32 → Fin 64 → Fin 128 → EReal
  a : Fin 32 → Fin 64 → Fin 64 → EReal
  /-- the running sums of the gates within the chunk -/
  g : Fin 32 → Fin 64 → EReal
  s : Fin 128 → Fin 128 → EReal

variable (H : Head)

/-- The values of chunk `n` corrected by what the state `S` holds already. -/
def Head.vnew (n : Fin 32) (S : Fin 128 → Fin 128 → EReal) (i : Fin 64) (e : Fin 128) : EReal :=
  H.u n i e - ∑ d : Fin 128, H.w n i d * S d e

/-- What chunk `n` outputs, from the state `S` before it. -/
def Head.out (n : Fin 32) (S : Fin 128 → Fin 128 → EReal) (i : Fin 64) (e : Fin 128) : EReal :=
  (∑ d : Fin 128, H.q n i d * Ideal.exp (H.g n i) * S d e) + ∑ j : Fin 64, H.a n i j * H.vnew n S j e

/-- The state after chunk `n`. -/
def Head.next (n : Fin 32) (S : Fin 128 → Fin 128 → EReal) (d e : Fin 128) : EReal :=
  S d e * Ideal.exp (H.g n 63) + ∑ i : Fin 64, H.k n i d * Ideal.exp (H.g n 63 - H.g n i) * H.vnew n S i e

/-- The state after the first `n` chunks. -/
def state (H : Head) : ℕ → Fin 128 → Fin 128 → EReal
  | 0 => H.s
  | n + 1 => if h : n < 32 then H.next ⟨n, h⟩ (state H n) else state H n

theorem state_succ (H : Head) (n : ℕ) (h : n < 32) : state H (n + 1) = H.next ⟨n, h⟩ (state H n) := by
  simp only [state, dif_pos h]

/-- Position `i` of chunk `n`. -/
def pos (n : Fin 32) (i : Fin 64) : Fin 2048 := ⟨64 * n.val + i.val, by omega⟩
/-- Channel `d` of head `h` in the rows of all heads. -/
def ch8 (h : Fin 8) (d : Fin 128) : Fin 1024 := ⟨128 * h.val + d.val, by omega⟩

/-- The output at position `r` in channel `x` of the rows of all heads. -/
def outAt (H : Fin 4 → Fin 8 → Head) (b : Fin 4) (r : Fin 2048) (x : Fin 1024) : EReal :=
  (H b ⟨x.val / 128, by omega⟩).out ⟨r.val / 64, by omega⟩ (state (H b ⟨x.val / 128, by omega⟩) (r.val / 64))
    ⟨r.val % 64, by omega⟩ ⟨x.val % 128, by omega⟩

theorem outAt_eq (H : Fin 4 → Fin 8 → Head) (b : Fin 4) (n : Fin 32) (i : Fin 64) (h : Fin 8) (e : Fin 128) :
    outAt H b (pos n i) (ch8 h e) = (H b h).out n (state (H b h) n.val) i e := by
  unfold outAt
  have h1 : ∀ hh, (⟨(ch8 h e).val / 128, hh⟩ : Fin 8) = h := fun hh => Fin.ext (by simp only [ch8]; omega)
  have h2 : ∀ hh, (⟨(ch8 h e).val % 128, hh⟩ : Fin 128) = e := fun hh => Fin.ext (by simp only [ch8]; omega)
  have h3 : ∀ hh, (⟨(pos n i).val / 64, hh⟩ : Fin 32) = n := fun hh => Fin.ext (by simp only [pos]; omega)
  have h4 : ∀ hh, (⟨(pos n i).val % 64, hh⟩ : Fin 64) = i := fun hh => Fin.ext (by simp only [pos]; omega)
  have h5 : (pos n i).val / 64 = n.val := by simp only [pos]; omega
  rw [h1, h2, h3, h4, h5]

/-- All heads' outputs, the heads' channels side by side in a position's row. -/
def outs (H : Fin 4 → Fin 8 → Head) (y : (⟨3, ![4, 2048, 1024]⟩ : Shape).Idx) : EReal := outAt H (y 0) (y 1) (y 2)

/-- All heads' last states. -/
def states (H : Fin 4 → Fin 8 → Head) (y : (⟨4, ![4, 8, 128, 128]⟩ : Shape).Idx) : EReal := state (H (y 0) (y 1)) 32 (y 2) (y 3)

theorem states_at (H : Fin 4 → Fin 8 → Head) (b : Fin 4) (h : Fin 8) (d e : Fin 128) :
    states H (ix4 b h d e) = state (H b h) 32 d e := rfl

theorem outs_at (H : Fin 4 → Fin 8 → Head) (b : Fin 4) (n : Fin 32) (i : Fin 64) (h : Fin 8) (e : Fin 128) :
    outs H (ix3 b (pos n i) (ch8 h e)) = (H b h).out n (state (H b h) n.val) i e :=
  outAt_eq H b n i h e

/-- Every index of the outputs is a position of a chunk and a channel of a head. -/
theorem idx_split (y : (⟨3, ![4, 2048, 1024]⟩ : Shape).Idx) : ∃ b n i h e, y = ix3 b (pos n i) (ch8 h e) := by
  have h1 : (y 1).val < 2048 := (y 1).isLt
  have h2 : (y 2).val < 1024 := (y 2).isLt
  refine ⟨y 0, ⟨(y 1).val / 64, by omega⟩, ⟨(y 1).val % 64, by omega⟩, ⟨(y 2).val / 128, by omega⟩, ⟨(y 2).val % 128, by omega⟩, ?_⟩
  refine (eq_ix3 y).trans ((ix3_inj ..).2 ⟨rfl, Fin.ext ?_, Fin.ext ?_⟩)
  · show (y 1).val = 64 * ((y 1).val / 64) + (y 1).val % 64; omega
  · show (y 2).val = 128 * ((y 2).val / 128) + (y 2).val % 128; omega

end Cert.GdnSpec
-- ==== Proof.Gdn.KerHead.lean ====
module

public import proofs.«01_k».proof.Proof.Gdn.Trip
public import proofs.«01_k».proof.Proof.Gdn.Spec
public import Idealize.ShloMosaic.Lib.Pipeline.ValueKit

@[expose] public section

set_option maxRecDepth 16384

noncomputable section

namespace Cert.KernelIdeal.Gdn

open Cert.KernelIdeal Cert.KernelIdeal.Gen Cert.GdnSpec
open Idealize.ShloMosaic Idealize.ShloMosaic.TcCoe

variable (x0 x1 x2 x3 : FVec Ideal S1x2048x256 .f32) (x4 : FVec Ideal S1x2x2048x64 .f32) (x5 : FVec Ideal S1x2x2048x1 .f32)
  (x6 : FVec Ideal S1x2x32x64 .f32) (S : FVec Ideal S1x2x128x128 .f32)

/-- Channel `d` of the block's head `p`. -/
def ch (p : Fin 2) (d : Fin 128) : Fin 256 := ⟨128 * p.val + d.val, by omega⟩

/-- Head `p` of a block. -/
def headOf (p : Fin 2) : Head where
  q n i d := x0 (ix3 0 (pos n i) (ch p d))
  k n i d := x1 (ix3 0 (pos n i) (ch p d))
  u n i d := x2 (ix3 0 (pos n i) (ch p d))
  w n i d := x3 (ix3 0 (pos n i) (ch p d))
  a n i j := x4 (ix4 0 p (pos n i) j)
  g n i := x5 (ix4 0 p (pos n i) 0)
  s d e := S (ix4 0 p d e)

section Trip
variable (n : Fin k0_t1_loop.trips) (i j : Fin 64) (d e : Fin 128) (n' : Fin 32) (hn : n'.val = n.val)
include hn

theorem cA_at (x : FVec Ideal S1x2048x256 .f32) : cA (F := Ideal) n x (ix3 0 i d) = x (ix3 0 (pos n' i) (ch 0 d)) := by
  unfold cA
  show x _ = x _
  congr 1
  funext a
  have h := congrFun (off1_eq n) a
  apply Fin.ext
  show k0_off1 n a + 1 * _ = _
  rw [h]
  fin_cases a
  · rfl
  · show 64 * n.val + 1 * i.val = 64 * n'.val + i.val; omega
  · show 0 + 1 * d.val = 128 * 0 + d.val; omega

theorem cB_at (x : FVec Ideal S1x2048x256 .f32) : cB (F := Ideal) n x (ix3 0 i d) = x (ix3 0 (pos n' i) (ch 1 d)) := by
  unfold cB
  show x _ = x _
  congr 1
  funext a
  have h := congrFun (off5_eq n) a
  apply Fin.ext
  show k0_off5 n a + 1 * _ = _
  rw [h]
  fin_cases a
  · rfl
  · show 64 * n.val + 1 * i.val = 64 * n'.val + i.val; omega
  · show 128 + 1 * d.val = 128 * 1 + d.val; omega

theorem gA_at : gA (F := Ideal) x5 n (ix4 0 0 i 0) = x5 (ix4 0 0 (pos n' i) 0) := by
  unfold gA
  show x5 _ = x5 _
  congr 1
  funext a
  have h := congrFun (off2_eq n) a
  apply Fin.ext
  show k0_off2 n a + 1 * _ = _
  rw [h]
  fin_cases a
  · rfl
  · rfl
  · show 64 * n.val + 1 * i.val = 64 * n'.val + i.val; omega
  · rfl

theorem gB_at : gB (F := Ideal) x5 n (ix4 0 0 i 0) = x5 (ix4 0 1 (pos n' i) 0) := by
  unfold gB
  show x5 _ = x5 _
  congr 1
  funext a
  have h := congrFun (off6_eq n) a
  apply Fin.ext
  show k0_off6 n a + 1 * _ = _
  rw [h]
  fin_cases a
  · rfl
  · rfl
  · show 64 * n.val + 1 * i.val = 64 * n'.val + i.val; omega
  · rfl

theorem rA_at : rA (F := Ideal) x6 n (ix4 0 0 0 i) = x6 (ix4 0 0 n' i) := by
  unfold rA
  show x6 _ = x6 _
  congr 1
  funext a
  have h := congrFun (off3_eq n) a
  apply Fin.ext
  show k0_off3 n a + 1 * _ = _
  rw [h]
  fin_cases a
  · rfl
  · rfl
  · show n.val + 1 * 0 = n'.val; omega
  · show 0 + 1 * i.val = i.val; omega

theorem rB_at : rB (F := Ideal) x6 n (ix4 0 0 0 i) = x6 (ix4 0 1 n' i) := by
  unfold rB
  show x6 _ = x6 _
  congr 1
  funext a
  have h := congrFun (off7_eq n) a
  apply Fin.ext
  show k0_off7 n a + 1 * _ = _
  rw [h]
  fin_cases a
  · rfl
  · rfl
  · show n.val + 1 * 0 = n'.val; omega
  · show 0 + 1 * i.val = i.val; omega

theorem aA_at : aA (F := Ideal) x4 n (ix4 0 0 i j) = x4 (ix4 0 0 (pos n' i) j) := by
  unfold aA
  show x4 _ = x4 _
  congr 1
  funext a
  have h := congrFun (off4_eq n) a
  apply Fin.ext
  show k0_off4 n a + 1 * _ = _
  rw [h]
  fin_cases a
  · rfl
  · rfl
  · show 64 * n.val + 1 * i.val = 64 * n'.val + i.val; omega
  · show 0 + 1 * j.val = j.val; omega

theorem aB_at : aB (F := Ideal) x4 n (ix4 0 0 i j) = x4 (ix4 0 1 (pos n' i) j) := by
  unfold aB
  show x4 _ = x4 _
  congr 1
  funext a
  have h := congrFun (off8_eq n) a
  apply Fin.ext
  show k0_off8 n a + 1 * _ = _
  rw [h]
  fin_cases a
  · rfl
  · rfl
  · show 64 * n.val + 1 * i.val = 64 * n'.val + i.val; omega
  · show 0 + 1 * j.val = j.val; omega
end Trip

theorem hA_at (d e : Fin 128) : hA (F := Ideal) S (ix4 0 0 d e) = S (ix4 0 0 d e) := by
  unfold hA
  show S _ = S _
  congr 1
  funext a
  apply Fin.ext
  fin_cases a
  · rfl
  · rfl
  · show 0 + 1 * d.val = d.val; omega
  · show 0 + 1 * e.val = e.val; omega

theorem hB_at (d e : Fin 128) : hB (F := Ideal) S (ix4 0 0 d e) = S (ix4 0 1 d e) := by
  unfold hB
  show S _ = S _
  congr 1
  funext a
  apply Fin.ext
  fin_cases a
  · rfl
  · rfl
  · show 0 + 1 * d.val = d.val; omega
  · show 0 + 1 * e.val = e.val; omega

section Pays
variable (P0 P1 P2 P3 : FVec Ideal S1x64x128 .f32) (G : FVec Ideal S1x1x64x1 .f32) (R : FVec Ideal S1x1x1x64 .f32)
  (A : FVec Ideal S1x1x64x64 .f32) (T : FVec Ideal S1x1x128x128 .f32) (i j : Fin 64) (d e : Fin 128)

/-- What the body computes for a head's outputs, read at an index. -/
theorem pay_o : k0_pay8 (F := Ideal) (k0_pay6 T P2 P3) (k0_pay7 P0 G T) A (ix3 0 i e)
    = (∑ d : Fin 128, P0 (ix3 0 i d) * Ideal.exp (G (ix4 0 0 i 0)) * T (ix4 0 0 d e))
      + ∑ j : Fin 64, A (ix4 0 0 i j) * (P2 (ix3 0 j e) - ∑ d : Fin 128, P3 (ix3 0 j d) * T (ix4 0 0 d e)) := by
  pointwise [k0_pay8, k0_pay6, k0_pay7, k0_pay5, k0_pay3]
  try simp only [zero_add]

theorem pay_o' : k0_pay16 (F := Ideal) (k0_pay10 P0) (k0_pay12 G) T P2 P3 A = k0_pay8 (F := Ideal) (k0_pay6 T P2 P3) (k0_pay7 P0 G T) A := rfl

/-- What the body computes for a head's state, read at an index. -/
theorem pay_s : k0_pay9 (F := Ideal) (k0_pay2 P1) (k0_pay3 G) (k0_pay4 R) (k0_pay5 T) (k0_pay6 T P2 P3) (ix4 0 0 d e)
    = T (ix4 0 0 d e) * Ideal.exp (R (ix4 0 0 0 63))
      + ∑ i : Fin 64, P1 (ix3 0 i d) * Ideal.exp (R (ix4 0 0 0 63) - G (ix4 0 0 i 0)) * (P2 (ix3 0 i e) - ∑ d : Fin 128, P3 (ix3 0 i d) * T (ix4 0 0 d e)) := by
  pointwise [k0_pay9, k0_pay2, k0_pay4, k0_pay6, k0_pay5, k0_pay3]
  try simp only [zero_add]

theorem pay_s' : k0_pay1 (F := Ideal) (k0_pay17 (k0_pay11 P1) (k0_pay12 G) (k0_pay13 R) T P2 P3)
    = k0_pay9 (F := Ideal) (k0_pay2 P1) (k0_pay3 G) (k0_pay4 R) (k0_pay5 T) (k0_pay6 T P2 P3) := rfl
end Pays

/-- One trip's states. -/
theorem stepS_at (n : Fin k0_t1_loop.trips) (n' : Fin 32) (hn : n'.val = n.val) (O : FVec Ideal S1x2x128x128 .f32)
    (hx : ∀ p n i, x6 (ix4 0 p n i) = x5 (ix4 0 p (pos n i) 0)) (p : Fin 2) (d e : Fin 128) :
    stepS (F := Ideal) x1 x2 x3 x5 x6 n O (ix4 0 p d e) = (headOf x0 x1 x2 x3 x4 x5 S p).next n' (fun d e => O (ix4 0 p d e)) d e := by
  unfold stepS
  by_cases hp : p = 1
  · subst hp
    rw [dif_pos (by intro a; fin_cases a
                    · exact ⟨by show 0 ≤ 0; omega, by show 0 < 0 + 1; omega⟩
                    · exact ⟨by show 1 ≤ 1; omega, by show 1 < 1 + 1; omega⟩
                    · exact ⟨Nat.zero_le _, by show d.val < 0 + 128; omega⟩
                    · exact ⟨Nat.zero_le _, by show e.val < 0 + 128; omega⟩)]
    refine (congrArg _ (?_ : _ = (ix4 0 0 d e : S1x1x128x128.Idx))).trans ?_
    · funext a; apply Fin.ext
      fin_cases a <;> rfl
    · unfold sB
      rw [pay_s', pay_s]
      simp only [cB_at n _ _ n' hn, gB_at x5 n _ n' hn, rB_at x6 n _ n' hn, hB_at, hx]
      rfl
  · obtain rfl : p = 0 := by omega
    rw [dif_neg (by intro h; have := (h 1).1; exact absurd this (by show ¬ 1 ≤ 0; omega)),
      dif_pos (by intro a; fin_cases a
                  · exact ⟨by show 0 ≤ 0; omega, by show 0 < 0 + 1; omega⟩
                  · exact ⟨by show 0 ≤ 0; omega, by show 0 < 0 + 1; omega⟩
                  · exact ⟨Nat.zero_le _, by show d.val < 0 + 128; omega⟩
                  · exact ⟨Nat.zero_le _, by show e.val < 0 + 128; omega⟩)]
    refine (congrArg _ (?_ : _ = (ix4 0 0 d e : S1x1x128x128.Idx))).trans ?_
    · funext a; apply Fin.ext
      fin_cases a <;> rfl
    · unfold sA
      rw [pay_s]
      simp only [cA_at n _ _ n' hn, gA_at x5 n _ n' hn, rA_at x6 n _ n' hn, hA_at, hx]
      rfl

/-- One trip's outputs: the chunk's rows are new, the others kept. -/
theorem stepO_at (n : Fin k0_t1_loop.trips) (n' : Fin 32) (hn : n'.val = n.val) (T : FVec Ideal S1x2x128x128 .f32) (O : FVec Ideal S1x2048x256 .f32)
    (c : Fin 32) (i : Fin 64) (p : Fin 2) (e : Fin 128) :
    stepO (F := Ideal) x0 x2 x3 x4 x5 n T O (ix3 0 (pos c i) (ch p e))
      = if c = n' then (headOf x0 x1 x2 x3 x4 x5 S p).out n' (fun d e => T (ix4 0 p d e)) i e else O (ix3 0 (pos c i) (ch p e)) := by
  unfold stepO
  by_cases hc : c = n'
  · subst hc
    rw [if_pos rfl]
    by_cases hp : p = 1
    · subst hp
      rw [dif_pos (by intro a; fin_cases a
                      · exact ⟨by show 0 ≤ 0; omega, by show 0 < 0 + 1; omega⟩
                      · exact ⟨by show 64 * n.val ≤ 64 * c.val + i.val; omega, by show 64 * c.val + i.val < 64 * n.val + 64; omega⟩
                      · exact ⟨by show 128 ≤ 128 * 1 + e.val; omega, by show 128 * 1 + e.val < 128 + 128; omega⟩)]
      refine (congrArg _ (?_ : _ = (ix3 0 i e : S1x64x128.Idx))).trans ?_
      · funext a; apply Fin.ext
        fin_cases a
        · rfl
        · show 64 * c.val + i.val - 64 * n.val = i.val; omega
        · show 128 * 1 + e.val - 128 = e.val; omega
      · unfold oB
        rw [pay_o', pay_o]
        simp only [cB_at n _ _ c hn, gB_at x5 n _ c hn, aB_at x4 n _ _ c hn, hB_at]
        rfl
    · obtain rfl : p = 0 := by omega
      rw [dif_neg (by intro h; have := (h 2).1; exact absurd this (by show ¬ 128 ≤ 128 * 0 + e.val; omega)),
        dif_pos (by intro a; fin_cases a
                    · exact ⟨by show 0 ≤ 0; omega, by show 0 < 0 + 1; omega⟩
                    · exact ⟨by show 64 * n.val ≤ 64 * c.val + i.val; omega, by show 64 * c.val + i.val < 64 * n.val + 64; omega⟩
                    · exact ⟨Nat.zero_le _, by show 128 * 0 + e.val < 0 + 128; omega⟩)]
      refine (congrArg _ (?_ : _ = (ix3 0 i e : S1x64x128.Idx))).trans ?_
      · funext a; apply Fin.ext
        fin_cases a
        · rfl
        · show 64 * c.val + i.val - 64 * n.val = i.val; omega
        · show 128 * 0 + e.val - 0 = e.val; omega
      · unfold oA
        rw [pay_o]
        simp only [cA_at n _ _ c hn, gA_at x5 n _ c hn, aA_at x4 n _ _ c hn, hA_at]
        rfl
  · rw [if_neg hc]
    have hcn : c.val ≠ n.val := fun h => hc (Fin.ext (h.trans hn.symm))
    have key : ∀ h : 64 * n.val ≤ 64 * c.val + i.val ∧ 64 * c.val + i.val < 64 * n.val + 64, False := by intro h; omega
    rw [dif_neg (fun h => key (h 1)), dif_neg (fun h => key (h 1))]

/-- After `n` trips: the states of the heads' recurrences, and the outputs of the first `n` chunks. -/
theorem iter_at (O : FVec Ideal S1x2048x256 .f32) (hx : ∀ p n i, x6 (ix4 0 p n i) = x5 (ix4 0 p (pos n i) 0)) : ∀ n, n ≤ 32 →
    (∀ p d e, (iter (F := Ideal) x0 x1 x2 x3 x4 x5 x6 S O n).2 (ix4 0 p d e) = state (headOf x0 x1 x2 x3 x4 x5 S p) n d e)
    ∧ ∀ (c : Fin 32) (i : Fin 64) (p : Fin 2) (e : Fin 128), c.val < n →
        (iter (F := Ideal) x0 x1 x2 x3 x4 x5 x6 S O n).1 (ix3 0 (pos c i) (ch p e))
          = (headOf x0 x1 x2 x3 x4 x5 S p).out c (state (headOf x0 x1 x2 x3 x4 x5 S p) c.val) i e
  | 0, _ => ⟨fun p d e => rfl, fun c i p e h => absurd h (by omega)⟩
  | n + 1, hn => by
    obtain ⟨h1, h2⟩ := iter_at O hx n (by omega)
    have hlt : n < k0_t1_loop.trips := by rw [trips_eq]; omega
    have hS : ∀ p, (fun d e => (iter (F := Ideal) x0 x1 x2 x3 x4 x5 x6 S O n).2 (ix4 0 p d e)) = state (headOf x0 x1 x2 x3 x4 x5 S p) n :=
      fun p => funext fun d => funext fun e => h1 p d e
    simp only [iter, dif_pos hlt]
    refine ⟨fun p d e => ?_, fun c i p e hc => ?_⟩
    · rw [stepS_at x0 x1 x2 x3 x4 x5 x6 S ⟨n, hlt⟩ ⟨n, by omega⟩ rfl _ hx, hS, state_succ _ _ (by omega)]
    · rw [stepO_at x0 x1 x2 x3 x4 x5 S ⟨n, hlt⟩ ⟨n, by omega⟩ rfl]
      by_cases hcn : c.val = n
      · rw [if_pos (Fin.ext hcn), hS]
        subst hcn
        rfl
      · rw [if_neg (fun h => hcn (congrArg Fin.val h))]
        exact h2 c i p e (by omega)

theorem outS_at (hx : ∀ p n i, x6 (ix4 0 p n i) = x5 (ix4 0 p (pos n i) 0)) (p : Fin 2) (d e : Fin 128) :
    outS (F := Ideal) x0 x1 x2 x3 x4 x5 x6 S (ix4 0 p d e) = state (headOf x0 x1 x2 x3 x4 x5 S p) 32 d e :=
  (iter_at x0 x1 x2 x3 x4 x5 x6 S x0 hx 32 (le_refl _)).1 p d e

theorem outO_at (hx : ∀ p n i, x6 (ix4 0 p n i) = x5 (ix4 0 p (pos n i) 0)) (c : Fin 32) (i : Fin 64) (p : Fin 2) (e : Fin 128) :
    outO (F := Ideal) x0 x1 x2 x3 x4 x5 x6 S (ix3 0 (pos c i) (ch p e))
      = (headOf x0 x1 x2 x3 x4 x5 S p).out c (state (headOf x0 x1 x2 x3 x4 x5 S p) c.val) i e :=
  (iter_at x0 x1 x2 x3 x4 x5 x6 S x0 hx 32 (le_refl _)).2 c i p e c.isLt

end Cert.KernelIdeal.Gdn
-- ==== Proof.Gdn.Value.lean ====
module

public import proofs.«01_k».proof.Proof.Gdn.Run
public import proofs.«01_k».proof.Proof.Gdn.KerHead
public import Idealize.ShloMosaic.Lib.Pipeline.ValueKit

@[expose] public section

set_option maxRecDepth 16384

noncomputable section

namespace Cert.KernelIdeal.Gdn

open Cert.KernelIdeal Cert.KernelIdeal.Gen Cert.GdnSpec
open Idealize.ShloMosaic Idealize.ShloMosaic.TcCoe Idealize.SL.Sem
open Idealize.ShloMosaic.Pipeline (Dat)

variable (m : (ℓ : Loc nD τ sig) → Buf (Elt Ideal) ℓ) (c : Dev nD)

/-- The host's rows of all heads side by side. -/
theorem V_v4 : V m c main_v4 = shapeCast S4x2048x1024 (m ((c.tc : Thread nD τ).loc main_arg0)) shapeCasts_S4x2048x8x128_S4x2048x1024 := by
  dsimp only [V, hostOps0, hostOps0_1, hostOps0_2, List.flatten_cons, List.flatten_nil, List.cons_append, List.nil_append, List.append_nil]
  after_results; try rfl
theorem V_v5 : V m c main_v5 = shapeCast S4x2048x1024 (m ((c.tc : Thread nD τ).loc main_arg1)) shapeCasts_S4x2048x8x128_S4x2048x1024 := by
  dsimp only [V, hostOps0, hostOps0_1, hostOps0_2, List.flatten_cons, List.flatten_nil, List.cons_append, List.nil_append, List.append_nil]
  after_results; try rfl
theorem V_v6 : V m c main_v6 = shapeCast S4x2048x1024 (m ((c.tc : Thread nD τ).loc main_arg2)) shapeCasts_S4x2048x8x128_S4x2048x1024 := by
  dsimp only [V, hostOps0, hostOps0_1, hostOps0_2, List.flatten_cons, List.flatten_nil, List.cons_append, List.nil_append, List.append_nil]
  after_results; try rfl
theorem V_v7 : V m c main_v7 = shapeCast S4x2048x1024 (m ((c.tc : Thread nD τ).loc main_arg3)) shapeCasts_S4x2048x8x128_S4x2048x1024 := by
  dsimp only [V, hostOps0, hostOps0_1, hostOps0_2, List.flatten_cons, List.flatten_nil, List.cons_append, List.nil_append, List.append_nil]
  after_results; try rfl

/-- The host's running sums of the gates, per chunk. -/
def gsum (x5 : FVec Ideal S4x2048x8 .f32) : FVec Ideal S4x32x64x8 .f32 :=
  Host.reduceWindowAdd ![1, 1, 64, 1] ![1, 1, 1, 1] ![0, 0, 63, 0] ![0, 0, 0, 0] (shapeCast S4x32x64x8 x5 shapeCasts_S4x2048x8_S4x32x64x8) (broadcastInDim S_ ![] bcast_S_S_ (constant S_ .f32 0x00000000#32)) reduceWindows_S4x32x64x8_S4x32x64x8_w1s1p0_0_w1s1p0_0_w64s1p63_0_w1s1p0_0 h_S_

theorem V_v2 : V m c main_v2 = transpose S4x8x32x64 [0, 3, 1, 2] (gsum (m ((c.tc : Thread nD τ).loc main_arg5))) transposes_S4x32x64x8_S4x8x32x64_0_3_1_2 := by
  dsimp only [V, hostOps0, hostOps0_1, hostOps0_2, List.flatten_cons, List.flatten_nil, List.cons_append, List.nil_append, List.append_nil]
  after_results; try rfl
theorem V_v3 : V m c main_v3 = shapeCast S4x8x2048x1 (transpose S4x8x32x64 [0, 3, 1, 2] (gsum (m ((c.tc : Thread nD τ).loc main_arg5))) transposes_S4x32x64x8_S4x8x32x64_0_3_1_2) shapeCasts_S4x8x32x64_S4x8x2048x1 := by
  dsimp only [V, hostOps0, hostOps0_1, hostOps0_2, List.flatten_cons, List.flatten_nil, List.cons_append, List.nil_append, List.append_nil]
  after_results; try rfl

/-- Where each window's block sits. -/
theorem idx : ∀ t : Fin cfg0.N, win0_0.index t = ![(grid0.coords t 0).val, 0, (grid0.coords t 1).val] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, (grid0.coords t 1).val, 0, 0] ∧ win0_5.index t = ![(grid0.coords t 0).val, (grid0.coords t 1).val, 0, 0]
    ∧ win0_6.index t = ![(grid0.coords t 0).val, (grid0.coords t 1).val, 0, 0] ∧ win0_7.index t = ![(grid0.coords t 0).val, (grid0.coords t 1).val, 0, 0]
    ∧ win0_8.index t = ![(grid0.coords t 0).val, 0, (grid0.coords t 1).val] ∧ win0_9.index t = ![(grid0.coords t 0).val, (grid0.coords t 1).val, 0, 0] :=
  (by decide +kernel : ∀ t : Fin grid0.N, _)

/-- The sequence of point `t`. -/
def tb (t : Fin cfg0.N) : Fin 4 := ⟨(grid0.coords t 0).val, (grid0.coords t 0).isLt⟩
/-- Head `p` of point `t`. -/
def th (t : Fin cfg0.N) (p : Fin 2) : Fin 8 := ⟨2 * (grid0.coords t 1).val + p.val, by have : (grid0.coords t 1).val < 4 := (grid0.coords t 1).isLt; omega⟩

variable (t : Fin cfg0.N) (n : Fin 32) (i j : Fin 64) (p : Fin 2) (d e : Fin 128)

theorem emb0 : (win0_0.blk t).view.emb (ix3 0 (pos n i) (ch p d) : S1x2048x256.Idx) = (ix3 (tb t) (pos n i) (ch8 (th t p) d) : S4x2048x1024.Idx) := by
  funext a
  apply Fin.ext
  fin_cases a <;> blk_simp [idx t]
  all_goals (simp [tb, th, ch, ch8, pos]; try omega)

theorem emb1 : (win0_1.blk t).view.emb (ix3 0 (pos n i) (ch p d) : S1x2048x256.Idx) = (ix3 (tb t) (pos n i) (ch8 (th t p) d) : S4x2048x1024.Idx) := by
  funext a
  apply Fin.ext
  fin_cases a <;> blk_simp [idx t]
  all_goals (simp [tb, th, ch, ch8, pos]; try omega)

theorem emb2 : (win0_2.blk t).view.emb (ix3 0 (pos n i) (ch p d) : S1x2048x256.Idx) = (ix3 (tb t) (pos n i) (ch8 (th t p) d) : S4x2048x1024.Idx) := by
  funext a
  apply Fin.ext
  fin_cases a <;> blk_simp [idx t]
  all_goals (simp [tb, th, ch, ch8, pos]; try omega)

theorem emb3 : (win0_3.blk t).view.emb (ix3 0 (pos n i) (ch p d) : S1x2048x256.Idx) = (ix3 (tb t) (pos n i) (ch8 (th t p) d) : S4x2048x1024.Idx) := by
  funext a
  apply Fin.ext
  fin_cases a <;> blk_simp [idx t]
  all_goals (simp [tb, th, ch, ch8, pos]; try omega)

theorem emb8 : (win0_8.blk t).view.emb (ix3 0 (pos n i) (ch p d) : S1x2048x256.Idx) = (ix3 (tb t) (pos n i) (ch8 (th t p) d) : S4x2048x1024.Idx) := by
  funext a
  apply Fin.ext
  fin_cases a <;> blk_simp [idx t]
  all_goals (simp [tb, th, ch, ch8, pos]; try omega)

theorem emb4 : (win0_4.blk t).view.emb (ix4 0 p (pos n i) j : S1x2x2048x64.Idx) = (ix4 (tb t) (th t p) (pos n i) j : S4x8x2048x64.Idx) := by
  funext a
  apply Fin.ext
  fin_cases a <;> blk_simp [idx t]
  all_goals (simp [tb, th, ch, ch8, pos]; try omega)

theorem emb5 : (win0_5.blk t).view.emb (ix4 0 p (pos n i) 0 : S1x2x2048x1.Idx) = (ix4 (tb t) (th t p) (pos n i) 0 : S4x8x2048x1.Idx) := by
  funext a
  apply Fin.ext
  fin_cases a <;> blk_simp [idx t]
  all_goals (simp [tb, th, ch, ch8, pos]; try omega)

theorem emb6 : (win0_6.blk t).view.emb (ix4 0 p n i : S1x2x32x64.Idx) = (ix4 (tb t) (th t p) n i : S4x8x32x64.Idx) := by
  funext a
  apply Fin.ext
  fin_cases a <;> blk_simp [idx t]
  all_goals (simp [tb, th, ch, ch8, pos]; try omega)

theorem emb7 : (win0_7.blk t).view.emb (ix4 0 p d e : S1x2x128x128.Idx) = (ix4 (tb t) (th t p) d e : S4x8x128x128.Idx) := by
  funext a
  apply Fin.ext
  fin_cases a <;> blk_simp [idx t]
  all_goals (simp [tb, th, ch, ch8, pos]; try omega)

theorem emb9 : (win0_9.blk t).view.emb (ix4 0 p d e : S1x2x128x128.Idx) = (ix4 (tb t) (th t p) d e : S4x8x128x128.Idx) := by
  funext a
  apply Fin.ext
  fin_cases a <;> blk_simp [idx t]
  all_goals (simp [tb, th, ch, ch8, pos]; try omega)

theorem rows_at (X : FVec Ideal S4x2048x8x128 .f32) (b : Fin 4) (r : Fin 2048) (h : Fin 8) :
    shapeCast S4x2048x1024 X shapeCasts_S4x2048x8x128_S4x2048x1024 (ix3 b r (ch8 h d)) = X (ix4 b r h d) := by
  pointwise
  refine congrArg X ((ix4_inj ..).2 ⟨rfl, rfl, Fin.ext ?_, Fin.ext ?_⟩)
  all_goals (simp [ch8]; try omega)

theorem pos4 : ∀ (m : Fin 64) (a : Fin 4), ((⟨4, ![1, 1, 64, 1]⟩ : Shape).rowMajor.symm (m.cast rfl) a).val = (![0, 0, m.val, 0] : Fin 4 → ℕ) a := by
  decide +kernel

/-- What one position of the running sum's window reads. -/
theorem window4 (X : FVec Ideal S4x32x64x8 .f32) (b : Fin 4) (n : Fin 32) (i m : Fin 64) (h : Fin 8) (v : EReal) (hv : v = 0) (p : Fin 4 → ℕ)
    (hp : ∀ a, p a = (![b.val * 1 + 0, n.val * 1 + 0, i.val * 1 + m.val, h.val * 1 + 0] : Fin 4 → ℕ) a)
    (D : Decidable (∀ a : Fin 4, (![0, 0, 63, 0] : Fin 4 → ℕ) a ≤ p a ∧ p a - (![0, 0, 63, 0] : Fin 4 → ℕ) a < S4x32x64x8.size a)) :
    @dite EReal _ D (fun hin => X (fun a => ⟨p a - (![0, 0, 63, 0] : Fin 4 → ℕ) a, (hin a).2⟩)) (fun _ => v)
      = if hm : 63 ≤ i.val + m.val then X (ix4 b n (⟨i.val + m.val - 63, by omega⟩ : Fin 64) h) else 0 := by
  obtain rfl := funext hp
  by_cases hm : 63 ≤ i.val + m.val
  · rw [dif_pos hm, dif_pos]
    · refine congrArg X ?_
      funext a
      apply Fin.ext
      fin_cases a
      · show b.val * 1 + 0 - 0 = b.val; omega
      · show n.val * 1 + 0 - 0 = n.val; omega
      · show i.val * 1 + m.val - 63 = i.val + m.val - 63; omega
      · show h.val * 1 + 0 - 0 = h.val; omega
    · intro a
      fin_cases a
      · show 0 ≤ b.val * 1 + 0 ∧ b.val * 1 + 0 - 0 < 4; omega
      · show 0 ≤ n.val * 1 + 0 ∧ n.val * 1 + 0 - 0 < 32; omega
      · show 63 ≤ i.val * 1 + m.val ∧ i.val * 1 + m.val - 63 < 64; omega
      · show 0 ≤ h.val * 1 + 0 ∧ h.val * 1 + 0 - 0 < 8; omega
  · rw [dif_neg hm, dif_neg, hv]
    intro hall
    have h3 : 63 ≤ i.val * 1 + m.val := (hall 2).1
    omega

/-- The host's running sums of the gates are each chunk's. -/
theorem gsum_at (x5 : FVec Ideal S4x2048x8 .f32) (b : Fin 4) (h : Fin 8) :
    gsum x5 (ix4 b n i h) = csum (fun j => x5 (ix3 b (pos n j) h)) i := by
  unfold gsum Host.reduceWindowAdd
  show Ideal.hostReduceWindowAdd _ _ _ _ _ _ _ _ = _
  unfold Ideal.hostReduceWindowAdd Host.reduceWindow
  refine foldl_eq_csum (by decide) _ _ _ _ (by pointwise) fun r m => ?_
  dsimp only
  congr 1
  refine (window4 (shapeCast S4x32x64x8 x5 shapeCasts_S4x2048x8_S4x32x64x8) b n i m h _ ?_ _ ?_ _).trans ?_
  · pointwise
  · intro a
    fin_cases a
    · exact congrArg (b.val * 1 + ·) (pos4 m 0)
    · exact congrArg (n.val * 1 + ·) (pos4 m 1)
    · exact congrArg (i.val * 1 + ·) (pos4 m 2)
    · exact congrArg (h.val * 1 + ·) (pos4 m 3)
  · by_cases hm : 63 ≤ i.val + m.val
    · rw [dif_pos hm, dif_pos hm]
      pointwise
      exact congrArg x5 ((ix3_inj ..).2 ⟨rfl, Fin.ext (by show n.val * 64 + (i.val + m.val - 63) = 64 * n.val + (i.val + m.val - 63); omega), rfl⟩)
    · rw [dif_neg hm, dif_neg hm]

theorem gcol_at (Y : FVec Ideal S4x32x64x8 .f32) (b : Fin 4) (h : Fin 8) :
    shapeCast S4x8x2048x1 (transpose S4x8x32x64 [0, 3, 1, 2] Y transposes_S4x32x64x8_S4x8x32x64_0_3_1_2) shapeCasts_S4x8x32x64_S4x8x2048x1 (ix4 b h (pos n i) 0)
      = Y (ix4 b n i h) := by
  pointwise
  refine congrArg Y ((ix4_inj ..).2 ⟨rfl, Fin.ext ?_, Fin.ext ?_, rfl⟩)
  all_goals (simp [pos]; try omega)

theorem grow_at (Y : FVec Ideal S4x32x64x8 .f32) (b : Fin 4) (h : Fin 8) :
    transpose S4x8x32x64 [0, 3, 1, 2] Y transposes_S4x32x64x8_S4x8x32x64_0_3_1_2 (ix4 b h n i) = Y (ix4 b n i h) := by
  pointwise

theorem blk0 : (iblk m c 0 t : FVec Ideal S1x2048x256 .f32) (ix3 0 (pos n i) (ch p d)) = (m ((c.tc : Thread nD τ).loc main_arg0) : FVec Ideal S4x2048x8x128 .f32) (ix4 (tb t) (pos n i) (th t p) d) := by
  unfold iblk
  show ((cfg0.win 0).blk t).view.read (Elt Ideal) (V m c main_v4) _ = _
  rw [V_v4]
  blk_simp
  refine (congrArg _ (emb0 t n i p d)).trans ?_
  exact rows_at ..

theorem blk1 : (iblk m c 1 t : FVec Ideal S1x2048x256 .f32) (ix3 0 (pos n i) (ch p d)) = (m ((c.tc : Thread nD τ).loc main_arg1) : FVec Ideal S4x2048x8x128 .f32) (ix4 (tb t) (pos n i) (th t p) d) := by
  unfold iblk
  show ((cfg0.win 1).blk t).view.read (Elt Ideal) (V m c main_v5) _ = _
  rw [V_v5]
  blk_simp
  refine (congrArg _ (emb1 t n i p d)).trans ?_
  exact rows_at ..

theorem blk2 : (iblk m c 2 t : FVec Ideal S1x2048x256 .f32) (ix3 0 (pos n i) (ch p d)) = (m ((c.tc : Thread nD τ).loc main_arg2) : FVec Ideal S4x2048x8x128 .f32) (ix4 (tb t) (pos n i) (th t p) d) := by
  unfold iblk
  show ((cfg0.win 2).blk t).view.read (Elt Ideal) (V m c main_v6) _ = _
  rw [V_v6]
  blk_simp
  refine (congrArg _ (emb2 t n i p d)).trans ?_
  exact rows_at ..

theorem blk3 : (iblk m c 3 t : FVec Ideal S1x2048x256 .f32) (ix3 0 (pos n i) (ch p d)) = (m ((c.tc : Thread nD τ).loc main_arg3) : FVec Ideal S4x2048x8x128 .f32) (ix4 (tb t) (pos n i) (th t p) d) := by
  unfold iblk
  show ((cfg0.win 3).blk t).view.read (Elt Ideal) (V m c main_v7) _ = _
  rw [V_v7]
  blk_simp
  refine (congrArg _ (emb3 t n i p d)).trans ?_
  exact rows_at ..

theorem blk4 : (iblk m c 4 t : FVec Ideal S1x2x2048x64 .f32) (ix4 0 p (pos n i) j) = (m ((c.tc : Thread nD τ).loc main_arg4) : FVec Ideal S4x8x2048x64 .f32) (ix4 (tb t) (th t p) (pos n i) j) := by
  unfold iblk
  show ((cfg0.win 4).blk t).view.read (Elt Ideal) (V m c main_arg4) _ = _
  rw [V_main_arg4]
  blk_simp
  exact congrArg _ (emb4 t n i j p)

theorem blk5 : (iblk m c 5 t : FVec Ideal S1x2x2048x1 .f32) (ix4 0 p (pos n i) 0) = gsum (m ((c.tc : Thread nD τ).loc main_arg5)) (ix4 (tb t) n i (th t p)) := by
  unfold iblk
  show ((cfg0.win 5).blk t).view.read (Elt Ideal) (V m c main_v3) _ = _
  rw [V_v3]
  blk_simp
  refine (congrArg _ (emb5 t n i p)).trans ?_
  exact gcol_at ..

theorem blk6 : (iblk m c 6 t : FVec Ideal S1x2x32x64 .f32) (ix4 0 p n i) = gsum (m ((c.tc : Thread nD τ).loc main_arg5)) (ix4 (tb t) n i (th t p)) := by
  unfold iblk
  show ((cfg0.win 6).blk t).view.read (Elt Ideal) (V m c main_v2) _ = _
  rw [V_v2]
  blk_simp
  refine (congrArg _ (emb6 t n i p)).trans ?_
  exact grow_at ..

theorem blk7 : (iblk m c 7 t : FVec Ideal S1x2x128x128 .f32) (ix4 0 p d e) = (m ((c.tc : Thread nD τ).loc main_arg6) : FVec Ideal S4x8x128x128 .f32) (ix4 (tb t) (th t p) d e) := by
  unfold iblk
  show ((cfg0.win 7).blk t).view.read (Elt Ideal) (V m c main_arg6) _ = _
  rw [V_main_arg6]
  blk_simp
  exact congrArg _ (emb7 t p d e)

/-- Head `h` of sequence `b` of the arguments in memory. -/
def headM (b : Fin 4) (h : Fin 8) : Head where
  q n i d := (m ((c.tc : Thread nD τ).loc main_arg0) : FVec Ideal S4x2048x8x128 .f32) (ix4 b (pos n i) h d)
  k n i d := (m ((c.tc : Thread nD τ).loc main_arg1) : FVec Ideal S4x2048x8x128 .f32) (ix4 b (pos n i) h d)
  u n i d := (m ((c.tc : Thread nD τ).loc main_arg2) : FVec Ideal S4x2048x8x128 .f32) (ix4 b (pos n i) h d)
  w n i d := (m ((c.tc : Thread nD τ).loc main_arg3) : FVec Ideal S4x2048x8x128 .f32) (ix4 b (pos n i) h d)
  a n i j := (m ((c.tc : Thread nD τ).loc main_arg4) : FVec Ideal S4x8x2048x64 .f32) (ix4 b h (pos n i) j)
  g n i := csum (fun j => (m ((c.tc : Thread nD τ).loc main_arg5) : FVec Ideal S4x2048x8 .f32) (ix3 b (pos n j) h)) i
  s d e := (m ((c.tc : Thread nD τ).loc main_arg6) : FVec Ideal S4x8x128x128 .f32) (ix4 b h d e)

/-- A block's head is the head of the arguments at its place. -/
theorem headOf_blk : headOf (iblk m c 0 t) (iblk m c 1 t) (iblk m c 2 t) (iblk m c 3 t) (iblk m c 4 t) (iblk m c 5 t) (iblk m c 7 t) p = headM m c (tb t) (th t p) := by
  unfold headOf headM
  simp only [Head.mk.injEq]
  refine ⟨?_, ?_, ?_, ?_, ?_, ?_, ?_⟩
  · funext n i d; exact blk0 m c t n i p d
  · funext n i d; exact blk1 m c t n i p d
  · funext n i d; exact blk2 m c t n i p d
  · funext n i d; exact blk3 m c t n i p d
  · funext n i j; exact blk4 m c t n i j p
  · funext n i; exact (blk5 m c t n i p).trans (gsum_at ..)
  · funext d e; exact blk7 m c t p d e

theorem row_eq_col (p : Fin 2) (n : Fin 32) (i : Fin 64) : (iblk m c 6 t : FVec Ideal S1x2x32x64 .f32) (ix4 0 p n i) = (iblk m c 5 t : FVec Ideal S1x2x2048x1 .f32) (ix4 0 p (pos n i) 0) :=
  (blk6 m c t n i p).trans (blk5 m c t n i p).symm

/-- Every index of an output block is a position of a chunk and a channel of one of its heads. -/
theorem blk_split (y : S1x2048x256.Idx) : ∃ n i p e, y = ix3 0 (pos n i) (ch p e) := by
  have h0 : (y 0).val < 1 := (y 0).isLt
  have h1 : (y 1).val < 2048 := (y 1).isLt
  have h2 : (y 2).val < 256 := (y 2).isLt
  refine ⟨⟨(y 1).val / 64, by omega⟩, ⟨(y 1).val % 64, by omega⟩, ⟨(y 2).val / 128, by omega⟩, ⟨(y 2).val % 128, by omega⟩, ?_⟩
  refine (eq_ix3 y).trans ((ix3_inj ..).2 ⟨Fin.ext ?_, Fin.ext ?_, Fin.ext ?_⟩)
  · show (y 0).val = 0; omega
  · show (y 1).val = 64 * ((y 1).val / 64) + (y 1).val % 64; omega
  · show (y 2).val = 128 * ((y 2).val / 128) + (y 2).val % 128; omega

/-- The array of outputs after the run. -/
theorem arr8 : (dats m 0 c).arrAt 8 (cfgs 0).N = outs (headM m c) := by
  refine (dats m 0 c).arrAt_eq_of_covers 8 _ (by decide +kernel) fun t hf y => ?_
  blk_simp
  rw [after_8]
  obtain ⟨n, i, p, e, rfl⟩ := blk_split y
  refine (outO_at _ _ _ _ _ _ _ _ (row_eq_col m c t) n i p e).trans ?_
  rw [headOf_blk]
  refine (outs_at (headM m c) (tb t) n i (th t p) e).symm.trans ?_
  exact congrArg (outs (headM m c)) (emb8 t n i p e).symm

attribute [local irreducible] state

/-- The array of states after the run. -/
theorem arr9 : (dats m 0 c).arrAt 9 (cfgs 0).N = states (headM m c) := by
  refine (dats m 0 c).arrAt_eq_of_covers 9 _ (by decide +kernel) fun t hf y => ?_
  blk_simp
  rw [after_9]
  obtain ⟨p, d, e, rfl⟩ : ∃ p d e, y = (ix4 0 p d e : S1x2x128x128.Idx) := by
    have h0 : (y 0).val < 1 := (y 0).isLt
    refine ⟨y 1, y 2, y 3, (eq_ix4 y).trans ((ix4_inj ..).2 ⟨Fin.ext ?_, rfl, rfl, rfl⟩)⟩
    show (y 0).val = 0; omega
  refine (outS_at _ _ _ _ _ _ _ _ (row_eq_col m c t) p d e).trans ?_
  rw [headOf_blk]
  refine (states_at (headM m c) (tb t) (th t p) d e).symm.trans ?_
  exact congrArg (states (headM m c)) (emb9 t p d e).symm

end Cert.KernelIdeal.Gdn
-- ==== Proof.Gdn.RefIter.lean ====
module

public import proofs.«01_k».proof.Proof.Gen.ReferenceIdeal.Run
public import proofs.«01_k».proof.Proof.Gen.ReferenceIdeal.Step

@[expose] public section

noncomputable section

namespace Cert.ReferenceIdeal.Gdn

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]
variable (V0 : Valuation τ sig (Elt F)) (s : State F) (j : ℕ)

/-- The loop's buffers hold the state `s`, the arrays the loop slices and the trip's number `j`. -/
structure At : Prop where
  S : V0 (Proc.devRef .tc main_v13_7) = s.main_v13_7
  o : V0 (Proc.devRef .tc main_v13_8) = s.main_v13_8
  q : V0 (Proc.devRef .tc main_v13_0) = s.main_v13_0
  k : V0 (Proc.devRef .tc main_v13_1) = s.main_v13_1
  u : V0 (Proc.devRef .tc main_v13_2) = s.main_v13_2
  w : V0 (Proc.devRef .tc main_v13_3) = s.main_v13_3
  a : V0 (Proc.devRef .tc main_v13_4) = s.main_v13_4
  g : V0 (Proc.devRef .tc main_v13_5) = s.main_v13_5
  n : V0 (Proc.devRef .tc main_v13_6) = constantI S_ 32 (BitVec.ofNat 32 j)

variable {V0 s j}

set_option maxRecDepth 16384 in
/-- The running sums of the chunk's gates. -/
theorem gates (h : At V0 s j) : res_main_while0b_v22 V0 = b37 j s := by
  unfold res_main_while0b_v22; rw [h.g, h.n]; rfl

set_option maxRecDepth 16384 in
/-- The chunk's corrected values. -/
theorem vnew (h : At V0 s j) : res_main_while0b_v24 V0 = b39 j s := by
  unfold res_main_while0b_v24; rw [h.u, h.w, h.S, h.n]; rfl

/-- The gates' last running sum. -/
theorem glast (h : At V0 s j) : res_main_while0b_v33 V0 = b48 j s := by
  unfold res_main_while0b_v33; rw [gates h]; rfl

set_option maxRecDepth 16384 in
/-- The trip's new state. -/
theorem newS (h : At V0 s j) : Value.step_main_v13_7 V0 = b61 j s := by
  unfold Value.step_main_v13_7; dsimp only [id]; rw [gates h, vnew h, glast h, h.k, h.S, h.n]; rfl

set_option maxRecDepth 16384 in
/-- The trip's outputs, put in their place. -/
theorem newO (h : At V0 s j) : Value.step_main_v13_8 V0 = b67 j s := by
  unfold Value.step_main_v13_8; dsimp only [id]; rw [gates h, vnew h, h.q, h.a, h.S, h.n, h.o]; rfl

theorem newN (h : At V0 s j) : Value.step_main_v13_6 V0 = constantI S_ 32 (BitVec.ofNat 32 (j + 1)) := by
  unfold step_main_v13_6
  rw [h.n]
  funext i
  show BitVec.ofNat 32 j + 1#32 = BitVec.ofNat 32 (j + 1)
  simp only [BitVec.ofNat_add]

/-- One trip goes on to the next state. -/
theorem At.next (h : At V0 s j) : At (STEP V0) (step j s) (j + 1) where
  S := (STEP_main_v13_7 V0).trans (newS h)
  o := (STEP_main_v13_8 V0).trans (newO h)
  n := (STEP_main_v13_6 V0).trans (newN h)
  q := (STEP_main_v13_0 V0).trans h.q
  k := (STEP_main_v13_1 V0).trans h.k
  u := (STEP_main_v13_2 V0).trans h.u
  w := (STEP_main_v13_3 V0).trans h.w
  a := (STEP_main_v13_4 V0).trans h.a
  g := (STEP_main_v13_5 V0).trans h.g

variable (m : (ℓ : Loc nD τ sig) → Buf (Elt F) ℓ) (ρ : Dev nD → PrngReg) (c : Dev nD)

/-- The state before the first trip, and after `n` of them. -/
def it : ℕ → State F
  | 0 => init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
  | n + 1 => step n (it n)

set_option maxRecDepth 65536 in
set_option maxHeartbeats 800000 in
theorem at_start : At (entryContents preI m c) (it m c 0) 0 := by
  constructor <;> (simp only [entryContents, afterL_cons, afterL_nil]; after_reads_simp) <;> rfl

theorem at_iter : ∀ k, At (STEP^[k] (entryContents preI m c)) (it m c k) k
  | 0 => at_start m c
  | k + 1 => by
    rw [Function.iterate_succ_apply']
    exact (at_iter k).next

/-- The reference ends with its outputs and states those of 32 trips, its arguments unchanged. -/
theorem run : θ_run (defs (F := F)) (onTc (τ := τ) (main (F := F))) ⟨m, fun _ => 0, ρ⟩ fun r => ∀ c : Dev nD,
      r.2.mem ((c.tc : Thread nD τ).loc main_v15) = R_main_v15 (it m c 32)
      ∧ r.2.mem ((c.tc : Thread nD τ).loc main_v13_7) = (it m c 32).main_v13_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (by unfold out_main_v15 R_main_v15; rw [(at_iter m c 32).o]; rfl), (h c).2.1.trans (at_iter m c 32).S, (h c).2.2⟩) (Value.run m ρ)

end Cert.ReferenceIdeal.Gdn
-- ==== Proof.Gdn.RefHead.lean ====
module

public import proofs.«01_k».proof.Proof.Gdn.RefIter
public import proofs.«01_k».proof.Proof.Gdn.Spec
public import Idealize.ShloMosaic.Lib.Pointwise

@[expose] public section

set_option maxRecDepth 16384

noncomputable section

namespace Cert.ReferenceIdeal.Gdn

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step Cert.GdnSpec

variable (x0 x1 x2 x3 : FVec Ideal S4x2048x8x128 .f32) (x4 : FVec Ideal S4x8x2048x64 .f32) (x5 : FVec Ideal S4x2048x8 .f32)
  (x6 : FVec Ideal S4x8x128x128 .f32) (b : Fin 4) (h : Fin 8)

/-- Head `h` of sequence `b`. -/
def headOf : Head where
  q n i d := x0 (ix4 b (pos n i) h d)
  k n i d := x1 (ix4 b (pos n i) h d)
  u n i d := x2 (ix4 b (pos n i) h d)
  w n i d := x3 (ix4 b (pos n i) h d)
  a n i j := x4 (ix4 b h (pos n i) j)
  g n i := csum (fun j => x5 (ix3 b (pos n j) h)) i
  s d e := x6 (ix4 b h d e)

variable (n : Fin 32) (i j : Fin 64) (d e : Fin 128)

theorem q_at : A_main_v1 (F := Ideal) x0 x1 x2 x3 x4 x5 (ix5 n b h i d) = x0 (ix4 b (pos n i) h d) := by
  pointwise [A_main_v1, A_main_v0]
  exact congrArg x0 ((ix4_inj ..).2 ⟨rfl, Fin.ext (by show n.val * 64 + i.val = 64 * n.val + i.val; omega), rfl, rfl⟩)

theorem w_at : A_main_v7 (F := Ideal) x0 x1 x2 x3 x4 x5 (ix5 n b h i d) = x3 (ix4 b (pos n i) h d) := by
  pointwise [A_main_v7, A_main_v6]
  exact congrArg x3 ((ix4_inj ..).2 ⟨rfl, Fin.ext (by show n.val * 64 + i.val = 64 * n.val + i.val; omega), rfl, rfl⟩)

theorem u_at : A_main_v5 (F := Ideal) x0 x1 x2 x3 x4 x5 (ix5 n b h i d) = x2 (ix4 b (pos n i) h d) := by
  pointwise [A_main_v5, A_main_v4]
  exact congrArg x2 ((ix4_inj ..).2 ⟨rfl, Fin.ext (by show n.val * 64 + i.val = 64 * n.val + i.val; omega), rfl, rfl⟩)

theorem k_at : A_main_v3 (F := Ideal) x0 x1 x2 x3 x4 x5 (ix5 n b h i d) = x1 (ix4 b (pos n i) h d) := by
  pointwise [A_main_v3, A_main_v2]
  exact congrArg x1 ((ix4_inj ..).2 ⟨rfl, Fin.ext (by show n.val * 64 + i.val = 64 * n.val + i.val; omega), rfl, rfl⟩)

theorem a_at : A_main_v11 (F := Ideal) x0 x1 x2 x3 x4 x5 (ix5 n b h i j) = x4 (ix4 b h (pos n i) j) := by
  pointwise [A_main_v11, A_main_v10]
  exact congrArg x4 ((ix4_inj ..).2 ⟨rfl, rfl, Fin.ext (by show n.val * 64 + i.val = 64 * n.val + i.val; omega), rfl⟩)

theorem g_at : A_main_v9 (F := Ideal) x0 x1 x2 x3 x4 x5 (ix4 n b h i) = x5 (ix3 b (pos n i) h) := by
  pointwise [A_main_v9, A_main_v8]
  exact congrArg x5 ((ix3_inj ..).2 ⟨rfl, Fin.ext (by show n.val * 64 + i.val = 64 * n.val + i.val; omega), rfl⟩)

section Trip

/-- Where trip `n` slices the arrays. -/
theorem at5 (n : Fin 32) : ∀ (hr) (a : Fin 5), Host.clampedStart S32x4x8x64x128 S1x4x8x64x128 hr (fun k => BitVec.toInt
    (![constantI S_ 32 (BitVec.ofNat 32 n.val), constantI S_ 32 0#32, constantI S_ 32 0#32, constantI S_ 32 0#32, constantI S_ 32 0#32] k (Shape.Idx.first h_S_))) a
    = (![n.val, 0, 0, 0, 0] : Fin 5 → ℕ) a := by
  revert n; decide +kernel
theorem at5' (n : Fin 32) : ∀ (hr) (a : Fin 5), Host.clampedStart S32x4x8x64x64 S1x4x8x64x64 hr (fun k => BitVec.toInt
    (![constantI S_ 32 (BitVec.ofNat 32 n.val), constantI S_ 32 0#32, constantI S_ 32 0#32, constantI S_ 32 0#32, constantI S_ 32 0#32] k (Shape.Idx.first h_S_))) a
    = (![n.val, 0, 0, 0, 0] : Fin 5 → ℕ) a := by
  revert n; decide +kernel
theorem at4 (n : Fin 32) : ∀ (hr) (a : Fin 4), Host.clampedStart S32x4x8x64 S1x4x8x64 hr (fun k => BitVec.toInt
    (![constantI S_ 32 (BitVec.ofNat 32 n.val), constantI S_ 32 0#32, constantI S_ 32 0#32, constantI S_ 32 0#32] k (Shape.Idx.first h_S_))) a
    = (![n.val, 0, 0, 0] : Fin 4 → ℕ) a := by
  revert n; decide +kernel

variable (s : State Ideal)

theorem b5_at : b5 (F := Ideal) n.val s (ix4 b h i d) = s.main_v13_0 (ix5 n b h i d) := by
  pointwise [b5, b4, b0, b1, b2, b3]
  refine congrArg s.main_v13_0 ((ix5_inj ..).2 ⟨Fin.ext ?_, Fin.ext ?_, Fin.ext ?_, Fin.ext ?_, Fin.ext ?_⟩)
  all_goals (dsimp only; rw [at5]; simp)

theorem b11_at : b11 (F := Ideal) n.val s (ix4 b h i d) = s.main_v13_1 (ix5 n b h i d) := by
  pointwise [b11, b10, b6, b7, b8, b9]
  refine congrArg s.main_v13_1 ((ix5_inj ..).2 ⟨Fin.ext ?_, Fin.ext ?_, Fin.ext ?_, Fin.ext ?_, Fin.ext ?_⟩)
  all_goals (dsimp only; rw [at5]; simp)

theorem b17_at : b17 (F := Ideal) n.val s (ix4 b h i d) = s.main_v13_2 (ix5 n b h i d) := by
  pointwise [b17, b16, b12, b13, b14, b15]
  refine congrArg s.main_v13_2 ((ix5_inj ..).2 ⟨Fin.ext ?_, Fin.ext ?_, Fin.ext ?_, Fin.ext ?_, Fin.ext ?_⟩)
  all_goals (dsimp only; rw [at5]; simp)

theorem b23_at : b23 (F := Ideal) n.val s (ix4 b h i d) = s.main_v13_3 (ix5 n b h i d) := by
  pointwise [b23, b22, b18, b19, b20, b21]
  refine congrArg s.main_v13_3 ((ix5_inj ..).2 ⟨Fin.ext ?_, Fin.ext ?_, Fin.ext ?_, Fin.ext ?_, Fin.ext ?_⟩)
  all_goals (dsimp only; rw [at5]; simp)

theorem b29_at : b29 (F := Ideal) n.val s (ix4 b h i j) = s.main_v13_4 (ix5 n b h i j) := by
  pointwise [b29, b28, b24, b25, b26, b27]
  refine congrArg s.main_v13_4 ((ix5_inj ..).2 ⟨Fin.ext ?_, Fin.ext ?_, Fin.ext ?_, Fin.ext ?_, Fin.ext ?_⟩)
  all_goals (dsimp only; rw [at5']; simp)

theorem b34_at : b34 (F := Ideal) n.val s (ix3 b h i) = s.main_v13_5 (ix4 n b h i) := by
  pointwise [b34, b33, b30, b31, b32]
  refine congrArg s.main_v13_5 ((ix4_inj ..).2 ⟨Fin.ext ?_, Fin.ext ?_, Fin.ext ?_, Fin.ext ?_⟩)
  all_goals (dsimp only; rw [at4]; simp)

theorem b39_at : b39 (F := Ideal) n.val s (ix4 b h i e)
    = b17 (F := Ideal) n.val s (ix4 b h i e) - ∑ d : Fin 128, b23 (F := Ideal) n.val s (ix4 b h i d) * s.main_v13_7 (ix4 b h d e) := by
  pointwise [b39, b38]

theorem b46_at : b46 (F := Ideal) n.val s (ix4 b h i e)
    = (∑ d : Fin 128, b5 (F := Ideal) n.val s (ix4 b h i d) * Ideal.exp (b37 (F := Ideal) n.val s (ix3 b h i)) * s.main_v13_7 (ix4 b h d e))
      + ∑ j : Fin 64, b29 (F := Ideal) n.val s (ix4 b h i j) * b39 (F := Ideal) n.val s (ix4 b h j e) := by
  pointwise [b46, b45, b44, b43, b42, b41, b40]

theorem b61_at : b61 (F := Ideal) n.val s (ix4 b h d e)
    = s.main_v13_7 (ix4 b h d e) * Ideal.exp (b37 (F := Ideal) n.val s (ix3 b h 63))
      + ∑ i : Fin 64, b11 (F := Ideal) n.val s (ix4 b h i d) * Ideal.exp (b37 (F := Ideal) n.val s (ix3 b h 63) - b37 (F := Ideal) n.val s (ix3 b h i)) * b39 (F := Ideal) n.val s (ix4 b h i e) := by
  pointwise [b61, b60, b59, b58, b57, b56, b55, b54, b53, b52, b51, b50, b49, b48, b47]

theorem b67_at (c : Fin 32) : b67 (F := Ideal) n.val s (ix5 c b h i e)
    = if c = n then b46 (F := Ideal) n.val s (ix4 b h i e) else s.main_v13_8 (ix5 c b h i e) := by
  pointwise [b67, b62, b63, b64, b65, b66]
  by_cases hc : c = n
  · subst hc
    rw [if_pos rfl, dif_pos (by simp only [at5]; refine ⟨⟨le_refl _, by show c.val < c.val + 1; omega⟩, Nat.zero_le _, Nat.zero_le _, Nat.zero_le _, Nat.zero_le _⟩)]
    refine congrArg (b46 c.val s) ((ix4_inj ..).2 ⟨Fin.ext ?_, Fin.ext ?_, Fin.ext ?_, Fin.ext ?_⟩)
    all_goals (dsimp only; rw [at5]; simp)
  · rw [if_neg hc, dif_neg]
    intro h
    have h0 := h.1
    rw [at5] at h0
    have h1 : n.val ≤ c.val := h0.1
    have h2 : c.val < n.val + 1 := h0.2
    exact hc (Fin.ext (by omega))

theorem pos3 : ∀ (m : Fin 64) (a : Fin 3), ((⟨3, ![1, 1, 64]⟩ : Shape).rowMajor.symm (m.cast rfl) a).val = (![0, 0, m.val] : Fin 3 → ℕ) a := by
  decide +kernel

/-- What one position of the running sum's window reads. -/
theorem window3 (X : FVec Ideal S4x8x64 .f32) (b : Fin 4) (h : Fin 8) (i m : Fin 64) (v : EReal) (hv : v = 0) (p : Fin 3 → ℕ)
    (hp : ∀ a, p a = (![b.val * 1 + 0, h.val * 1 + 0, i.val * 1 + m.val] : Fin 3 → ℕ) a)
    (D : Decidable (∀ a : Fin 3, (![0, 0, 63] : Fin 3 → ℕ) a ≤ p a ∧ p a - (![0, 0, 63] : Fin 3 → ℕ) a < S4x8x64.size a)) :
    @dite EReal _ D (fun hin => X (fun a => ⟨p a - (![0, 0, 63] : Fin 3 → ℕ) a, (hin a).2⟩)) (fun _ => v)
      = if hm : 63 ≤ i.val + m.val then X (ix3 b h (⟨i.val + m.val - 63, by omega⟩ : Fin 64)) else 0 := by
  obtain rfl := funext hp
  by_cases hm : 63 ≤ i.val + m.val
  · rw [dif_pos hm, dif_pos]
    · refine congrArg X ?_
      funext a
      apply Fin.ext
      fin_cases a
      · show b.val * 1 + 0 - 0 = b.val; omega
      · show h.val * 1 + 0 - 0 = h.val; omega
      · show i.val * 1 + m.val - 63 = i.val + m.val - 63; omega
    · intro a
      fin_cases a
      · show 0 ≤ b.val * 1 + 0 ∧ b.val * 1 + 0 - 0 < 4; omega
      · show 0 ≤ h.val * 1 + 0 ∧ h.val * 1 + 0 - 0 < 8; omega
      · show 63 ≤ i.val * 1 + m.val ∧ i.val * 1 + m.val - 63 < 64; omega
  · rw [dif_neg hm, dif_neg, hv]
    intro hall
    have h3 : 63 ≤ i.val * 1 + m.val := (hall 2).1
    omega

theorem b37_at : b37 (F := Ideal) n.val s (ix3 b h i) = csum (fun j => b34 (F := Ideal) n.val s (ix3 b h j)) i := by
  unfold b37 Host.reduceWindowAdd
  show Ideal.hostReduceWindowAdd _ _ _ _ _ _ _ _ = _
  unfold Ideal.hostReduceWindowAdd Host.reduceWindow
  refine foldl_eq_csum (by decide) _ _ _ _ (by pointwise [b36, b35]) fun r m => ?_
  dsimp only
  congr 1
  refine window3 (b34 n.val s) b h i m _ ?_ _ ?_ _
  · pointwise [b36, b35]
  · intro a
    fin_cases a
    · exact congrArg (b.val * 1 + ·) (pos3 m 0)
    · exact congrArg (h.val * 1 + ·) (pos3 m 1)
    · exact congrArg (i.val * 1 + ·) (pos3 m 2)

end Trip

section Iter
variable (m : (ℓ : Loc nD τ sig) → Buf (Elt Ideal) ℓ) (c : Dev nD)

/-- Head `h` of sequence `b` of the arguments in memory. -/
def headM : Head := headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b h

/-- Two states hold the same arrays for the loop to slice. -/
structure Same (s t : State Ideal) : Prop where
  q : s.main_v13_0 = t.main_v13_0
  k : s.main_v13_1 = t.main_v13_1
  u : s.main_v13_2 = t.main_v13_2
  w : s.main_v13_3 = t.main_v13_3
  a : s.main_v13_4 = t.main_v13_4
  g : s.main_v13_5 = t.main_v13_5

theorem Same.refl (s : State Ideal) : Same s s := ⟨rfl, rfl, rfl, rfl, rfl, rfl⟩

theorem it_succ (k : ℕ) : it m c (k + 1) = step k (it m c k) := rfl

theorem Same.step {s t : State Ideal} (h : Same s t) (j : ℕ) : Same (step j s) t where
  q := by unfold Step.step; exact h.q
  k := by unfold Step.step; exact h.k
  u := by unfold Step.step; exact h.u
  w := by unfold Step.step; exact h.w
  a := by unfold Step.step; exact h.a
  g := by unfold Step.step; exact h.g

/-- The arrays that the loop slices stay what the arguments make them. -/
theorem it_const (k : ℕ) : Same (it m c k) (it m c 0) := by
  induction k with
  | zero => exact Same.refl _
  | succ k ih => rw [it_succ]; exact ih.step k

theorem trip_q (n : Fin 32) : b5 (F := Ideal) n.val (it m c n.val) (ix4 b h i d) = (headM b h m c).q n i d := by
  rw [b5_at, (it_const m c n.val).q]; exact q_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _ _
theorem trip_k (n : Fin 32) : b11 (F := Ideal) n.val (it m c n.val) (ix4 b h i d) = (headM b h m c).k n i d := by
  rw [b11_at, (it_const m c n.val).k]; exact k_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _ _
theorem trip_u (n : Fin 32) : b17 (F := Ideal) n.val (it m c n.val) (ix4 b h i d) = (headM b h m c).u n i d := by
  rw [b17_at, (it_const m c n.val).u]; exact u_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _ _
theorem trip_w (n : Fin 32) : b23 (F := Ideal) n.val (it m c n.val) (ix4 b h i d) = (headM b h m c).w n i d := by
  rw [b23_at, (it_const m c n.val).w]; exact w_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _ _
theorem trip_a (n : Fin 32) : b29 (F := Ideal) n.val (it m c n.val) (ix4 b h i j) = (headM b h m c).a n i j := by
  rw [b29_at, (it_const m c n.val).a]; exact a_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _ _
theorem trip_g (n : Fin 32) : b37 (F := Ideal) n.val (it m c n.val) (ix3 b h i) = (headM b h m c).g n i := by
  rw [b37_at]
  have e : (headM b h m c).g n i = csum (fun j => (m ((c.tc : Thread nD τ).loc main_arg5) : FVec Ideal S4x2048x8 .f32) (ix3 b (pos n j) h)) i := rfl
  rw [e]
  refine congrArg (fun f => csum f i) (funext fun j => ?_)
  rw [b34_at, (it_const m c n.val).g]; exact g_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _

/-- The reference's state after `k` trips is the recurrence's of every head, and its outputs those of the chunks done. -/
theorem it_at : ∀ k, k ≤ 32 → (∀ b h d e, (it m c k).main_v13_7 (ix4 b h d e) = state (headM b h m c) k d e)
    ∧ ∀ (n : Fin 32) b h i e, n.val < k → (it m c k).main_v13_8 (ix5 n b h i e) = (headM b h m c).out n (state (headM b h m c) n.val) i e
  | 0, _ => ⟨fun b h d e => rfl, fun n b h i e hn => absurd hn (by omega)⟩
  | k + 1, hk => by
    obtain ⟨h1, h2⟩ := it_at k (by omega)
    have hv : ∀ b h i e, b39 (F := Ideal) k (it m c k) (ix4 b h i e) = (headM b h m c).vnew ⟨k, by omega⟩ (state (headM b h m c) k) i e := by
      intro b h i e
      refine (b39_at b h ⟨k, by omega⟩ i e _).trans ?_
      simp only [h1]
      refine congrArg₂ (· - ·) (trip_u b h i e m c ⟨k, by omega⟩) (Finset.sum_congr rfl fun d _ => ?_)
      exact congrArg (· * _) (trip_w b h i d m c ⟨k, by omega⟩)
    refine ⟨fun b h d e => ?_, fun n b h i e hn => ?_⟩
    · rw [state_succ _ _ (by omega)]
      refine (b61_at b h ⟨k, by omega⟩ d e _).trans ?_
      have hg := fun i => trip_g b h i m c ⟨k, by omega⟩
      have hkk := fun i => trip_k b h i d m c ⟨k, by omega⟩
      dsimp only at hg hkk
      simp only [h1, hv, hg, hkk]
      rfl
    · show b67 (F := Ideal) k (it m c k) _ = _
      refine (b67_at b h ⟨k, by omega⟩ i e _ n).trans ?_
      by_cases hnk : n.val = k
      · rw [if_pos (Fin.ext hnk)]
        subst hnk
        refine (b46_at b h n i e _).trans ?_
        have hg := fun i => trip_g b h i m c n
        have hq := fun i d => trip_q b h i d m c n
        have ha := fun i j => trip_a b h i j m c n
        simp only [h1, hv, hg, hq, ha]
        rfl
      · rw [if_neg (fun hh => hnk (congrArg Fin.val hh))]
        exact h2 n b h i e (by omega)

/-- The reference's final states. -/
theorem ref_S (d e : Fin 128) : (it m c 32).main_v13_7 (ix4 b h d e) = state (headM b h m c) 32 d e := (it_at m c 32 (le_refl _)).1 b h d e

/-- The reference's outputs. -/
theorem ref_O (n : Fin 32) (i : Fin 64) (e : Fin 128) :
    R_main_v15 (it m c 32) (ix3 b (pos n i) (ch8 h e))
      = (headM b h m c).out n (state (headM b h m c) n.val) i e := by
  rw [← (it_at m c 32 (le_refl _)).2 n b h i e n.isLt]
  pointwise [R_main_v15]
  refine congrArg (it m c 32).main_v13_8 ((ix5_inj ..).2 ⟨Fin.ext ?_, Fin.ext ?_, Fin.ext ?_, Fin.ext ?_, Fin.ext ?_⟩)
  all_goals (simp [pos, ch8]; try omega)

/-- The reference's two results. -/
theorem ref_out : R_main_v15 (it m c 32) = outs (fun b h => headM b h m c) := by
  funext y
  obtain ⟨b, n, i, h, e, rfl⟩ := idx_split y
  rw [outs_at]
  exact ref_O b h m c n i e

theorem ref_state : (it m c 32).main_v13_7 = states (fun b h => headM b h m c) := by
  funext y
  rw [eq_ix4 y]
  exact ref_S (y 0) (y 1) m c (y 2) (y 3)
end Iter

end Cert.ReferenceIdeal.Gdn
-- ==== Proof.Gdn.Claims.lean ====
/- The claims about the gated delta rule's chunk recurrence. -/
module

public import proofs.«01_k».proof.Defs
public import proofs.«01_k».proof.Proof.Gen.Kernel
public import proofs.«01_k».proof.Proof.Gdn.Value
public import proofs.«01_k».proof.Proof.Gdn.RefHead
public import Idealize.ShloMosaic.Adequacy

@[expose] public section

noncomputable section

namespace Cert.Proof.Gdn

open Idealize.ShloMosaic Idealize.ShloMosaic.TcCoe Idealize.SL.Sem
open Cert.GdnSpec

attribute [local instance] Cert.Kernel.Gen.facts Cert.KernelIdeal.Gen.facts Cert.ReferenceIdeal.Gen.facts
attribute [local irreducible] state

/-- The kernel keeps its arguments and ends with every counter at zero, whatever the floats are. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
      r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0) :=
  θ_run_and (Cert.KernelIdeal.Gen.frame_of m ρ (Cert.KernelIdeal.Gdn.dats m) (Cert.KernelIdeal.Gdn.A_eq m)
      ((θ_run Cert.KernelIdeal.defs _ _).mono (fun _ h => h.1) (Cert.KernelIdeal.Gdn.launch_run m ρ)))
    ((θ_run Cert.KernelIdeal.defs _ _).mono (fun _ h => h.2) (Cert.KernelIdeal.Gdn.launch_run m ρ))

/-- The two programs' body tables agree. -/
theorem bodies_eq {F : FTy → Type} [FloatOps F] : Cert.KernelIdeal.defs₀ (F := F) = Cert.Kernel.defs₀ (F := F) := by
  unfold Cert.Kernel.defs₀ Cert.KernelIdeal.defs₀
  congr 1
  funext a b
  obtain rfl : a = 0 := Fin.ext (by have : a.val < 1 := a.isLt; show a.val = 0; omega)
  rfl

/-- The two programs' tables agree. -/
theorem defs_eq {F : FTy → Type} [FloatOps F] : Cert.KernelIdeal.defs (F := F) = Cert.Kernel.defs (F := F) :=
  congrArg (Pipeline.defs (Cert.KernelIdeal.pcfgs (F := F))) bodies_eq

/-- The kernel at bit patterns keeps its arguments: the two programs have the same text. -/
theorem frame_kernel : Cert.quiescent_Kernel := fun m ρ _ => by
  have h := frame_any (F := Bits) m ρ
  rw [defs_eq] at h
  exact h

/-- The kernel at extended reals keeps its arguments. -/
theorem frame_ideal : Cert.quiescent_KernelIdeal := fun m ρ _ => frame_any (F := Ideal) m ρ

/-- The reference keeps its arguments; it declares no semaphore. -/
theorem frame_ref : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Gdn.run (F := Ideal) m ρ)

/-- From memories that agree on the arguments the heads are the same. -/
theorem heads_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (fun b h => Cert.ReferenceIdeal.Gdn.headM b h m' c) = Cert.KernelIdeal.Gdn.headM m c := by
  funext b h
  unfold Cert.ReferenceIdeal.Gdn.headM
  rw [h0, h1, h2, h3, h4, h5, h6]
  rfl

/-- The kernel's results are the reference's: the outputs of every chunk and the last states. -/
theorem value : Cert.algebraic_KernelIdeal_ReferenceIdeal := fun m ρ m' ρ' _ hag =>
  ⟨fun c => outs (Cert.KernelIdeal.Gdn.headM m c), fun c => states (Cert.KernelIdeal.Gdn.headM m c),
    (θ_run Cert.KernelIdeal.defs _ _).mono
      (fun r h c => ⟨((h.2.1 c).1 8).trans (Cert.KernelIdeal.Gdn.arr8 m c), ((h.2.1 c).1 9).trans (Cert.KernelIdeal.Gdn.arr9 m c), h.1 c⟩)
      (θ_run_and (Cert.KernelIdeal.Gen.frame_of m ρ (Cert.KernelIdeal.Gdn.dats m) (Cert.KernelIdeal.Gdn.A_eq m)
          ((θ_run Cert.KernelIdeal.defs _ _).mono (fun _ h => h.1) (Cert.KernelIdeal.Gdn.launch_run m ρ)))
        (Cert.KernelIdeal.Gdn.launch_run m ρ)),
    (θ_run Cert.ReferenceIdeal.defs _ _).mono
      (fun r h c => by
        obtain ⟨a0, a1, a2, a3, a4, a5, a6⟩ := hag c
        have e := heads_eq m m' c a0 a1 a2 a3 a4 a5 a6
        exact ⟨(h c).1.trans ((Cert.ReferenceIdeal.Gdn.ref_out m' c).trans (congrArg outs e)),
          (h c).2.1.trans ((Cert.ReferenceIdeal.Gdn.ref_state m' c).trans (congrArg states e)), (h c).2.2⟩)
      (Cert.ReferenceIdeal.Gdn.run (F := Ideal) m' ρ')⟩

end Cert.Proof.Gdn

end
-- ==== Proof.Proj.Run.lean ====
module
public import proofs.«01_k».proof.Proof.Gen.Proj
public import proofs.«01_k».proof.Proof.Gen.ProjIdeal
public import proofs.«01_k».proof.Proof.Gen.ProjIdeal.Frame
public import proofs.«01_k».proof.Proof.Gen.ProjIdeal.Skeleton
public import Idealize.ShloMosaic.Lib.Claim
public import Idealize.ShloMosaic.Lib.Exec
public import Idealize.ShloMosaic.Lib.VecWindow
public import Idealize.ShloMosaic.Lib.Pipeline.DatRel
public import Idealize.ShloMosaic.Lib.Pipeline.ArrRel
@[expose] public section
set_option maxRecDepth 16384
noncomputable section
namespace Cert.ProjIdeal.Run
open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The test of the body's one branch: the row block is the column block's first. -/
abbrev firstRow (i : grid0.Coords) : Prop := (Scalar.cmpi .ne (Scalar.extui (Scalar.cmpi .eq (BitVec.ofNat 32 (i 1).val) 0#32)) 0#32) = 1#1

/-- It holds at every eighth point. -/
theorem firstRow_iff (t : Fin cfg0.N) : firstRow (grid0.coords t) ↔ t.val % 8 = 0 := by
  have ht : t.val < 392 := Nat.lt_of_lt_of_eq t.isLt N_0
  have e1 : (grid0.coords t 1).val = t.val / 1 % 8 := Pipeline.Grid.coords_val t 1 (by decide) rfl
  simp only [firstRow, e1]
  word_cmp

set_option maxHeartbeats 1000000 in
/-- The body at a column block's first row block: the rounded weight block is kept in the scratch and used. -/
theorem body_first (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole) (hc : firstRow i)
    (x : Vec F S1024x4096 .bf16) (w : Vec F S4096x512 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ (iprop(owns (c : Thread nD τ) arg2 fullShare x ∗ owns (c : Thread nD τ) arg3 fullShare w ∗ owns (c : Thread nD τ) arg4 fullShare (k0_pay2 x (k0_pay1 w)) ∗ owns (c : Thread nD τ) arg5 fullShare (k0_pay1 w)) -∗ K ⟨⟩))
      ⊢ wp frame (wpE (defs₀ (F := F)) Variants.none c none) E (cc0_dense_matmul i arg2 harg2 arg3 harg3 arg4 harg4 arg5 harg5) K := by
  simp only [cc0_dense_matmul_eq_skeleton]; unfold cc0_dense_matmul_skel
  unfold owns
  iintro ⟨⟨%f0, %hf0, H0⟩, ⟨%f1, %hf1, H1⟩, ⟨%d2, %f2, -, H2⟩, ⟨%ds, %fs, -, HS⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap
    · iexact H2
    ipureintro
    refine (View.read_writes_full _ _ _ _ _).trans ?_
    unfold body_first.sl.v5 body_first.sl.HS_1
    rw [View.readAt_full, View.readAt_full, View.readCov_full, harg2.read_unread, harg3.read_unread]
  iexists _; isplitr; swap
  · iexact HS
  ipureintro
  unfold body_first.sl.HS_1
  refine (View.read_writes_full _ _ _ _ _).trans ?_
  rw [View.readAt_full, harg3.read_unread]

set_option maxHeartbeats 1000000 in
/-- The body at any other row block: what the scratch holds is used. -/
theorem body_later (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole) (hc : ¬ firstRow i)
    (x : Vec F S1024x4096 .bf16) (w : Vec F S4096x512 .f32) (s : Vec F S4096x512 .bf16) (E : Set ℕ) (K : PUnit → sProp 𝕄) :
    iprop(owns (c : Thread nD τ) arg2 fullShare x ∗ owns (c : Thread nD τ) arg3 fullShare w ∗ (∃ d, owns (c : Thread nD τ) arg4 fullShare d) ∗ owns (c : Thread nD τ) arg5 fullShare s
        ∗ (iprop(owns (c : Thread nD τ) arg2 fullShare x ∗ owns (c : Thread nD τ) arg3 fullShare w ∗ owns (c : Thread nD τ) arg4 fullShare (k0_pay2 x s) ∗ owns (c : Thread nD τ) arg5 fullShare s) -∗ K ⟨⟩))
      ⊢ wp frame (wpE (defs₀ (F := F)) Variants.none c none) E (cc0_dense_matmul i arg2 harg2 arg3 harg3 arg4 harg4 arg5 harg5) K := by
  simp only [cc0_dense_matmul_eq_skeleton]; unfold cc0_dense_matmul_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap
    · iexact H2
    ipureintro
    refine (View.read_writes_full _ _ _ _ _).trans ?_
    rw [View.readAt_full, View.readAt_full, harg2.read_unread, harg5.read_unread]
  iexists _; isplitr; swap
  · iexact HS
  ipureintro
  exact harg5.read_unread _

/-! ## The proof data -/

/-- The weight block of point `t` filled out past the array's end with `d`. -/
def wfill (c : Dev nD) (t : Fin cfg0.N) (d : S4096x512.Idx → Elt F .f32) : S4096x512.Idx → Elt F .f32 :=
  win0_1.fill (grid0.coords t) d (iblk m c 1 t)

/-- What the body may leave in the result's buffer at point `t`: the product of the two blocks, whatever lies past the
    weights' end. -/
def leavesOut (c : Dev nD) (t : Fin cfg0.N) (X : S1024x512.Idx → Elt F .f32) : Prop :=
  ∃ d, X = k0_pay2 (iblk m c 0 t) (k0_pay1 (wfill m c t d))

/-- The proof data: the arrays as launched, the inputs' buffers at their blocks; the scratch holds the rounded weight
    block of the point before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t (fun _ => Scalar.ofBits .f32 0#32)
    | ⟨2, h⟩ => Pipeline.Dat.unnamed (cfg := cfg0) ⟨2, h⟩ t
  Φ n := iprop((∃ S, ⌜∀ t : Fin cfg0.N, t.val + 1 = n.val → ∃ d, S = k0_pay1 (wfill m c t d)⌝
      ∗ owns (c : Thread nD τ) (Memref.whole cc0_scratch0) fullShare S) ∗ (∃ r, prngReg c r))
  q _ := fullShare
  owed _ := 0

/-- The window held to a predicate: the result's. -/
def isOut : Fin 3 → Bool := fun w => w.val == 2

/-- The predicate, window by window. -/
def Rl (c : Dev nD) (w : Fin cfg0.W) (t : Fin cfg0.N) : ((cfg0.win w).block.Idx → Elt F (cfg0.win w).elt) → Prop :=
  match w with
    | ⟨0, _⟩ => fun _ => True
    | ⟨1, _⟩ => fun _ => True
    | ⟨2, _⟩ => leavesOut m c t

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wfill m c t (fun _ => Scalar.ofBits .f32 0#32) := by
  dsimp only [dats]

theorem before_0 (c : Dev nD) (t : Fin cfg0.N) (d) : (dats m 0 c).before 0 t d = iblk m c 0 t :=
  before0_0_of m (dats m 0 c) (A_eq m c 0) (after_0 m c) t d

/-- The weights' cuts are a function of the block index. -/
theorem clip_eq (t t' : Fin cfg0.N) (h : (cfg0.win 1).index t = (cfg0.win 1).index t') :
    (cfg0.win 1).clip (cfg0.grid.coords t) = (cfg0.win 1).clip (cfg0.grid.coords t') :=
  congrArg (fun ix : Fin 2 → Nat => fun a => Pipeline.Clip.of (ix a) (S4096x512.size a) (S4096x24656.size a)) h

theorem fetched_1 (c : Dev nD) (t : Fin cfg0.N) (d) : (dats m 0 c).fetched 1 t d = wfill m c t d := by
  unfold Dat.fetched Dat.blockOf; rw [A_eq]; rfl

theorem before_1 (c : Dev nD) (t : Fin cfg0.N) (d) : (dats m 0 c).before 1 t d = wfill m c t d :=
  ((dats m 0 c).before_in_eq_fetched 1 rfl (fun _ => rfl) clip_eq
    (fun t => by rw [after_1]; unfold Dat.blockOf; rw [A_eq]; exact win0_1.cut_fill _ _ _) t d).trans (fetched_1 m c t d)

/-- Within a column block the weight block does not move. -/
theorem wfill_pred (c : Dev nD) (t : Fin cfg0.N) (h : ¬ t.val % 8 = 0) (t' : Fin cfg0.N) (ht : t'.val + 1 = t.val) (d) :
    wfill m c t' d = wfill m c t d := by
  have hf : (cfg0.win 1).fetch t = false := by
    rw [Bool.eq_false_iff]; exact fun e => h ((fetch0_1 t).mp e)
  obtain ⟨h0, hix⟩ := (cfg0.win 1).index_eq_of_fetch rfl t hf
  have e : (⟨t.val - 1, lt_of_le_of_lt (Nat.sub_le _ _) t.isLt⟩ : Fin cfg0.N) = t' := Fin.ext (by show t.val - 1 = t'.val; omega)
  rw [← e, ← fetched_1, ← fetched_1]
  exact (dats m 0 c).fetched_congr 1 hix.symm (clip_eq _ _ hix.symm) d

/-! ## The obligation -/

abbrev ms0 (t : Fin cfg0.N) : Memref sig .tc .vmem S1024x4096 .bf16 := win0_0.stage (cfg0.slots t 0)
abbrev ms1 (t : Fin cfg0.N) : Memref sig .tc .vmem S4096x512 .f32 := win0_1.stage (cfg0.slots t 1)
abbrev ms2 (t : Fin cfg0.N) : Memref sig .tc .vmem S1024x512 .f32 := win0_2.stage (cfg0.slots t 2)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ Y, ⌜((dats m 0 c).toRRel isOut (Rl m c)).Finds 2 t Y⌝ ∗ owns (c : Thread nD τ) (ms2 t) fullShare Y))

/-- What it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ (∃ X, ⌜leavesOut m c t X⌝ ∗ owns (c : Thread nD τ) (ms2 t) fullShare X))

theorem Φ_eq (c : Dev nD) (n : Fin (cfg0.N + 1)) : (dats m 0 c).Φ n = iprop((∃ S, ⌜∀ t : Fin cfg0.N, t.val + 1 = n.val → ∃ d, S = k0_pay1 (wfill m c t d)⌝
      ∗ owns (c : Thread nD τ) (Memref.whole cc0_scratch0) fullShare S) ∗ (∃ r, prngReg c r)) := by
  dsimp only [dats]

set_option maxHeartbeats 800000 in
/-- The body at any point of the grid. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1]
  rw [Φ_eq, Φ_eq,
    show (dats m 0 c).owesAt () t.succ = (dats m 0 c).owesAt () t.castSucc from rfl, after_0, after_1,
    show win0_1.cut (grid0.coords t) (wfill m c t (fun _ => Scalar.ofBits .f32 0#32)) = iblk m c 1 t from win0_1.cut_fill _ _ _]
  by_cases h : t.val % 8 = 0
  · iintro ⟨⟨⟨%S, -, HS⟩, Hg⟩, Ho, ⟨%d0, H0⟩, ⟨%d1, H1⟩, ⟨%Y, -, H2⟩⟩
    iapply (body_first c (grid0.coords t) _ _ _ _ _ _ _ _ ((firstRow_iff t).mpr h) (iblk m c 0 t) (wfill m c t d1) Set.univ _)
    isplitl [H0]; · iexact H0
    isplitl [H1]; · iexact H1
    isplitl [H2]; · iexists _; iexact H2
    isplitl [HS]; · iexists _; iexact HS
    iintro ⟨H0, H1, H2, HS⟩
    isplitl [HS Hg]
    · isplitl [HS]
      · iexists _; isplitr; swap
        · iexact HS
        ipureintro
        intro t' ht'
        obtain rfl : t' = t := Fin.ext (by rw [Fin.val_succ] at ht'; omega)
        exact ⟨d1, rfl⟩
      iexact Hg
    isplitl [Ho]; · iexact Ho
    isplitl [H0]; · iexact H0
    isplitl [H1]; · iexists d1; iexact H1
    iexists _; isplitr; swap
    · iexact H2
    ipureintro; exact ⟨d1, rfl⟩
  · iintro ⟨⟨⟨%S, %hS, HS⟩, Hg⟩, Ho, ⟨%d0, H0⟩, ⟨%d1, H1⟩, ⟨%Y, -, H2⟩⟩
    iapply (body_later c (grid0.coords t) _ _ _ _ _ _ _ _ (fun e => h ((firstRow_iff t).mp e)) (iblk m c 0 t) (wfill m c t d1) S Set.univ _)
    have key : ∃ d, S = k0_pay1 (wfill m c t d) := by
      have ht : t.val - 1 + 1 = t.val := by omega
      obtain ⟨d, hd⟩ := hS ⟨t.val - 1, lt_of_le_of_lt (Nat.sub_le _ _) t.isLt⟩ ht
      exact ⟨d, hd.trans (congrArg k0_pay1 (wfill_pred m c t h _ ht d))⟩
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexists _; isplitr; swap
        · iexact HS
        ipureintro
        intro t' ht'
        obtain rfl : t' = t := Fin.ext (by rw [Fin.val_succ] at ht'; omega)
        exact key
      iexact Hg
    isplitl [Ho]; · iexact Ho
    isplitl [H0]; · iexact H0
    isplitl [H1]; · iexists d1; iexact H1
    iexists _; isplitr; swap
    · iexact H2
    ipureintro
    obtain ⟨d, hd⟩ := key
    exact ⟨d, congrArg _ hd⟩

theorem row (t : Fin cfg0.N) :
    defs₀ (F := F) .tc cfg0.body (cfg0.bodyArgs t (cfg0.slots t)) = bodyAt0 t := by
  unfold defs₀; rw [Defs.onTc_tc]

/-- The obligation the pipeline's rule asks of the body. -/
theorem obligation (c : Dev nD) : BodyObligationRel (dats (F := F) m 0 c) (defs₀ (F := F)) Variants.none () Set.univ isOut (Rl m c) := fun t => by
  rw [bigSep_W0, bigSep_W0, row]
  exact triple_restated (sound m c t) rfl .rfl fun _ => .rfl

/-- Before the first point the scratch holds anything. -/
theorem start (c : Dev nD) : (Pipeline.ΦA spec0 c : sProp 𝕄) ⊢ (dats m 0 c).Φ 0 := by
  rw [Φ_eq]; unfold Pipeline.ΦA; rw [scopedRest0_eq]; simp only [owns_whole]
  iintro ⟨⟨%f, H⟩, Hg⟩
  isplitl [H]
  · iexists f; isplitr
    · ipureintro; intro t ht; exact absurd ht (Nat.succ_ne_zero _)
    iexact H
  iexact Hg

/-- After the last point its contents are forgotten. -/
theorem finish (c : Dev nD) : (dats m 0 c).Φ (Fin.last cfg0.N) ⊢ (Pipeline.ΦA spec0 c : sProp 𝕄) := by
  rw [Φ_eq]; unfold Pipeline.ΦA; rw [scopedRest0_eq]; simp only [owns_whole]
  iintro ⟨⟨%S, -, H⟩, Hg⟩
  isplitl [H]
  · iexists S; iexact H
  iexact Hg

set_option backward.isDefEq.respectTransparency.types false in
/-- The launch: every execution ends, with the arrays at what the proof data allow and every counter at zero. -/
theorem launch_run : θ_run defs (onTc (τ := τ) (main (F := F))) (s₀ m ρ) (fun r => (Pipeline.RDat.FramePost (cfgs 0) (fun c => (dats m 0 c).toRRel isOut (Rl m c)) (V m)) r ∧ r.2.sem = fun _ => 0) :=
  Pipeline.RDat.θ_run_frame_track (Q' := _) cfgs (0 : Fin 1) launch0 defs₀ Variants.none (fun c => (dats m 0 c).toRRel isOut (Rl m c)) m ρ main
    (hbody := fun c => (obligation m c).toRRel) (hshare := fun c => (dats m 0 c).share_full fun _ => rfl)
    (howed := fun _ _ => rfl) (V := V m) (hmain := hmain m Variants.none) (hA := A_eq m) (hin := start m) (hout := finish m)

end Cert.ProjIdeal.Run
-- ==== Proof.Proj.Value.lean ====
module

public import proofs.«01_k».proof.Proof.Proj.Run
public import Idealize.ShloMosaic.Lib.Pipeline.ValueKit
public import Idealize.ShloMosaic.Lib.Pipeline.Covers

@[expose] public section

set_option maxRecDepth 16384

noncomputable section

namespace Cert.ProjIdeal.Run

open Cert.ProjIdeal Cert.ProjIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product of two matrices, entry by entry. -/
def mulMat (X : S8192x4096.Idx → EReal) (W : S4096x24656.Idx → EReal) : S8192x24656.Idx → EReal :=
  fun j => ∑ k : Fin 4096, X (ix2 (j 0) k) * W (ix2 k (j 1))

/-- The rows of all sequences one below the other. -/
def rowsOf (X : S4x2048x4096.Idx → EReal) : S8192x4096.Idx → EReal :=
  shapeCast S8192x4096 (X : FVec Ideal S4x2048x4096 .f32) shapeCasts_S4x2048x4096_S8192x4096

/-- The rounding of the activations is the identity on extended reals. -/
theorem V_x : (V m c main_v1 : S8192x4096.Idx → EReal) = rowsOf (m ((c.tc : Thread nD τ).loc main_arg0)) := by
  dsimp only [V, hostOps0, List.flatten_cons, List.flatten_nil, List.cons_append, List.nil_append, List.append_nil]
  after_results; try rfl

/-- What the body computes, entry by entry. -/
theorem pay_at (x : Vec Ideal S1024x4096 .bf16) (w : Vec Ideal S4096x512 .f32) (r : Fin 1024) (n : Fin 512) :
    k0_pay2 (F := Ideal) x (k0_pay1 (F := Ideal) w) (ix2 r n) = ∑ k : Fin 4096, x (ix2 r k) * w (ix2 k n) := by
  pointwise [k0_pay2, k0_pay1]

/-- Where each window's block sits. -/
theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- How much of a block the transfers move. -/
theorem xsz : ∀ t : Fin cfg0.N, win0_1.xsize (grid0.coords t) 0 = 4096 ∧ win0_1.xsize (grid0.coords t) 1 = win0_2.xsize (grid0.coords t) 1
    ∧ win0_2.xsize (grid0.coords t) 0 = 1024 ∧ win0_2.xsize (grid0.coords t) 1 ≤ 512 ∧ (grid0.coords t 0).val * 512 + win0_2.xsize (grid0.coords t) 1 ≤ 24656 :=
  (by decide +kernel : ∀ t : Fin grid0.N, _)

theorem emb0 (t : Fin cfg0.N) (r : Fin 1024) (k : Fin 4096) (R : Fin 8192) (hR : R.val = (grid0.coords t 1).val * 1024 + r.val) :
    (win0_0.blk t).view.emb (ix2 r k : S1024x4096.Idx) = (ix2 R k : S8192x4096.Idx) := by
  funext a
  apply Fin.ext
  fin_cases a <;> blk_simp [idx t]
  all_goals (simp [hR]; try omega)

theorem emb1 (t : Fin cfg0.N) (z : (win0_1.xblock (grid0.coords t)).Idx) (k : Fin 4096) (N : Fin 24656)
    (h0 : (z 0).val = k.val) (h1 : N.val = (grid0.coords t 0).val * 512 + (z 1).val) :
    (win0_1.blk t).view.emb z = (ix2 k N : S4096x24656.Idx) := by
  funext a
  apply Fin.ext
  fin_cases a <;> blk_simp [idx t]
  all_goals (simp [h0, h1]; try omega)

theorem emb2 (t : Fin cfg0.N) (y : (win0_2.xblock (grid0.coords t)).Idx) (R : Fin 8192) (N : Fin 24656)
    (h0 : R.val = (grid0.coords t 1).val * 1024 + (y 0).val) (h1 : N.val = (grid0.coords t 0).val * 512 + (y 1).val) :
    (win0_2.blk t).view.emb y = (ix2 R N : S8192x24656.Idx) := by
  funext a
  apply Fin.ext
  fin_cases a <;> blk_simp [idx t]
  all_goals (simp [h0, h1]; try omega)

/-- The activations' block, entry by entry. -/
theorem x_at (t : Fin cfg0.N) (r : Fin 1024) (k : Fin 4096) (R : Fin 8192) (hR : R.val = (grid0.coords t 1).val * 1024 + r.val) :
    (iblk m c 0 t : S1024x4096.Idx → EReal) (ix2 r k) = (V m c main_v1 : S8192x4096.Idx → EReal) (ix2 R k) :=
  congrArg (V m c main_v1 : S8192x4096.Idx → EReal) (emb0 t r k R hR)

/-- The weights' block, entry by entry: the moved columns are the array's, whatever fills the others. -/
theorem w_at (t : Fin cfg0.N) (d : S4096x512.Idx → EReal) (k : Fin 4096) (n : Fin 512) (N : Fin 24656)
    (hn : n.val < win0_2.xsize (grid0.coords t) 1) (hN : N.val = (grid0.coords t 0).val * 512 + n.val) :
    wfill (F := Ideal) m c t d (ix2 k n) = (V m c main_arg1 : S4096x24656.Idx → EReal) (ix2 k N) := by
  obtain ⟨e0, e1, -, -, -⟩ := xsz t
  let z : (win0_1.xblock (grid0.coords t)).Idx := fun a => match a with
    | ⟨0, _⟩ => ⟨k.val, by show k.val < win0_1.xsize (grid0.coords t) 0; rw [e0]; exact k.isLt⟩
    | ⟨1, _⟩ => ⟨n.val, by show n.val < win0_1.xsize (grid0.coords t) 1; rw [e1]; exact hn⟩
  have hz : (ix2 k n : S4096x512.Idx) = win0_1.xinj (grid0.coords t) z := by
    funext a; apply Fin.ext; fin_cases a <;> rfl
  unfold wfill
  rw [hz, Pipeline.Window.fill_xinj]
  exact congrArg (V m c main_arg1 : S4096x24656.Idx → EReal) (emb1 t z k N rfl hN)

theorem covers : (cfg0.win 2).Covers := by decide +kernel

/-- The result's array after any of the runs. -/
theorem arr2 (after : (w : Fin cfg0.W) → Fin cfg0.N → (cfg0.win w).block.Idx → Elt Ideal (cfg0.win w).elt)
    (h : ∀ t, leavesOut m c t (after 2 t)) :
    (((dats m 0 c).toRRel isOut (Rl m c)).withAfter after).arrAt 2 cfg0.N = mulMat (V m c main_v1) (V m c main_arg1) := by
  refine (((dats m 0 c).toRRel isOut (Rl m c)).withAfter after).arrAt_eq_of_covers 2 _ covers fun t hf y => ?_
  obtain ⟨d, hd⟩ := h t
  obtain ⟨-, -, e0, e1, e2⟩ := xsz t
  have hy0 : (y 0).val < 1024 := lt_of_lt_of_eq (y 0).isLt e0
  have hy1' : (y 1).val < win0_2.xsize (grid0.coords t) 1 := (y 1).isLt
  have hy1 : (y 1).val < 512 := lt_of_lt_of_le (y 1).isLt e1
  have hi : (grid0.coords t 1).val < 8 := (grid0.coords t 1).isLt
  have hR : (grid0.coords t 1).val * 1024 + (y 0).val < 8192 := by omega
  have hN : (grid0.coords t 0).val * 512 + (y 1).val < 24656 := by omega
  have hx : win0_2.xinj (grid0.coords t) y = (ix2 (⟨(y 0).val, hy0⟩ : Fin 1024) (⟨(y 1).val, hy1⟩ : Fin 512) : S1024x512.Idx) := by
    funext a; apply Fin.ext; fin_cases a <;> rfl
  have he := emb2 t y ⟨_, hR⟩ ⟨_, hN⟩ rfl rfl
  refine Eq.trans ?_ (congrArg (mulMat (V m c main_v1) (V m c main_arg1)) he).symm
  show after 2 t (win0_2.xinj (grid0.coords t) y) = _
  rw [hd]
  refine (congrArg _ hx).trans ?_
  refine (pay_at _ _ _ _).trans ?_
  unfold mulMat
  refine Finset.sum_congr rfl fun k _ => ?_
  exact congrArg₂ (· * ·) (x_at m c t _ k ⟨_, hR⟩ rfl) (w_at m c t d k _ ⟨_, hN⟩ hy1' rfl)

end Cert.ProjIdeal.Run
end
-- ==== Proof.Proj.Claims.lean ====
/- The claims about the projection of the activations. -/
module

public import proofs.«01_k».proof.Defs
public import proofs.«01_k».proof.Proof.Gen.Proj
public import proofs.«01_k».proof.Proof.Gen.ProjReferenceIdeal.Run
public import proofs.«01_k».proof.Proof.Proj.Value
public import Idealize.ShloMosaic.Adequacy

@[expose] public section

set_option maxRecDepth 16384

noncomputable section

namespace Cert.Proof.Proj

open Idealize.ShloMosaic Idealize.ShloMosaic.TcCoe Idealize.SL.Sem
open Cert.ProjIdeal.Run

attribute [local instance] Cert.Proj.Gen.facts Cert.ProjIdeal.Gen.facts Cert.ProjReferenceIdeal.Gen.facts

/-- What a run leaves in the arguments. -/
theorem kept {F : FTy → Type} [FloatOps F] (m : (ℓ : Loc Cert.ProjIdeal.nD Cert.ProjIdeal.τ Cert.ProjIdeal.sig) → Buf (Elt F) ℓ)
    (r : PUnit × MemSt Cert.ProjIdeal.nD Cert.ProjIdeal.τ Cert.ProjIdeal.sig (Elt F))
    (h : Pipeline.RDat.FramePost (Cert.ProjIdeal.cfgs 0) (fun c => (dats m 0 c).toRRel isOut (Rl m c)) (Cert.ProjIdeal.Gen.V m) r) (c : Dev Cert.ProjIdeal.nD) :
    r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1) :=
  ⟨((h c).2 Cert.ProjIdeal.main_arg0 (Pipeline.mem_restRefs_of Cert.ProjIdeal.main_arg0 (by decide) (by decide))).trans (Cert.ProjIdeal.Gen.V_main_arg0 m c),
    (Pipeline.RDat.FramePost.arr_in h c 1 rfl).trans (Cert.ProjIdeal.Gen.V_main_arg1 m c)⟩

/-- The kernel keeps its arguments and ends with every counter at zero, whatever the floats are. -/
theorem frame_any {F : FTy → Type} [FloatOps F] (m : (ℓ : Loc Cert.ProjIdeal.nD Cert.ProjIdeal.τ Cert.ProjIdeal.sig) → Buf (Elt F) ℓ)
    (ρ : Dev Cert.ProjIdeal.nD → PrngReg) :
    θ_run (Cert.ProjIdeal.defs (F := F)) (onTc (τ := Cert.ProjIdeal.τ) (Cert.ProjIdeal.main (F := F))) ⟨m, fun _ => 0, ρ⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0) ∧
      r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)) ∧ r.2.sem = fun _ => 0) :=
  (θ_run Cert.ProjIdeal.defs _ _).mono (fun r h => ⟨fun c => kept m r h.1 c, h.2⟩) (launch_run m ρ)

/-- The two programs' body tables agree. -/
theorem bodies_eq {F : FTy → Type} [FloatOps F] : Cert.ProjIdeal.defs₀ (F := F) = Cert.Proj.defs₀ (F := F) := by
  unfold Cert.Proj.defs₀ Cert.ProjIdeal.defs₀
  congr 1
  funext a b
  obtain rfl : a = 0 := Fin.ext (by have : a.val < 1 := a.isLt; show a.val = 0; omega)
  rfl

/-- The two programs' tables agree. -/
theorem defs_eq {F : FTy → Type} [FloatOps F] : Cert.ProjIdeal.defs (F := F) = Cert.Proj.defs (F := F) :=
  congrArg (Pipeline.defs (Cert.ProjIdeal.pcfgs (F := F))) bodies_eq

/-- The kernel at bit patterns keeps its arguments: the two programs have the same text. -/
theorem frame_kernel : Cert.quiescent_Proj := fun m ρ _ => by
  have h := frame_any (F := Bits) m ρ
  rw [defs_eq] at h
  exact h

/-- The kernel at extended reals keeps its arguments. -/
theorem frame_ideal : Cert.quiescent_ProjIdeal := fun m ρ _ => frame_any (F := Ideal) m ρ

/-- The reference keeps its arguments; it declares no semaphore. -/
theorem frame_ref : Cert.quiescent_ProjReferenceIdeal := fun m ρ _ =>
  (θ_run Cert.ProjReferenceIdeal.defs _ _).mono
    (fun r h => ⟨fun c => (h c).2, Idealize.ShloMosaic.sem_eq_zero_of_no_sems (by decide) r.2⟩)
    (Cert.ProjReferenceIdeal.Value.run (F := Ideal) m ρ)

/-- The reference's product of all rows is the matrix product of the rows one below the other. -/
theorem ref_eq (X : FVec Ideal Cert.ProjReferenceIdeal.S4x2048x4096 .f32) (W : FVec Ideal Cert.ProjReferenceIdeal.S4096x24656 .f32) :
    shapeCast Cert.ProjReferenceIdeal.S8192x24656 (Host.dotGeneral Cert.ProjReferenceIdeal.dot_S4x2048x4096_S4096x24656_S4x2048x24656_2_0_01_1_n_n none X W)
        Cert.ProjReferenceIdeal.Facts₀.shapeCasts_S4x2048x24656_S8192x24656
      = mulMat (rowsOf X) W := by
  funext j
  obtain ⟨R, N, rfl⟩ : ∃ R N, j = (ix2 R N : Cert.ProjReferenceIdeal.S8192x24656.Idx) := ⟨j 0, j 1, eq_ix2 j⟩
  unfold mulMat rowsOf
  pointwise

/-- The kernel's result is the reference's. -/
theorem value : Cert.algebraic_ProjIdeal_ProjReferenceIdeal := fun m ρ m' ρ' _ hag =>
  ⟨fun c => mulMat (rowsOf (m ((c.tc : Thread Cert.ProjIdeal.nD Cert.ProjIdeal.τ).loc Cert.ProjIdeal.main_arg0))) (m ((c.tc : Thread Cert.ProjIdeal.nD Cert.ProjIdeal.τ).loc Cert.ProjIdeal.main_arg1)),
    (θ_run Cert.ProjIdeal.defs _ _).mono
      (fun r h c => ⟨by
        obtain ⟨after, hl, ha⟩ := Pipeline.RDat.FramePost.exists_exact h.1 c
        refine (ha 2).trans ((arr2 m c after fun t => ?_).trans ?_)
        · exact (dats m 0 c).toRRel_leaves (w := 2) rfl (hl 2 t (Cert.ProjIdeal.Gen.flush0_2 t))
        · rw [V_x, Cert.ProjIdeal.Gen.V_main_arg1], kept m r h.1 c⟩)
      (launch_run m ρ),
    (θ_run Cert.ProjReferenceIdeal.defs _ _).mono
      (fun r h c => ⟨(h c).1.trans ((ref_eq _ _).trans (by rw [(hag c).1, (hag c).2])), (h c).2⟩)
      (Cert.ProjReferenceIdeal.Value.run (F := Ideal) m' ρ')⟩

end Cert.Proof.Proj

end
-- ==== Proof.Merge.Value.lean ====
module

public import proofs.«01_k».proof.Proof.Gen.MergeIdeal.Value
public import Idealize.ShloMosaic.Lib.VecWindow
public import Idealize.ShloMosaic.Lib.Pipeline.ValueKit

@[expose] public section

set_option maxRecDepth 16384

noncomputable section

namespace Cert.MergeIdeal.Run

open Cert.MergeIdeal Cert.MergeIdeal.Gen
open Idealize.ShloMosaic Idealize.ShloMosaic.TcCoe Idealize.SL.Sem
open Idealize.ShloMosaic.Pipeline (Dat)

/-! ## What the points leave -/

section any
variable {F : FTy → Type} [FloatOps F]
variable (m : (ℓ : Loc nD τ sig) → Buf (Elt F) ℓ) (c : Dev nD)

section points
variable (i : grid0.Coords)
  (a2 : Memref sig .tc .vmem S512x1024 .bf16) (h2 : a2.IsWhole)
  (a3 : Memref sig .tc .vmem S512x2048 .bf16) (h3 : a3.IsWhole)
  (a4 : Memref sig .tc .vmem S512x1024 .bf16) (h4 : a4.IsWhole)
  (a5 : Memref sig .tc .vmem S512x512 .f32) (h5 : a5.IsWhole)
  (a6 : Memref sig .tc .vmem S512x512 .f32) (h6 : a6.IsWhole)
  (a7 : Memref sig .tc .vmem S512x512 .f32) (h7 : a7.IsWhole)
  (a8 : Memref sig .tc .vmem S1024x512 .f32) (h8 : a8.IsWhole)
  (a9 : Memref sig .tc .vmem S2048x512 .f32) (h9 : a9.IsWhole)
  (a10 : Memref sig .tc .vmem S1024x512 .f32) (h10 : a10.IsWhole)
  (a11 : Memref sig .tc .vmem S512x512 .bf16) (h11 : a11.IsWhole)
  (a12 : Memref sig .tc .vmem S1024x512 .bf16) (h12 : a12.IsWhole)
  (a13 : Memref sig .tc .vmem S2048x512 .bf16) (h13 : a13.IsWhole)
  (a14 : Memref sig .tc .vmem S1024x512 .bf16) (h14 : a14.IsWhole)
  (x0 : Vec F S512x1024 .bf16) (x1 : Vec F S512x2048 .bf16) (x2 : Vec F S512x1024 .bf16) (x3 : Vec F S512x512 .f32) (x4 : Vec F S512x512 .f32) (x5 : Vec F S512x512 .f32) (x6 : Vec F S1024x512 .f32) (x7 : Vec F S2048x512 .f32) (x8 : Vec F S1024x512 .f32)

/-- At a column block's first row block the result's buffer ends with the gated sum of the three products. -/
theorem out_first (hc : cond0_0 i) :
    out0_A_9 c i a2 h2 a3 h3 a4 h4 a5 h5 a6 h6 a7 h7 a8 h8 a9 h9 a10 h10 a11 h11 a12 h12 a13 h13 a14 h14 hc x0 x1 x2 x3 x4 x5 x6 x7 x8
      = k0_pay4 x3 x0 (k0_pay1 x6) x4 x1 (k0_pay2 x7) x5 x2 (k0_pay3 x8) := by
  unfold out0_A_9 kernelRun0_A
  refine (View.read_writes_full _ _ _ _ _).trans ?_
  unfold kernelRun0_A.sl.v8 kernelRun0_A.sl.v16 kernelRun0_A.sl.v25 kernelRun0_A.sl.HS0_1 kernelRun0_A.sl.HS1_1 kernelRun0_A.sl.HS2_1
  rw [View.readAt_full, View.readAt_full, View.readAt_full, View.readAt_full, View.readAt_full, View.readAt_full, View.readAt_full, View.readAt_full,
    View.readAt_full, View.readCov_full, View.readCov_full, View.readCov_full, h2.read_unread, h3.read_unread, h4.read_unread, h5.read_unread, h6.read_unread, h7.read_unread,
    h8.read_unread, h9.read_unread, h10.read_unread]

/-- … and the scratches with the rounded weight blocks. -/
theorem scr_first (hc : cond0_0 i) :
    sout0_A_0 c i a2 h2 a3 h3 a4 h4 a5 h5 a6 h6 a7 h7 a8 h8 a9 h9 a10 h10 a11 h11 a12 h12 a13 h13 a14 h14 hc x0 x1 x2 x3 x4 x5 x6 x7 x8 = k0_pay1 x6 ∧ sout0_A_1 c i a2 h2 a3 h3 a4 h4 a5 h5 a6 h6 a7 h7 a8 h8 a9 h9 a10 h10 a11 h11 a12 h12 a13 h13 a14 h14 hc x0 x1 x2 x3 x4 x5 x6 x7 x8 = k0_pay2 x7 ∧ sout0_A_2 c i a2 h2 a3 h3 a4 h4 a5 h5 a6 h6 a7 h7 a8 h8 a9 h9 a10 h10 a11 h11 a12 h12 a13 h13 a14 h14 hc x0 x1 x2 x3 x4 x5 x6 x7 x8 = k0_pay3 x8 := by
  unfold sout0_A_0 sout0_A_1 sout0_A_2 kernelRun0_A kernelRun0_A.sl.HS0_1 kernelRun0_A.sl.HS1_1 kernelRun0_A.sl.HS2_1
  refine ⟨(View.read_writes_full _ _ _ _ _).trans ?_, (View.read_writes_full _ _ _ _ _).trans ?_, (View.read_writes_full _ _ _ _ _).trans ?_⟩
  · rw [View.readAt_full, h8.read_unread]
  · rw [View.readAt_full, h9.read_unread]
  · rw [View.readAt_full, h10.read_unread]

/-- At any other row block the products are with what the scratches hold. -/
theorem out_later (hc : ¬cond0_0 i) (s0 : Vec F S1024x512 .bf16) (s1 : Vec F S2048x512 .bf16) (s2 : Vec F S1024x512 .bf16) :
    out0_B_9 c i a2 h2 a3 h3 a4 h4 a5 h5 a6 h6 a7 h7 a8 h8 a9 h9 a10 h10 a11 h11 a12 h12 a13 h13 a14 h14 hc x0 x1 x2 x3 x4 x5 x6 x7 x8 s0 s1 s2 = k0_pay4 x3 x0 s0 x4 x1 s1 x5 x2 s2 := by
  unfold out0_B_9 kernelRun0_B
  refine (View.read_writes_full _ _ _ _ _).trans ?_
  rw [View.readAt_full, View.readAt_full, View.readAt_full, View.readAt_full, View.readAt_full, View.readAt_full, View.readAt_full, View.readAt_full,
    View.readAt_full, h2.read_unread, h3.read_unread, h4.read_unread, h5.read_unread, h6.read_unread, h7.read_unread,
    h12.read_unread, h13.read_unread, h14.read_unread]

end points

/-! ## Where each window's block sits -/

theorem idx : ∀ t : Fin cfg0.N, (win0_0.index t = ![t.val % 16, 0] ∧ win0_1.index t = ![t.val % 16, 0] ∧ win0_2.index t = ![t.val % 16, 0])
    ∧ (win0_3.index t = ![t.val % 16, t.val / 16] ∧ win0_4.index t = ![t.val % 16, 8 + t.val / 16] ∧ win0_5.index t = ![t.val % 16, 16 + t.val / 16])
    ∧ (win0_6.index t = ![0, t.val / 16] ∧ win0_7.index t = ![0, t.val / 16] ∧ win0_8.index t = ![0, t.val / 16])
    ∧ win0_9.index t = ![t.val % 16, t.val / 16] :=
  (by decide +kernel : ∀ t : Fin grid0.N, _)

/-- The row block of a point. -/
def rowOf (t : Fin cfg0.N) : Fin 16 := ⟨t.val % 16, Nat.mod_lt _ (by decide)⟩
/-- The column block of a point. -/
def colOf (t : Fin cfg0.N) : Fin 8 := ⟨t.val / 16, by have : t.val < 128 := lt_of_lt_of_eq t.isLt N_0; omega⟩
/-- Row `r` of row block `b`. -/
def rowIx (b : Fin 16) (r : Fin 512) : Fin 8192 := ⟨b.val * 512 + r.val, by omega⟩
/-- Column `n` of column block `j`. -/
def colIx (j : Fin 8) (n : Fin 512) : Fin 4096 := ⟨j.val * 512 + n.val, by omega⟩
/-- Column `n` of branch `g`'s gates. -/
def gateIx (g : Fin 3) (n : Fin 4096) : Fin 12288 := ⟨g.val * 4096 + n.val, by omega⟩

/-- Two places of a matrix with the same row and column are one. -/
theorem ix2_ext {A B : ℕ} {e : (⟨2, ![A, B]⟩ : Shape).Idx} {p : Fin A} {q : Fin B} (h0 : (e 0).val = p.val) (h1 : (e 1).val = q.val) : e = ix2 p q := by
  funext a
  apply Fin.ext
  fin_cases a
  exacts [h0, h1]

/-! The blocks of the branches' outputs, of the gates and of the weights, entry by entry. -/

theorem at0 (t : Fin cfg0.N) (r : Fin 512) (k : Fin 1024) :
    (iblk m c 0 t : S512x1024.Idx → Elt F .bf16) (ix2 r k) = (V m c main_v4 : S8192x1024.Idx → Elt F .bf16) (ix2 (rowIx (rowOf t) r) k) :=
  congrArg (V m c main_v4 : S8192x1024.Idx → Elt F .bf16) (ix2_ext (by blk_simp [idx t]; simp [rowIx, rowOf]) (by blk_simp [idx t]))
theorem at1 (t : Fin cfg0.N) (r : Fin 512) (k : Fin 2048) :
    (iblk m c 1 t : S512x2048.Idx → Elt F .bf16) (ix2 r k) = (V m c main_v5 : S8192x2048.Idx → Elt F .bf16) (ix2 (rowIx (rowOf t) r) k) :=
  congrArg (V m c main_v5 : S8192x2048.Idx → Elt F .bf16) (ix2_ext (by blk_simp [idx t]; simp [rowIx, rowOf]) (by blk_simp [idx t]))
theorem at2 (t : Fin cfg0.N) (r : Fin 512) (k : Fin 1024) :
    (iblk m c 2 t : S512x1024.Idx → Elt F .bf16) (ix2 r k) = (V m c main_v6 : S8192x1024.Idx → Elt F .bf16) (ix2 (rowIx (rowOf t) r) k) :=
  congrArg (V m c main_v6 : S8192x1024.Idx → Elt F .bf16) (ix2_ext (by blk_simp [idx t]; simp [rowIx, rowOf]) (by blk_simp [idx t]))
theorem at3 (t : Fin cfg0.N) (r : Fin 512) (n : Fin 512) :
    (iblk m c 3 t : S512x512.Idx → Elt F .f32) (ix2 r n) = (V m c main_v3 : S8192x12288.Idx → Elt F .f32) (ix2 (rowIx (rowOf t) r) (gateIx 0 (colIx (colOf t) n))) :=
  congrArg (V m c main_v3 : S8192x12288.Idx → Elt F .f32) (ix2_ext (by blk_simp [idx t]; simp [rowIx, rowOf]) (by blk_simp [idx t]; simp [colIx, colOf, gateIx]; try omega))
theorem at4 (t : Fin cfg0.N) (r : Fin 512) (n : Fin 512) :
    (iblk m c 4 t : S512x512.Idx → Elt F .f32) (ix2 r n) = (V m c main_v3 : S8192x12288.Idx → Elt F .f32) (ix2 (rowIx (rowOf t) r) (gateIx 1 (colIx (colOf t) n))) :=
  congrArg (V m c main_v3 : S8192x12288.Idx → Elt F .f32) (ix2_ext (by blk_simp [idx t]; simp [rowIx, rowOf]) (by blk_simp [idx t]; simp [colIx, colOf, gateIx]; try omega))
theorem at5 (t : Fin cfg0.N) (r : Fin 512) (n : Fin 512) :
    (iblk m c 5 t : S512x512.Idx → Elt F .f32) (ix2 r n) = (V m c main_v3 : S8192x12288.Idx → Elt F .f32) (ix2 (rowIx (rowOf t) r) (gateIx 2 (colIx (colOf t) n))) :=
  congrArg (V m c main_v3 : S8192x12288.Idx → Elt F .f32) (ix2_ext (by blk_simp [idx t]; simp [rowIx, rowOf]) (by blk_simp [idx t]; simp [colIx, colOf, gateIx]; try omega))
theorem at6 (t : Fin cfg0.N) (k : Fin 1024) (n : Fin 512) :
    (iblk m c 6 t : S1024x512.Idx → Elt F .f32) (ix2 k n) = (V m c main_arg4 : S1024x4096.Idx → Elt F .f32) (ix2 k (colIx (colOf t) n)) :=
  congrArg (V m c main_arg4 : S1024x4096.Idx → Elt F .f32) (ix2_ext (by blk_simp [idx t]) (by blk_simp [idx t]; simp [colIx, colOf]))
theorem at7 (t : Fin cfg0.N) (k : Fin 2048) (n : Fin 512) :
    (iblk m c 7 t : S2048x512.Idx → Elt F .f32) (ix2 k n) = (V m c main_arg5 : S2048x4096.Idx → Elt F .f32) (ix2 k (colIx (colOf t) n)) :=
  congrArg (V m c main_arg5 : S2048x4096.Idx → Elt F .f32) (ix2_ext (by blk_simp [idx t]) (by blk_simp [idx t]; simp [colIx, colOf]))
theorem at8 (t : Fin cfg0.N) (k : Fin 1024) (n : Fin 512) :
    (iblk m c 8 t : S1024x512.Idx → Elt F .f32) (ix2 k n) = (V m c main_arg6 : S1024x4096.Idx → Elt F .f32) (ix2 k (colIx (colOf t) n)) :=
  congrArg (V m c main_arg6 : S1024x4096.Idx → Elt F .f32) (ix2_ext (by blk_simp [idx t]) (by blk_simp [idx t]; simp [colIx, colOf]))

/-- Within a column block the weight blocks do not move. -/
theorem w_same (t t' : Fin cfg0.N) (h : colOf t = colOf t') : iblk m c 6 t = iblk m c 6 t' ∧ iblk m c 7 t = iblk m c 7 t' ∧ iblk m c 8 t = iblk m c 8 t' := by
  refine ⟨funext fun y => ?_, funext fun y => ?_, funext fun y => ?_⟩
  · obtain ⟨k, n, rfl⟩ : ∃ k n, y = (ix2 k n : S1024x512.Idx) := ⟨y 0, y 1, eq_ix2 y⟩
    exact (at6 m c t k n).trans (.trans (by rw [h]) (at6 m c t' k n).symm)
  · obtain ⟨k, n, rfl⟩ : ∃ k n, y = (ix2 k n : S2048x512.Idx) := ⟨y 0, y 1, eq_ix2 y⟩
    exact (at7 m c t k n).trans (.trans (by rw [h]) (at7 m c t' k n).symm)
  · obtain ⟨k, n, rfl⟩ : ∃ k n, y = (ix2 k n : S1024x512.Idx) := ⟨y 0, y 1, eq_ix2 y⟩
    exact (at8 m c t k n).trans (.trans (by rw [h]) (at8 m c t' k n).symm)

/-- What a point computes from its blocks. -/
def outPt (t : Fin cfg0.N) : Vec F S512x512 .bf16 :=
  k0_pay4 (iblk m c 3 t) (iblk m c 0 t) (k0_pay1 (iblk m c 6 t)) (iblk m c 4 t) (iblk m c 1 t) (k0_pay2 (iblk m c 7 t)) (iblk m c 5 t) (iblk m c 2 t)
    (k0_pay3 (iblk m c 8 t))

/-- After every point: the result's buffer holds the gated sum of the point's blocks, the scratches the rounded weights. -/
theorem outs_eq (t : Fin cfg0.N) :
    outsAt0 m c t.val t.isLt = (outPt m c t, k0_pay1 (iblk m c 6 t), k0_pay2 (iblk m c 7 t), k0_pay3 (iblk m c 8 t)) := by
  unfold outPt
  obtain ⟨n, hn⟩ := t
  induction n with
  | zero => rw [outsAt0_A m c ⟨0, hn⟩ rfl, out_first, (scr_first ..).1, (scr_first ..).2.1, (scr_first ..).2.2]
  | succ n ih =>
    by_cases h : (n + 1) % 16 = 0
    · rw [outsAt0_A m c ⟨n + 1, hn⟩ h, out_first, (scr_first ..).1, (scr_first ..).2.1, (scr_first ..).2.2]
    · rw [outsAt0_B m c ⟨n + 1, hn⟩ h, out_later]
      unfold sout0_B_0 sout0_B_1 sout0_B_2
      have e := ih (Nat.lt_of_succ_lt hn)
      obtain ⟨p, q, r⟩ := w_same m c ⟨n, Nat.lt_of_succ_lt hn⟩ ⟨n + 1, hn⟩ (Fin.ext (by show n / 16 = (n + 1) / 16; omega))
      simp only [Nat.add_sub_cancel]
      rw [e]
      dsimp only
      rw [p, q, r]

end any

/-! ## The array, over the extended reals -/

variable (m : (ℓ : Loc nD τ sig) → Buf (Elt Ideal) ℓ) (c : Dev nD)

/-- The gated sum of the three branches' products, entry by entry. -/
def merged (Xa : S8192x1024.Idx → EReal) (Xb : S8192x2048.Idx → EReal) (Xc : S8192x1024.Idx → EReal) (G : S8192x12288.Idx → EReal)
    (Wa : S1024x4096.Idx → EReal) (Wb : S2048x4096.Idx → EReal) (Wc : S1024x4096.Idx → EReal) (R : Fin 8192) (N : Fin 4096) : EReal :=
  Ideal.logistic (G (ix2 R (gateIx 0 N))) * (∑ k : Fin 1024, Xa (ix2 R k) * Wa (ix2 k N))
    + Ideal.logistic (G (ix2 R (gateIx 1 N))) * (∑ k : Fin 2048, Xb (ix2 R k) * Wb (ix2 k N))
    + Ideal.logistic (G (ix2 R (gateIx 2 N))) * (∑ k : Fin 1024, Xc (ix2 R k) * Wc (ix2 k N))

/-- The rows of all sequences one below the other. -/
def rowsA (X : S4x2048x1024.Idx → EReal) : S8192x1024.Idx → EReal :=
  shapeCast S8192x1024 (X : FVec Ideal S4x2048x1024 .f32) shapeCasts_S4x2048x1024_S8192x1024
def rowsB (X : S4x2048x2048.Idx → EReal) : S8192x2048.Idx → EReal :=
  shapeCast S8192x2048 (X : FVec Ideal S4x2048x2048 .f32) shapeCasts_S4x2048x2048_S8192x2048
def rowsG (X : S4x2048x12288.Idx → EReal) : S8192x12288.Idx → EReal :=
  shapeCast S8192x12288 (X : FVec Ideal S4x2048x12288 .f32) shapeCasts_S4x2048x12288_S8192x12288

/-- The roundings are the identity on extended reals. -/
theorem V_rows : (V m c main_v4 : S8192x1024.Idx → EReal) = rowsA (m ((c.tc : Thread nD τ).loc main_arg0))
    ∧ (V m c main_v5 : S8192x2048.Idx → EReal) = rowsB (m ((c.tc : Thread nD τ).loc main_arg1))
    ∧ (V m c main_v6 : S8192x1024.Idx → EReal) = rowsA (m ((c.tc : Thread nD τ).loc main_arg2))
    ∧ (V m c main_v3 : S8192x12288.Idx → EReal) = rowsG (m ((c.tc : Thread nD τ).loc main_arg3)) := by
  dsimp only [V, hostOps0, List.flatten_cons, List.flatten_nil, List.cons_append, List.nil_append, List.append_nil]
  refine ⟨?_, ?_, ?_, ?_⟩
  all_goals (after_results; try rfl)

/-- What the body computes, entry by entry. -/
theorem pay_at (ga gb gc : Vec Ideal S512x512 .f32) (xa : Vec Ideal S512x1024 .bf16) (xb : Vec Ideal S512x2048 .bf16) (xc : Vec Ideal S512x1024 .bf16)
    (wa : Vec Ideal S1024x512 .f32) (wb : Vec Ideal S2048x512 .f32) (wc : Vec Ideal S1024x512 .f32) (r : Fin 512) (n : Fin 512) :
    k0_pay4 (F := Ideal) ga xa (k0_pay1 (F := Ideal) wa) gb xb (k0_pay2 (F := Ideal) wb) gc xc (k0_pay3 (F := Ideal) wc) (ix2 r n)
      = Ideal.logistic (ga (ix2 r n)) * (∑ k : Fin 1024, xa (ix2 r k) * wa (ix2 k n))
        + Ideal.logistic (gb (ix2 r n)) * (∑ k : Fin 2048, xb (ix2 r k) * wb (ix2 k n))
        + Ideal.logistic (gc (ix2 r n)) * (∑ k : Fin 1024, xc (ix2 r k) * wc (ix2 k n)) := by
  pointwise [k0_pay4, k0_pay1, k0_pay2, k0_pay3]

/-- Where the result's block sits. -/
theorem emb9 (t : Fin cfg0.N) (r n : Fin 512) :
    (win0_9.blk t).view.emb (ix2 r n : S512x512.Idx) = (ix2 (rowIx (rowOf t) r) (colIx (colOf t) n) : S8192x4096.Idx) :=
  ix2_ext (by blk_simp [idx t]; simp [rowIx, rowOf]) (by blk_simp [idx t]; simp [colIx, colOf])

/-- The result's array after the run. -/
theorem arr9 : (dats m 0 c).arrAt 9 cfg0.N = fun j : S8192x4096.Idx =>
    merged (V m c main_v4) (V m c main_v5) (V m c main_v6) (V m c main_v3) (V m c main_arg4) (V m c main_arg5) (V m c main_arg6) (j 0) (j 1) := by
  refine (dats m 0 c).arrAt_eq_of_covers 9 _ (by decide +kernel) fun t hf y => ?_
  blk_simp
  rw [after0_9, outs_eq]
  obtain ⟨r, n, rfl⟩ : ∃ r n, y = (ix2 r n : S512x512.Idx) := ⟨y 0, y 1, eq_ix2 y⟩
  refine (pay_at _ _ _ _ _ _ _ _ _ r n).trans ?_
  refine Eq.trans ?_ (congrArg (fun j : S8192x4096.Idx =>
    merged (V m c main_v4) (V m c main_v5) (V m c main_v6) (V m c main_v3) (V m c main_arg4) (V m c main_arg5) (V m c main_arg6) (j 0) (j 1)) (emb9 t r n)).symm
  show _ = merged _ _ _ _ _ _ _ (rowIx (rowOf t) r) (colIx (colOf t) n)
  unfold merged
  refine congrArg₂ (· + ·) (congrArg₂ (· + ·) (congrArg₂ (· * ·) (congrArg Ideal.logistic (at3 m c t r n)) ?_)
    (congrArg₂ (· * ·) (congrArg Ideal.logistic (at4 m c t r n)) ?_)) (congrArg₂ (· * ·) (congrArg Ideal.logistic (at5 m c t r n)) ?_)
  · exact Finset.sum_congr rfl fun k _ => congrArg₂ (· * ·) (at0 m c t r k) (at6 m c t k n)
  · exact Finset.sum_congr rfl fun k _ => congrArg₂ (· * ·) (at1 m c t r k) (at7 m c t k n)
  · exact Finset.sum_congr rfl fun k _ => congrArg₂ (· * ·) (at2 m c t r k) (at8 m c t k n)

end Cert.MergeIdeal.Run

end
-- ==== Proof.Merge.Claims.lean ====
/- The claims about the gated merge of the three branches. -/
module

public import proofs.«01_k».proof.Defs
public import proofs.«01_k».proof.Proof.Gen.Merge
public import proofs.«01_k».proof.Proof.Gen.MergeReferenceIdeal.Run
public import proofs.«01_k».proof.Proof.Merge.Value
public import proofs.«01_k».proof.Proof.Gen.MergeIdeal.Frame
public import Idealize.ShloMosaic.Adequacy

@[expose] public section

set_option maxRecDepth 16384

noncomputable section

namespace Cert.Proof.Merge

open Idealize.ShloMosaic Idealize.ShloMosaic.TcCoe Idealize.SL.Sem
open Cert.MergeIdeal.Run

attribute [local instance] Cert.Merge.Gen.facts Cert.MergeIdeal.Gen.facts Cert.MergeReferenceIdeal.Gen.facts

/-- The two programs' body tables agree. -/
theorem bodies_eq {F : FTy → Type} [FloatOps F] : Cert.MergeIdeal.defs₀ (F := F) = Cert.Merge.defs₀ (F := F) := by
  unfold Cert.Merge.defs₀ Cert.MergeIdeal.defs₀
  congr 1
  funext a b
  obtain rfl : a = 0 := Fin.ext (by have : a.val < 1 := a.isLt; show a.val = 0; omega)
  rfl

/-- The two programs' tables agree. -/
theorem defs_eq {F : FTy → Type} [FloatOps F] : Cert.MergeIdeal.defs (F := F) = Cert.Merge.defs (F := F) :=
  congrArg (Pipeline.defs (Cert.MergeIdeal.pcfgs (F := F))) bodies_eq

/-- The kernel at bit patterns keeps its arguments: the two programs have the same text. -/
theorem frame_kernel : Cert.quiescent_Merge := fun m ρ _ => by
  have h := Cert.MergeIdeal.Gen.frame (F := Bits) m ρ
  rw [defs_eq] at h
  exact h

/-- The kernel at extended reals keeps its arguments. -/
theorem frame_ideal : Cert.quiescent_MergeIdeal := fun m ρ _ => Cert.MergeIdeal.Gen.frame (F := Ideal) m ρ

/-- The reference keeps its arguments; it declares no semaphore. -/
theorem frame_ref : Cert.quiescent_MergeReferenceIdeal := fun m ρ _ =>
  (θ_run Cert.MergeReferenceIdeal.defs _ _).mono
    (fun r h => ⟨fun c => (h c).2, Idealize.ShloMosaic.sem_eq_zero_of_no_sems (by decide) r.2⟩)
    (Cert.MergeReferenceIdeal.Value.run (F := Ideal) m ρ)

/-- The reference's gates, of all branches. -/
def gates (G : FVec Ideal Cert.MergeReferenceIdeal.S4x2048x12288 .f32) : FVec Ideal Cert.MergeReferenceIdeal.S4x2048x3x4096 .f32 :=
  Host.divf (broadcastInDim Cert.MergeReferenceIdeal.S4x2048x3x4096 ![] Cert.MergeReferenceIdeal.Facts₀.bcast_S_S4x2048x3x4096 (constant Cert.MergeReferenceIdeal.S_ .f32 0x3F800000#32))
    (addf (broadcastInDim Cert.MergeReferenceIdeal.S4x2048x3x4096 ![] Cert.MergeReferenceIdeal.Facts₀.bcast_S_S4x2048x3x4096 (constant Cert.MergeReferenceIdeal.S_ .f32 0x3F800000#32))
      (Host.exp (Host.negf (shapeCast Cert.MergeReferenceIdeal.S4x2048x3x4096 G Cert.MergeReferenceIdeal.Facts₀.shapeCasts_S4x2048x12288_S4x2048x3x4096))))

/-- The reference's gated sum of the three products, its rows one below the other, is the one of the rows. -/
theorem ref_eq (Xa : FVec Ideal Cert.MergeReferenceIdeal.S4x2048x1024 .f32) (Xb : FVec Ideal Cert.MergeReferenceIdeal.S4x2048x2048 .f32) (Xc : FVec Ideal Cert.MergeReferenceIdeal.S4x2048x1024 .f32)
    (G : FVec Ideal Cert.MergeReferenceIdeal.S4x2048x12288 .f32) (Wa : FVec Ideal Cert.MergeReferenceIdeal.S1024x4096 .f32) (Wb : FVec Ideal Cert.MergeReferenceIdeal.S2048x4096 .f32)
    (Wc : FVec Ideal Cert.MergeReferenceIdeal.S1024x4096 .f32) :
    shapeCast Cert.MergeReferenceIdeal.S8192x4096 (truncf .bf16 (addf (addf
          (mulf (shapeCast Cert.MergeReferenceIdeal.S4x2048x4096 (extractStridedSlice Cert.MergeReferenceIdeal.S4x2048x1x4096 ![0, 0, 0, 0] (gates G) Cert.MergeReferenceIdeal.Facts₀.slices_S4x2048x3x4096_S4x2048x1x4096_0_0_0_0)
            Cert.MergeReferenceIdeal.Facts₀.shapeCasts_S4x2048x1x4096_S4x2048x4096) (Host.dotGeneral Cert.MergeReferenceIdeal.dot_S4x2048x1024_S1024x4096_S4x2048x4096_2_0_01_1_n_n none Xa Wa))
          (mulf (shapeCast Cert.MergeReferenceIdeal.S4x2048x4096 (extractStridedSlice Cert.MergeReferenceIdeal.S4x2048x1x4096 ![0, 0, 1, 0] (gates G) Cert.MergeReferenceIdeal.Facts₀.slices_S4x2048x3x4096_S4x2048x1x4096_0_0_1_0)
            Cert.MergeReferenceIdeal.Facts₀.shapeCasts_S4x2048x1x4096_S4x2048x4096) (Host.dotGeneral Cert.MergeReferenceIdeal.dot_S4x2048x2048_S2048x4096_S4x2048x4096_2_0_01_1_n_n none Xb Wb)))
          (mulf (shapeCast Cert.MergeReferenceIdeal.S4x2048x4096 (extractStridedSlice Cert.MergeReferenceIdeal.S4x2048x1x4096 ![0, 0, 2, 0] (gates G) Cert.MergeReferenceIdeal.Facts₀.slices_S4x2048x3x4096_S4x2048x1x4096_0_0_2_0)
            Cert.MergeReferenceIdeal.Facts₀.shapeCasts_S4x2048x1x4096_S4x2048x4096) (Host.dotGeneral Cert.MergeReferenceIdeal.dot_S4x2048x1024_S1024x4096_S4x2048x4096_2_0_01_1_n_n none Xc Wc)))
        Cert.MergeReferenceIdeal.Facts₀.bitsLt_bf16_f32) Cert.MergeReferenceIdeal.Facts₀.shapeCasts_S4x2048x4096_S8192x4096
      = fun j : Cert.MergeReferenceIdeal.S8192x4096.Idx => merged (rowsA Xa) (rowsB Xb) (rowsA Xc) (rowsG G) Wa Wb Wc (j 0) (j 1) := by
  funext j
  obtain ⟨R, N, rfl⟩ : ∃ R N, j = (ix2 R N : Cert.MergeReferenceIdeal.S8192x4096.Idx) := ⟨j 0, j 1, eq_ix2 j⟩
  unfold merged rowsA rowsB rowsG gates Ideal.logistic gateIx
  pointwise

/-- The kernel's result is the reference's. -/
theorem value : Cert.algebraic_MergeIdeal_MergeReferenceIdeal := fun m ρ m' ρ' _ hag =>
  ⟨fun c => fun j : Cert.MergeIdeal.S8192x4096.Idx => merged (rowsA (m ((c.tc : Thread Cert.MergeIdeal.nD Cert.MergeIdeal.τ).loc Cert.MergeIdeal.main_arg0))) (rowsB (m ((c.tc : Thread Cert.MergeIdeal.nD Cert.MergeIdeal.τ).loc Cert.MergeIdeal.main_arg1)))
      (rowsA (m ((c.tc : Thread Cert.MergeIdeal.nD Cert.MergeIdeal.τ).loc Cert.MergeIdeal.main_arg2))) (rowsG (m ((c.tc : Thread Cert.MergeIdeal.nD Cert.MergeIdeal.τ).loc Cert.MergeIdeal.main_arg3)))
      (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (j 0) (j 1),
    (θ_run Cert.MergeIdeal.defs _ _).mono
      (fun r h c => ⟨(h c).1.trans ((arr9 m c).trans (by
        rw [(V_rows m c).1, (V_rows m c).2.1, (V_rows m c).2.2.1, (V_rows m c).2.2.2, Cert.MergeIdeal.Gen.V_main_arg4, Cert.MergeIdeal.Gen.V_main_arg5,
          Cert.MergeIdeal.Gen.V_main_arg6])), (h c).2⟩)
      (Cert.MergeIdeal.Value.run_blocks (F := Ideal) m ρ),
    (θ_run Cert.MergeReferenceIdeal.defs _ _).mono
      (fun r h c => by
        obtain ⟨e0, e1, e2, e3, e4, e5, e6⟩ := hag c
        exact ⟨(h c).1.trans ((ref_eq _ _ _ _ _ _ _).trans (by rw [e0, e1, e2, e3, e4, e5, e6])), (h c).2⟩)
      (Cert.MergeReferenceIdeal.Value.run (F := Ideal) m' ρ')⟩

end Cert.Proof.Merge

end
-- ==== Proof.Out.Value.lean ====
module

public import proofs.«01_k».proof.Proof.Gen.OutIdeal.Value
public import Idealize.ShloMosaic.Lib.VecWindow
public import Idealize.ShloMosaic.Lib.Pipeline.ValueKit

@[expose] public section

set_option maxRecDepth 16384

noncomputable section

namespace Cert.OutIdeal.Run

open Cert.OutIdeal Cert.OutIdeal.Gen
open Idealize.ShloMosaic Idealize.ShloMosaic.TcCoe Idealize.SL.Sem
open Idealize.ShloMosaic.Pipeline (Dat)

/-! ## What the points leave -/

section any
variable {F : FTy → Type} [FloatOps F]
variable (m : (ℓ : Loc nD τ sig) → Buf (Elt F) ℓ) (c : Dev nD)

/-- At a column block's first row block the result's buffer ends with the product of the two blocks. -/
theorem out_first (i : grid0.Coords) (a2 : Memref sig .tc .vmem S1024x4096 .bf16) (h2 : a2.IsWhole) (a3 : Memref sig .tc .vmem S4096x512 .f32) (h3 : a3.IsWhole)
    (a4 : Memref sig .tc .vmem S1024x512 .f32) (h4 : a4.IsWhole) (a5 : Memref sig .tc .vmem S4096x512 .bf16) (h5 : a5.IsWhole) (hc : cond0_0 i)
    (x : Vec F S1024x4096 .bf16) (w : Vec F S4096x512 .f32) :
    out0_A_2 c i a2 h2 a3 h3 a4 h4 a5 h5 hc x w = k0_pay2 x (k0_pay1 w) := by
  unfold out0_A_2 kernelRun0_A
  refine (View.read_writes_full _ _ _ _ _).trans ?_
  unfold kernelRun0_A.sl.v5 kernelRun0_A.sl.HS0_1
  rw [View.readAt_full, View.readAt_full, View.readCov_full, h2.read_unread, h3.read_unread]

/-- … and the scratch with the rounded weight block. -/
theorem scr_first (i : grid0.Coords) (a2 : Memref sig .tc .vmem S1024x4096 .bf16) (h2 : a2.IsWhole) (a3 : Memref sig .tc .vmem S4096x512 .f32) (h3 : a3.IsWhole)
    (a4 : Memref sig .tc .vmem S1024x512 .f32) (h4 : a4.IsWhole) (a5 : Memref sig .tc .vmem S4096x512 .bf16) (h5 : a5.IsWhole) (hc : cond0_0 i)
    (x : Vec F S1024x4096 .bf16) (w : Vec F S4096x512 .f32) :
    sout0_A_0 c i a2 h2 a3 h3 a4 h4 a5 h5 hc x w = k0_pay1 w := by
  unfold sout0_A_0 kernelRun0_A
  unfold kernelRun0_A.sl.HS0_1
  refine (View.read_writes_full _ _ _ _ _).trans ?_
  rw [View.readAt_full, h3.read_unread]

/-- At any other row block the product is with what the scratch holds. -/
theorem out_later (i : grid0.Coords) (a2 : Memref sig .tc .vmem S1024x4096 .bf16) (h2 : a2.IsWhole) (a3 : Memref sig .tc .vmem S4096x512 .f32) (h3 : a3.IsWhole)
    (a4 : Memref sig .tc .vmem S1024x512 .f32) (h4 : a4.IsWhole) (a5 : Memref sig .tc .vmem S4096x512 .bf16) (h5 : a5.IsWhole) (hc : ¬cond0_0 i)
    (x : Vec F S1024x4096 .bf16) (w : Vec F S4096x512 .f32) (s : Vec F S4096x512 .bf16) :
    out0_B_2 c i a2 h2 a3 h3 a4 h4 a5 h5 hc x w s = k0_pay2 x s := by
  unfold out0_B_2 kernelRun0_B
  refine (View.read_writes_full _ _ _ _ _).trans ?_
  rw [View.readAt_full, View.readAt_full, h2.read_unread, h5.read_unread]

/-- Where each window's block sits. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- Row `r` of row block `b`. -/
def rowIx (b r : ℕ) (hb : b < 8) (hr : r < 1024) : Fin 8192 := ⟨b * 1024 + r, by omega⟩
/-- Column `n` of column block `j`. -/
def colIx (j n : ℕ) (hj : j < 8) (hn : n < 512) : Fin 4096 := ⟨j * 512 + n, by omega⟩

theorem div8 (t : Fin cfg0.N) : t.val / 8 < 8 := by
  have : t.val < 64 := lt_of_lt_of_eq t.isLt N_0
  omega
theorem mod8 (t : Fin cfg0.N) : t.val % 8 < 8 := Nat.mod_lt _ (by decide)

theorem emb0 (t : Fin cfg0.N) (r : Fin 1024) (k : Fin 4096) :
    (win0_0.blk t).view.emb (ix2 r k : S1024x4096.Idx) = (ix2 (rowIx (t.val % 8) r.val (mod8 t) r.isLt) k : S8192x4096.Idx) := by
  funext a
  apply Fin.ext
  fin_cases a <;> blk_simp [idx t]
  all_goals (simp [rowIx]; try omega)

theorem emb1 (t : Fin cfg0.N) (k : Fin 4096) (n : Fin 512) :
    (win0_1.blk t).view.emb (ix2 k n : S4096x512.Idx) = (ix2 k (colIx (t.val / 8) n.val (div8 t) n.isLt) : S4096x4096.Idx) := by
  funext a
  apply Fin.ext
  fin_cases a <;> blk_simp [idx t]
  all_goals (simp [colIx]; try omega)

theorem emb2 (t : Fin cfg0.N) (r : Fin 1024) (n : Fin 512) :
    (win0_2.blk t).view.emb (ix2 r n : S1024x512.Idx) = (ix2 (rowIx (t.val % 8) r.val (mod8 t) r.isLt) (colIx (t.val / 8) n.val (div8 t) n.isLt) : S8192x4096.Idx) := by
  funext a
  apply Fin.ext
  fin_cases a <;> blk_simp [idx t]
  all_goals (simp [rowIx, colIx]; try omega)

/-- The activations' block, entry by entry. -/
theorem x_at (t : Fin cfg0.N) (r : Fin 1024) (k : Fin 4096) :
    (iblk m c 0 t : S1024x4096.Idx → Elt F .bf16) (ix2 r k) = (V m c main_v1 : S8192x4096.Idx → Elt F .bf16) (ix2 (rowIx (t.val % 8) r.val (mod8 t) r.isLt) k) :=
  congrArg (V m c main_v1 : S8192x4096.Idx → Elt F .bf16) (emb0 t r k)

/-- The weights' block, entry by entry. -/
theorem w_at (t : Fin cfg0.N) (k : Fin 4096) (n : Fin 512) :
    (iblk m c 1 t : S4096x512.Idx → Elt F .f32) (ix2 k n) = (V m c main_arg1 : S4096x4096.Idx → Elt F .f32) (ix2 k (colIx (t.val / 8) n.val (div8 t) n.isLt)) :=
  congrArg (V m c main_arg1 : S4096x4096.Idx → Elt F .f32) (emb1 t k n)

/-- Within a column block the weight block does not move. -/
theorem w_pred (t t' : Fin cfg0.N) (h : t.val / 8 = t'.val / 8) : iblk m c 1 t = iblk m c 1 t' := by
  funext y
  obtain ⟨k, n, rfl⟩ : ∃ k n, y = (ix2 k n : S4096x512.Idx) := ⟨y 0, y 1, eq_ix2 y⟩
  refine (w_at m c t k n).trans (.trans ?_ (w_at m c t' k n).symm)
  congr 2
  exact Fin.ext (by show t.val / 8 * 512 + n.val = t'.val / 8 * 512 + n.val; rw [h])

/-- After every point: the result's buffer holds the product of the point's blocks, the scratch the rounded weights. -/
theorem outs_eq (t : Fin cfg0.N) : outsAt0 m c t.val t.isLt = (k0_pay2 (iblk m c 0 t) (k0_pay1 (iblk m c 1 t)), k0_pay1 (iblk m c 1 t)) := by
  obtain ⟨n, hn⟩ := t
  induction n with
  | zero => rw [outsAt0_A m c ⟨0, hn⟩ rfl, out_first, scr_first]
  | succ n ih =>
    by_cases h : (n + 1) % 8 = 0
    · rw [outsAt0_A m c ⟨n + 1, hn⟩ h, out_first, scr_first]
    · rw [outsAt0_B m c ⟨n + 1, hn⟩ h, out_later]
      unfold sout0_B_0
      have e := ih (Nat.lt_of_succ_lt hn)
      have p := w_pred m c ⟨n, Nat.lt_of_succ_lt hn⟩ ⟨n + 1, hn⟩ (by show n / 8 = (n + 1) / 8; omega)
      simp only [Nat.add_sub_cancel]
      rw [e]
      dsimp only
      rw [p]

end any

/-! ## The array, over the extended reals -/

variable (m : (ℓ : Loc nD τ sig) → Buf (Elt Ideal) ℓ) (c : Dev nD)

/-- The product of two matrices, entry by entry. -/
def mulMat (X : S8192x4096.Idx → EReal) (W : S4096x4096.Idx → EReal) : S8192x4096.Idx → EReal :=
  fun j => ∑ k : Fin 4096, X (ix2 (j 0) k) * W (ix2 k (j 1))

/-- The rows of all sequences one below the other. -/
def rowsOf (X : S4x2048x4096.Idx → EReal) : S8192x4096.Idx → EReal :=
  shapeCast S8192x4096 (X : FVec Ideal S4x2048x4096 .f32) shapeCasts_S4x2048x4096_S8192x4096

/-- The rounding of the activations is the identity on extended reals. -/
theorem V_x : (V m c main_v1 : S8192x4096.Idx → EReal) = rowsOf (m ((c.tc : Thread nD τ).loc main_arg0)) := by
  dsimp only [V, hostOps0, List.flatten_cons, List.flatten_nil, List.cons_append, List.nil_append, List.append_nil]
  after_results; try rfl

/-- What the body computes, entry by entry. -/
theorem pay_at (x : Vec Ideal S1024x4096 .bf16) (w : Vec Ideal S4096x512 .f32) (r : Fin 1024) (n : Fin 512) :
    k0_pay2 (F := Ideal) x (k0_pay1 (F := Ideal) w) (ix2 r n) = ∑ k : Fin 4096, x (ix2 r k) * w (ix2 k n) := by
  pointwise [k0_pay2, k0_pay1]

/-- The result's array after the run. -/
theorem arr2 : (dats m 0 c).arrAt 2 cfg0.N = mulMat (V m c main_v1) (V m c main_arg1) := by
  refine (dats m 0 c).arrAt_eq_of_covers 2 _ (by decide +kernel) fun t hf y => ?_
  blk_simp
  rw [after0_2, outs_eq]
  obtain ⟨r, n, rfl⟩ : ∃ r n, y = (ix2 r n : S1024x512.Idx) := ⟨y 0, y 1, eq_ix2 y⟩
  refine (pay_at _ _ r n).trans ?_
  refine Eq.trans ?_ (congrArg (mulMat (V m c main_v1) (V m c main_arg1)) (emb2 t r n)).symm
  unfold mulMat
  exact Finset.sum_congr rfl fun k _ => congrArg₂ (· * ·) (x_at m c t r k) (w_at m c t k n)

end Cert.OutIdeal.Run
end
-- ==== Proof.Out.Claims.lean ====
/- The claims about the output projection. -/
module

public import proofs.«01_k».proof.Defs
public import proofs.«01_k».proof.Proof.Gen.Out
public import proofs.«01_k».proof.Proof.Gen.OutReferenceIdeal.Run
public import proofs.«01_k».proof.Proof.Out.Value
public import proofs.«01_k».proof.Proof.Gen.OutIdeal.Frame
public import Idealize.ShloMosaic.Adequacy

@[expose] public section

set_option maxRecDepth 16384

noncomputable section

namespace Cert.Proof.Out

open Idealize.ShloMosaic Idealize.ShloMosaic.TcCoe Idealize.SL.Sem
open Cert.OutIdeal.Run

attribute [local instance] Cert.Out.Gen.facts Cert.OutIdeal.Gen.facts Cert.OutReferenceIdeal.Gen.facts

/-- The two programs' body tables agree. -/
theorem bodies_eq {F : FTy → Type} [FloatOps F] : Cert.OutIdeal.defs₀ (F := F) = Cert.Out.defs₀ (F := F) := by
  unfold Cert.Out.defs₀ Cert.OutIdeal.defs₀
  congr 1
  funext a b
  obtain rfl : a = 0 := Fin.ext (by have : a.val < 1 := a.isLt; show a.val = 0; omega)
  rfl

/-- The two programs' tables agree. -/
theorem defs_eq {F : FTy → Type} [FloatOps F] : Cert.OutIdeal.defs (F := F) = Cert.Out.defs (F := F) :=
  congrArg (Pipeline.defs (Cert.OutIdeal.pcfgs (F := F))) bodies_eq

/-- The kernel at bit patterns keeps its arguments: the two programs have the same text. -/
theorem frame_kernel : Cert.quiescent_Out := fun m ρ _ => by
  have h := Cert.OutIdeal.Gen.frame (F := Bits) m ρ
  rw [defs_eq] at h
  exact h

/-- The kernel at extended reals keeps its arguments. -/
theorem frame_ideal : Cert.quiescent_OutIdeal := fun m ρ _ => Cert.OutIdeal.Gen.frame (F := Ideal) m ρ

/-- The reference keeps its arguments; it declares no semaphore. -/
theorem frame_ref : Cert.quiescent_OutReferenceIdeal := fun m ρ _ =>
  (θ_run Cert.OutReferenceIdeal.defs _ _).mono
    (fun r h => ⟨fun c => (h c).2, Idealize.ShloMosaic.sem_eq_zero_of_no_sems (by decide) r.2⟩)
    (Cert.OutReferenceIdeal.Value.run (F := Ideal) m ρ)

/-- The reference's product of all rows is the matrix product of the rows one below the other. -/
theorem ref_eq (X : FVec Ideal Cert.OutReferenceIdeal.S4x2048x4096 .f32) (W : FVec Ideal Cert.OutReferenceIdeal.S4096x4096 .f32) :
    shapeCast Cert.OutReferenceIdeal.S8192x4096 (Host.dotGeneral Cert.OutReferenceIdeal.dot_S4x2048x4096_S4096x4096_S4x2048x4096_2_0_01_1_n_n none X W)
        Cert.OutReferenceIdeal.Facts₀.shapeCasts_S4x2048x4096_S8192x4096
      = mulMat (rowsOf X) W := by
  funext j
  obtain ⟨R, N, rfl⟩ : ∃ R N, j = (ix2 R N : Cert.OutReferenceIdeal.S8192x4096.Idx) := ⟨j 0, j 1, eq_ix2 j⟩
  unfold mulMat rowsOf
  pointwise

/-- The kernel's result is the reference's. -/
theorem value : Cert.algebraic_OutIdeal_OutReferenceIdeal := fun m ρ m' ρ' _ hag =>
  ⟨fun c => mulMat (rowsOf (m ((c.tc : Thread Cert.OutIdeal.nD Cert.OutIdeal.τ).loc Cert.OutIdeal.main_arg0))) (m ((c.tc : Thread Cert.OutIdeal.nD Cert.OutIdeal.τ).loc Cert.OutIdeal.main_arg1)),
    (θ_run Cert.OutIdeal.defs _ _).mono
      (fun r h c => ⟨(h c).1.trans ((arr2 m c).trans (by rw [V_x, Cert.OutIdeal.Gen.V_main_arg1])), (h c).2⟩)
      (Cert.OutIdeal.Value.run_blocks (F := Ideal) m ρ),
    (θ_run Cert.OutReferenceIdeal.defs _ _).mono
      (fun r h c => ⟨(h c).1.trans ((ref_eq _ _).trans (by rw [(hag c).1, (hag c).2])), (h c).2⟩)
      (Cert.OutReferenceIdeal.Value.run (F := Ideal) m' ρ')⟩

end Cert.Proof.Out

end
-- ==== Proof.MoeUp.Run.lean ====
module
public import proofs.«01_k».proof.Proof.Gen.MoeUp
public import proofs.«01_k».proof.Proof.Gen.MoeUpIdeal
public import proofs.«01_k».proof.Proof.Gen.MoeUpIdeal.Launch
public import proofs.«01_k».proof.Proof.Gen.MoeUpIdeal.Skeleton
public import Idealize.ShloMosaic.Lib.Claim
public import Idealize.ShloMosaic.Lib.Exec
public import Idealize.ShloMosaic.Lib.Ring
public import Idealize.ShloMosaic.Lib.Tactic
public import Idealize.ShloMosaic.Lib.WordCmp
public import Idealize.ShloMosaic.Lib.VecWindow
public import Idealize.ShloMosaic.Lib.Pipeline.Kit
public import Idealize.ShloMosaic.Lib.Pipeline.FrameBody
@[expose] public section
set_option maxRecDepth 16384
noncomputable section
namespace Cert.MoeUpIdeal.Run
open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the grid -/

/-- The operations before the grid, in order. -/
abbrev hostLines : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15]

/-- The buffers when the grid is entered. -/
abbrev V (c : Dev nD) (b : Ref sig .tc) : Buf (Elt F) ((c : Thread nD τ).loc b) :=
  StableHlo.after (List.flatten hostLines) (fun b => m (c, b)) b

set_option maxHeartbeats 1600000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩)
    (by simp only [List.Forall]; repeat' constructor) main_chain

/-- The arguments are as launched. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5) := by
  refine ⟨?_, ?_, ?_, ?_, ?_, ?_⟩ <;>
  exact StableHlo.after_of_forall_not_mem _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables' contents when the grid is entered. -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- A table held at half share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄) = iprop(tbPt c (Memref.whole main_v56) (tbl m 0) ∗ tbPt c (Memref.whole main_v58) (tbl m 1) ∗ tbPt c (Memref.whole main_v21) (tbl m 2) ∗ tbPt c (Memref.whole main_v41) (tbl m 3) ∗ tbPt c (Memref.whole main_v65) (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The body at point `t`. -/
abbrev bodyAt (a : (pcfg0 (F := F)).Adm) (t : Fin (cfg0 a).N) : Prog (TpuEff nD τ sig (Elt F) Λ₀ .tc) PUnit :=
  cc0_moe_gate_up (grid0.coords t) (Memref.whole main_v56) (Memref.isWhole_whole _) (Memref.whole main_v58) (Memref.isWhole_whole _) (Memref.whole main_v21) (Memref.isWhole_whole _) (Memref.whole main_v41) (Memref.isWhole_whole _) (Memref.whole main_v65) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## The body -/

/-- The flag word the body loads at a point. -/
abbrev flagOf (c : Dev nD) (i : grid0.Coords) (f : Buf (Elt F) ((Memref.whole main_v65).view.loc (c : Thread nD τ))) : BitVec 32 :=
  View.readAt (Elt F) (Memref.whole main_v65).view (Rect.unit (s := S388) (k0_off1 i) S1.size (k0_off1_inb i)).toLoadRect f
    (Shape.Idx.first (by show 0 < S1.numel; rw [numel1_S1]; exact Nat.one_pos))

/-- The inner branch's test: the flag is three. -/
abbrev isThree (v : BitVec 32) : Prop := Scalar.cmpi .ne (Scalar.extui (Scalar.cmpi .eq v 3#32)) 0#32 = 1#1

/-- The five staged inputs of the body, at their contents. -/
abbrev ins (c : Dev nD) (arg6 : Memref sig .tc .vmem S512x4096 .bf16) (arg7 arg8 : Memref sig .tc .vmem S1x1x4096x512 .f32) (arg9 arg10 : Memref sig .tc .vmem S1x1x1x512 .f32)
    (x : Vec F S512x4096 .bf16) (wg wu : Vec F S1x1x4096x512 .f32) (bg bu : Vec F S1x1x1x512 .f32) : sProp 𝕄 :=
  iprop(owns (c : Thread nD τ) arg6 fullShare x ∗ owns (c : Thread nD τ) arg7 fullShare wg ∗ owns (c : Thread nD τ) arg8 fullShare wu ∗ owns (c : Thread nD τ) arg9 fullShare bg ∗ owns (c : Thread nD τ) arg10 fullShare bu)

set_option maxHeartbeats 2000000 in
/-- The body where a column block of weights is first used: both rounded weight blocks are kept and used. -/
theorem body_first (arg1 : Memref sig .tc .smem S388 .i32) (harg1 : arg1.IsWhole) (arg2 : Memref sig .tc .smem S388 .i32) (harg2 : arg2.IsWhole) (arg3 : Memref sig .tc .smem S388 .i32) (harg3 : arg3.IsWhole) (arg4 : Memref sig .tc .smem S388 .i32) (harg4 : arg4.IsWhole)
  (arg6 : Memref sig .tc .vmem S512x4096 .bf16) (harg6 : arg6.IsWhole) (arg7 : Memref sig .tc .vmem S1x1x4096x512 .f32) (harg7 : arg7.IsWhole) (arg8 : Memref sig .tc .vmem S1x1x4096x512 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S512x512 .bf16) (harg11 : arg11.IsWhole) (arg12 : Memref sig .tc .vmem S4096x512 .bf16) (harg12 : arg12.IsWhole) (arg13 : Memref sig .tc .vmem S4096x512 .bf16) (harg13 : arg13.IsWhole)
    (c : Dev nD) (i : grid0.Coords) (f : Buf (Elt F) ((Memref.whole main_v65).view.loc (c : Thread nD τ))) (x : Vec F S512x4096 .bf16) (wg wu : Vec F S1x1x4096x512 .f32) (bg bu : Vec F S1x1x1x512 .f32) (h1 : k0_cond1 (flagOf c i f) = 1#1) (h2 : isThree (flagOf c i f)) (h3 : ¬ k0_cond3 (flagOf c i f) = 1#1) (E : Set ℕ) (K : PUnit → sProp 𝕄) :
    iprop(tbPt c (Memref.whole main_v65) f ∗ ins c arg6 arg7 arg8 arg9 arg10 x wg wu bg bu
        ∗ (∃ d, owns (c : Thread nD τ) arg11 fullShare d) ∗ (∃ d, owns (c : Thread nD τ) arg12 fullShare d) ∗ (∃ d, owns (c : Thread nD τ) arg13 fullShare d)
        ∗ (iprop(tbPt c (Memref.whole main_v65) f ∗ ins c arg6 arg7 arg8 arg9 arg10 x wg wu bg bu
          ∗ owns (c : Thread nD τ) arg11 fullShare (k0_pay3 x (k0_pay1 wg) bg (k0_pay2 wu) bu) ∗ owns (c : Thread nD τ) arg12 fullShare (k0_pay1 wg) ∗ owns (c : Thread nD τ) arg13 fullShare (k0_pay2 wu)) -∗ K ⟨⟩))
      ⊢ wp frame (wpE (defs₀ (F := F)) Variants.none c none) E (cc0_moe_gate_up i arg1 harg1 arg2 harg2 arg3 harg3 arg4 harg4 (Memref.whole main_v65) (Memref.isWhole_whole _) arg6 harg6 arg7 harg7 arg8 harg8 arg9 harg9 arg10 harg10 arg11 harg11 arg12 harg12 arg13 harg13) K := by
  simp only [cc0_moe_gate_up_eq_skeleton]; unfold cc0_moe_gate_up_skel
  unfold ins owns
  iintro ⟨HT, ⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, Hk⟩
  obtain rfl := harg6.eq_unread hf0; obtain rfl := harg7.eq_unread hf1; obtain rfl := harg8.eq_unread hf2; obtain rfl := harg9.eq_unread hf3; obtain rfl := harg10.eq_unread hf4
  sl_exec (disch := first | sl_exact h1 | sl_exact h2 | sl_exact h3)
  sl_step
  iapply Hk
  isplitl [HT]; · iexact HT
  isplitl [H0 H1 H2 H3 H4]
  · isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    iexists _; isplitr; · ipureintro; exact harg10.read_unread _
    iexact H4
  isplitl [H5]
  · iexists _; isplitr; swap
    · iexact H5
    ipureintro
    refine (View.read_writes_full _ _ _ _ _).trans ?_
    unfold body_first.sl.v12 body_first.sl.v20 body_first.sl.H6_1 body_first.sl.H7_1
    rw [View.readAt_full, View.readAt_full, View.readAt_full, View.readAt_full, View.readAt_full, View.readCov_full, View.readCov_full, harg6.read_unread, harg7.read_unread, harg8.read_unread, harg9.read_unread, harg10.read_unread]
  isplitl [H6]
  · iexists _; isplitr; swap
    · iexact H6
    ipureintro
    unfold body_first.sl.H6_1
    refine (View.read_writes_full _ _ _ _ _).trans ?_
    rw [View.readAt_full, harg7.read_unread]
  iexists _; isplitr; swap
  · iexact H7
  ipureintro
  unfold body_first.sl.H7_1
  refine (View.read_writes_full _ _ _ _ _).trans ?_
  rw [View.readAt_full, harg8.read_unread]

set_option maxHeartbeats 2000000 in
/-- The body at a later row block of the column block: what is kept is used. -/
theorem body_later (arg1 : Memref sig .tc .smem S388 .i32) (harg1 : arg1.IsWhole) (arg2 : Memref sig .tc .smem S388 .i32) (harg2 : arg2.IsWhole) (arg3 : Memref sig .tc .smem S388 .i32) (harg3 : arg3.IsWhole) (arg4 : Memref sig .tc .smem S388 .i32) (harg4 : arg4.IsWhole)
  (arg6 : Memref sig .tc .vmem S512x4096 .bf16) (harg6 : arg6.IsWhole) (arg7 : Memref sig .tc .vmem S1x1x4096x512 .f32) (harg7 : arg7.IsWhole) (arg8 : Memref sig .tc .vmem S1x1x4096x512 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S512x512 .bf16) (harg11 : arg11.IsWhole) (arg12 : Memref sig .tc .vmem S4096x512 .bf16) (harg12 : arg12.IsWhole) (arg13 : Memref sig .tc .vmem S4096x512 .bf16) (harg13 : arg13.IsWhole)
    (c : Dev nD) (i : grid0.Coords) (f : Buf (Elt F) ((Memref.whole main_v65).view.loc (c : Thread nD τ))) (x : Vec F S512x4096 .bf16) (wg wu : Vec F S1x1x4096x512 .f32) (bg bu : Vec F S1x1x1x512 .f32) (s₁ s₂ : Vec F S4096x512 .bf16) (h1 : k0_cond1 (flagOf c i f) = 1#1) (h2 : ¬ isThree (flagOf c i f)) (h3 : ¬ k0_cond3 (flagOf c i f) = 1#1) (E : Set ℕ) (K : PUnit → sProp 𝕄) :
    iprop(tbPt c (Memref.whole main_v65) f ∗ ins c arg6 arg7 arg8 arg9 arg10 x wg wu bg bu
        ∗ (∃ d, owns (c : Thread nD τ) arg11 fullShare d) ∗ owns (c : Thread nD τ) arg12 fullShare s₁ ∗ owns (c : Thread nD τ) arg13 fullShare s₂
        ∗ (iprop(tbPt c (Memref.whole main_v65) f ∗ ins c arg6 arg7 arg8 arg9 arg10 x wg wu bg bu
          ∗ owns (c : Thread nD τ) arg11 fullShare (k0_pay3 x s₁ bg s₂ bu) ∗ owns (c : Thread nD τ) arg12 fullShare s₁ ∗ owns (c : Thread nD τ) arg13 fullShare s₂) -∗ K ⟨⟩))
      ⊢ wp frame (wpE (defs₀ (F := F)) Variants.none c none) E (cc0_moe_gate_up i arg1 harg1 arg2 harg2 arg3 harg3 arg4 harg4 (Memref.whole main_v65) (Memref.isWhole_whole _) arg6 harg6 arg7 harg7 arg8 harg8 arg9 harg9 arg10 harg10 arg11 harg11 arg12 harg12 arg13 harg13) K := by
  simp only [cc0_moe_gate_up_eq_skeleton]; unfold cc0_moe_gate_up_skel
  unfold ins owns
  iintro ⟨HT, ⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, Hk⟩
  obtain rfl := harg6.eq_unread hf0; obtain rfl := harg7.eq_unread hf1; obtain rfl := harg8.eq_unread hf2; obtain rfl := harg9.eq_unread hf3; obtain rfl := harg10.eq_unread hf4; obtain rfl := harg12.eq_unread hf6; obtain rfl := harg13.eq_unread hf7
  sl_exec (disch := first | sl_exact h1 | sl_exact h2 | sl_exact h3)
  sl_step
  iapply Hk
  isplitl [HT]; · iexact HT
  isplitl [H0 H1 H2 H3 H4]
  · isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    iexists _; isplitr; · ipureintro; exact harg10.read_unread _
    iexact H4
  isplitl [H5]
  · iexists _; isplitr; swap
    · iexact H5
    ipureintro
    refine (View.read_writes_full _ _ _ _ _).trans ?_
    rw [View.readAt_full, View.readAt_full, View.readAt_full, View.readAt_full, View.readAt_full, harg6.read_unread, harg9.read_unread, harg10.read_unread, harg12.read_unread, harg13.read_unread]
  isplitl [H6]
  · iexists _; isplitr; swap
    · iexact H6
    ipureintro
    exact harg12.read_unread _
  iexists _; isplitr; swap
  · iexact H7
  ipureintro
  exact harg13.read_unread _

set_option maxHeartbeats 2000000 in
/-- The body at a spare block: zeros. -/
theorem body_spare (arg1 : Memref sig .tc .smem S388 .i32) (harg1 : arg1.IsWhole) (arg2 : Memref sig .tc .smem S388 .i32) (harg2 : arg2.IsWhole) (arg3 : Memref sig .tc .smem S388 .i32) (harg3 : arg3.IsWhole) (arg4 : Memref sig .tc .smem S388 .i32) (harg4 : arg4.IsWhole)
  (arg6 : Memref sig .tc .vmem S512x4096 .bf16) (harg6 : arg6.IsWhole) (arg7 : Memref sig .tc .vmem S1x1x4096x512 .f32) (harg7 : arg7.IsWhole) (arg8 : Memref sig .tc .vmem S1x1x4096x512 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S512x512 .bf16) (harg11 : arg11.IsWhole) (arg12 : Memref sig .tc .vmem S4096x512 .bf16) (harg12 : arg12.IsWhole) (arg13 : Memref sig .tc .vmem S4096x512 .bf16) (harg13 : arg13.IsWhole)
    (c : Dev nD) (i : grid0.Coords) (f : Buf (Elt F) ((Memref.whole main_v65).view.loc (c : Thread nD τ))) (x : Vec F S512x4096 .bf16) (wg wu : Vec F S1x1x4096x512 .f32) (bg bu : Vec F S1x1x1x512 .f32) (s₁ s₂ : Vec F S4096x512 .bf16) (h1 : ¬ k0_cond1 (flagOf c i f) = 1#1) (h3 : k0_cond3 (flagOf c i f) = 1#1) (E : Set ℕ) (K : PUnit → sProp 𝕄) :
    iprop(tbPt c (Memref.whole main_v65) f ∗ ins c arg6 arg7 arg8 arg9 arg10 x wg wu bg bu
        ∗ (∃ d, owns (c : Thread nD τ) arg11 fullShare d) ∗ owns (c : Thread nD τ) arg12 fullShare s₁ ∗ owns (c : Thread nD τ) arg13 fullShare s₂
        ∗ (iprop(tbPt c (Memref.whole main_v65) f ∗ ins c arg6 arg7 arg8 arg9 arg10 x wg wu bg bu
          ∗ owns (c : Thread nD τ) arg11 fullShare (k0_pay4 (F := F)) ∗ owns (c : Thread nD τ) arg12 fullShare s₁ ∗ owns (c : Thread nD τ) arg13 fullShare s₂) -∗ K ⟨⟩))
      ⊢ wp frame (wpE (defs₀ (F := F)) Variants.none c none) E (cc0_moe_gate_up i arg1 harg1 arg2 harg2 arg3 harg3 arg4 harg4 (Memref.whole main_v65) (Memref.isWhole_whole _) arg6 harg6 arg7 harg7 arg8 harg8 arg9 harg9 arg10 harg10 arg11 harg11 arg12 harg12 arg13 harg13) K := by
  simp only [cc0_moe_gate_up_eq_skeleton]; unfold cc0_moe_gate_up_skel
  unfold ins owns
  iintro ⟨HT, ⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, Hk⟩
  obtain rfl := harg6.eq_unread hf0; obtain rfl := harg7.eq_unread hf1; obtain rfl := harg8.eq_unread hf2; obtain rfl := harg9.eq_unread hf3; obtain rfl := harg10.eq_unread hf4; obtain rfl := harg12.eq_unread hf6; obtain rfl := harg13.eq_unread hf7
  sl_exec (disch := first | sl_exact h1 | sl_exact h3)
  sl_step
  iapply Hk
  isplitl [HT]; · iexact HT
  isplitl [H0 H1 H2 H3 H4]
  · isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    iexists _; isplitr; · ipureintro; exact harg10.read_unread _
    iexact H4
  isplitl [H5]
  · iexists _; isplitr; swap
    · iexact H5
    ipureintro
    exact (View.read_writes_full _ _ _ _ _)
  isplitl [H6]
  · iexists _; isplitr; swap
    · iexact H6
    ipureintro
    exact harg12.read_unread _
  iexists _; isplitr; swap
  · iexact H7
  ipureintro
  exact harg13.read_unread _

/-! ## The proof data -/

/-- The flag at point `t`. -/
abbrev flag (hO : Ok m) (c : Dev nD) (t : Fin (cfgM m hO).N) : BitVec 32 := flagOf c (grid0.coords t) (tbl m 4)

/-- A block of weights is in use at point `t`. -/
abbrev inUse (hO : Ok m) (c : Dev nD) (t : Fin (cfgM m hO).N) : Prop := k0_cond1 (flag m hO c t) = 1#1

/-- What the body leaves in the result's buffer at point `t`. -/
def leaves (hO : Ok m) (c : Dev nD) (t : Fin (cfgM m hO).N) : Vec F S512x512 .bf16 :=
  if inUse m hO c t then k0_pay3 (iblk m hO c 0 t) (k0_pay1 (iblk m hO c 1 t)) (iblk m hO c 3 t) (k0_pay2 (iblk m hO c 2 t)) (iblk m hO c 4 t)
  else k0_pay4

/-- What is kept before point `n`: the weight blocks of the point before, where they were in use. -/
def kept (hO : Ok m) (c : Dev nD) (n : Fin ((cfgM m hO).N + 1)) (s₁ s₂ : Vec F S4096x512 .bf16) : Prop :=
  ∀ t : Fin (cfgM m hO).N, t.val + 1 = n.val → inUse m hO c t → s₁ = k0_pay1 (iblk m hO c 1 t) ∧ s₂ = k0_pay2 (iblk m hO c 2 t)

/-- Where the blocks in use are not fresh, they are those of the point before. -/
def Steps (hO : Ok m) (c : Dev nD) : Prop :=
  ∀ t : Fin (cfgM m hO).N, inUse m hO c t → ¬ isThree (flag m hO c t) → ∃ t' : Fin (cfgM m hO).N, t'.val + 1 = t.val ∧ inUse m hO c t'
    ∧ iblk m hO c 1 t' = iblk m hO c 1 t ∧ iblk m hO c 2 t' = iblk m hO c 2 t

/-- The proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => leaves m hO c t
  Φ n := iprop((∃ s₁ s₂, ⌜kept m hO c n s₁ s₂⌝ ∗ owns (c : Thread nD τ) (Memref.whole cc0_scratch0) fullShare s₁
      ∗ owns (c : Thread nD τ) (Memref.whole cc0_scratch1) fullShare s₂) ∗ Pipeline.ΦT pre0 (tbl m) c ∗ (∃ r, prngReg c r))
  q _ := fullShare
  owed _ := 0

variable (hO : Ok m) (c : Dev nD)

theorem A_eq (w : Fin (cfgM m hO).W) : (dats m hO 0 c).A w = V m c (Pipeline.arrRef spec0 w) := by
  dsimp only [dats]

/-- The body leaves the inputs' buffers alone. -/
theorem after_in (t : Fin (cfgM m hO).N) : (dats m hO 0 c).after 0 t = iblk m hO c 0 t ∧ (dats m hO 0 c).after 1 t = iblk m hO c 1 t
    ∧ (dats m hO 0 c).after 2 t = iblk m hO c 2 t ∧ (dats m hO 0 c).after 3 t = iblk m hO c 3 t ∧ (dats m hO 0 c).after 4 t = iblk m hO c 4 t := by
  dsimp only [dats]; exact ⟨rfl, rfl, rfl, rfl, rfl⟩

theorem after_out (t : Fin (cfgM m hO).N) : (dats m hO 0 c).after 5 t = leaves m hO c t := by dsimp only [dats]; rfl

/-- An input window's buffer holds its block at every point. -/
theorem before_in (t : Fin (cfgM m hO).N) :
    (∀ d, (dats m hO 0 c).before 0 t d = iblk m hO c 0 t) ∧ (∀ d, (dats m hO 0 c).before 1 t d = iblk m hO c 1 t) ∧ (∀ d, (dats m hO 0 c).before 2 t d = iblk m hO c 2 t)
    ∧ (∀ d, (dats m hO 0 c).before 3 t d = iblk m hO c 3 t) ∧ (∀ d, (dats m hO 0 c).before 4 t d = iblk m hO c 4 t) := by
  refine ⟨fun d => ?_, fun d => ?_, fun d => ?_, fun d => ?_, fun d => ?_⟩
  · exact ((dats m hO 0 c).before_in_eq_fetched 0 rfl (fun _ => rfl) (fun _ _ _ => rfl) (fun t => by rw [(after_in m hO c t).1]; unfold Dat.blockOf iblk; rw [A_eq]; try rfl) t d).trans
      (by unfold Dat.fetched Dat.blockOf iblk; rw [A_eq]; try rfl)
  · exact ((dats m hO 0 c).before_in_eq_fetched 1 rfl (fun _ => rfl) (fun _ _ _ => rfl) (fun t => by rw [(after_in m hO c t).2.1]; unfold Dat.blockOf iblk; rw [A_eq]; try rfl) t d).trans
      (by unfold Dat.fetched Dat.blockOf iblk; rw [A_eq]; try rfl)
  · exact ((dats m hO 0 c).before_in_eq_fetched 2 rfl (fun _ => rfl) (fun _ _ _ => rfl) (fun t => by rw [(after_in m hO c t).2.2.1]; unfold Dat.blockOf iblk; rw [A_eq]; try rfl) t d).trans
      (by unfold Dat.fetched Dat.blockOf iblk; rw [A_eq]; try rfl)
  · exact ((dats m hO 0 c).before_in_eq_fetched 3 rfl (fun _ => rfl) (fun _ _ _ => rfl) (fun t => by rw [(after_in m hO c t).2.2.2.1]; unfold Dat.blockOf iblk; rw [A_eq]; try rfl) t d).trans
      (by unfold Dat.fetched Dat.blockOf iblk; rw [A_eq]; try rfl)
  · exact ((dats m hO 0 c).before_in_eq_fetched 4 rfl (fun _ => rfl) (fun _ _ _ => rfl) (fun t => by rw [(after_in m hO c t).2.2.2.2]; unfold Dat.blockOf iblk; rw [A_eq]; try rfl) t d).trans
      (by unfold Dat.fetched Dat.blockOf iblk; rw [A_eq]; try rfl)

/-! ## The obligation -/

/-- A flag is from two on or below two. -/
theorem cond_iff (v : BitVec 32) : k0_cond3 v = 1#1 ↔ ¬ k0_cond1 v = 1#1 := by
  simp only [k0_cond1, k0_cond3, Scalar.cmpi, IntOp.cmpi, BitVec.sle_eq_not_slt]
  cases BitVec.slt v 2#32 <;> simp [Scalar.extui]

theorem live_out (t : Fin (cfgM m hO).N) : (cfgM m hO).idle 5 ((cfgM m hO).grid.coords t) = false := by
  show (!(k0_cond1 _ == 1#1) && !(k0_cond3 _ == 1#1)) = false
  rw [Bool.and_eq_false_iff]
  by_cases h : k0_cond1 ((tbl m).atD 4 (k0_off1 ((cfgM m hO).grid.coords t))) = 1#1
  · left; rw [h]; rfl
  · right; rw [(cond_iff _).mpr h]; rfl

theorem Φ_eq (n : Fin ((cfgM m hO).N + 1)) : (dats m hO 0 c).Φ n = iprop((∃ s₁ s₂, ⌜kept m hO c n s₁ s₂⌝ ∗ owns (c : Thread nD τ) (Memref.whole cc0_scratch0) fullShare s₁
      ∗ owns (c : Thread nD τ) (Memref.whole cc0_scratch1) fullShare s₂) ∗ Pipeline.ΦT pre0 (tbl m) c ∗ (∃ r, prngReg c r)) := by
  dsimp only [dats]

/-- The buffer window `w` uses at point `t`, at contents `X`. -/
abbrev buf (w : Fin (cfgM m hO).W) (t : Fin (cfgM m hO).N)
    (X : ((cfgM m hO).win w).block.Idx → Elt F ((cfgM m hO).win w).elt) : sProp 𝕄 :=
  owns (c : Thread nD τ) (((cfgM m hO).win w).stage ((cfgM m hO).slots t w)) fullShare X

/-- What the body is called with at point `t`. -/
def pre (t : Fin (cfgM m hO).N) : sProp 𝕄 :=
  iprop((dats m hO 0 c).Φ t.castSucc ∗ (dats m hO 0 c).owesAt () t.castSucc
    ∗ (∃ d, buf m hO c 0 t ((dats m hO 0 c).before 0 t d)) ∗ (∃ d, buf m hO c 1 t ((dats m hO 0 c).before 1 t d))
    ∗ (∃ d, buf m hO c 2 t ((dats m hO 0 c).before 2 t d)) ∗ (∃ d, buf m hO c 3 t ((dats m hO 0 c).before 3 t d))
    ∗ (∃ d, buf m hO c 4 t ((dats m hO 0 c).before 4 t d)) ∗ (∃ d, buf m hO c 5 t ((dats m hO 0 c).before 5 t d)))

/-- What it returns. -/
def post (t : Fin (cfgM m hO).N) : sProp 𝕄 :=
  iprop((dats m hO 0 c).Φ t.succ ∗ (dats m hO 0 c).owesAt () t.succ
    ∗ buf m hO c 0 t ((dats m hO 0 c).after 0 t) ∗ buf m hO c 1 t ((dats m hO 0 c).after 1 t)
    ∗ buf m hO c 2 t ((dats m hO 0 c).after 2 t) ∗ buf m hO c 3 t ((dats m hO 0 c).after 3 t)
    ∗ buf m hO c 4 t ((dats m hO 0 c).after 4 t) ∗ buf m hO c 5 t ((dats m hO 0 c).after 5 t))

theorem kept_of (t : Fin (cfgM m hO).N) (s₁ s₂ : Vec F S4096x512 .bf16)
    (h : inUse m hO c t → s₁ = k0_pay1 (iblk m hO c 1 t) ∧ s₂ = k0_pay2 (iblk m hO c 2 t)) : kept m hO c t.succ s₁ s₂ := by
  intro t' ht'
  obtain rfl : t' = t := Fin.ext (by rw [Fin.val_succ] at ht'; omega)
  exact h

set_option maxHeartbeats 2000000 in
/-- The body at any point of the grid. -/
theorem sound (hS : Steps m hO c) (t : Fin (cfgM m hO).N) :
    pre m hO c t ⊢ wp frame (wpE (defs₀ (F := F)) Variants.none c none) Set.univ (bodyAt (adm m hO) t) (fun _ => post m hO c t) := by
  unfold pre post bodyAt
  obtain ⟨b0, b1, b2, b3, b4⟩ := before_in m hO c t
  obtain ⟨a0, a1, a2, a3, a4⟩ := after_in m hO c t
  simp only [b0, b1, b2, b3, b4]
  rw [Φ_eq, Φ_eq, show (dats m hO 0 c).owesAt () t.succ = (dats m hO 0 c).owesAt () t.castSucc from rfl, a0, a1, a2, a3, a4, after_out, PhiT_eq]
  iintro ⟨⟨⟨%s₁, %s₂, %hk, HS1, HS2⟩, ⟨HT0, HT1, HT2, HT3, HT4⟩, Hg⟩, Ho, ⟨%d0, H0⟩, ⟨%d1, H1⟩, ⟨%d2, H2⟩, ⟨%d3, H3⟩, ⟨%d4, H4⟩, ⟨%d5, H5⟩⟩
  by_cases h : inUse m hO c t
  · have hn : ¬ k0_cond3 (flag m hO c t) = 1#1 := fun e => (cond_iff _).mp e h
    by_cases h3 : isThree (flag m hO c t)
    · iapply (body_first (Memref.whole main_v56) (Memref.isWhole_whole _) (Memref.whole main_v58) (Memref.isWhole_whole _) (Memref.whole main_v21) (Memref.isWhole_whole _) (Memref.whole main_v41) (Memref.isWhole_whole _)
        _ _ _ _ _ _ _ _ _ _ _ _ _ _ _ _ c (grid0.coords t) (tbl m 4) (iblk m hO c 0 t) (iblk m hO c 1 t) (iblk m hO c 2 t) (iblk m hO c 3 t) (iblk m hO c 4 t) h h3 hn Set.univ _)
      isplitl [HT4]; · iexact HT4
      isplitl [H0 H1 H2 H3 H4]
      · unfold ins
        isplitl [H0]; · iexact H0
        isplitl [H1]; · iexact H1
        isplitl [H2]; · iexact H2
        isplitl [H3]; · iexact H3
        iexact H4
      isplitl [H5]; · iexists _; iexact H5
      isplitl [HS1]; · iexists _; iexact HS1
      isplitl [HS2]; · iexists _; iexact HS2
      unfold ins
      iintro ⟨HT4, ⟨H0, H1, H2, H3, H4⟩, H5, HS1, HS2⟩
      isplitl [HS1 HS2 HT0 HT1 HT2 HT3 HT4 Hg]
      · isplitl [HS1 HS2]
        · iexists _; iexists _; isplitr; swap
          · isplitl [HS1]; · iexact HS1
            iexact HS2
          ipureintro
          exact kept_of m hO c t _ _ fun _ => ⟨rfl, rfl⟩
        isplitl [HT0 HT1 HT2 HT3 HT4]
        · isplitl [HT0]; · iexact HT0
          isplitl [HT1]; · iexact HT1
          isplitl [HT2]; · iexact HT2
          isplitl [HT3]; · iexact HT3
          iexact HT4
        iexact Hg
      isplitl [Ho]; · iexact Ho
      isplitl [H0]; · iexact H0
      isplitl [H1]; · iexact H1
      isplitl [H2]; · iexact H2
      isplitl [H3]; · iexact H3
      isplitl [H4]; · iexact H4
      unfold leaves; rw [if_pos h]; iexact H5
    · have hs : s₁ = k0_pay1 (iblk m hO c 1 t) ∧ s₂ = k0_pay2 (iblk m hO c 2 t) := by
        obtain ⟨t', ht', hu, e1, e2⟩ := hS t h h3
        rw [← e1, ← e2]; exact hk t' ht' hu
      iapply (body_later (Memref.whole main_v56) (Memref.isWhole_whole _) (Memref.whole main_v58) (Memref.isWhole_whole _) (Memref.whole main_v21) (Memref.isWhole_whole _) (Memref.whole main_v41) (Memref.isWhole_whole _)
        _ _ _ _ _ _ _ _ _ _ _ _ _ _ _ _ c (grid0.coords t) (tbl m 4) (iblk m hO c 0 t) (iblk m hO c 1 t) (iblk m hO c 2 t) (iblk m hO c 3 t) (iblk m hO c 4 t) s₁ s₂ h h3 hn Set.univ _)
      isplitl [HT4]; · iexact HT4
      isplitl [H0 H1 H2 H3 H4]
      · unfold ins
        isplitl [H0]; · iexact H0
        isplitl [H1]; · iexact H1
        isplitl [H2]; · iexact H2
        isplitl [H3]; · iexact H3
        iexact H4
      isplitl [H5]; · iexists _; iexact H5
      isplitl [HS1]; · iexact HS1
      isplitl [HS2]; · iexact HS2
      unfold ins
      iintro ⟨HT4, ⟨H0, H1, H2, H3, H4⟩, H5, HS1, HS2⟩
      isplitl [HS1 HS2 HT0 HT1 HT2 HT3 HT4 Hg]
      · isplitl [HS1 HS2]
        · iexists _; iexists _; isplitr; swap
          · isplitl [HS1]; · iexact HS1
            iexact HS2
          ipureintro
          exact kept_of m hO c t _ _ fun _ => hs
        isplitl [HT0 HT1 HT2 HT3 HT4]
        · isplitl [HT0]; · iexact HT0
          isplitl [HT1]; · iexact HT1
          isplitl [HT2]; · iexact HT2
          isplitl [HT3]; · iexact HT3
          iexact HT4
        iexact Hg
      isplitl [Ho]; · iexact Ho
      isplitl [H0]; · iexact H0
      isplitl [H1]; · iexact H1
      isplitl [H2]; · iexact H2
      isplitl [H3]; · iexact H3
      isplitl [H4]; · iexact H4
      unfold leaves; rw [if_pos h, ← hs.1, ← hs.2]; iexact H5
  · have hn : k0_cond3 (flag m hO c t) = 1#1 := (cond_iff _).mpr h
    iapply (body_spare (Memref.whole main_v56) (Memref.isWhole_whole _) (Memref.whole main_v58) (Memref.isWhole_whole _) (Memref.whole main_v21) (Memref.isWhole_whole _) (Memref.whole main_v41) (Memref.isWhole_whole _)
      _ _ _ _ _ _ _ _ _ _ _ _ _ _ _ _ c (grid0.coords t) (tbl m 4) (iblk m hO c 0 t) (iblk m hO c 1 t) (iblk m hO c 2 t) (iblk m hO c 3 t) (iblk m hO c 4 t) s₁ s₂ h hn Set.univ _)
    isplitl [HT4]; · iexact HT4
    isplitl [H0 H1 H2 H3 H4]
    · unfold ins
      isplitl [H0]; · iexact H0
      isplitl [H1]; · iexact H1
      isplitl [H2]; · iexact H2
      isplitl [H3]; · iexact H3
      iexact H4
    isplitl [H5]; · iexists _; iexact H5
    isplitl [HS1]; · iexact HS1
    isplitl [HS2]; · iexact HS2
    unfold ins
    iintro ⟨HT4, ⟨H0, H1, H2, H3, H4⟩, H5, HS1, HS2⟩
    isplitl [HS1 HS2 HT0 HT1 HT2 HT3 HT4 Hg]
    · isplitl [HS1 HS2]
      · iexists _; iexists _; isplitr; swap
        · isplitl [HS1]; · iexact HS1
          iexact HS2
        ipureintro
        exact kept_of m hO c t _ _ fun e => absurd e h
      isplitl [HT0 HT1 HT2 HT3 HT4]
      · isplitl [HT0]; · iexact HT0
        isplitl [HT1]; · iexact HT1
        isplitl [HT2]; · iexact HT2
        isplitl [HT3]; · iexact HT3
        iexact HT4
      iexact Hg
    isplitl [Ho]; · iexact Ho
    isplitl [H0]; · iexact H0
    isplitl [H1]; · iexact H1
    isplitl [H2]; · iexact H2
    isplitl [H3]; · iexact H3
    isplitl [H4]; · iexact H4
    unfold leaves; rw [if_neg h]; iexact H5

theorem row (t : Fin (cfgM m hO).N) :
    defs₀ (F := F) .tc (cfgM m hO).body ((cfgM m hO).bodyArgs t ((cfgM m hO).slots t)) = bodyAt (adm m hO) t := by
  unfold defs₀; rw [Defs.onTc_tc]

/-- The obligation the pipeline's rule asks of the body. -/
theorem obligation (hS : Steps m hO c) : BodyObligation (dats m hO 0 c) (defs₀ (F := F)) Variants.none () Set.univ := fun t => by
  rw [bigSep_W0, bigSep_W0, row, live_out]
  exact triple_restated (sound m hO c hS t) rfl .rfl fun _ => .rfl

/-- Before the first point the scratch holds anything. -/
theorem start : iprop(Pipeline.ΦA spec0 c ∗ Pipeline.ΦT pre0 (tbl m) c) ⊢ (dats m hO 0 c).Φ 0 := by
  rw [Φ_eq]; unfold Pipeline.ΦA; rw [scopedRest0_eq]; simp only [owns_whole]
  iintro ⟨⟨⟨⟨%f, H1⟩, ⟨%g, H2⟩⟩, Hg⟩, HT⟩
  isplitl [H1 H2]
  · iexists f; iexists g; isplitr
    · ipureintro; intro t ht; exact absurd ht (Nat.succ_ne_zero _)
    isplitl [H1]; · iexact H1
    iexact H2
  isplitl [HT]; · iexact HT
  iexact Hg

/-- After the last point its contents are forgotten. -/
theorem finish : (dats m hO 0 c).Φ (Fin.last (cfgM m hO).N) ⊢ (Pipeline.ΦA spec0 c : sProp 𝕄) := by
  rw [Φ_eq]; unfold Pipeline.ΦA; rw [scopedRest0_eq]; simp only [owns_whole]
  iintro ⟨⟨%f, %g, -, H1, H2⟩, -, Hg⟩
  isplitl [H1 H2]
  · isplitl [H1]; · iexists f; iexact H1
    iexists g; iexact H2
  iexact Hg

omit c

set_option backward.isDefEq.respectTransparency.types false in
/-- The launch: every execution ends, with the arrays at what the proof data name and every counter at zero. -/
theorem launch_run (hS : ∀ c, Steps m hO c) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) 0 launch0 defs₀ Variants.none m ρ main
    (hbody := fun c => (obligation m hO c (hS c)).loose) (hshare := fun c => (dats m hO 0 c).share_full fun _ => rfl)
    (howed := fun _ _ => rfl) (V := V m) (hmain := hmain m Variants.none) (hA := fun c => A_eq m hO c) (hpf := V_pre m) (hin := start m hO) (hout := finish m hO)

/-- The arguments end as launched. -/
theorem args_kept {r : PUnit × MemSt nD τ sig (Elt F)} (h : Pipeline.FramePost (Pipeline.pin pcfgs fun _ => adm m hO) (dats m hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨v0, v1, v2, v3, v4, v5⟩ := V_args m c
  exact ⟨((h c).2 main_arg0 (by decide : main_arg0 ∈ Pipeline.restRefs sig spec0)).trans v0,
    ((h c).1 0).trans (((dats m hO 0 c).arrAt_in 0 rfl _).trans ((A_eq m hO c 0).trans v1)),
    ((h c).1 1).trans (((dats m hO 0 c).arrAt_in 1 rfl _).trans ((A_eq m hO c 1).trans v2)),
    ((h c).1 2).trans (((dats m hO 0 c).arrAt_in 2 rfl _).trans ((A_eq m hO c 2).trans v3)),
    ((h c).2 main_arg4 (by decide : main_arg4 ∈ Pipeline.restRefs sig spec0)).trans v4,
    ((h c).2 main_arg5 (by decide : main_arg5 ∈ Pipeline.restRefs sig spec0)).trans v5⟩

end Cert.MoeUpIdeal.Run
-- ==== Proof.MoeUp.Host.lean ====
module

public import proofs.«01_k».proof.Proof.MoeUp.Run
public import Idealize.ShloMosaic.Lib.StableHlo.RunRead

@[expose] public section

set_option maxRecDepth 16384

noncomputable section

namespace Cert.MoeUpIdeal.Run

open Cert.MoeUpIdeal Cert.MoeUpIdeal.Gen
open Idealize.ShloMosaic Idealize.ShloMosaic.TcCoe Idealize.SL.Sem
open Idealize.ShloMosaic.StableHlo (after)

/-! ## The tables as functions of the experts' numbers of blocks -/

section tables
variable (x : IVec S32 32)

/-- A word at every point of the grid. -/
def spread (v : IVec S_ 32) : IVec S388 32 := broadcastInDim S388 ![] bcast_S_S388 v
def const (w : BitVec 32) : IVec S388 32 := spread (constantI S_ 32 w)

/-- The points' numbers. -/
def iotas : IVec S388 32 := iotaInDim S388 32 0
/-- The blocks up to and with each expert's. -/
def cums : IVec S32 32 :=
  Host.reduceWindow IntOp.addi ![32] ![1] ![31] ![0] x (broadcastInDim S_ ![] bcast_S_S_ (constantI S_ 32 0#32)) reduceWindows_S32_S32_w32s1p31_0 h_S_
/-- The blocks before each expert's. -/
def firsts : IVec S32 32 := subi (cums x) x
/-- The blocks in use. -/
def total : IVec S_ 32 := Host.reduce IntOp.addi x (constantI S_ 32 0#32) reducesTo_S32_S_d0 h_S_
/-- The points with a block in use. -/
def items : IVec S_ 32 := muli (total x) (constantI S_ 32 4#32)
def live : IVec S388 1 := cmpi .slt iotas (spread (items x))
/-- The point, or the last one with a block in use. -/
def item : IVec S388 32 := minsi iotas (spread (subi (items x) (constantI S_ 32 1#32)))
/-- Whether an expert's points end at or before the point. -/
def ended : IVec S388x32 1 :=
  cmpi .sle (broadcastInDim S388x32 ![0, 1] bcast_S1x32_S388x32_0_1 (broadcastInDim S1x32 ![1] bcast_S32_S1x32_1
      (muli (cums x) (broadcastInDim S32 ![] bcast_S_S32 (constantI S_ 32 4#32)))))
    (broadcastInDim S388x32 ![0, 1] bcast_S388x1_S388x32_0_1 (broadcastInDim S388x1 ![0] bcast_S388_S388x1_0 (item x)))
/-- The expert of each point. -/
def expert : IVec S388 32 :=
  minsi (Host.reduce IntOp.addi (extui 32 (ended x) natLt_1_32) (constantI S_ 32 0#32) reducesTo_S388x32_S388_d1 h_S_) (const 31#32)
/-- What `y` has for each point's expert. -/
def look (y : IVec S32 32) : IVec S388 32 :=
  Host.gather gather_S32_S388x1_S388_n_0_n_n_0_1_1 y
    (broadcastInDim S388x1 ![0] bcast_S388_S388x1_0 (select (cmpi .slt (expert x) (const 0#32)) (addi (expert x) (const 32#32)) (expert x)))
/-- The point's place among its expert's. -/
def place : IVec S388 32 := subi (item x) (muli (look x (firsts x)) (const 4#32))
/-- The number of blocks of the point's expert, at least one. -/
def width : IVec S388 32 := maxsi (look x x) (const 1#32)

/-- The quotient rounded down. -/
def floorDiv (a b : IVec S388 32) : IVec S388 32 :=
  select (andi (cmpi .ne (signi a) (signi b)) (cmpi .ne (Host.remsi a b) (const 0#32))) (subi (Host.divsi a b) (const 1#32)) (Host.divsi a b)
/-- Its remainder, by a divisor that is not zero. -/
def remDown (a b : IVec S388 32) : IVec S388 32 :=
  select (andi (cmpi .ne (cmpi .slt (Host.remsi a b) (const 0#32)) (cmpi .slt b (const 0#32))) (cmpi .ne (Host.remsi a b) (const 0#32)))
    (addi (Host.remsi a b) b) (Host.remsi a b)
/-- The divisor, one in place of zero. -/
def nonzero (b : IVec S388 32) : IVec S388 32 := select (cmpi .eq b (const 0#32)) (const 1#32) b

/-- The column block of the weights. -/
def colTbl : IVec S388 32 := floorDiv (place x) (width x)
/-- The row block among the expert's. -/
def rowIn : IVec S388 32 := remDown (place x) (nonzero (width x))
/-- The points past those with a block in use. -/
def spare : IVec S388 32 := subi iotas (spread (items x))
/-- The row block of the result. -/
def rowTbl : IVec S388 32 := select (live x) (addi (look x (firsts x)) (rowIn x)) (addi (spread (total x)) (floorDiv (spare x) (const 4#32)))
/-- The column block of the result. -/
def outTbl : IVec S388 32 := select (live x) (colTbl x) (remDown (spare x) (const 4#32))
/-- The flags. -/
def flagTbl : IVec S388 32 := select (live x) (addi (const 2#32) (extui 32 (cmpi .eq (rowIn x) (const 0#32)) natLt_1_32)) (const 0#32)

end tables

section any
variable {F : FTy → Type} [FloatOps F]
variable (m : (ℓ : Loc nD τ sig) → Buf (Elt F) ℓ) (c : Dev nD)

/-- The experts' numbers of blocks. -/
def nblk : IVec S32 32 := m ((c.tc : Thread nD τ).loc main_arg0)

section stages

attribute [local irreducible] Host.reduceWindow Host.reduce Host.gather Host.divsi Host.remsi

variable (U : (b : DevRef τ sig) → b.ty.Contents (Elt F)) (x : IVec S32 32)

/-! The buffers after each line of operations, from those before it. -/

theorem stage_0 (harg0 : (U main_arg0 : IVec S32 32) = x) :
    (after (hostOps0 (F := F)) U main_v0 : IVec S32 32) = cums x
    ∧ (after (hostOps0 (F := F)) U main_arg0 : IVec S32 32) = x := by
  refine ⟨?_, ?_⟩ <;> after_reads_simp <;> first | assumption | ((try simp only [StableHlo.TRef.toBuf, StableHlo.TRef.ofBuf, cast_eq]); (try rw [harg0]); first | done | rfl)

theorem stage_1 (hv0 : (U main_v0 : IVec S32 32) = cums x) (harg0 : (U main_arg0 : IVec S32 32) = x) :
    (after (hostOps0_1 (F := F)) U main_v1 : IVec S32 32) = firsts x
    ∧ (after (hostOps0_1 (F := F)) U main_v2 : IVec S388 32) = iotas
    ∧ (after (hostOps0_1 (F := F)) U main_v3 : IVec S_ 32) = total x
    ∧ (after (hostOps0_1 (F := F)) U main_v4 : IVec S_ 32) = items x
    ∧ (after (hostOps0_1 (F := F)) U main_v6 : IVec S388 1) = live x
    ∧ (after (hostOps0_1 (F := F)) U main_v9 : IVec S388 32) = item x
    ∧ (after (hostOps0_1 (F := F)) U main_arg0 : IVec S32 32) = x := by
  refine ⟨?_, ?_, ?_, ?_, ?_, ?_, ?_⟩ <;> after_reads_simp <;> first | assumption | ((try simp only [StableHlo.TRef.toBuf, StableHlo.TRef.ofBuf, cast_eq]); (try rw [hv0]); (try rw [harg0]); first | done | rfl)

theorem stage_2 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv9 : (U main_v9 : IVec S388 32) = item x) (harg0 : (U main_arg0 : IVec S32 32) = x) :
    (after (hostOps0_2 (F := F)) U main_v1 : IVec S32 32) = firsts x
    ∧ (after (hostOps0_2 (F := F)) U main_v2 : IVec S388 32) = iotas
    ∧ (after (hostOps0_2 (F := F)) U main_v3 : IVec S_ 32) = total x
    ∧ (after (hostOps0_2 (F := F)) U main_v4 : IVec S_ 32) = items x
    ∧ (after (hostOps0_2 (F := F)) U main_v6 : IVec S388 1) = live x
    ∧ (after (hostOps0_2 (F := F)) U main_v9 : IVec S388 32) = item x
    ∧ (after (hostOps0_2 (F := F)) U main_v10 : IVec S32 32) = cums x
    ∧ (after (hostOps0_2 (F := F)) U main_arg0 : IVec S32 32) = x := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv9]); (try rw [harg0]); first | done | rfl)

theorem stage_3 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv9 : (U main_v9 : IVec S388 32) = item x) (hv10 : (U main_v10 : IVec S32 32) = cums x) (harg0 : (U main_arg0 : IVec S32 32) = x) :
    (after (hostOps0_3 (F := F)) U main_v1 : IVec S32 32) = firsts x
    ∧ (after (hostOps0_3 (F := F)) U main_v2 : IVec S388 32) = iotas
    ∧ (after (hostOps0_3 (F := F)) U main_v3 : IVec S_ 32) = total x
    ∧ (after (hostOps0_3 (F := F)) U main_v4 : IVec S_ 32) = items x
    ∧ (after (hostOps0_3 (F := F)) U main_v6 : IVec S388 1) = live x
    ∧ (after (hostOps0_3 (F := F)) U main_v21 : IVec S388 32) = expert x
    ∧ (after (hostOps0_3 (F := F)) U main_v31 : IVec S388 32) = place x
    ∧ (after (hostOps0_3 (F := F)) U main_v40 : IVec S388 32) = width x := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv9]); (try rw [hv10]); (try rw [harg0]); first | done | rfl)

attribute [local irreducible] place width expert cums total live

theorem stage_4 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv21 : (U main_v21 : IVec S388 32) = expert x) (hv31 : (U main_v31 : IVec S388 32) = place x) (hv40 : (U main_v40 : IVec S388 32) = width x) :
    (after (hostOps0_4 (F := F)) U main_v1 : IVec S32 32) = firsts x
    ∧ (after (hostOps0_4 (F := F)) U main_v2 : IVec S388 32) = iotas
    ∧ (after (hostOps0_4 (F := F)) U main_v3 : IVec S_ 32) = total x
    ∧ (after (hostOps0_4 (F := F)) U main_v4 : IVec S_ 32) = items x
    ∧ (after (hostOps0_4 (F := F)) U main_v6 : IVec S388 1) = live x
    ∧ (after (hostOps0_4 (F := F)) U main_v21 : IVec S388 32) = expert x
    ∧ (after (hostOps0_4 (F := F)) U main_v31 : IVec S388 32) = place x
    ∧ (after (hostOps0_4 (F := F)) U main_v40 : IVec S388 32) = width x
    ∧ (after (hostOps0_4 (F := F)) U main_v41 : IVec S388 32) = colTbl x := by
  refine ⟨?_, ?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv21]); (try rw [hv31]); (try rw [hv40]); first | done | rfl)

theorem stage_5 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv21 : (U main_v21 : IVec S388 32) = expert x) (hv31 : (U main_v31 : IVec S388 32) = place x) (hv40 : (U main_v40 : IVec S388 32) = width x) (hv41 : (U main_v41 : IVec S388 32) = colTbl x) :
    (after (hostOps0_5 (F := F)) U main_v1 : IVec S32 32) = firsts x
    ∧ (after (hostOps0_5 (F := F)) U main_v2 : IVec S388 32) = iotas
    ∧ (after (hostOps0_5 (F := F)) U main_v3 : IVec S_ 32) = total x
    ∧ (after (hostOps0_5 (F := F)) U main_v4 : IVec S_ 32) = items x
    ∧ (after (hostOps0_5 (F := F)) U main_v6 : IVec S388 1) = live x
    ∧ (after (hostOps0_5 (F := F)) U main_v21 : IVec S388 32) = expert x
    ∧ (after (hostOps0_5 (F := F)) U main_v41 : IVec S388 32) = colTbl x
    ∧ (after (hostOps0_5 (F := F)) U main_v42 : IVec S388 32) = rowIn x := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv21]); (try rw [hv31]); (try rw [hv40]); (try rw [hv41]); first | done | rfl)

theorem stage_6 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv21 : (U main_v21 : IVec S388 32) = expert x) (hv41 : (U main_v41 : IVec S388 32) = colTbl x) (hv42 : (U main_v42 : IVec S388 32) = rowIn x) :
    (after (hostOps0_6 (F := F)) U main_v3 : IVec S_ 32) = total x
    ∧ (after (hostOps0_6 (F := F)) U main_v6 : IVec S388 1) = live x
    ∧ (after (hostOps0_6 (F := F)) U main_v21 : IVec S388 32) = expert x
    ∧ (after (hostOps0_6 (F := F)) U main_v41 : IVec S388 32) = colTbl x
    ∧ (after (hostOps0_6 (F := F)) U main_v42 : IVec S388 32) = rowIn x
    ∧ (after (hostOps0_6 (F := F)) U main_v44 : IVec S388 32) = spare x
    ∧ (after (hostOps0_6 (F := F)) U main_v52 : IVec S388 32) = addi (look x (firsts x)) (rowIn x)
    ∧ (after (hostOps0_6 (F := F)) U main_c_13 : IVec S_ 32) = constantI S_ 32 4#32 := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv21]); (try rw [hv41]); (try rw [hv42]); first | done | rfl)

attribute [local irreducible] spare

theorem stage_7 (hv3 : (U main_v3 : IVec S_ 32) = total x) (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv52 : (U main_v52 : IVec S388 32) = addi (look x (firsts x)) (rowIn x)) (h_c_13 : (U main_c_13 : IVec S_ 32) = constantI S_ 32 4#32) :
    (after (hostOps0_7 (F := F)) U main_v3 : IVec S_ 32) = total x
    ∧ (after (hostOps0_7 (F := F)) U main_v6 : IVec S388 1) = live x
    ∧ (after (hostOps0_7 (F := F)) U main_v21 : IVec S388 32) = expert x
    ∧ (after (hostOps0_7 (F := F)) U main_v41 : IVec S388 32) = colTbl x
    ∧ (after (hostOps0_7 (F := F)) U main_v42 : IVec S388 32) = rowIn x
    ∧ (after (hostOps0_7 (F := F)) U main_v44 : IVec S388 32) = spare x
    ∧ (after (hostOps0_7 (F := F)) U main_v52 : IVec S388 32) = addi (look x (firsts x)) (rowIn x)
    ∧ (after (hostOps0_7 (F := F)) U main_v53 : IVec S388 32) = floorDiv (spare x) (const 4#32) := by
  refine ⟨?_, ?_, ?_, ?_, ?_, ?_, ?_, ?_⟩ <;> after_reads_simp <;> first | assumption | ((try simp only [StableHlo.TRef.toBuf, StableHlo.TRef.ofBuf, cast_eq]); (try rw [hv3]); (try rw [hv6]); (try rw [hv21]); (try rw [hv41]); (try rw [hv42]); (try rw [hv44]); (try rw [hv52]); (try rw [h_c_13]); first | done | rfl)

theorem stage_8 (hv3 : (U main_v3 : IVec S_ 32) = total x) (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv52 : (U main_v52 : IVec S388 32) = addi (look x (firsts x)) (rowIn x)) (hv53 : (U main_v53 : IVec S388 32) = floorDiv (spare x) (const 4#32)) :
    (after (hostOps0_8 (F := F)) U main_v6 : IVec S388 1) = live x
    ∧ (after (hostOps0_8 (F := F)) U main_v21 : IVec S388 32) = expert x
    ∧ (after (hostOps0_8 (F := F)) U main_v41 : IVec S388 32) = colTbl x
    ∧ (after (hostOps0_8 (F := F)) U main_v42 : IVec S388 32) = rowIn x
    ∧ (after (hostOps0_8 (F := F)) U main_v44 : IVec S388 32) = spare x
    ∧ (after (hostOps0_8 (F := F)) U main_v52 : IVec S388 32) = addi (look x (firsts x)) (rowIn x)
    ∧ (after (hostOps0_8 (F := F)) U main_v55 : IVec S388 32) = addi (spread (total x)) (floorDiv (spare x) (const 4#32)) := by
  refine ⟨?_, ?_, ?_, ?_, ?_, ?_, ?_⟩ <;> after_reads_simp <;> first | assumption | ((try simp only [StableHlo.TRef.toBuf, StableHlo.TRef.ofBuf, cast_eq]); (try rw [hv3]); (try rw [hv6]); (try rw [hv21]); (try rw [hv41]); (try rw [hv42]); (try rw [hv44]); (try rw [hv52]); (try rw [hv53]); first | done | rfl)

theorem stage_9 (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv52 : (U main_v52 : IVec S388 32) = addi (look x (firsts x)) (rowIn x)) (hv55 : (U main_v55 : IVec S388 32) = addi (spread (total x)) (floorDiv (spare x) (const 4#32))) :
    (after (hostOps0_9 (F := F)) U main_v6 : IVec S388 1) = live x
    ∧ (after (hostOps0_9 (F := F)) U main_v21 : IVec S388 32) = expert x
    ∧ (after (hostOps0_9 (F := F)) U main_v41 : IVec S388 32) = colTbl x
    ∧ (after (hostOps0_9 (F := F)) U main_v42 : IVec S388 32) = rowIn x
    ∧ (after (hostOps0_9 (F := F)) U main_v44 : IVec S388 32) = spare x
    ∧ (after (hostOps0_9 (F := F)) U main_v56 : IVec S388 32) = rowTbl x := by
  refine ⟨?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv44]); (try rw [hv52]); (try rw [hv55]); first | done | rfl)

theorem stage_10 (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv56 : (U main_v56 : IVec S388 32) = rowTbl x) :
    (after (hostOps0_10 (F := F)) U main_v6 : IVec S388 1) = live x
    ∧ (after (hostOps0_10 (F := F)) U main_v21 : IVec S388 32) = expert x
    ∧ (after (hostOps0_10 (F := F)) U main_v41 : IVec S388 32) = colTbl x
    ∧ (after (hostOps0_10 (F := F)) U main_v42 : IVec S388 32) = rowIn x
    ∧ (after (hostOps0_10 (F := F)) U main_v44 : IVec S388 32) = spare x
    ∧ (after (hostOps0_10 (F := F)) U main_v56 : IVec S388 32) = rowTbl x
    ∧ (after (hostOps0_10 (F := F)) U main_c_14 : IVec S_ 32) = constantI S_ 32 4#32 := by
  refine ⟨?_, ?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv44]); (try rw [hv56]); first | done | rfl)

theorem stage_11 (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv56 : (U main_v56 : IVec S388 32) = rowTbl x) (h_c_14 : (U main_c_14 : IVec S_ 32) = constantI S_ 32 4#32) :
    (after (hostOps0_11 (F := F)) U main_v6 : IVec S388 1) = live x
    ∧ (after (hostOps0_11 (F := F)) U main_v21 : IVec S388 32) = expert x
    ∧ (after (hostOps0_11 (F := F)) U main_v41 : IVec S388 32) = colTbl x
    ∧ (after (hostOps0_11 (F := F)) U main_v42 : IVec S388 32) = rowIn x
    ∧ (after (hostOps0_11 (F := F)) U main_v56 : IVec S388 32) = rowTbl x
    ∧ (after (hostOps0_11 (F := F)) U main_v57 : IVec S388 32) = remDown (spare x) (const 4#32) := by
  refine ⟨?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv44]); (try rw [hv56]); (try rw [h_c_14]); first | done | rfl)

theorem stage_12 (hv6 : (U main_v6 : IVec S388 1) = live x) (hv21 : (U main_v21 : IVec S388 32) = expert x) (hv41 : (U main_v41 : IVec S388 32) = colTbl x) (hv42 : (U main_v42 : IVec S388 32) = rowIn x) (hv56 : (U main_v56 : IVec S388 32) = rowTbl x) (hv57 : (U main_v57 : IVec S388 32) = remDown (spare x) (const 4#32)) :
    (after (hostOps0_12 (F := F)) U main_v6 : IVec S388 1) = live x
    ∧ (after (hostOps0_12 (F := F)) U main_v21 : IVec S388 32) = expert x
    ∧ (after (hostOps0_12 (F := F)) U main_v41 : IVec S388 32) = colTbl x
    ∧ (after (hostOps0_12 (F := F)) U main_v42 : IVec S388 32) = rowIn x
    ∧ (after (hostOps0_12 (F := F)) U main_v56 : IVec S388 32) = rowTbl x
    ∧ (after (hostOps0_12 (F := F)) U main_v58 : IVec S388 32) = outTbl x := by
  refine ⟨?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv56]); (try rw [hv57]); first | done | rfl)

theorem stage_13 (hv6 : (U main_v6 : IVec S388 1) = live x) (hv21 : (U main_v21 : IVec S388 32) = expert x) (hv41 : (U main_v41 : IVec S388 32) = colTbl x) (hv42 : (U main_v42 : IVec S388 32) = rowIn x) (hv56 : (U main_v56 : IVec S388 32) = rowTbl x) (hv58 : (U main_v58 : IVec S388 32) = outTbl x) :
    (after (hostOps0_13 (F := F)) U main_v6 : IVec S388 1) = live x
    ∧ (after (hostOps0_13 (F := F)) U main_v21 : IVec S388 32) = expert x
    ∧ (after (hostOps0_13 (F := F)) U main_v41 : IVec S388 32) = colTbl x
    ∧ (after (hostOps0_13 (F := F)) U main_v56 : IVec S388 32) = rowTbl x
    ∧ (after (hostOps0_13 (F := F)) U main_v58 : IVec S388 32) = outTbl x
    ∧ (after (hostOps0_13 (F := F)) U main_v63 : IVec S388 32) = addi (const 2#32) (extui 32 (cmpi .eq (rowIn x) (const 0#32)) natLt_1_32)
    ∧ (after (hostOps0_13 (F := F)) U main_c_17 : IVec S_ 32) = constantI S_ 32 0#32 := by
  refine ⟨?_, ?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv56]); (try rw [hv58]); first | done | rfl)

theorem stage_14 (hv6 : (U main_v6 : IVec S388 1) = live x) (hv21 : (U main_v21 : IVec S388 32) = expert x) (hv41 : (U main_v41 : IVec S388 32) = colTbl x) (hv56 : (U main_v56 : IVec S388 32) = rowTbl x) (hv58 : (U main_v58 : IVec S388 32) = outTbl x) (hv63 : (U main_v63 : IVec S388 32) = addi (const 2#32) (extui 32 (cmpi .eq (rowIn x) (const 0#32)) natLt_1_32)) (h_c_17 : (U main_c_17 : IVec S_ 32) = constantI S_ 32 0#32) :
    (after (hostOps0_14 (F := F)) U main_v21 : IVec S388 32) = expert x
    ∧ (after (hostOps0_14 (F := F)) U main_v41 : IVec S388 32) = colTbl x
    ∧ (after (hostOps0_14 (F := F)) U main_v56 : IVec S388 32) = rowTbl x
    ∧ (after (hostOps0_14 (F := F)) U main_v58 : IVec S388 32) = outTbl x
    ∧ (after (hostOps0_14 (F := F)) U main_v64 : IVec S388 32) = flagTbl x := by
  refine ⟨?_, ?_, ?_, ?_, ?_⟩ <;> after_reads_simp <;> first | assumption | ((try simp only [StableHlo.TRef.toBuf, StableHlo.TRef.ofBuf, cast_eq]); (try rw [hv6]); (try rw [hv21]); (try rw [hv41]); (try rw [hv56]); (try rw [hv58]); (try rw [hv63]); (try rw [h_c_17]); first | done | rfl)

theorem stage_15 (hv21 : (U main_v21 : IVec S388 32) = expert x) (hv41 : (U main_v41 : IVec S388 32) = colTbl x) (hv56 : (U main_v56 : IVec S388 32) = rowTbl x) (hv58 : (U main_v58 : IVec S388 32) = outTbl x) (hv64 : (U main_v64 : IVec S388 32) = flagTbl x) :
    (after (hostOps0_15 (F := F)) U main_v21 : IVec S388 32) = expert x
    ∧ (after (hostOps0_15 (F := F)) U main_v41 : IVec S388 32) = colTbl x
    ∧ (after (hostOps0_15 (F := F)) U main_v56 : IVec S388 32) = rowTbl x
    ∧ (after (hostOps0_15 (F := F)) U main_v58 : IVec S388 32) = outTbl x
    ∧ (after (hostOps0_15 (F := F)) U main_v65 : IVec S388 32) = flagTbl x := by
  refine ⟨?_, ?_, ?_, ?_, ?_⟩ <;> after_reads_simp <;> first | assumption | ((try simp only [StableHlo.TRef.toBuf, StableHlo.TRef.ofBuf, cast_eq]); (try rw [hv21]); (try rw [hv41]); (try rw [hv56]); (try rw [hv58]); (try rw [hv64]); first | done | rfl)

end stages

/-- The tables when the grid is entered. -/
theorem V_tables : (V m c main_v21 : IVec S388 32) = expert (nblk m c) ∧ (V m c main_v41 : IVec S388 32) = colTbl (nblk m c)
    ∧ (V m c main_v56 : IVec S388 32) = rowTbl (nblk m c) ∧ (V m c main_v58 : IVec S388 32) = outTbl (nblk m c)
    ∧ (V m c main_v65 : IVec S388 32) = flagTbl (nblk m c) := by
  unfold V
  simp only [hostLines, List.flatten_cons, List.flatten_nil, List.append_nil, StableHlo.after_append]
  obtain ⟨p0, p1⟩ := stage_0 (fun b => m (c, b)) (nblk m c) rfl
  obtain ⟨p0, p1, p2, p3, p4, p5, p6⟩ := stage_1 _ _ p0 p1
  obtain ⟨p0, p1, p2, p3, p4, p5, p6, p7⟩ := stage_2 _ _ p0 p1 p2 p3 p4 p5 p6
  obtain ⟨p0, p1, p2, p3, p4, p5, p6, p7⟩ := stage_3 _ _ p0 p1 p2 p3 p4 p5 p6 p7
  obtain ⟨p0, p1, p2, p3, p4, p5, p6, p7, p8⟩ := stage_4 _ _ p0 p1 p2 p3 p4 p5 p6 p7
  obtain ⟨p0, p1, p2, p3, p4, p5, p6, p7⟩ := stage_5 _ _ p0 p1 p2 p3 p4 p5 p6 p7 p8
  obtain ⟨p0, p1, p2, p3, p4, p5, p6, p7⟩ := stage_6 _ _ p0 p1 p2 p3 p4 p5 p6 p7
  obtain ⟨p0, p1, p2, p3, p4, p5, p6, p7⟩ := stage_7 _ _ p0 p1 p2 p3 p4 p5 p6 p7
  obtain ⟨p0, p1, p2, p3, p4, p5, p6⟩ := stage_8 _ _ p0 p1 p2 p3 p4 p5 p6 p7
  obtain ⟨p0, p1, p2, p3, p4, p5⟩ := stage_9 _ _ p0 p1 p2 p3 p4 p5 p6
  obtain ⟨p0, p1, p2, p3, p4, p5, p6⟩ := stage_10 _ _ p0 p1 p2 p3 p4 p5
  obtain ⟨p0, p1, p2, p3, p4, p5⟩ := stage_11 _ _ p0 p1 p2 p3 p4 p5 p6
  obtain ⟨p0, p1, p2, p3, p4, p5⟩ := stage_12 _ _ p0 p1 p2 p3 p4 p5
  obtain ⟨p0, p1, p2, p3, p4, p5, p6⟩ := stage_13 _ _ p0 p1 p2 p3 p4 p5
  obtain ⟨p0, p1, p2, p3, p4⟩ := stage_14 _ _ p0 p1 p2 p3 p4 p5 p6
  exact stage_15 _ _ p0 p1 p2 p3 p4

end any

end Cert.MoeUpIdeal.Run
-- ==== Proof.MoeUp.Tables.lean ====
module

public import proofs.«01_k».proof.Proof.MoeUp.Host
public import Idealize.ShloMosaic.Lib.Routing.Ops
public import Idealize.ShloMosaic.Lib.Routing.OpsSet
public import Idealize.ShloMosaic.Lib.Routing.Words
public import Idealize.ShloMosaic.Lib.StableHlo.Predicate
public import Idealize.ShloMosaic.Lib.WordArith

@[expose] public section

set_option maxRecDepth 16384

noncomputable section

namespace Cert.MoeUpIdeal.Blk

open Cert.MoeUpIdeal Cert.MoeUpIdeal.Gen
open Idealize.ShloMosaic Idealize.ShloMosaic.TcCoe Idealize.ShloMosaic.ValueIdx Idealize.SL.Sem
open Idealize.ShloMosaic.StableHlo.Predicate

/-! ## The numbers -/

section numbers
variable (n : ℕ → ℕ)

/-- The blocks of the first `j` experts. -/
def upTo (j : ℕ) : ℕ := ((List.range j).map n).sum

theorem upTo_succ (j : ℕ) : upTo n (j + 1) = upTo n j + n j := by
  simp [upTo, List.range_succ]

theorem upTo_mono {i j : ℕ} (h : i ≤ j) : upTo n i ≤ upTo n j := by
  induction h with
  | refl => exact le_rfl
  | step _ ih => rw [upTo_succ]; omega

/-- The expert of block `b`. -/
def exOf (b : ℕ) : ℕ := Nat.count (fun q => upTo n (q + 1) ≤ b) 32

/-- Counting where a condition holds up to some place and not after. -/
theorem count_iff (P : ℕ → Prop) [DecidablePred P] (h : ∀ q, P (q + 1) → P q) (N : ℕ) : ∀ q, q < N → (P q ↔ q < Nat.count P N) := by
  have down : ∀ a b, a ≤ b → P b → P a := fun a b hab => by
    induction hab with
    | refl => exact id
    | step _ ih => exact fun hb => ih (h _ hb)
  induction N with
  | zero => intro q hq; omega
  | succ N ih =>
    intro q hq
    rw [Nat.count_succ]
    by_cases hN : P N
    · rw [if_pos hN]
      have hc : Nat.count P N = N := Nat.count_iff_forall.mpr fun a ha => down a N (le_of_lt ha) hN
      exact ⟨fun _ => by omega, fun _ => down q N (by omega) hN⟩
    · rw [if_neg hN, Nat.add_zero]
      by_cases hq' : q < N
      · exact ih q hq'
      · obtain rfl : q = N := by omega
        have := Nat.count_le (p := P) (n := q)
        exact ⟨fun e => absurd e hN, fun e => absurd e (by omega)⟩

theorem exOf_iff (b q : ℕ) (hq : q < 32) : upTo n (q + 1) ≤ b ↔ q < exOf n b :=
  count_iff (fun q => upTo n (q + 1) ≤ b) (fun q hq => le_trans (upTo_mono n (by omega)) hq) 32 q hq

/-- A block in use has an expert, and lies among its blocks. -/
theorem exOf_spec (b : ℕ) (hb : b < upTo n 32) : exOf n b < 32 ∧ upTo n (exOf n b) ≤ b ∧ b < upTo n (exOf n b + 1) := by
  have h32 : exOf n b < 32 := by
    by_contra h
    have h31 : upTo n 32 ≤ b := (exOf_iff n b 31 (by omega)).mpr (by omega)
    omega
  refine ⟨h32, ?_, ?_⟩
  · rcases Nat.eq_zero_or_pos (exOf n b) with h | h
    · rw [h]; simp [upTo]
    · have := (exOf_iff n b (exOf n b - 1) (by omega)).mpr (by omega)
      rwa [Nat.sub_add_cancel h] at this
  · by_contra h
    have := (exOf_iff n b (exOf n b) h32).mp (by omega)
    omega

/-- The expert among whose blocks a block lies is its expert. -/
theorem exOf_eq (b e : ℕ) (he : e < 32) (h₁ : upTo n e ≤ b) (h₂ : b < upTo n (e + 1)) : exOf n b = e := by
  have hb : b < upTo n 32 := lt_of_lt_of_le h₂ (upTo_mono n (by omega))
  obtain ⟨h32, h3, h4⟩ := exOf_spec n b hb
  rcases Nat.lt_trichotomy (exOf n b) e with h | h | h
  · have := upTo_mono n (show exOf n b + 1 ≤ e by omega); omega
  · exact h
  · have := upTo_mono n (show e + 1 ≤ exOf n b by omega); omega

/-- The point, or the last one with a block in use. -/
def pt (s : ℕ) : ℕ := min s (4 * upTo n 32 - 1)
/-- The point's expert, its place among the expert's points, its column block of the weights and its row block among the expert's. -/
def ex (s : ℕ) : ℕ := exOf n (pt n s / 4)
def pl (s : ℕ) : ℕ := pt n s - 4 * upTo n (ex n s)
def col (s : ℕ) : ℕ := pl n s / n (ex n s)
def rowI (s : ℕ) : ℕ := pl n s % n (ex n s)
/-- The blocks of the result. -/
def row (s : ℕ) : ℕ := if s < 4 * upTo n 32 then upTo n (ex n s) + rowI n s else upTo n 32 + (s - 4 * upTo n 32) / 4
def out (s : ℕ) : ℕ := if s < 4 * upTo n 32 then col n s else (s - 4 * upTo n 32) % 4

variable (hT : 1 ≤ upTo n 32)
include hT

theorem ex_spec (s : ℕ) : ex n s < 32 ∧ 4 * upTo n (ex n s) ≤ pt n s ∧ pt n s < 4 * upTo n (ex n s) + 4 * n (ex n s) := by
  have h : pt n s / 4 < upTo n 32 := by unfold pt; omega
  obtain ⟨a, b, c⟩ := exOf_spec n (pt n s / 4) h
  rw [upTo_succ] at c
  unfold ex
  omega

theorem n_pos (s : ℕ) : 0 < n (ex n s) := by
  have := ex_spec n hT s; omega

theorem pl_lt (s : ℕ) : pl n s < 4 * n (ex n s) := by
  have := ex_spec n hT s; unfold pl; omega

theorem col_lt (s : ℕ) : col n s < 4 := by
  unfold col
  rw [Nat.div_lt_iff_lt_mul (n_pos n hT s)]
  exact pl_lt n hT s

theorem rowI_lt (s : ℕ) : rowI n s < n (ex n s) := Nat.mod_lt _ (n_pos n hT s)

theorem out_lt (s : ℕ) : out n s < 4 := by
  unfold out; split
  · exact col_lt n hT s
  · omega

/-- The row block of a point in use is in use, and of the point's expert. -/
theorem row_use (s : ℕ) (hs : s < 4 * upTo n 32) : row n s < upTo n 32 ∧ exOf n (row n s) = ex n s := by
  have h1 := rowI_lt n hT s
  have h2 := ex_spec n hT s
  have h3 := upTo_mono n (show ex n s + 1 ≤ 32 by omega)
  rw [upTo_succ] at h3
  unfold row
  rw [if_pos hs]
  exact ⟨by omega, exOf_eq n _ _ h2.1 (by omega) (by rw [upTo_succ]; omega)⟩

theorem row_lt (h97 : upTo n 32 ≤ 97) (s : ℕ) (hs : s < 388) : row n s < 97 := by
  by_cases h : s < 4 * upTo n 32
  · have := (row_use n hT s h).1; omega
  · unfold row; rw [if_neg h]; omega

/-- A point that is not the first of its column block has the point before's expert and column block. -/
theorem before (s : ℕ) (hs : s < 4 * upTo n 32) (h : rowI n s ≠ 0) : ∃ s', s' + 1 = s ∧ ex n s' = ex n s ∧ col n s' = col n s := by
  have h2 := ex_spec n hT s
  have hp : pl n s ≠ 0 := fun e => h (by unfold rowI; rw [e]; simp)
  have hpt : pt n s = s := by unfold pt; omega
  have hs0 : s ≠ 0 := by
    rintro rfl; apply hp; unfold pl; omega
  have hpt' : pt n (s - 1) = s - 1 := by unfold pt; omega
  have hex : ex n (s - 1) = ex n s := by
    unfold pl at hp
    rw [hpt] at h2 hp
    show exOf n (pt n (s - 1) / 4) = _
    rw [hpt']
    exact exOf_eq n _ _ h2.1 (by omega) (by rw [upTo_succ]; omega)
  refine ⟨s - 1, by omega, hex, ?_⟩
  have hpl : pl n (s - 1) + 1 = pl n s := by
    unfold pl at hp ⊢; rw [hpt', hex]; rw [hpt] at hp ⊢; omega
  unfold col rowI at *
  rw [hex]
  have hn := n_pos n hT s
  have e := Nat.div_add_mod (pl n s) (n (ex n s))
  have hm := Nat.mod_lt (pl n s) hn
  refine (Nat.div_eq_iff hn).mpr ?_
  rw [Nat.mul_comm (pl n s / n (ex n s))]
  constructor
  all_goals omega

/-- Every block of the result is some point's. -/
theorem covers (h97 : upTo n 32 ≤ 97) (b o : ℕ) (hb : b < 97) (ho : o < 4) : ∃ s, s < 388 ∧ row n s = b ∧ out n s = o := by
  by_cases h : b < upTo n 32
  · obtain ⟨h32, h1, h2⟩ := exOf_spec n b h
    generalize exOf n b = e at *
    have h3 := upTo_mono n (show e + 1 ≤ 32 by omega)
    rw [upTo_succ] at h2 h3
    have hoe : o * n e ≤ 3 * n e := Nat.mul_le_mul_right _ (by omega)
    have hlt : 4 * upTo n e + o * n e + (b - upTo n e) < 4 * upTo n 32 := by omega
    have hpt : pt n (4 * upTo n e + o * n e + (b - upTo n e)) = 4 * upTo n e + o * n e + (b - upTo n e) := by unfold pt; omega
    have hex : ex n (4 * upTo n e + o * n e + (b - upTo n e)) = e := by
      unfold ex; rw [hpt]
      exact exOf_eq n _ _ h32 (by omega) (by rw [upTo_succ]; omega)
    have hpl : pl n (4 * upTo n e + o * n e + (b - upTo n e)) = n e * o + (b - upTo n e) := by
      unfold pl; rw [hex, hpt, Nat.mul_comm (n e)]; omega
    refine ⟨4 * upTo n e + o * n e + (b - upTo n e), by omega, ?_, ?_⟩
    · unfold row rowI
      rw [if_pos hlt, hex, hpl, Nat.mul_add_mod, Nat.mod_eq_of_lt (by omega)]; omega
    · unfold out col
      rw [if_pos hlt, hex, hpl, Nat.mul_add_div (by omega), Nat.div_eq_of_lt (by omega)]; omega
  · refine ⟨4 * b + o, by omega, ?_, ?_⟩
    · unfold row; rw [if_neg (by omega)]; omega
    · unfold out; rw [if_neg (by omega)]; omega

end numbers

end Cert.MoeUpIdeal.Blk

namespace Cert.MoeUpIdeal.Run

open Cert.MoeUpIdeal Cert.MoeUpIdeal.Gen
open Idealize.ShloMosaic Idealize.ShloMosaic.TcCoe Idealize.ShloMosaic.ValueIdx Idealize.SL.Sem
open Idealize.ShloMosaic.StableHlo.Predicate
open Cert.MoeUpIdeal.Blk (upTo pt ex pl col rowI exOf)

/-! ## The words -/

theorem spread_at (v : IVec S_ 32) (i : S388.Idx) : spread v i = v ValueIdx.ix0 := Routing.bc0 _ _ _
theorem const_at (w : BitVec 32) (i : S388.Idx) : const w i = w := (spread_at _ _).trans rfl

theorem bit_cases (c : BitVec 1) : c = 0#1 ∨ c = 1#1 := BitVec.eq_zero_or_eq_one c

theorem toNat_small {a : ℕ} (h : a < 2 ^ 31) : (BitVec.ofNat 32 a).toNat = a := by
  rw [BitVec.toNat_ofNat, Nat.mod_eq_of_lt (by omega)]

theorem slt_zero {a : ℕ} (h : a < 2 ^ 31) : IntOp.cmpi .slt (BitVec.ofNat 32 a) 0#32 = 0#1 := by
  apply eq_zero_of_ne_one
  intro e
  have := (slt_iff_toNat (by rw [toNat_small h]; exact h) (by decide)).mp e
  exact absurd this (Nat.not_lt_zero _)

theorem floorDiv_at (a b : IVec S388 32) (i : S388.Idx) {p q : ℕ} (ha : a i = BitVec.ofNat 32 p) (hb : b i = BitVec.ofNat 32 q) (hp : p < 2 ^ 31) (hq : 0 < q) (hq' : q < 2 ^ 31) :
    floorDiv a b i = BitVec.ofNat 32 (p / q) := by
  have hd : Host.divsi a b i = BitVec.ofNat 32 (p / q) := by
    show IntOp.divsi .host (a i) (b i) = _; rw [ha, hb]; exact Routing.divsi_word _ hp hq hq'
  have hr : Host.remsi a b i = BitVec.ofNat 32 (p % q) := by
    show IntOp.remsi .host (a i) (b i) = _; rw [ha, hb]; exact Routing.remsi_word _ hp hq hq'
  have hc : (IntOp.cmpi .ne (signi a i) (signi b i) &&& IntOp.cmpi .ne (Host.remsi a b i) (const 0#32 i)) ≠ 1#1 := by
    rw [hr, const_at]
    have hsb : signi b i = 1 := by
      show (if b i = 0 then _ else _) = _
      rw [hb, if_neg (Routing.ofNat32_ne_zero hq (by omega)), Routing.msb_ofNat32 hq']; rfl
    rcases Nat.eq_zero_or_pos p with rfl | h
    · rw [Nat.zero_mod]; intro e
      rcases bit_cases (IntOp.cmpi .ne (signi a i) (signi b i)) with h | h <;> rw [h] at e <;> revert e <;> decide
    · have hsa : signi a i = 1 := by
        show (if a i = 0 then _ else _) = _
        rw [ha, if_neg (Routing.ofNat32_ne_zero h (by omega)), Routing.msb_ofNat32 hp]; rfl
      rw [hsa, hsb]; intro e
      rcases bit_cases (IntOp.cmpi .ne (BitVec.ofNat 32 (p % q)) 0#32) with h | h <;> rw [h] at e <;> revert e <;> decide
  exact (if_neg hc).trans hd

theorem remDown_at (a b : IVec S388 32) (i : S388.Idx) {p q : ℕ} (ha : a i = BitVec.ofNat 32 p) (hb : b i = BitVec.ofNat 32 q) (hp : p < 2 ^ 31) (hq : 0 < q) (hq' : q < 2 ^ 31) :
    remDown a b i = BitVec.ofNat 32 (p % q) := by
  have hr : Host.remsi a b i = BitVec.ofNat 32 (p % q) := by
    show IntOp.remsi .host (a i) (b i) = _; rw [ha, hb]; exact Routing.remsi_word _ hp hq hq'
  have hc : (IntOp.cmpi .ne (IntOp.cmpi .slt (Host.remsi a b i) (const 0#32 i)) (IntOp.cmpi .slt (b i) (const 0#32 i))
      &&& IntOp.cmpi .ne (Host.remsi a b i) (const 0#32 i)) ≠ 1#1 := by
    rw [hr, const_at, hb, slt_zero (lt_of_le_of_lt (Nat.mod_le _ _) hp), slt_zero hq']
    intro e
    rcases bit_cases (IntOp.cmpi .ne (BitVec.ofNat 32 (p % q)) 0#32) with h | h <;> rw [h] at e <;> revert e <;> decide
  exact (if_neg hc).trans hr

section words
variable (x : IVec S32 32) (n : ℕ → ℕ) (hx : ∀ i : Fin 32, x (ix1 i) = BitVec.ofNat 32 (n i.val)) (hT : 1 ≤ upTo n 32) (h97 : upTo n 32 ≤ 97)
include hx

theorem cums_at (j : Fin 32) : cums x (ix1 j) = BitVec.ofNat 32 (upTo n (j.val + 1)) :=
  Routing.cumsum1 rfl x n hx _ ((Routing.bc0 _ _ _).trans rfl) _ _ j

theorem firsts_at (j : Fin 32) : firsts x (ix1 j) = BitVec.ofNat 32 (upTo n j.val) := by
  show cums x (ix1 j) - x (ix1 j) = _
  rw [cums_at x n hx, hx, Blk.upTo_succ, BitVec.ofNat_add, BitVec.add_sub_cancel]

theorem total_at : total x ValueIdx.ix0 = BitVec.ofNat 32 (upTo n 32) := Routing.reduce_sum x n hx _ _

theorem items_at : items x ValueIdx.ix0 = BitVec.ofNat 32 (4 * upTo n 32) := by
  show total x ValueIdx.ix0 * 4#32 = _
  rw [total_at x n hx, Nat.mul_comm, BitVec.ofNat_mul]

theorem iotas_at (s : Fin 388) : iotas (ix1 s) = BitVec.ofNat 32 s.val := rfl

include hT h97

theorem live_at (s : Fin 388) : live x (ix1 s) = 1#1 ↔ s.val < 4 * upTo n 32 := by
  show IntOp.cmpi .slt (BitVec.ofNat 32 s.val) (spread (items x) (ix1 s)) = 1#1 ↔ _
  rw [spread_at, items_at x n hx, slt_iff_toNat (by rw [toNat_small] <;> omega) (by rw [toNat_small] <;> omega), toNat_small (by omega), toNat_small (by omega)]

theorem item_at (s : Fin 388) : item x (ix1 s) = BitVec.ofNat 32 (pt n s.val) := by
  show IntOp.minsi (BitVec.ofNat 32 s.val) (spread (subi (items x) (constantI S_ 32 1#32)) (ix1 s)) = _
  rw [spread_at]
  have e : subi (items x) (constantI S_ 32 1#32) ValueIdx.ix0 = BitVec.ofNat 32 (4 * upTo n 32 - 1) := by
    show items x ValueIdx.ix0 - 1#32 = _
    rw [items_at x n hx, show 4 * upTo n 32 = (4 * upTo n 32 - 1) + 1 by omega, BitVec.ofNat_add, BitVec.add_sub_cancel, Nat.add_sub_cancel]
  rw [e]
  apply BitVec.eq_of_toNat_eq
  have hp : pt n s.val = min s.val (4 * upTo n 32 - 1) := rfl
  rw [WordArith.toNat_minsi_of_lt _ _ (by rw [toNat_small] <;> omega) (by rw [toNat_small] <;> omega), toNat_small (by omega), toNat_small (by omega), toNat_small (by omega), hp]

theorem ended_at (s : Fin 388) (q : Fin 32) : ended x (ix2 s q) = 1#1 ↔ upTo n (q.val + 1) ≤ pt n s.val / 4 := by
  have hq := Blk.upTo_mono n (show q.val + 1 ≤ 32 by omega)
  have hp : pt n s.val = min s.val (4 * upTo n 32 - 1) := rfl
  show IntOp.cmpi .sle (broadcastInDim S388x32 ![0, 1] bcast_S1x32_S388x32_0_1 (broadcastInDim S1x32 ![1] bcast_S32_S1x32_1
      (muli (cums x) (broadcastInDim S32 ![] bcast_S_S32 (constantI S_ 32 4#32)))) (ix2 s q))
    (broadcastInDim S388x32 ![0, 1] bcast_S388x1_S388x32_0_1 (broadcastInDim S388x1 ![0] bcast_S388_S388x1_0 (item x)) (ix2 s q)) = 1#1 ↔ _
  have e1 : broadcastInDim S388x32 ![0, 1] bcast_S1x32_S388x32_0_1 (broadcastInDim S1x32 ![1] bcast_S32_S1x32_1
      (muli (cums x) (broadcastInDim S32 ![] bcast_S_S32 (constantI S_ 32 4#32)))) (ix2 s q) = BitVec.ofNat 32 (upTo n (q.val + 1) * 4) := by
    refine (Routing.bcCols _ _ _ s q).trans ?_
    show cums x (ix1 q) * broadcastInDim S32 ![] bcast_S_S32 (constantI S_ 32 4#32) (ix1 q) = _
    rw [show broadcastInDim S32 ![] bcast_S_S32 (constantI S_ 32 4#32) (ix1 q) = 4#32 from (Routing.bc0 _ _ _).trans rfl, cums_at x n hx, BitVec.ofNat_mul]
  have e2 : broadcastInDim S388x32 ![0, 1] bcast_S388x1_S388x32_0_1 (broadcastInDim S388x1 ![0] bcast_S388_S388x1_0 (item x)) (ix2 s q) = BitVec.ofNat 32 (pt n s.val) :=
    (Routing.bcRows _ _ _ s q).trans (item_at x n hx hT h97 s)
  rw [e1, e2, sle_iff_toNat (by rw [toNat_small] <;> omega) (by rw [toNat_small] <;> omega), toNat_small (by omega), toNat_small (by omega)]
  omega

theorem expert_at (s : Fin 388) : expert x (ix1 s) = BitVec.ofNat 32 (ex n s.val) := by
  have hE := (Blk.ex_spec n hT s.val).1
  show IntOp.minsi (Host.reduce IntOp.addi (extui 32 (ended x) natLt_1_32) (constantI S_ 32 0#32) reducesTo_S388x32_S388_d1 h_S_ (ix1 s)) (const 31#32 (ix1 s)) = _
  have e : Host.reduce IntOp.addi (extui 32 (ended x) natLt_1_32) (constantI S_ 32 0#32) reducesTo_S388x32_S388_d1 h_S_ (ix1 s) = BitVec.ofNat 32 (ex n s.val) :=
    Routing.reduce_count (by omega) _ _ _ _ s (fun q => upTo n (q + 1) ≤ pt n s.val / 4) (ended_at x n hx hT h97 s)
  rw [e, const_at]
  apply BitVec.eq_of_toNat_eq
  rw [WordArith.toNat_minsi_of_lt _ _ (by rw [toNat_small] <;> omega) (by decide), toNat_small (by omega)]
  show min _ 31 = _
  omega

theorem look_at (y : IVec S32 32) (s : Fin 388) : look x y (ix1 s) = y (ix1 ⟨ex n s.val, (Blk.ex_spec n hT s.val).1⟩) := by
  have hE := (Blk.ex_spec n hT s.val).1
  refine Routing.gather_take1 _ rfl rfl rfl rfl y _ s ⟨ex n s.val, hE⟩ ?_ (by decide)
  refine (Routing.bcCol _ _ s).trans ?_
  show (if IntOp.cmpi .slt (expert x (ix1 s)) (const 0#32 (ix1 s)) = 1#1 then _ else expert x (ix1 s)) = _
  rw [expert_at x n hx hT h97, const_at, slt_zero (by omega), if_neg (by decide)]

theorem place_at (s : Fin 388) : place x (ix1 s) = BitVec.ofNat 32 (pl n s.val) := by
  have hE := Blk.ex_spec n hT s.val
  have hl : pt n s.val = pl n s.val + upTo n (ex n s.val) * 4 := by unfold pl; omega
  have e1 : look x (firsts x) (ix1 s) = BitVec.ofNat 32 (upTo n (ex n s.val)) := (look_at x n hx hT h97 _ s).trans (firsts_at x n hx _)
  show item x (ix1 s) - look x (firsts x) (ix1 s) * const 4#32 (ix1 s) = _
  rw [item_at x n hx hT h97, e1, const_at, hl, BitVec.ofNat_add, BitVec.ofNat_mul, BitVec.add_sub_cancel]

theorem n_le (s : ℕ) : n (ex n s) ≤ 97 := by
  have hE := Blk.ex_spec n hT s
  have := Blk.upTo_mono n (show ex n s + 1 ≤ 32 by omega)
  rw [Blk.upTo_succ] at this
  omega

theorem width_at (s : Fin 388) : width x (ix1 s) = BitVec.ofNat 32 (n (ex n s.val)) := by
  have hn := Blk.n_pos n hT s.val
  have hn' := n_le x n hx hT h97 s.val
  show (if (const 1#32 (ix1 s)).slt (look x x (ix1 s)) then look x x (ix1 s) else const 1#32 (ix1 s)) = _
  rw [look_at x n hx hT h97, hx, const_at]
  split
  · rfl
  · rename_i h
    have : ¬ (1#32).toNat < (BitVec.ofNat 32 (n (ex n s.val))).toNat := fun e => h (by
      have := (slt_iff_toNat (a := 1#32) (b := BitVec.ofNat 32 (n (ex n s.val))) (by decide) (by rw [toNat_small] <;> omega)).mpr e
      by_contra h'
      exact absurd this (by unfold IntOp.cmpi; simp only [Bool.not_eq_true] at h'; simp only [h']; decide))
    rw [toNat_small (by omega)] at this
    rw [show n (ex n s.val) = 1 by simp at this; omega]

theorem colTbl_at (s : Fin 388) : colTbl x (ix1 s) = BitVec.ofNat 32 (col n s.val) := by
  have hn := Blk.n_pos n hT s.val
  have hn' := n_le x n hx hT h97 s.val
  have hl := Blk.pl_lt n hT s.val
  exact floorDiv_at _ _ _ (place_at x n hx hT h97 s) (width_at x n hx hT h97 s) (by omega) hn (by omega)

theorem rowIn_at (s : Fin 388) : rowIn x (ix1 s) = BitVec.ofNat 32 (rowI n s.val) := by
  have hn := Blk.n_pos n hT s.val
  have hn' := n_le x n hx hT h97 s.val
  have hl := Blk.pl_lt n hT s.val
  refine remDown_at _ _ _ (place_at x n hx hT h97 s) ?_ (by omega) hn (by omega)
  have hne : width x (ix1 s) ≠ const 0#32 (ix1 s) := by
    rw [width_at x n hx hT h97, const_at]; exact Routing.ofNat32_ne_zero hn (by omega)
  have : IntOp.cmpi .eq (width x (ix1 s)) (const 0#32 (ix1 s)) ≠ 1#1 := fun e => hne (cmpi_eq_iff.mp e)
  exact (if_neg this).trans (width_at x n hx hT h97 s)

theorem spare_at (s : Fin 388) (hs : ¬ s.val < 4 * upTo n 32) : spare x (ix1 s) = BitVec.ofNat 32 (s.val - 4 * upTo n 32) := by
  show BitVec.ofNat 32 s.val - spread (items x) (ix1 s) = _
  rw [spread_at, items_at x n hx]
  conv_lhs => rw [show s.val = (s.val - 4 * upTo n 32) + 4 * upTo n 32 by omega]
  rw [BitVec.ofNat_add, BitVec.add_sub_cancel]

theorem rowTbl_at (s : Fin 388) : rowTbl x (ix1 s) = BitVec.ofNat 32 (Blk.row n s.val) := by
  have hs := live_at x n hx hT h97 s
  unfold Blk.row
  by_cases h : s.val < 4 * upTo n 32
  · rw [if_pos h]
    refine (if_pos (hs.mpr h)).trans ?_
    show look x (firsts x) (ix1 s) + rowIn x (ix1 s) = _
    rw [look_at x n hx hT h97, firsts_at x n hx, rowIn_at x n hx hT h97, BitVec.ofNat_add]
  · rw [if_neg h]
    refine (if_neg fun e => h (hs.mp e)).trans ?_
    show spread (total x) (ix1 s) + floorDiv (spare x) (const 4#32) (ix1 s) = _
    rw [spread_at, total_at x n hx, floorDiv_at _ _ _ (spare_at x n hx hT h97 s h) (const_at 4#32 _) (by omega) (by omega) (by omega), BitVec.ofNat_add]

theorem outTbl_at (s : Fin 388) : outTbl x (ix1 s) = BitVec.ofNat 32 (Blk.out n s.val) := by
  have hs := live_at x n hx hT h97 s
  unfold Blk.out
  by_cases h : s.val < 4 * upTo n 32
  · rw [if_pos h]
    exact (if_pos (hs.mpr h)).trans (colTbl_at x n hx hT h97 s)
  · rw [if_neg h]
    refine (if_neg fun e => h (hs.mp e)).trans ?_
    exact remDown_at _ _ _ (spare_at x n hx hT h97 s h) (const_at 4#32 _) (by omega) (by omega) (by omega)

theorem flagTbl_at (s : Fin 388) : flagTbl x (ix1 s) = if s.val < 4 * upTo n 32 then (if rowI n s.val = 0 then 3#32 else 2#32) else 0#32 := by
  have hs := live_at x n hx hT h97 s
  have hn := Blk.n_pos n hT s.val
  have hn' := n_le x n hx hT h97 s.val
  have hr := Blk.rowI_lt n hT s.val
  by_cases h : s.val < 4 * upTo n 32
  · rw [if_pos h]
    refine (if_pos (hs.mpr h)).trans ?_
    show const 2#32 (ix1 s) + (IntOp.cmpi .eq (rowIn x (ix1 s)) (const 0#32 (ix1 s))).setWidth 32 = _
    rw [const_at, const_at, rowIn_at x n hx hT h97]
    by_cases h0 : rowI n s.val = 0
    · rw [if_pos h0, h0]; rfl
    · have e0 : IntOp.cmpi .eq (BitVec.ofNat 32 (rowI n s.val)) 0#32 = 0#1 :=
        eq_zero_of_ne_one fun e => Routing.ofNat32_ne_zero (by omega) (by omega) (cmpi_eq_iff.mp e)
      rw [if_neg h0, e0]; rfl
  · rw [if_neg h]
    exact (if_neg fun e => h (hs.mp e)).trans (const_at _ _)

end words

end Cert.MoeUpIdeal.Run
-- ==== Proof.MoeUp.Grid.lean ====
module

public import proofs.«01_k».proof.Proof.MoeUp.Tables
public import Idealize.ShloMosaic.Lib.Pipeline.ValueKit

@[expose] public section

set_option maxRecDepth 16384

noncomputable section

namespace Cert.MoeUpIdeal.Run

open Cert.MoeUpIdeal Cert.MoeUpIdeal.Gen
open Idealize.ShloMosaic Idealize.ShloMosaic.TcCoe Idealize.SL.Sem
open Cert.MoeUpIdeal.Blk (upTo pt ex pl col rowI exOf)

variable {F : FTy → Type} [FloatOps F]

/-! ## Reading the tables -/

theorem off_eq (i : grid0.Coords) : k0_off1 i = ![(i 0).val] := by
  have h : (i 0).val < 388 := (i 0).isLt
  unfold k0_off1
  simp only [Scalar.indexCast, BitVec.toNat_ofNat]
  rw [Nat.mod_eq_of_lt (by omega)]

/-- A point's place among the 388. -/
def pnt (i : grid0.Coords) : Fin 388 := ⟨(i 0).val, (i 0).isLt⟩
theorem pnt_val (i : grid0.Coords) : (pnt i).val = (i 0).val := rfl

theorem pick (i : grid0.Coords) (off : Fin 1 → ℕ) (ho : off = k0_off1 i) (h : ∀ a, off a + S1.size a ≤ S388.size a) (y : (Rect.unit (s := S388) off S1.size h).shape.Idx) :
    (Rect.unit (s := S388) off S1.size h).emb y = (ValueIdx.ix1 (pnt i) : S388.Idx) := by
  subst ho
  funext a
  apply Fin.ext
  fin_cases a
  have hy : (y 0).val < 1 := (y 0).isLt
  have ho : k0_off1 i 0 = (i 0).val := by rw [off_eq]; rfl
  show k0_off1 i 0 + 1 * (y 0).val = (i 0).val
  omega

/-- A point's number. -/
theorem coords_val : ∀ t : Fin grid0.N, (grid0.coords t 0).val = t.val := by decide +kernel

variable (m : (ℓ : Loc nD τ sig) → Buf (Elt F) ℓ)

section tables
variable (i : grid0.Coords)

theorem tbl_row (r : Rect S388) (h1) (hr : ∀ y, r.emb y = (ValueIdx.ix1 (pnt i) : S388.Idx)) : (tbl m).at 0 r h1 = rowTbl (nblk m 0) (ValueIdx.ix1 (pnt i)) := by
  refine (congrArg (tbl m 0) (hr _)).trans ?_
  exact congrFun (V_tables m 0).2.2.1 _
theorem tbl_out (r : Rect S388) (h1) (hr : ∀ y, r.emb y = (ValueIdx.ix1 (pnt i) : S388.Idx)) : (tbl m).at 1 r h1 = outTbl (nblk m 0) (ValueIdx.ix1 (pnt i)) := by
  refine (congrArg (tbl m 1) (hr _)).trans ?_
  exact congrFun (V_tables m 0).2.2.2.1 _
theorem tbl_expert (r : Rect S388) (h1) (hr : ∀ y, r.emb y = (ValueIdx.ix1 (pnt i) : S388.Idx)) : (tbl m).at 2 r h1 = expert (nblk m 0) (ValueIdx.ix1 (pnt i)) := by
  refine (congrArg (tbl m 2) (hr _)).trans ?_
  exact congrFun (V_tables m 0).1 _
theorem tbl_col (r : Rect S388) (h1) (hr : ∀ y, r.emb y = (ValueIdx.ix1 (pnt i) : S388.Idx)) : (tbl m).at 3 r h1 = colTbl (nblk m 0) (ValueIdx.ix1 (pnt i)) := by
  refine (congrArg (tbl m 3) (hr _)).trans ?_
  exact congrFun (V_tables m 0).2.1 _

theorem flagOf_eq (c : Dev nD) : flagOf c i (tbl m 4) = flagTbl (nblk m 0) (ValueIdx.ix1 (pnt i)) := by
  refine (congrArg (tbl m 4) (pick i _ rfl _ _)).trans ?_
  exact congrFun (V_tables m 0).2.2.2.2 _

end tables

/-- Two places of a matrix with the same row and column are one; likewise with four coordinates. -/
theorem ix2_ext {A B : ℕ} {e : (⟨2, ![A, B]⟩ : Shape).Idx} {p : Fin A} {q : Fin B} (h0 : (e 0).val = p.val) (h1 : (e 1).val = q.val) : e = ix2 p q := by
  funext a
  apply Fin.ext
  fin_cases a
  exacts [h0, h1]
theorem ix4_ext {A B C D : ℕ} {e : (⟨4, ![A, B, C, D]⟩ : Shape).Idx} {p : Fin A} {q : Fin B} {r : Fin C} {s : Fin D} (h0 : (e 0).val = p.val) (h1 : (e 1).val = q.val)
    (h2 : (e 2).val = r.val) (h3 : (e 3).val = s.val) : e = ix4 p q r s := by
  funext a
  apply Fin.ext
  fin_cases a
  exacts [h0, h1, h2, h3]

/-- Row `r` of row block `R`, and column `k` of column block `C`. -/
def rowIx (R : Fin 97) (r : Fin 512) : Fin 49664 := ⟨R.val * 512 + r.val, by omega⟩
def colIx (C : Fin 4) (k : Fin 512) : Fin 2048 := ⟨C.val * 512 + k.val, by omega⟩

/-- A row block of the input, a column block of an expert's weights, and one of its biases. -/
def xBlk {α : Type} (X : S49664x4096.Idx → α) (R : Fin 97) : S512x4096.Idx → α := fun y => X (ix2 (rowIx R (y 0)) (y 1))
def wBlk {α : Type} (X : S2x32x4096x2048.Idx → α) (E : Fin 32) (C : Fin 4) : S1x1x4096x512.Idx → α := fun y => X (ix4 0 E (y 2) (colIx C (y 3)))
def bBlk {α : Type} (X : S2x32x1x2048.Idx → α) (E : Fin 32) (C : Fin 4) : S1x1x1x512.Idx → α := fun y => X (ix4 0 E 0 (colIx C (y 3)))

/-! A window's block index, as printed. -/
section windows
variable (a : (pcfg0 (F := F)).Adm) (t : Fin (cfg0 a).N)
theorem index0 : (win0 a 0).index t = cc0_transform_0 k0_off1_inb numel1_S1 a.1 (grid0.coords t) := rfl
theorem index1 : (win0 a 1).index t = cc0_transform_1 k0_off1_inb numel1_S1 a.1 (grid0.coords t) := rfl
theorem index2 : (win0 a 2).index t = cc0_transform_2 k0_off1_inb numel1_S1 a.1 (grid0.coords t) := rfl
theorem index3 : (win0 a 3).index t = cc0_transform_3 k0_off1_inb numel1_S1 a.1 (grid0.coords t) := rfl
theorem index4 : (win0 a 4).index t = cc0_transform_4 k0_off1_inb numel1_S1 a.1 (grid0.coords t) := rfl
theorem index5 : (win0 a 5).index t = cc0_transform_5 k0_off1_inb numel1_S1 a.1 (grid0.coords t) := rfl

/-! A window's block as entries of its array, by the block's index. -/

theorem emb5 {R : Fin 97} {C : Fin 4} (hi : (win0 a 5).index t = ![R.val, C.val]) (r k : Fin 512) :
    ((win0 a 5).blk t).view.emb (ix2 r k : S512x512.Idx) = (ix2 (rowIx R r) (colIx C k) : S49664x2048.Idx) :=
  ix2_ext (by blk_simp [hi]; rfl) (by blk_simp [hi]; rfl)

theorem rd0 {R : Fin 97} (hi : (win0 a 0).index t = ![R.val, 0]) (X : S49664x4096.Idx → Elt F .bf16) :
    (((win0 a 0).blk t).view.read (Elt F) X : S512x4096.Idx → Elt F .bf16) = xBlk X R := by
  funext y
  refine congrArg X ?_
  refine ix2_ext ?_ ?_
  · blk_simp [hi]; rfl
  · blk_simp [hi]
theorem rd1 {E : Fin 32} {C : Fin 4} (hi : (win0 a 1).index t = ![0, E.val, 0, C.val]) (X : S2x32x4096x2048.Idx → Elt F .f32) :
    (((win0 a 1).blk t).view.read (Elt F) X : S1x1x4096x512.Idx → Elt F .f32) = wBlk X E C := by
  funext y
  refine congrArg X ?_
  refine ix4_ext ?_ ?_ ?_ ?_
  · blk_simp [hi]; try rfl
  · blk_simp [hi]; try rfl
  · blk_simp [hi]; try rfl
  · blk_simp [hi]; try rfl
theorem rd2 {E : Fin 32} {C : Fin 4} (hi : (win0 a 2).index t = ![0, E.val, 0, C.val]) (X : S2x32x4096x2048.Idx → Elt F .f32) :
    (((win0 a 2).blk t).view.read (Elt F) X : S1x1x4096x512.Idx → Elt F .f32) = wBlk X E C := by
  funext y
  refine congrArg X ?_
  refine ix4_ext ?_ ?_ ?_ ?_
  · blk_simp [hi]; try rfl
  · blk_simp [hi]; try rfl
  · blk_simp [hi]; try rfl
  · blk_simp [hi]; try rfl
theorem rd3 {E : Fin 32} {C : Fin 4} (hi : (win0 a 3).index t = ![0, E.val, 0, C.val]) (X : S2x32x1x2048.Idx → Elt F .f32) :
    (((win0 a 3).blk t).view.read (Elt F) X : S1x1x1x512.Idx → Elt F .f32) = bBlk X E C := by
  funext y
  refine congrArg X ?_
  refine ix4_ext ?_ ?_ ?_ ?_
  · blk_simp [hi]; try rfl
  · blk_simp [hi]; try rfl
  · blk_simp [hi]; try rfl
  · blk_simp [hi]; try rfl
theorem rd4 {E : Fin 32} {C : Fin 4} (hi : (win0 a 4).index t = ![0, E.val, 0, C.val]) (X : S2x32x1x2048.Idx → Elt F .f32) :
    (((win0 a 4).blk t).view.read (Elt F) X : S1x1x1x512.Idx → Elt F .f32) = bBlk X E C := by
  funext y
  refine congrArg X ?_
  refine ix4_ext ?_ ?_ ?_ ?_
  · blk_simp [hi]; try rfl
  · blk_simp [hi]; try rfl
  · blk_simp [hi]; try rfl
  · blk_simp [hi]; try rfl

/-- The result's blocks cover its array as soon as every block is some point's. -/
theorem covers_of (h : ∀ b o : ℕ, b < 97 → o < 4 → ∃ t : Fin (cfg0 a).N, (win0 a 5).index t = ![b, o]) : (win0 a 5).Covers := by
  have last : ∀ k (t : Fin (cfg0 a).N), (cfg0 a).N - t.val = k → ∃ t' : Fin (cfg0 a).N, (win0 a 5).flush t' = true ∧ (win0 a 5).index t' = (win0 a 5).index t := by
    intro k
    induction k with
    | zero => intro t ht; exact absurd t.isLt (by omega)
    | succ k ih =>
      intro t ht
      by_cases hf : (win0 a 5).flush t = true
      · exact ⟨t, hf, rfl⟩
      · have hf' : ¬ (t.val + 1 = (cfg0 a).N ∨ ∃ h : t.val + 1 < (cfg0 a).N, (win0 a 5).index ⟨t.val + 1, h⟩ ≠ (win0 a 5).index t) := by
          intro e; apply hf
          show (true && (t.val + 1 = (cfg0 a).N || decide (∃ h : t.val + 1 < (cfg0 a).N, (win0 a 5).index ⟨t.val + 1, h⟩ ≠ (win0 a 5).index t))) = true
          simpa using e
        have h1 : t.val + 1 < (cfg0 a).N := by
          have := t.isLt
          exact Nat.lt_of_le_of_ne this fun e => hf' (.inl e)
        have h2 : (win0 a 5).index ⟨t.val + 1, h1⟩ = (win0 a 5).index t := by
          by_contra e; exact hf' (.inr ⟨h1, e⟩)
        obtain ⟨t', p, q⟩ := ih ⟨t.val + 1, h1⟩ (by show (cfg0 a).N - (t.val + 1) = k; omega)
        exact ⟨t', p, q.trans h2⟩
  refine ⟨fun b => by fin_cases b <;> exact Nat.succ_pos 511, fun β => ?_⟩
  obtain ⟨t, ht⟩ := h (β 0).val (β 1).val (lt_of_lt_of_eq (β 0).isLt (show (49664 + 512 - 1) / 512 = 97 from rfl)) (lt_of_lt_of_eq (β 1).isLt (show (2048 + 512 - 1) / 512 = 4 from rfl))
  obtain ⟨t', hf, hi⟩ := last _ t rfl
  refine ⟨t', hf, fun b => ⟨?_, .inl rfl⟩⟩
  rw [hi, ht]
  fin_cases b <;> rfl
end windows

/-- Blocks of an even number of rows are of whole words of two. -/
theorem words_even {R C r c : ℕ} (off : Fin 2 → ℕ) (hr : 2 ∣ r) (h : ∀ a, (off a + 1) * (![r, c] : Fin 2 → ℕ) a ≤ (![R, C] : Fin 2 → ℕ) a) :
    (Rect.block (s := ⟨2, ![R, C]⟩) ![r, c] off h).WholeWords 2 :=
  .inl (.inr ⟨le_rfl, rfl, .inl ⟨Dvd.dvd.mul_left hr _, hr⟩⟩)

theorem inb2 {R C r c a b : ℕ} (h0 : (a + 1) * r ≤ R) (h1 : (b + 1) * c ≤ C) : ∀ i, ((![a, b] : Fin 2 → ℕ) i + 1) * (![r, c] : Fin 2 → ℕ) i ≤ (![R, C] : Fin 2 → ℕ) i := by
  intro i; fin_cases i
  exacts [h0, h1]

theorem inb4 {R₀ R₁ R₂ R₃ r₀ r₁ r₂ r₃ a₀ a₁ a₂ a₃ : ℕ} (h0 : (a₀ + 1) * r₀ ≤ R₀) (h1 : (a₁ + 1) * r₁ ≤ R₁) (h2 : (a₂ + 1) * r₂ ≤ R₂) (h3 : (a₃ + 1) * r₃ ≤ R₃) :
    ∀ i, ((![a₀, a₁, a₂, a₃] : Fin 4 → ℕ) i + 1) * (![r₀, r₁, r₂, r₃] : Fin 4 → ℕ) i ≤ (![R₀, R₁, R₂, R₃] : Fin 4 → ℕ) i := by
  intro i; fin_cases i
  exacts [h0, h1, h2, h3]

/-! ## The blocks in use -/

section blocks
variable (n : ℕ → ℕ) (hx : ∀ i : Fin 32, nblk m 0 (ValueIdx.ix1 i) = BitVec.ofNat 32 (n i.val)) (hT : 1 ≤ upTo n 32) (h97 : upTo n 32 ≤ 97)
include hx hT h97

/-- The box of a point's entry in the tables. -/
abbrev entry (i : grid0.Coords) : Rect S388 := Rect.unit (s := S388) (k0_off1 i) S1.size (k0_off1_inb i)

theorem row_word (i : grid0.Coords) : ((tbl m).at 0 (entry i) numel1_S1).toNat = Blk.row n (i 0).val := by
  have h := Blk.row_lt n hT h97 (i 0).val (i 0).isLt
  rw [tbl_row m i (entry i) numel1_S1 (pick i _ rfl _), rowTbl_at _ n hx hT h97, pnt_val, toNat_small (by omega)]
theorem out_word (i : grid0.Coords) : ((tbl m).at 1 (entry i) numel1_S1).toNat = Blk.out n (i 0).val := by
  have h := Blk.out_lt n hT (i 0).val
  rw [tbl_out m i (entry i) numel1_S1 (pick i _ rfl _), outTbl_at _ n hx hT h97, pnt_val, toNat_small (by omega)]
theorem expert_word (i : grid0.Coords) : ((tbl m).at 2 (entry i) numel1_S1).toNat = ex n (i 0).val := by
  have h := (Blk.ex_spec n hT (i 0).val).1
  rw [tbl_expert m i (entry i) numel1_S1 (pick i _ rfl _), expert_at _ n hx hT h97, pnt_val, toNat_small (by omega)]
theorem col_word (i : grid0.Coords) : ((tbl m).at 3 (entry i) numel1_S1).toNat = col n (i 0).val := by
  have h := Blk.col_lt n hT (i 0).val
  rw [tbl_col m i (entry i) numel1_S1 (pick i _ rfl _), colTbl_at _ n hx hT h97, pnt_val, toNat_small (by omega)]

theorem tr0 (i : grid0.Coords) : cc0_transform_0 k0_off1_inb numel1_S1 (tbl m) i = ![Blk.row n (i 0).val, 0] :=
  congrArg (fun a : ℕ => (![a, 0] : Fin 2 → ℕ)) (row_word m n hx hT h97 i)

theorem tr5 (i : grid0.Coords) : cc0_transform_5 k0_off1_inb numel1_S1 (tbl m) i = ![Blk.row n (i 0).val, Blk.out n (i 0).val] :=
  congrArg₂ (fun a b : ℕ => (![a, b] : Fin 2 → ℕ)) (row_word m n hx hT h97 i) (out_word m n hx hT h97 i)

theorem trW (i : grid0.Coords) : cc0_transform_1 k0_off1_inb numel1_S1 (tbl m) i = ![0, ex n (i 0).val, 0, col n (i 0).val]
    ∧ cc0_transform_2 k0_off1_inb numel1_S1 (tbl m) i = ![0, ex n (i 0).val, 0, col n (i 0).val]
    ∧ cc0_transform_3 k0_off1_inb numel1_S1 (tbl m) i = ![0, ex n (i 0).val, 0, col n (i 0).val]
    ∧ cc0_transform_4 k0_off1_inb numel1_S1 (tbl m) i = ![0, ex n (i 0).val, 0, col n (i 0).val] := by
  have e := congrArg₂ (fun a b : ℕ => (![0, a, 0, b] : Fin 4 → ℕ)) (expert_word m n hx hT h97 i) (col_word m n hx hT h97 i)
  exact ⟨e, e, e, e⟩

/-- Every block the tables name lies inside its array. -/
theorem ok_tbl : Ok m := by
  have hr := fun i : grid0.Coords => Blk.row_lt n hT h97 (i 0).val (i 0).isLt
  have ho := fun i : grid0.Coords => Blk.out_lt n hT (i 0).val
  have he := fun i : grid0.Coords => (Blk.ex_spec n hT (i 0).val).1
  have hc := fun i : grid0.Coords => Blk.col_lt n hT (i 0).val
  refine ⟨fun i => ?_, fun i => ?_, fun i => ?_, fun i => ?_, fun i => ?_, fun i => ?_⟩
  · rw [tr0 m n hx hT h97 i]
    exact ⟨inb2 (by have := hr i; omega) (by omega), .inr (words_even _ (by decide) _)⟩
  · rw [(trW m n hx hT h97 i).1]
    exact ⟨inb4 (by omega) (by have := he i; omega) (by omega) (by have := hc i; omega), .inl rfl⟩
  · rw [(trW m n hx hT h97 i).2.1]
    exact ⟨inb4 (by omega) (by have := he i; omega) (by omega) (by have := hc i; omega), .inl rfl⟩
  · rw [(trW m n hx hT h97 i).2.2.1]
    exact ⟨inb4 (by omega) (by have := he i; omega) (by omega) (by have := hc i; omega), .inl rfl⟩
  · rw [(trW m n hx hT h97 i).2.2.2]
    exact ⟨inb4 (by omega) (by have := he i; omega) (by omega) (by have := hc i; omega), .inl rfl⟩
  · rw [tr5 m n hx hT h97 i]
    exact ⟨inb2 (by have := hr i; omega) (by have := ho i; omega), .inr (words_even _ (by decide) _)⟩

variable (hO : Ok m) (c : Dev nD)

/-! The windows' blocks at a point. -/

/-! The windows' blocks at a point. -/

theorem idx0 (t : Fin (cfgM m hO).N) : (win0 (adm m hO) 0).index t = ![Blk.row n t.val, 0] :=
  (index0 (adm m hO) t).trans ((tr0 m n hx hT h97 (grid0.coords t)).trans (by rw [coords_val]))
theorem idx1 (t : Fin (cfgM m hO).N) : (win0 (adm m hO) 1).index t = ![0, ex n t.val, 0, col n t.val] :=
  (index1 (adm m hO) t).trans ((trW m n hx hT h97 (grid0.coords t)).1.trans (by rw [coords_val]))
theorem idx2 (t : Fin (cfgM m hO).N) : (win0 (adm m hO) 2).index t = ![0, ex n t.val, 0, col n t.val] :=
  (index2 (adm m hO) t).trans ((trW m n hx hT h97 (grid0.coords t)).2.1.trans (by rw [coords_val]))
theorem idx3 (t : Fin (cfgM m hO).N) : (win0 (adm m hO) 3).index t = ![0, ex n t.val, 0, col n t.val] :=
  (index3 (adm m hO) t).trans ((trW m n hx hT h97 (grid0.coords t)).2.2.1.trans (by rw [coords_val]))
theorem idx4 (t : Fin (cfgM m hO).N) : (win0 (adm m hO) 4).index t = ![0, ex n t.val, 0, col n t.val] :=
  (index4 (adm m hO) t).trans ((trW m n hx hT h97 (grid0.coords t)).2.2.2.trans (by rw [coords_val]))
theorem idx5 (t : Fin (cfgM m hO).N) : (win0 (adm m hO) 5).index t = ![Blk.row n t.val, Blk.out n t.val] :=
  (index5 (adm m hO) t).trans ((tr5 m n hx hT h97 (grid0.coords t)).trans (by rw [coords_val]))

theorem flag_eq (t : Fin (cfgM m hO).N) : flag m hO c t = if t.val < 4 * upTo n 32 then (if rowI n t.val = 0 then 3#32 else 2#32) else 0#32 := by
  have hc : (grid0.coords t 0).val = t.val := coords_val t
  refine (flagOf_eq m (grid0.coords t) c).trans ?_
  have := flagTbl_at _ n hx hT h97 (pnt (grid0.coords t))
  rw [pnt_val, hc] at this
  exact this

theorem inUse_iff (t : Fin (cfgM m hO).N) : inUse m hO c t ↔ t.val < 4 * upTo n 32 := by
  unfold inUse
  rw [flag_eq m n hx hT h97]
  by_cases h : t.val < 4 * upTo n 32
  · rw [if_pos h]; split <;> exact ⟨fun _ => h, fun _ => by decide⟩
  · rw [if_neg h]; exact ⟨fun e => absurd e (by decide), fun e => absurd e h⟩

theorem not_three (t : Fin (cfgM m hO).N) (h : t.val < 4 * upTo n 32) (h3 : ¬ isThree (flag m hO c t)) : rowI n t.val ≠ 0 := by
  intro e
  apply h3
  rw [flag_eq m n hx hT h97, if_pos h, if_pos e]
  decide

theorem lt388 (t : Fin (cfgM m hO).N) : t.val < 388 := lt_of_lt_of_eq t.isLt N_0

/-- A point's row block, expert, and column blocks of the weights and of the result. -/
def rowOf (s : ℕ) (hs : s < 388) : Fin 97 := ⟨Blk.row n s, Blk.row_lt n hT h97 s hs⟩
def expOf (s : ℕ) : Fin 32 := ⟨Blk.ex n s, (Blk.ex_spec n hT s).1⟩
def colOf (s : ℕ) : Fin 4 := ⟨Blk.col n s, Blk.col_lt n hT s⟩
def outOf (s : ℕ) : Fin 4 := ⟨Blk.out n s, Blk.out_lt n hT s⟩

theorem iblk0 (t : Fin (cfgM m hO).N) (R : Fin 97) (hR : R.val = Blk.row n t.val) : (iblk m hO c 0 t : S512x4096.Idx → Elt F .bf16) = xBlk (V m c main_arg1) R := by
  have h : (win0 (adm m hO) 0).index t = ![R.val, 0] := by rw [idx0 m n hx hT h97 hO t, hR]
  exact rd0 (adm m hO) t h (V m c main_arg1)
theorem iblk1 (t : Fin (cfgM m hO).N) : (iblk m hO c 1 t : S1x1x4096x512.Idx → Elt F .f32) = wBlk (V m c main_arg2) (expOf n hT t.val) (colOf n hT t.val) :=
  rd1 (adm m hO) t (E := expOf n hT t.val) (C := colOf n hT t.val) (idx1 m n hx hT h97 hO t) (V m c main_arg2)
theorem iblk2 (t : Fin (cfgM m hO).N) : (iblk m hO c 2 t : S1x1x4096x512.Idx → Elt F .f32) = wBlk (V m c main_arg3) (expOf n hT t.val) (colOf n hT t.val) :=
  rd2 (adm m hO) t (E := expOf n hT t.val) (C := colOf n hT t.val) (idx2 m n hx hT h97 hO t) (V m c main_arg3)
theorem iblk3 (t : Fin (cfgM m hO).N) : (iblk m hO c 3 t : S1x1x1x512.Idx → Elt F .f32) = bBlk (V m c main_v66) (expOf n hT t.val) (colOf n hT t.val) :=
  rd3 (adm m hO) t (E := expOf n hT t.val) (C := colOf n hT t.val) (idx3 m n hx hT h97 hO t) (V m c main_v66)
theorem iblk4 (t : Fin (cfgM m hO).N) : (iblk m hO c 4 t : S1x1x1x512.Idx → Elt F .f32) = bBlk (V m c main_v67) (expOf n hT t.val) (colOf n hT t.val) :=
  rd4 (adm m hO) t (E := expOf n hT t.val) (C := colOf n hT t.val) (idx4 m n hx hT h97 hO t) (V m c main_v67)

/-- Where a point's weights are not its own, they are those of the point before. -/
theorem steps : Steps m hO c := by
  intro t hu h3
  have hu' := (inUse_iff m n hx hT h97 hO c t).mp hu
  obtain ⟨s, hs, he, hc⟩ := Blk.before n hT t.val hu' (not_three m n hx hT h97 hO c t hu' h3)
  have hlt : s < (cfgM m hO).N := by have := t.isLt; omega
  have e1 : expOf n hT s = expOf n hT t.val := Fin.ext he
  have e2 : colOf n hT s = colOf n hT t.val := Fin.ext hc
  refine ⟨⟨s, hlt⟩, hs, (inUse_iff m n hx hT h97 hO c _).mpr (by show s < _; omega), ?_, ?_⟩
  · exact (iblk1 m n hx hT h97 hO c ⟨s, hlt⟩).trans ((by rw [e1, e2] : _ = _).trans (iblk1 m n hx hT h97 hO c t).symm)
  · exact (iblk2 m n hx hT h97 hO c ⟨s, hlt⟩).trans ((by rw [e1, e2] : _ = _).trans (iblk2 m n hx hT h97 hO c t).symm)

theorem covers : (win0 (adm m hO) 5).Covers := by
  refine covers_of (adm m hO) fun b o hb ho => ?_
  obtain ⟨s, hs, hr, ho'⟩ := Blk.covers n hT h97 b o hb ho
  refine ⟨⟨s, lt_of_lt_of_eq hs N_0.symm⟩, (idx5 m n hx hT h97 hO _).trans ?_⟩
  rw [show Blk.row n _ = b from hr, show Blk.out n _ = o from ho']

end blocks

end Cert.MoeUpIdeal.Run
-- ==== Proof.MoeUp.Value.lean ====
module

public import proofs.«01_k».proof.Proof.MoeUp.Grid
public import Idealize.ShloMosaic.Lib.VecWindow
public import Idealize.ShloMosaic.Lib.Pipeline.ValueKit

@[expose] public section

set_option maxRecDepth 16384

noncomputable section

namespace Cert.MoeUpIdeal.Run

open Cert.MoeUpIdeal Cert.MoeUpIdeal.Gen
open Idealize.ShloMosaic Idealize.ShloMosaic.TcCoe Idealize.SL.Sem
open Idealize.ShloMosaic.StableHlo (after)
open Idealize.ShloMosaic.Pipeline (Dat)
open Cert.MoeUpIdeal.Blk (upTo exOf)

/-! ## The biases -/

section biases
variable {F : FTy → Type} [FloatOps F]

/-- The biases with a row axis of length one. -/
def biasRows (b : S2x32x2048.Idx → Elt F .f32) : S2x32x1x2048.Idx → Elt F .f32 :=
  shapeCast S2x32x1x2048 (b : Vec F S2x32x2048 .f32) shapeCasts_S2x32x2048_S2x32x1x2048

theorem last_line (U : (b : DevRef τ sig) → b.ty.Contents (Elt F)) :
    (after (hostOps0_15 (F := F)) U main_arg4 : S2x32x2048.Idx → Elt F .f32) = U main_arg4
    ∧ (after (hostOps0_15 (F := F)) U main_arg5 : S2x32x2048.Idx → Elt F .f32) = U main_arg5
    ∧ (after (hostOps0_15 (F := F)) U main_v66 : S2x32x1x2048.Idx → Elt F .f32) = biasRows (U main_arg4)
    ∧ (after (hostOps0_15 (F := F)) U main_v67 : S2x32x1x2048.Idx → Elt F .f32) = biasRows (U main_arg5) := by
  refine ⟨?_, ?_, ?_, ?_⟩ <;> after_reads_simp <;> rfl

variable (m : (ℓ : Loc nD τ sig) → Buf (Elt F) ℓ) (c : Dev nD)

theorem V_bias : (V m c main_v66 : S2x32x1x2048.Idx → Elt F .f32) = biasRows (m ((c.tc : Thread nD τ).loc main_arg4))
    ∧ (V m c main_v67 : S2x32x1x2048.Idx → Elt F .f32) = biasRows (m ((c.tc : Thread nD τ).loc main_arg5)) := by
  obtain ⟨-, -, -, -, h4, h5⟩ := V_args m c
  obtain ⟨U, hU⟩ : ∃ U : (b : DevRef τ sig) → b.ty.Contents (Elt F), ∀ b : Ref sig .tc, V m c b = after (hostOps0_15 (F := F)) U b := by
    unfold V
    simp only [hostLines, List.flatten_cons, List.flatten_nil, List.append_nil, StableHlo.after_append]
    exact ⟨_, fun _ => rfl⟩
  obtain ⟨k4, k5, k66, k67⟩ := last_line U
  exact ⟨(hU _).trans (k66.trans (congrArg biasRows (k4.symm.trans ((hU _).symm.trans h4)))), (hU _).trans (k67.trans (congrArg biasRows (k5.symm.trans ((hU _).symm.trans h5))))⟩

end biases

/-! ## The array, over the extended reals -/

/-- The clamped gate and up parts multiplied. -/
def gated (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- What the body computes, entry by entry. -/
theorem pay_at (x : Vec Ideal S512x4096 .bf16) (wg wu : Vec Ideal S1x1x4096x512 .f32) (bg bu : Vec Ideal S1x1x1x512 .f32) (r k : Fin 512) :
    k0_pay3 (F := Ideal) x (k0_pay1 (F := Ideal) wg) bg (k0_pay2 (F := Ideal) wu) bu (ix2 r k)
      = gated ((∑ q : Fin 4096, x (ix2 r q) * wg (ix4 0 0 q k)) + bg (ix4 0 0 0 k)) ((∑ q : Fin 4096, x (ix2 r q) * wu (ix4 0 0 q k)) + bu (ix4 0 0 0 k)) := by
  unfold gated
  pointwise [k0_pay3, k0_pay1, k0_pay2]

theorem rest_at (r k : Fin 512) : k0_pay4 (F := Ideal) (ix2 r k) = 0 := by
  pointwise [k0_pay4]

theorem bias_at (b : S2x32x2048.Idx → EReal) (E : Fin 32) (N : Fin 2048) :
    biasRows (F := Ideal) b (ix4 0 E 0 N) = b (ix3 0 E N) := by
  unfold biasRows
  pointwise

/-- The expert of a row block. -/
def blkE (n : ℕ → ℕ) (b : ℕ) : Fin 32 := ⟨min (exOf n b) 31, by omega⟩

/-- The result, entry by entry: a row block in use is its expert's, the others are zero. -/
def hidden (n : ℕ → ℕ) (x : S49664x4096.Idx → EReal) (wg wu : S2x32x4096x2048.Idx → EReal) (bg bu : S2x32x2048.Idx → EReal) (b : Fin 97) (r : Fin 512) (N : Fin 2048) : EReal :=
  if b.val < upTo n 32 then
    gated ((∑ q : Fin 4096, x (ix2 (rowIx b r) q) * wg (ix4 0 (blkE n b.val) q N)) + bg (ix3 0 (blkE n b.val) N))
      ((∑ q : Fin 4096, x (ix2 (rowIx b r) q) * wu (ix4 0 (blkE n b.val) q N)) + bu (ix3 0 (blkE n b.val) N))
  else 0

/-- A row's block, and its place in it. -/
def rowB (R : Fin 49664) : Fin 97 := ⟨R.val / 512, by omega⟩
def rowR (R : Fin 49664) : Fin 512 := ⟨R.val % 512, by omega⟩
theorem rowB_ix (b : Fin 97) (r : Fin 512) : rowB (rowIx b r) = b := Fin.ext (by show (b.val * 512 + r.val) / 512 = _; omega)
theorem rowR_ix (b : Fin 97) (r : Fin 512) : rowR (rowIx b r) = r := Fin.ext (by show (b.val * 512 + r.val) % 512 = _; omega)

/-- The result's block at a point, where it sits in the array. -/
theorem point5 (a : (pcfg0 (F := Ideal)).Adm) (t : Fin (cfg0 a).N) {R : Fin 97} {C : Fin 4} (hi : (win0 a 5).index t = ![R.val, C.val])
    (L : S512x512.Idx → EReal) (G : S49664x2048.Idx → EReal) (h : ∀ r k : Fin 512, L (ix2 r k) = G (ix2 (rowIx R r) (colIx C k)))
    (y : (((cfg0 a).win 5).xblock ((cfg0 a).grid.coords t)).Idx) :
    L (((cfg0 a).win 5).xinj ((cfg0 a).grid.coords t) y) = G ((((cfg0 a).win 5).blk t).view.emb y) := by
  obtain ⟨y, rfl⟩ : ∃ z : S512x512.Idx, z = y := ⟨y, rfl⟩
  obtain ⟨r, k, rfl⟩ : ∃ r k, y = (ix2 r k : S512x512.Idx) := ⟨y 0, y 1, eq_ix2 y⟩
  exact (h r k).trans (congrArg G (emb5 a t hi r k)).symm

/-- The result's array, where every point leaves its part of `G`. -/
theorem arr_of (a : (pcfg0 (F := Ideal)).Adm) (c : Dev nD) (D : Dat τ (Elt Ideal) Unit ℕ (UR sig nD τ) ℕ (cfg0 a) c)
    (L : Fin (cfg0 a).N → Vec Ideal S512x512 .bf16) (hL : ∀ t, D.after 5 t = L t) (hc : (win0 a 5).Covers) (row out : ℕ → ℕ)
    (hi : ∀ t : Fin (cfg0 a).N, (win0 a 5).index t = ![row t.val, out t.val]) (hrow : ∀ s, s < 388 → row s < 97) (hout : ∀ s, out s < 4)
    (G : S49664x2048.Idx → EReal)
    (h : ∀ (t : Fin (cfg0 a).N) (R : Fin 97), R.val = row t.val → ∀ C : Fin 4, C.val = out t.val → ∀ r k : Fin 512, L t (ix2 r k) = G (ix2 (rowIx R r) (colIx C k))) :
    D.arrAt 5 (cfg0 a).N = G := by
  refine D.arrAt_eq_of_covers 5 _ hc fun t hf y => ?_
  have hs : t.val < 388 := lt_of_lt_of_eq t.isLt N_0
  rw [hL]
  exact point5 a t (R := ⟨row t.val, hrow _ hs⟩) (C := ⟨out t.val, hout _⟩) (hi t) (L t) G (h t _ rfl _ rfl) y

/-- The result's array, from the arguments. -/
def out5 (m : (ℓ : Loc nD τ sig) → Buf (Elt Ideal) ℓ) (n : ℕ → ℕ) (c : Dev nD) : S49664x2048.Idx → EReal := fun j =>
  hidden n (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (rowB (j 0)) (rowR (j 0)) (j 1)

section array
variable (m : (ℓ : Loc nD τ sig) → Buf (Elt Ideal) ℓ)
variable (n : ℕ → ℕ) (hx : ∀ i : Fin 32, nblk m 0 (ValueIdx.ix1 i) = BitVec.ofNat 32 (n i.val)) (hT : 1 ≤ upTo n 32) (h97 : upTo n 32 ≤ 97)
variable (hO : Ok m) (c : Dev nD)
include hx hT h97

/-- What a point leaves in the result's buffer. -/
theorem leaves_at (t : Fin (cfgM m hO).N) (R : Fin 97) (hR : R.val = Blk.row n t.val) (C : Fin 4) (hC : C.val = Blk.out n t.val) (r k : Fin 512) :
    (leaves m hO c t : S512x512.Idx → EReal) (ix2 r k)
      = hidden n (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) R r (colIx C k) := by
  unfold leaves hidden
  have hiff := inUse_iff m n hx hT h97 hO c t
  by_cases hu : t.val < 4 * upTo n 32
  · obtain ⟨hr, he⟩ := Blk.row_use n hT t.val hu
    rw [if_pos (hiff.mpr hu), if_pos (show R.val < upTo n 32 by rw [hR]; exact hr)]
    refine (pay_at _ _ _ _ _ r k).trans ?_
    rw [iblk0 m n hx hT h97 hO c t R hR, iblk1 m n hx hT h97 hO c t, iblk2 m n hx hT h97 hO c t, iblk3 m n hx hT h97 hO c t, iblk4 m n hx hT h97 hO c t]
    obtain ⟨-, v1, v2, v3, -, -⟩ := V_args m c
    rw [v1, v2, v3, (V_bias m c).1, (V_bias m c).2]
    have hE : blkE n R.val = expOf n hT t.val := Fin.ext (by
      have := (Blk.ex_spec n hT t.val).1
      show min (exOf n R.val) 31 = Blk.ex n t.val
      rw [hR]
      omega)
    have hC' : C = colOf n hT t.val := Fin.ext (hC.trans (by
      show Blk.out n t.val = Blk.col n t.val
      unfold Blk.out; rw [if_pos hu]))
    rw [hE, hC']
    refine congrArg₂ gated (congrArg₂ (· + ·) rfl ?_) (congrArg₂ (· + ·) rfl ?_)
    · exact bias_at _ (expOf n hT t.val) (colIx (colOf n hT t.val) k)
    · exact bias_at _ (expOf n hT t.val) (colIx (colOf n hT t.val) k)
  · rw [if_neg (fun h => hu (hiff.mp h)), if_neg (show ¬ R.val < upTo n 32 by
      rw [hR]; unfold Blk.row; rw [if_neg hu]; omega)]
    exact rest_at r k

/-- The result's array after the run. -/
theorem arr5 : (dats m hO 0 c).arrAt 5 (cfgM m hO).N = out5 m n c := by
  refine arr_of (adm m hO) c (dats m hO 0 c) (leaves m hO c) (after_out m hO c) (covers m n hx hT h97 hO) (Blk.row n) (Blk.out n)
    (idx5 m n hx hT h97 hO) (fun s hs => Blk.row_lt n hT h97 s hs) (fun s => Blk.out_lt n hT s) (out5 m n c) fun t R hR C hC r k => ?_
  refine (leaves_at m n hx hT h97 hO c t R hR C hC r k).trans ?_
  show _ = hidden _ _ _ _ _ _ (rowB (rowIx R r)) (rowR (rowIx R r)) (colIx C k)
  rw [rowB_ix, rowR_ix]

end array

end Cert.MoeUpIdeal.Run
-- ==== Proof.MoeUp.RefWords.lean ====
/- The reference's lines, and the experts they name. -/
module

public import proofs.«01_k».proof.Proof.MoeUp.Value
public import proofs.«01_k».proof.Proof.Gen.MoeUpReferenceIdeal

@[expose] public section

set_option maxRecDepth 16384

noncomputable section

namespace Cert.MoeUpReferenceIdeal.Ref

open Cert.MoeUpReferenceIdeal Cert.MoeUpReferenceIdeal.Gen
open Idealize.ShloMosaic Idealize.ShloMosaic.TcCoe Idealize.SL.Sem
open Idealize.ShloMosaic.StableHlo.Predicate
open Cert.MoeUpIdeal.Blk (upTo exOf upTo_mono)
open Cert.MoeUpIdeal.Run (toNat_small slt_zero blkE hidden gated rowIx rowB rowR)

/-! ## The reference's lines -/

/-- The blocks up to and with each expert. -/
def cums (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- Whether an expert's blocks end by a block. -/
def ended (x : IVec S32 32) : IVec S97x32 1 :=
  cmpi .sle (broadcastInDim S97x32 ![0, 1] bcast_S1x32_S97x32_0_1 (broadcastInDim S1x32 ![1] bcast_S32_S1x32_1 (cums x)))
    (broadcastInDim S97x32 ![0, 1] bcast_S97x1_S97x32_0_1 (broadcastInDim S97x1 ![0] bcast_S97_S97x1_0 (iotaInDim S97 32 0)))

/-- Each block's expert. -/
def expert (x : IVec S32 32) : IVec S97 32 :=
  minsi (Host.reduce IntOp.addi (extui 32 (ended x) natLt_1_32) (constantI S_ 32 0#32) reducesTo_S97x32_S97_d1 h_S_) (broadcastInDim S97 ![] bcast_S_S97 (constantI S_ 32 31#32))

/-- The rows the gathers take. -/
def picks (x : IVec S32 32) : IVec S97x1 32 :=
  broadcastInDim S97x1 ![0] bcast_S97_S97x1_0 (select (cmpi .slt (expert x) (broadcastInDim S97 ![] bcast_S_S97 (constantI S_ 32 0#32)))
    (addi (expert x) (broadcastInDim S97 ![] bcast_S_S97 (constantI S_ 32 32#32))) (expert x))

/-- Whether a block is in use. -/
def used (x : IVec S32 32) : IVec S97 1 :=
  cmpi .slt (iotaInDim S97 32 0) (broadcastInDim S97 ![] bcast_S_S97 (Host.reduce IntOp.addi x (constantI S_ 32 0#32) reducesTo_S32_S_d0 h_S_))

/-- The weights of each block's expert. -/
def rowsW (w : FVec Ideal S2x32x4096x2048 .f32) (p : IVec S97x1 32) : FVec Ideal S97x4096x2048 .f32 :=
  Host.gather gather_S32x4096x2048_S97x1_S97x4096x2048_12_0_n_n_0_1_140962048
    (shapeCast S32x4096x2048 (extractStridedSlice S1x32x4096x2048 ![0, 0, 0, 0] w slices_S2x32x4096x2048_S1x32x4096x2048_0_0_0_0) shapeCasts_S1x32x4096x2048_S32x4096x2048) p

/-- The bias of each block's expert. -/
def rowsB (b : FVec Ideal S2x32x2048 .f32) (p : IVec S97x1 32) : FVec Ideal S97x2048 .f32 :=
  Host.gather gather_S32x2048_S97x1_S97x2048_1_0_n_n_0_1_12048
    (shapeCast S32x2048 (extractStridedSlice S1x32x2048 ![0, 0, 0] b slices_S2x32x2048_S1x32x2048_0_0_0) shapeCasts_S1x32x2048_S32x2048) p

/-- A product with its bias. -/
def linear (x : FVec Ideal S49664x4096 .bf16) (W : FVec Ideal S97x4096x2048 .f32) (B : FVec Ideal S97x2048 .f32) : FVec Ideal S97x512x2048 .f32 :=
  addf (Host.dotGeneral dot_S97x512x4096_S97x4096x2048_S97x512x2048_2_1_1_2_0_0 none (shapeCast S97x512x4096 (extf .f32 x bitsLt_bf16_f32) shapeCasts_S49664x4096_S97x512x4096) W)
    (broadcastInDim S97x512x2048 ![0, 1, 2] bcast_S97x1x2048_S97x512x2048_0_1_2 (broadcastInDim S97x1x2048 ![0, 2] bcast_S97x2048_S97x1x2048_0_2 B))

def splat (w : BitVec 32) : FVec Ideal S97x512x2048 .f32 := broadcastInDim S97x512x2048 ![] bcast_S_S97x512x2048 (constant S_ .f32 w)

/-- The gate and up parts clamped and multiplied. -/
def act (g u : FVec Ideal S97x512x2048 .f32) : FVec Ideal S97x512x2048 .f32 :=
  mulf (mulf (addf (minimumf (splat 0x40E00000#32) (maximumf (splat 0xC0E00000#32) u)) (splat 0x3F800000#32)) (minimumf g (splat 0x40E00000#32)))
    (Host.divf (splat 0x3F800000#32) (addf (splat 0x3F800000#32) (Host.exp (Host.negf (mulf (splat 0x3FD9DB23#32) (minimumf g (splat 0x40E00000#32)))))))

/-- The reference's result. -/
def result (x : IVec S32 32) (X : FVec Ideal S49664x4096 .bf16) (wg wu : FVec Ideal S2x32x4096x2048 .f32) (bg bu : FVec Ideal S2x32x2048 .f32) : FVec Ideal S49664x2048 .bf16 :=
  shapeCast S49664x2048 (truncf .bf16
    (select (broadcastInDim S97x512x2048 ![0, 1, 2] bcast_S97x1x1_S97x512x2048_0_1_2 (broadcastInDim S97x1x1 ![0] bcast_S97_S97x1x1_0 (used x)))
      (act (linear X (rowsW wg (picks x)) (rowsB bg (picks x))) (linear X (rowsW wu (picks x)) (rowsB bu (picks x)))) (splat 0x00000000#32)) bitsLt_bf16_f32) shapeCasts_S97x512x2048_S49664x2048

/-! ## The words -/

section words
variable (x : IVec S32 32) (n : ℕ → ℕ) (hx : ∀ i : Fin 32, x (ValueIdx.ix1 i) = BitVec.ofNat 32 (n i.val)) (h97 : upTo n 32 ≤ 97)
include hx h97

theorem cums_at (j : Fin 32) : cums x (ValueIdx.ix1 j) = BitVec.ofNat 32 (upTo n (j.val + 1)) :=
  Routing.cumsum1 rfl x n hx _ ((Routing.bc0 _ _ _).trans rfl) _ _ j

theorem ended_at (b : Fin 97) (q : Fin 32) : ended x (ValueIdx.ix2 b q) = 1#1 ↔ upTo n (q.val + 1) ≤ b.val := by
  have hq := upTo_mono n (show q.val + 1 ≤ 32 by omega)
  have e1 : broadcastInDim S97x32 ![0, 1] bcast_S1x32_S97x32_0_1 (broadcastInDim S1x32 ![1] bcast_S32_S1x32_1 (cums x)) (ValueIdx.ix2 b q) = BitVec.ofNat 32 (upTo n (q.val + 1)) :=
    (Routing.bcCols _ _ _ b q).trans (cums_at x n hx h97 q)
  have e2 : broadcastInDim S97x32 ![0, 1] bcast_S97x1_S97x32_0_1 (broadcastInDim S97x1 ![0] bcast_S97_S97x1_0 (iotaInDim S97 32 0)) (ValueIdx.ix2 b q) = BitVec.ofNat 32 b.val :=
    (Routing.bcRows _ _ _ b q).trans rfl
  show IntOp.cmpi .sle _ _ = 1#1 ↔ _
  rw [e1, e2, sle_iff_toNat (by rw [toNat_small] <;> omega) (by rw [toNat_small] <;> omega), toNat_small (by omega), toNat_small (by omega)]

theorem expert_at (b : Fin 97) : expert x (ValueIdx.ix1 b) = BitVec.ofNat 32 (blkE n b.val).val := by
  have h32 : exOf n b.val ≤ 32 := Nat.count_le _
  have e : Host.reduce IntOp.addi (extui 32 (ended x) natLt_1_32) (constantI S_ 32 0#32) reducesTo_S97x32_S97_d1 h_S_ (ValueIdx.ix1 b) = BitVec.ofNat 32 (exOf n b.val) :=
    Routing.reduce_count (by omega) _ _ _ _ b (fun q => upTo n (q + 1) ≤ b.val) (ended_at x n hx h97 b)
  have e' : broadcastInDim S97 ![] bcast_S_S97 (constantI S_ 32 31#32) (ValueIdx.ix1 b) = 31#32 := (Routing.bc0 _ _ _).trans rfl
  have hE : (blkE n b.val).val = min (exOf n b.val) 31 := rfl
  show IntOp.minsi _ _ = _
  rw [e, e']
  apply BitVec.eq_of_toNat_eq
  rw [WordArith.toNat_minsi_of_lt _ _ (by rw [toNat_small] <;> omega) (by decide), toNat_small (by omega), hE, toNat_small (by omega)]
  exact (toNat_small (by omega)).symm

theorem picks_at (b : Fin 97) : picks x (ValueIdx.ix2 b 0) = BitVec.ofNat 32 (blkE n b.val).val := by
  have hE := (blkE n b.val).isLt
  refine (Routing.bcCol _ _ b).trans ?_
  have e' : broadcastInDim S97 ![] bcast_S_S97 (constantI S_ 32 0#32) (ValueIdx.ix1 b) = 0#32 := (Routing.bc0 _ _ _).trans rfl
  show (if IntOp.cmpi .slt (expert x (ValueIdx.ix1 b)) (broadcastInDim S97 ![] bcast_S_S97 (constantI S_ 32 0#32) (ValueIdx.ix1 b)) = 1#1 then _ else expert x (ValueIdx.ix1 b)) = _
  rw [expert_at x n hx h97, e', slt_zero (by omega), if_neg (by decide)]

theorem used_at (b : Fin 97) : used x (ValueIdx.ix1 b) = 1#1 ↔ b.val < upTo n 32 := by
  have e : broadcastInDim S97 ![] bcast_S_S97 (Host.reduce IntOp.addi x (constantI S_ 32 0#32) reducesTo_S32_S_d0 h_S_) (ValueIdx.ix1 b) = BitVec.ofNat 32 (upTo n 32) :=
    (Routing.bc0 _ _ _).trans (Routing.reduce_sum x n hx _ _)
  show IntOp.cmpi .slt (BitVec.ofNat 32 b.val) _ = 1#1 ↔ _
  rw [e, slt_iff_toNat (by rw [toNat_small] <;> omega) (by rw [toNat_small] <;> omega), toNat_small (by omega), toNat_small (by omega)]

end words

end Cert.MoeUpReferenceIdeal.Ref
-- ==== Proof.MoeUp.RefRows.lean ====
/- The rows the reference's gathers take. -/
module

public import proofs.«01_k».proof.Proof.MoeUp.RefWords

@[expose] public section

set_option maxRecDepth 16384

noncomputable section

namespace Cert.MoeUpReferenceIdeal.Ref

open Cert.MoeUpReferenceIdeal Cert.MoeUpReferenceIdeal.Gen
open Idealize.ShloMosaic Idealize.ShloMosaic.TcCoe Idealize.SL.Sem
open Idealize.ShloMosaic.StableHlo.Predicate
open Cert.MoeUpIdeal.Blk (upTo exOf upTo_mono)
open Cert.MoeUpIdeal.Run (toNat_small slt_zero blkE hidden gated rowIx rowB rowR)

/-! ## The gathered rows -/

/-- The weights' gather takes the row its index names. -/
theorem rowsW_at (w : FVec Ideal S2x32x4096x2048 .f32) (p : IVec S97x1 32) (b : Fin 97) (E : Fin 32) (h : p (ValueIdx.ix2 b 0) = BitVec.ofNat 32 E.val) (q : Fin 4096) (N : Fin 2048) :
    rowsW w p (ix3 b q N) = w (ix4 0 E q N) := by
  have hr : ∀ T : FVec Ideal S32x4096x2048 .f32,
      Host.gather gather_S32x4096x2048_S97x1_S97x4096x2048_12_0_n_n_0_1_140962048 T p (ix3 b q N) = T (ix3 E q N) := fun T => by
    unfold Host.gather
    refine congrArg T (funext fun a => Fin.ext ?_)
    match a with
    | ⟨0, _⟩ =>
      have hi : gather_S32x4096x2048_S97x1_S97x4096x2048_12_0_n_n_0_1_140962048.siIdx (ix3 b q N) ⟨0, by decide⟩ = ValueIdx.ix2 b 0 := by
        funext c
        match c with
        | ⟨0, _⟩ => rfl
        | ⟨1, _⟩ => rfl
      have hE := E.isLt
      show min (p (gather_S32x4096x2048_S97x1_S97x4096x2048_12_0_n_n_0_1_140962048.siIdx (ix3 b q N) ⟨0, by decide⟩)).toInt.toNat (32 - 1) + 0 + 0 = E.val
      rw [hi, h, toInt_ofNat_small _ (by omega)]
      omega
    | ⟨1, _⟩ =>
      show 0 + 0 + q.val = q.val
      omega
    | ⟨2, _⟩ =>
      show 0 + 0 + N.val = N.val
      omega
  refine (hr _).trans ?_
  pointwise

theorem rowsB_at (v : FVec Ideal S2x32x2048 .f32) (p : IVec S97x1 32) (b : Fin 97) (E : Fin 32) (h : p (ValueIdx.ix2 b 0) = BitVec.ofNat 32 E.val) (N : Fin 2048) :
    rowsB v p (ix2 b N) = v (ix3 0 E N) := by
  rw [ix2_eq_valueIdx]
  refine (Routing.gather_row _ rfl rfl rfl rfl rfl _ p b N E h (by decide)).trans ?_
  rw [← ix2_eq_valueIdx]
  pointwise

end Cert.MoeUpReferenceIdeal.Ref
-- ==== Proof.MoeUp.Reference.lean ====
/- The reference's result, entry by entry. -/
module

public import proofs.«01_k».proof.Proof.MoeUp.RefRows

@[expose] public section

set_option maxRecDepth 16384

noncomputable section

namespace Cert.MoeUpReferenceIdeal.Ref

open Cert.MoeUpReferenceIdeal Cert.MoeUpReferenceIdeal.Gen
open Idealize.ShloMosaic Idealize.ShloMosaic.TcCoe Idealize.SL.Sem
open Idealize.ShloMosaic.StableHlo.Predicate
open Cert.MoeUpIdeal.Blk (upTo exOf upTo_mono)
open Cert.MoeUpIdeal.Run (toNat_small slt_zero blkE hidden gated rowIx rowB rowR)

/-! ## The result -/

theorem linear_at (x : FVec Ideal S49664x4096 .bf16) (W : FVec Ideal S97x4096x2048 .f32) (B : FVec Ideal S97x2048 .f32) (b : Fin 97) (r : Fin 512) (N : Fin 2048) :
    linear x W B (ix3 b r N) = (∑ q : Fin 4096, x (ix2 (rowIx b r) q) * W (ix3 b q N)) + B (ix2 b N) := by
  unfold linear
  pointwise
  rfl

theorem act_at (g u : FVec Ideal S97x512x2048 .f32) (b : Fin 97) (r : Fin 512) (N : Fin 2048) :
    act g u (ix3 b r N) = gated (g (ix3 b r N)) (u (ix3 b r N)) := by
  unfold act gated splat Ideal.logistic
  pointwise

theorem place_at (T : FVec Ideal S97x512x2048 .f32) (R : Fin 49664) (N : Fin 2048) :
    shapeCast S49664x2048 (truncf .bf16 T bitsLt_bf16_f32) shapeCasts_S97x512x2048_S49664x2048 (ix2 R N) = T (ix3 (rowB R) (rowR R) N) := by
  pointwise
  rfl

theorem spread_at (v : IVec S97 1) (b : Fin 97) (r : Fin 512) (N : Fin 2048) :
    broadcastInDim S97x512x2048 ![0, 1, 2] bcast_S97x1x1_S97x512x2048_0_1_2 (broadcastInDim S97x1x1 ![0] bcast_S97_S97x1x1_0 v) (ix3 b r N) = v (ValueIdx.ix1 b) := by
  rw [← ix1_eq_valueIdx]
  pointwise

theorem rest_at (b : Fin 97) (r : Fin 512) (N : Fin 2048) : splat 0x00000000#32 (ix3 b r N) = 0 := by
  unfold splat
  pointwise

/-- The reference's result at a row and a column. -/
theorem result_at (x : IVec S32 32) (n : ℕ → ℕ) (hx : ∀ i : Fin 32, x (ValueIdx.ix1 i) = BitVec.ofNat 32 (n i.val)) (h97 : upTo n 32 ≤ 97)
    (X : FVec Ideal S49664x4096 .bf16) (wg wu : FVec Ideal S2x32x4096x2048 .f32) (bg bu : FVec Ideal S2x32x2048 .f32) (R : Fin 49664) (N : Fin 2048) :
    result x X wg wu bg bu (ix2 R N) = hidden n X wg wu bg bu (rowB R) (rowR R) N := by
  have hp := picks_at x n hx h97 (rowB R)
  have hu := used_at x n hx h97 (rowB R)
  have hl : ∀ (w : FVec Ideal S2x32x4096x2048 .f32) (v : FVec Ideal S2x32x2048 .f32), linear X (rowsW w (picks x)) (rowsB v (picks x)) (ix3 (rowB R) (rowR R) N)
      = (∑ q : Fin 4096, X (ix2 (rowIx (rowB R) (rowR R)) q) * w (ix4 0 (blkE n (rowB R).val) q N)) + v (ix3 0 (blkE n (rowB R).val) N) := fun w v => by
    rw [linear_at, rowsB_at v _ _ _ hp]
    exact congrArg (· + _) (Finset.sum_congr rfl fun q _ => congrArg (_ * ·) (rowsW_at w _ _ _ hp q N))
  refine (place_at _ R N).trans ?_
  show (if _ = 1#1 then act _ _ (ix3 (rowB R) (rowR R) N) else splat 0x00000000#32 (ix3 (rowB R) (rowR R) N)) = _
  rw [spread_at, act_at, hl, hl, rest_at]
  unfold MoeUpIdeal.Run.hidden
  by_cases h : (rowB R).val < upTo n 32
  · rw [if_pos (hu.mpr h), if_pos h]
  · rw [if_neg fun e => h (hu.mp e), if_neg h]

end Cert.MoeUpReferenceIdeal.Ref
-- ==== Proof.MoeUp.Claims.lean ====
/- The claims about the experts' gate and up product. -/
module

public import proofs.«01_k».proof.Defs
public import proofs.«01_k».proof.Proof.Gen.MoeUp
public import proofs.«01_k».proof.Proof.Gen.MoeUpReferenceIdeal.Run
public import proofs.«01_k».proof.Proof.Gen.Pre_up_blocks
public import proofs.«01_k».proof.Proof.MoeUp.Reference
public import Idealize.ShloMosaic.Lib.ReduceAll
public import Idealize.ShloMosaic.Adequacy

@[expose] public section

set_option maxRecDepth 16384

noncomputable section

namespace Cert.Proof.MoeUp

open Idealize.ShloMosaic Idealize.ShloMosaic.TcCoe Idealize.SL.Sem
open Cert.MoeUpIdeal.Run
open Cert.MoeUpIdeal.Blk (upTo)

attribute [local instance] Cert.MoeUp.Gen.facts Cert.MoeUpIdeal.Gen.facts Cert.MoeUpReferenceIdeal.Gen.facts Cert.Pre_up_blocks.Gen.facts

/-- A word's number. -/
def num (x : IVec Cert.Pre_up_blocks.S32 32) (e : ℕ) : ℕ := if h : e < 32 then (x (ValueIdx.ix1 ⟨e, h⟩)).toNat else 0

theorem num_at (x : IVec Cert.Pre_up_blocks.S32 32) (i : Fin 32) : x (ValueIdx.ix1 i) = BitVec.ofNat 32 (num x i.val) := by
  unfold num
  rw [dif_pos i.isLt, BitVec.ofNat_toNat, BitVec.setWidth_eq]

/-- A word from 0 to 97, read without a sign. -/
theorem word_le (w : BitVec 32) (g : 0 ≤ w.toInt) (l : w.toInt ≤ 97) : w.toNat ≤ 97 := by
  rw [BitVec.toInt_eq_toNat_cond] at g l
  split at l <;> omega

/-- The sum of the words. -/
def sum (x : IVec Cert.Pre_up_blocks.S32 32) : BitVec 32 :=
  Host.reduce IntOp.addi x (constantI Cert.Pre_up_blocks.S_ 32 0#32) Cert.Pre_up_blocks.Gen.reducesTo_S32_S_d0 Cert.Pre_up_blocks.Gen.h_S_ ValueIdx.ix0

theorem sum_at (x : IVec Cert.Pre_up_blocks.S32 32) : sum x = BitVec.ofNat 32 (upTo (num x) 32) := Routing.reduce_sum x (num x) (num_at x) _ _

theorem all_at (x : IVec Cert.Pre_up_blocks.S32 32) (i : Fin 32)
    (h : Host.reduce IntOp.andi (andi (cmpi .sge x (broadcastInDim Cert.Pre_up_blocks.S32 ![] Cert.Pre_up_blocks.Gen.bcast_S_S32 (constantI Cert.Pre_up_blocks.S_ 32 0#32)))
        (cmpi .sle x (broadcastInDim Cert.Pre_up_blocks.S32 ![] Cert.Pre_up_blocks.Gen.bcast_S_S32 (constantI Cert.Pre_up_blocks.S_ 32 97#32))))
        (constantI Cert.Pre_up_blocks.S_ 1 1#1) Cert.Pre_up_blocks.Gen.reducesTo_S32_S_d0 Cert.Pre_up_blocks.Gen.h_S_ ValueIdx.ix0 = 1#1) :
    (x (ValueIdx.ix1 i)).toNat ≤ 97 := by
  have sub : Subsingleton Cert.Pre_up_blocks.S_.Idx := ⟨fun _ _ => funext fun a => a.elim0⟩
  obtain ⟨g, l⟩ := IntOp.andi_eq_one.1 (Host.reduce_andi_all _ _ _ _ _ h (ValueIdx.ix1 i))
  have g' := IntOp.cmpi_sge.1 ((congrArg (fun w => IntOp.cmpi .sge (x (ValueIdx.ix1 i)) w) (Routing.bc0 _ _ _)).symm.trans g)
  have l' := IntOp.cmpi_sle.1 ((congrArg (fun w => IntOp.cmpi .sle (x (ValueIdx.ix1 i)) w) (Routing.bc0 _ _ _)).symm.trans l)
  exact word_le _ g' l'

theorem upTo_le (n : ℕ → ℕ) (h : ∀ e, n e ≤ 97) (j : ℕ) : upTo n j ≤ 97 * j := by
  induction j with
  | zero => simp [upTo]
  | succ j ih => rw [Cert.MoeUpIdeal.Blk.upTo_succ]; have := h j; omega

theorem sum_le (x : IVec Cert.Pre_up_blocks.S32 32) (hi : ∀ i : Fin 32, (x (ValueIdx.ix1 i)).toNat ≤ 97) (hge : IntOp.cmpi .sge (sum x) 1#32 = 1#1) (hle : IntOp.cmpi .sle (sum x) 97#32 = 1#1) :
    1 ≤ upTo (num x) 32 ∧ upTo (num x) 32 ≤ 97 := by
  have hs : upTo (num x) 32 ≤ 3104 := upTo_le (num x) (fun e => by
    unfold num; split
    · exact hi _
    · omega) 32
  rw [sum_at] at hge hle
  generalize upTo (num x) 32 = k at *
  rw [StableHlo.Predicate.sge_iff_toNat (by rw [toNat_small] <;> omega) (by decide), toNat_small (a := k) (by omega)] at hge
  rw [StableHlo.Predicate.sle_iff_toNat (by rw [toNat_small] <;> omega) (by decide), toNat_small (a := k) (by omega)] at hle
  exact ⟨hge, hle⟩

/-- What the precondition says: the numbers of blocks are naturals, and there are from 1 to 97 blocks. -/
theorem blocks_of {F : FTy → Type} [FloatOps F] (x : IVec Cert.Pre_up_blocks.S32 32) (a1 : FVec F Cert.Pre_up_blocks.S49664x4096 .bf16)
    (a2 a3 : FVec F Cert.Pre_up_blocks.S2x32x4096x2048 .f32) (a4 a5 : FVec F Cert.Pre_up_blocks.S2x32x2048 .f32)
    (h : Cert.Pre_up_blocks.fn (F := F) x a1 a2 a3 a4 a5 = fun _ => 1#1) :
    ∃ n : ℕ → ℕ, (∀ i : Fin 32, x (ValueIdx.ix1 i) = BitVec.ofNat 32 (n i.val)) ∧ 1 ≤ upTo n 32 ∧ upTo n 32 ≤ 97 := by
  obtain ⟨h1, hle⟩ := IntOp.andi_eq_one.1 (congrFun h ValueIdx.ix0)
  obtain ⟨hall, hge⟩ := IntOp.andi_eq_one.1 h1
  exact ⟨num x, num_at x, sum_le x (fun i => all_at x i hall) hge hle⟩

/-- The two programs' body tables agree. -/
theorem bodies_eq {F : FTy → Type} [FloatOps F] : Cert.MoeUpIdeal.defs₀ (F := F) = Cert.MoeUp.defs₀ (F := F) := by
  unfold Cert.MoeUp.defs₀ Cert.MoeUpIdeal.defs₀
  congr 1
  funext a b
  obtain rfl : a = 0 := Fin.ext (by have : a.val < 1 := a.isLt; show a.val = 0; omega)
  rfl

/-- The two programs' tables agree. -/
theorem defs_eq {F : FTy → Type} [FloatOps F] : Cert.MoeUpIdeal.defs (F := F) = Cert.MoeUp.defs (F := F) :=
  congrArg (Pipeline.defs (Cert.MoeUpIdeal.pcfgs (F := F))) bodies_eq

/-- The run at any floats keeps the arguments, from a memory the precondition holds of. -/
theorem kept {F : FTy → Type} [FloatOps F] (m : (ℓ : Loc Cert.MoeUpIdeal.nD Cert.MoeUpIdeal.τ Cert.MoeUpIdeal.sig) → Buf (Elt F) ℓ) (ρ : Dev Cert.MoeUpIdeal.nD → PrngReg)
    (hpre : ∀ c : Dev Cert.MoeUpIdeal.nD, Cert.Pre_up_blocks.fn (F := F) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) = fun _ => 1#1) :
    θ_run (Cert.MoeUpIdeal.defs (F := F)) (onTc (τ := Cert.MoeUpIdeal.τ) (Cert.MoeUpIdeal.main (F := F))) ⟨m, fun _ => 0, ρ⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ r.2.sem = fun _ => 0) := by
  obtain ⟨n, hx, hT, h97⟩ := blocks_of _ _ _ _ _ _ (hpre 0)
  have hO := ok_tbl m n hx hT h97
  exact (θ_run (Cert.MoeUpIdeal.defs (F := F)) _ _).mono (fun r h => ⟨fun c => args_kept m hO h.1 c, h.2⟩)
    (launch_run m ρ hO fun c => steps m n hx hT h97 hO c)

set_option maxHeartbeats 4000000 in
/-- The kernel at bit patterns keeps its arguments: the two programs have the same text. -/
theorem frame_kernel : Cert.quiescent_MoeUp := fun m ρ hpre => by
  have h := kept (F := Bits) m ρ hpre
  rw [defs_eq] at h
  exact h

/-- The kernel at extended reals keeps its arguments. -/
theorem frame_ideal : Cert.quiescent_MoeUpIdeal := fun m ρ hpre => kept (F := Ideal) m ρ hpre

/-- The reference keeps its arguments; it declares no semaphore. -/
theorem frame_ref : Cert.quiescent_MoeUpReferenceIdeal := fun m ρ _ =>
  (θ_run Cert.MoeUpReferenceIdeal.defs _ _).mono
    (fun r h => ⟨fun c => (h c).2, Idealize.ShloMosaic.sem_eq_zero_of_no_sems (by decide) r.2⟩)
    (Cert.MoeUpReferenceIdeal.Value.run (F := Ideal) m ρ)

/-- The reference's composed result is the one of its lines. -/
theorem composed (m : (ℓ : Loc Cert.MoeUpReferenceIdeal.nD Cert.MoeUpReferenceIdeal.τ Cert.MoeUpReferenceIdeal.sig) → Buf (Elt Ideal) ℓ) (c : Dev Cert.MoeUpReferenceIdeal.nD) :
    Cert.MoeUpReferenceIdeal.Value.res_out0 (F := Ideal) m c = Cert.MoeUpReferenceIdeal.Ref.result (m ((c.tc : Thread Cert.MoeUpReferenceIdeal.nD Cert.MoeUpReferenceIdeal.τ).loc Cert.MoeUpReferenceIdeal.main_arg0))
      (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2))
      (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4))
      (m ((c.tc : Thread Cert.MoeUpReferenceIdeal.nD Cert.MoeUpReferenceIdeal.τ).loc Cert.MoeUpReferenceIdeal.main_arg5)) := rfl

/-- The reference's result, where the numbers of blocks are as in the kernel's. -/
theorem ref_eq (x : IVec Cert.MoeUpReferenceIdeal.S32 32) (n : ℕ → ℕ) (hx : ∀ i : Fin 32, x (ValueIdx.ix1 i) = BitVec.ofNat 32 (n i.val)) (h97 : upTo n 32 ≤ 97)
    (X : FVec Ideal Cert.MoeUpReferenceIdeal.S49664x4096 .bf16) (wg wu : FVec Ideal Cert.MoeUpReferenceIdeal.S2x32x4096x2048 .f32) (bg bu : FVec Ideal Cert.MoeUpReferenceIdeal.S2x32x2048 .f32) :
    Cert.MoeUpReferenceIdeal.Ref.result x X wg wu bg bu = fun j => hidden n X wg wu bg bu (rowB (j 0)) (rowR (j 0)) (j 1) := by
  funext j
  obtain ⟨R, N, rfl⟩ : ∃ R N, j = (ix2 R N : Cert.MoeUpReferenceIdeal.S49664x2048.Idx) := ⟨j 0, j 1, eq_ix2 j⟩
  exact Cert.MoeUpReferenceIdeal.Ref.result_at x n hx h97 X wg wu bg bu R N

/-- Over the extended reals the kernel's result is the reference's. -/
theorem value : Cert.algebraic_MoeUpIdeal_MoeUpReferenceIdeal := fun m ρ m' ρ' hpre hag => by
  obtain ⟨n, hx, hT, h97⟩ := blocks_of _ _ _ _ _ _ (hpre 0)
  have hO := ok_tbl m n hx hT h97
  refine ⟨fun c => out5 m n c,
    (θ_run (Cert.MoeUpIdeal.defs (F := Ideal)) _ _).mono
      (fun r h c => ⟨((h.1 c).1 5).trans (arr5 m n hx hT h97 hO c), args_kept m hO h.1 c⟩)
      (launch_run m ρ hO fun c => steps m n hx hT h97 hO c),
    (θ_run (Cert.MoeUpReferenceIdeal.defs (F := Ideal)) _ _).mono
      (fun r h c => by
        obtain rfl : c = 0 := Subsingleton.elim _ _
        obtain ⟨e0, e1, e2, e3, e4, e5⟩ := hag 0
        refine ⟨(h 0).1.trans ((composed m' 0).trans ?_), (h 0).2⟩
        refine (ref_eq _ n (fun i => (congrFun e0 _).trans (hx i)) h97 _ _ _ _ _).trans ?_
        rw [e1, e2, e3, e4, e5]
        rfl)
      (Cert.MoeUpReferenceIdeal.Value.run (F := Ideal) m' ρ')⟩

end Cert.Proof.MoeUp

end
-- ==== Proof.MoeDown.Run.lean ====
/- The run of the experts' down product. -/
module
public import proofs.«01_k».proof.Proof.Gen.MoeDown
public import proofs.«01_k».proof.Proof.Gen.MoeDownIdeal
public import proofs.«01_k».proof.Proof.Gen.MoeDownIdeal.Launch
public import proofs.«01_k».proof.Proof.Gen.MoeDownIdeal.Skeleton
public import Idealize.ShloMosaic.Lib.Claim
public import Idealize.ShloMosaic.Lib.Exec
public import Idealize.ShloMosaic.Lib.Ring
public import Idealize.ShloMosaic.Lib.Tactic
public import Idealize.ShloMosaic.Lib.WordCmp
public import Idealize.ShloMosaic.Lib.VecWindow
public import Idealize.ShloMosaic.Lib.Pipeline.Kit
public import Idealize.ShloMosaic.Lib.Pipeline.FrameBody
@[expose] public section
set_option maxRecDepth 16384
noncomputable section
namespace Cert.MoeDownIdeal.Run
open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the grid -/

/-- The operations before the grid, in order. -/
abbrev hostLines : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15]

/-- The buffers when the grid is entered. -/
abbrev V (c : Dev nD) (b : Ref sig .tc) : Buf (Elt F) ((c : Thread nD τ).loc b) :=
  StableHlo.after (List.flatten hostLines) (fun b => m (c, b)) b

set_option maxHeartbeats 1600000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩)
    (by simp only [List.Forall]; repeat' constructor) main_chain

/-- The arguments are as launched. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  refine ⟨?_, ?_, ?_, ?_⟩ <;>
  exact StableHlo.after_of_forall_not_mem _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables' contents when the grid is entered. -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- A table held at half share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄) = iprop(tbPt c (Memref.whole main_v56) (tbl m 0) ∗ tbPt c (Memref.whole main_v58) (tbl m 1) ∗ tbPt c (Memref.whole main_v21) (tbl m 2) ∗ tbPt c (Memref.whole main_v41) (tbl m 3) ∗ tbPt c (Memref.whole main_v65) (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The body at point `t`. -/
abbrev bodyAt (a : (pcfg0 (F := F)).Adm) (t : Fin (cfg0 a).N) : Prog (TpuEff nD τ sig (Elt F) Λ₀ .tc) PUnit :=
  cc0_moe_down (grid0.coords t) (Memref.whole main_v56) (Memref.isWhole_whole _) (Memref.whole main_v58) (Memref.isWhole_whole _) (Memref.whole main_v21) (Memref.isWhole_whole _) (Memref.whole main_v41) (Memref.isWhole_whole _) (Memref.whole main_v65) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-! ## The body -/

/-- The flag word the body loads at a point. -/
abbrev flagOf (c : Dev nD) (i : grid0.Coords) (f : Buf (Elt F) ((Memref.whole main_v65).view.loc (c : Thread nD τ))) : BitVec 32 :=
  View.readAt (Elt F) (Memref.whole main_v65).view (Rect.unit (s := S388) (k0_off1 i) S1.size (k0_off1_inb i)).toLoadRect f
    (Shape.Idx.first (by show 0 < S1.numel; rw [numel1_S1]; exact Nat.one_pos))

/-- The inner branch's test: the flag is three. -/
abbrev isThree (v : BitVec 32) : Prop := Scalar.cmpi .ne (Scalar.extui (Scalar.cmpi .eq v 3#32)) 0#32 = 1#1

/-- The three staged inputs of the body, at their contents. -/
abbrev ins (c : Dev nD) (arg6 : Memref sig .tc .vmem S512x2048 .bf16) (arg7 : Memref sig .tc .vmem S1x1x2048x1024 .f32) (arg8 : Memref sig .tc .vmem S1x1x1x1024 .f32)
    (x : Vec F S512x2048 .bf16) (w : Vec F S1x1x2048x1024 .f32) (b : Vec F S1x1x1x1024 .f32) : sProp 𝕄 :=
  iprop(owns (c : Thread nD τ) arg6 fullShare x ∗ owns (c : Thread nD τ) arg7 fullShare w ∗ owns (c : Thread nD τ) arg8 fullShare b)

section body

variable (arg1 : Memref sig .tc .smem S388 .i32) (harg1 : arg1.IsWhole) (arg2 : Memref sig .tc .smem S388 .i32) (harg2 : arg2.IsWhole) (arg3 : Memref sig .tc .smem S388 .i32) (harg3 : arg3.IsWhole) (arg4 : Memref sig .tc .smem S388 .i32) (harg4 : arg4.IsWhole)
  (arg6 : Memref sig .tc .vmem S512x2048 .bf16) (harg6 : arg6.IsWhole) (arg7 : Memref sig .tc .vmem S1x1x2048x1024 .f32) (harg7 : arg7.IsWhole) (arg8 : Memref sig .tc .vmem S1x1x1x1024 .f32) (harg8 : arg8.IsWhole) (arg9 : Memref sig .tc .vmem S512x1024 .f32) (harg9 : arg9.IsWhole) (arg10 : Memref sig .tc .vmem S2048x1024 .bf16) (harg10 : arg10.IsWhole)
  (c : Dev nD) (i : grid0.Coords) (f : Buf (Elt F) ((Memref.whole main_v65).view.loc (c : Thread nD τ))) (x : Vec F S512x2048 .bf16) (w : Vec F S1x1x2048x1024 .f32) (b : Vec F S1x1x1x1024 .f32)

/-- The body on the given buffers. -/
abbrev body : Prog (TpuEff nD τ sig (Elt F) Λ₀ .tc) PUnit :=
  cc0_moe_down i arg1 harg1 arg2 harg2 arg3 harg3 arg4 harg4 (Memref.whole main_v65) (Memref.isWhole_whole _) arg6 harg6 arg7 harg7 arg8 harg8 arg9 harg9 arg10 harg10

/-- The table, the inputs, the result's buffer and the scratch, the last two at given contents. -/
abbrev ends (o : Vec F S512x1024 .f32) (s : Vec F S2048x1024 .bf16) : sProp 𝕄 :=
  iprop(tbPt c (Memref.whole main_v65) f ∗ ins c arg6 arg7 arg8 x w b ∗ owns (c : Thread nD τ) arg9 fullShare o ∗ owns (c : Thread nD τ) arg10 fullShare s)

set_option maxHeartbeats 2000000 in
/-- The body where a column block of weights is first used: the rounded block is kept and used. -/
theorem body_first (h1 : k0_cond1 (flagOf c i f) = 1#1) (h2 : isThree (flagOf c i f)) (h3 : ¬ k0_cond3 (flagOf c i f) = 1#1) (E : Set ℕ) (K : PUnit → sProp 𝕄) :
    iprop(tbPt c (Memref.whole main_v65) f ∗ ins c arg6 arg7 arg8 x w b ∗ (∃ d, owns (c : Thread nD τ) arg9 fullShare d) ∗ (∃ d, owns (c : Thread nD τ) arg10 fullShare d)
        ∗ (ends arg6 arg7 arg8 arg9 arg10 c f x w b (k0_pay2 x (k0_pay1 w) b) (k0_pay1 w) -∗ K ⟨⟩))
      ⊢ wp frame (wpE (defs₀ (F := F)) Variants.none c none) E (body arg1 harg1 arg2 harg2 arg3 harg3 arg4 harg4 arg6 harg6 arg7 harg7 arg8 harg8 arg9 harg9 arg10 harg10 i) K := by
  unfold body ends; simp only [cc0_moe_down_eq_skeleton]; unfold cc0_moe_down_skel
  unfold ins owns
  iintro ⟨HT, ⟨⟨%f0, %hf0, H0⟩, ⟨%f1, %hf1, H1⟩, ⟨%f2, %hf2, H2⟩⟩, ⟨%d5, %f5, -, H5⟩, ⟨%d6, %f6, -, H6⟩, Hk⟩
  obtain rfl := harg6.eq_unread hf0; obtain rfl := harg7.eq_unread hf1; obtain rfl := harg8.eq_unread hf2
  sl_exec (disch := first | sl_exact h1 | sl_exact h2 | sl_exact h3)
  sl_step
  iapply Hk
  isplitl [HT]; · iexact HT
  isplitl [H0 H1 H2]
  · isplitl [H0]
    · iexists _; isplitr; · ipureintro; exact harg6.read_unread _
      iexact H0
    isplitl [H1]
    · iexists _; isplitr; · ipureintro; exact harg7.read_unread _
      iexact H1
    iexists _; isplitr; · ipureintro; exact harg8.read_unread _
    iexact H2
  isplitl [H5]
  · iexists _; isplitr; swap
    · iexact H5
    ipureintro
    refine (View.read_writes_full _ _ _ _ _).trans ?_
    unfold body_first.sl.v12 body_first.sl.H6_1
    rw [View.readAt_full, View.readAt_full, View.readAt_full, View.readCov_full, harg6.read_unread, harg7.read_unread, harg8.read_unread]
  iexists _; isplitr; swap
  · iexact H6
  ipureintro
  unfold body_first.sl.H6_1
  refine (View.read_writes_full _ _ _ _ _).trans ?_
  rw [View.readAt_full, harg7.read_unread]

set_option maxHeartbeats 2000000 in
/-- The body at a later row block of the column block: what is kept is used. -/
theorem body_later (s : Vec F S2048x1024 .bf16) (h1 : k0_cond1 (flagOf c i f) = 1#1) (h2 : ¬ isThree (flagOf c i f)) (h3 : ¬ k0_cond3 (flagOf c i f) = 1#1) (E : Set ℕ) (K : PUnit → sProp 𝕄) :
    iprop(tbPt c (Memref.whole main_v65) f ∗ ins c arg6 arg7 arg8 x w b ∗ (∃ d, owns (c : Thread nD τ) arg9 fullShare d) ∗ owns (c : Thread nD τ) arg10 fullShare s
        ∗ (ends arg6 arg7 arg8 arg9 arg10 c f x w b (k0_pay2 x s b) (s) -∗ K ⟨⟩))
      ⊢ wp frame (wpE (defs₀ (F := F)) Variants.none c none) E (body arg1 harg1 arg2 harg2 arg3 harg3 arg4 harg4 arg6 harg6 arg7 harg7 arg8 harg8 arg9 harg9 arg10 harg10 i) K := by
  unfold body ends; simp only [cc0_moe_down_eq_skeleton]; unfold cc0_moe_down_skel
  unfold ins owns
  iintro ⟨HT, ⟨⟨%f0, %hf0, H0⟩, ⟨%f1, %hf1, H1⟩, ⟨%f2, %hf2, H2⟩⟩, ⟨%d5, %f5, -, H5⟩, ⟨%f6, %hf6, H6⟩, Hk⟩
  obtain rfl := harg6.eq_unread hf0; obtain rfl := harg7.eq_unread hf1; obtain rfl := harg8.eq_unread hf2; obtain rfl := harg10.eq_unread hf6
  sl_exec (disch := first | sl_exact h1 | sl_exact h2 | sl_exact h3)
  sl_step
  iapply Hk
  isplitl [HT]; · iexact HT
  isplitl [H0 H1 H2]
  · isplitl [H0]
    · iexists _; isplitr; · ipureintro; exact harg6.read_unread _
      iexact H0
    isplitl [H1]
    · iexists _; isplitr; · ipureintro; exact harg7.read_unread _
      iexact H1
    iexists _; isplitr; · ipureintro; exact harg8.read_unread _
    iexact H2
  isplitl [H5]
  · iexists _; isplitr; swap
    · iexact H5
    ipureintro
    refine (View.read_writes_full _ _ _ _ _).trans ?_
    rw [View.readAt_full, View.readAt_full, View.readAt_full, harg6.read_unread, harg8.read_unread, harg10.read_unread]
  iexists _; isplitr; swap
  · iexact H6
  ipureintro
  exact harg10.read_unread _

set_option maxHeartbeats 2000000 in
/-- The body at a spare block: zeros. -/
theorem body_spare (s : Vec F S2048x1024 .bf16) (h1 : ¬ k0_cond1 (flagOf c i f) = 1#1) (h3 : k0_cond3 (flagOf c i f) = 1#1) (E : Set ℕ) (K : PUnit → sProp 𝕄) :
    iprop(tbPt c (Memref.whole main_v65) f ∗ ins c arg6 arg7 arg8 x w b ∗ (∃ d, owns (c : Thread nD τ) arg9 fullShare d) ∗ owns (c : Thread nD τ) arg10 fullShare s
        ∗ (ends arg6 arg7 arg8 arg9 arg10 c f x w b (k0_pay3 (F := F)) (s) -∗ K ⟨⟩))
      ⊢ wp frame (wpE (defs₀ (F := F)) Variants.none c none) E (body arg1 harg1 arg2 harg2 arg3 harg3 arg4 harg4 arg6 harg6 arg7 harg7 arg8 harg8 arg9 harg9 arg10 harg10 i) K := by
  unfold body ends; simp only [cc0_moe_down_eq_skeleton]; unfold cc0_moe_down_skel
  unfold ins owns
  iintro ⟨HT, ⟨⟨%f0, %hf0, H0⟩, ⟨%f1, %hf1, H1⟩, ⟨%f2, %hf2, H2⟩⟩, ⟨%d5, %f5, -, H5⟩, ⟨%f6, %hf6, H6⟩, Hk⟩
  obtain rfl := harg6.eq_unread hf0; obtain rfl := harg7.eq_unread hf1; obtain rfl := harg8.eq_unread hf2; obtain rfl := harg10.eq_unread hf6
  sl_exec (disch := first | sl_exact h1 | sl_exact h3)
  sl_step
  iapply Hk
  isplitl [HT]; · iexact HT
  isplitl [H0 H1 H2]
  · isplitl [H0]
    · iexists _; isplitr; · ipureintro; exact harg6.read_unread _
      iexact H0
    isplitl [H1]
    · iexists _; isplitr; · ipureintro; exact harg7.read_unread _
      iexact H1
    iexists _; isplitr; · ipureintro; exact harg8.read_unread _
    iexact H2
  isplitl [H5]
  · iexists _; isplitr; swap
    · iexact H5
    ipureintro
    exact (View.read_writes_full _ _ _ _ _)
  iexists _; isplitr; swap
  · iexact H6
  ipureintro
  exact harg10.read_unread _

end body

/-! ## The proof data -/

/-- The flag at point `t`. -/
abbrev flag (hO : Ok m) (c : Dev nD) (t : Fin (cfgM m hO).N) : BitVec 32 := flagOf c (grid0.coords t) (tbl m 4)

/-- A block of weights is in use at point `t`. -/
abbrev inUse (hO : Ok m) (c : Dev nD) (t : Fin (cfgM m hO).N) : Prop := k0_cond1 (flag m hO c t) = 1#1

/-- What the body leaves in the result's buffer at point `t`. -/
def leaves (hO : Ok m) (c : Dev nD) (t : Fin (cfgM m hO).N) : Vec F S512x1024 .f32 :=
  if inUse m hO c t then k0_pay2 (iblk m hO c 0 t) (k0_pay1 (iblk m hO c 1 t)) (iblk m hO c 2 t) else k0_pay3

/-- What is kept before point `n`: the weight block of the point before, where it was in use. -/
def kept (hO : Ok m) (c : Dev nD) (n : Fin ((cfgM m hO).N + 1)) (s : Vec F S2048x1024 .bf16) : Prop :=
  ∀ t : Fin (cfgM m hO).N, t.val + 1 = n.val → inUse m hO c t → s = k0_pay1 (iblk m hO c 1 t)

/-- Where the block in use is not fresh, it is that of the point before. -/
def Steps (hO : Ok m) (c : Dev nD) : Prop :=
  ∀ t : Fin (cfgM m hO).N, inUse m hO c t → ¬ isThree (flag m hO c t) → ∃ t' : Fin (cfgM m hO).N, t'.val + 1 = t.val ∧ inUse m hO c t'
    ∧ iblk m hO c 1 t' = iblk m hO c 1 t

/-- The proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => leaves m hO c t
  Φ n := iprop((∃ s, ⌜kept m hO c n s⌝ ∗ owns (c : Thread nD τ) (Memref.whole cc0_scratch0) fullShare s) ∗ Pipeline.ΦT pre0 (tbl m) c ∗ (∃ r, prngReg c r))
  q _ := fullShare
  owed _ := 0

variable (hO : Ok m) (c : Dev nD)

theorem A_eq (w : Fin (cfgM m hO).W) : (dats m hO 0 c).A w = V m c (Pipeline.arrRef spec0 w) := by
  dsimp only [dats]

/-- The body leaves the inputs' buffers alone. -/
theorem after_in (t : Fin (cfgM m hO).N) : (dats m hO 0 c).after 0 t = iblk m hO c 0 t ∧ (dats m hO 0 c).after 1 t = iblk m hO c 1 t
    ∧ (dats m hO 0 c).after 2 t = iblk m hO c 2 t := by
  dsimp only [dats]; exact ⟨rfl, rfl, rfl⟩

theorem after_out (t : Fin (cfgM m hO).N) : (dats m hO 0 c).after 3 t = leaves m hO c t := by dsimp only [dats]; rfl

/-- An input window's buffer holds its block at every point. -/
theorem before_in (t : Fin (cfgM m hO).N) :
    (∀ d, (dats m hO 0 c).before 0 t d = iblk m hO c 0 t) ∧ (∀ d, (dats m hO 0 c).before 1 t d = iblk m hO c 1 t) ∧ (∀ d, (dats m hO 0 c).before 2 t d = iblk m hO c 2 t) := by
  refine ⟨fun d => ?_, fun d => ?_, fun d => ?_⟩
  · exact ((dats m hO 0 c).before_in_eq_fetched 0 rfl (fun _ => rfl) (fun _ _ _ => rfl) (fun t => by rw [(after_in m hO c t).1]; unfold Dat.blockOf iblk; rw [A_eq]; try rfl) t d).trans
      (by unfold Dat.fetched Dat.blockOf iblk; rw [A_eq]; try rfl)
  · exact ((dats m hO 0 c).before_in_eq_fetched 1 rfl (fun _ => rfl) (fun _ _ _ => rfl) (fun t => by rw [(after_in m hO c t).2.1]; unfold Dat.blockOf iblk; rw [A_eq]; try rfl) t d).trans
      (by unfold Dat.fetched Dat.blockOf iblk; rw [A_eq]; try rfl)
  · exact ((dats m hO 0 c).before_in_eq_fetched 2 rfl (fun _ => rfl) (fun _ _ _ => rfl) (fun t => by rw [(after_in m hO c t).2.2]; unfold Dat.blockOf iblk; rw [A_eq]; try rfl) t d).trans
      (by unfold Dat.fetched Dat.blockOf iblk; rw [A_eq]; try rfl)

/-! ## The obligation -/

/-- A flag is from two on or below two. -/
theorem cond_iff (v : BitVec 32) : k0_cond3 v = 1#1 ↔ ¬ k0_cond1 v = 1#1 := by
  simp only [k0_cond1, k0_cond3, Scalar.cmpi, IntOp.cmpi, BitVec.sle_eq_not_slt]
  cases BitVec.slt v 2#32 <;> simp [Scalar.extui]

theorem live_out (t : Fin (cfgM m hO).N) : (cfgM m hO).idle 3 ((cfgM m hO).grid.coords t) = false := by
  show (!(k0_cond1 _ == 1#1) && !(k0_cond3 _ == 1#1)) = false
  rw [Bool.and_eq_false_iff]
  by_cases h : k0_cond1 ((tbl m).atD 4 (k0_off1 ((cfgM m hO).grid.coords t))) = 1#1
  · left; rw [h]; rfl
  · right; rw [(cond_iff _).mpr h]; rfl

theorem Φ_eq (n : Fin ((cfgM m hO).N + 1)) : (dats m hO 0 c).Φ n = iprop((∃ s, ⌜kept m hO c n s⌝ ∗ owns (c : Thread nD τ) (Memref.whole cc0_scratch0) fullShare s) ∗ Pipeline.ΦT pre0 (tbl m) c ∗ (∃ r, prngReg c r)) := by
  dsimp only [dats]

/-- The buffer window `w` uses at point `t`, at contents `X`. -/
abbrev buf (w : Fin (cfgM m hO).W) (t : Fin (cfgM m hO).N)
    (X : ((cfgM m hO).win w).block.Idx → Elt F ((cfgM m hO).win w).elt) : sProp 𝕄 :=
  owns (c : Thread nD τ) (((cfgM m hO).win w).stage ((cfgM m hO).slots t w)) fullShare X

/-- What the body is called with at point `t`. -/
def pre (t : Fin (cfgM m hO).N) : sProp 𝕄 :=
  iprop((dats m hO 0 c).Φ t.castSucc ∗ (dats m hO 0 c).owesAt () t.castSucc
    ∗ (∃ d, buf m hO c 0 t ((dats m hO 0 c).before 0 t d)) ∗ (∃ d, buf m hO c 1 t ((dats m hO 0 c).before 1 t d))
    ∗ (∃ d, buf m hO c 2 t ((dats m hO 0 c).before 2 t d)) ∗ (∃ d, buf m hO c 3 t ((dats m hO 0 c).before 3 t d)))

/-- What it returns. -/
def post (t : Fin (cfgM m hO).N) : sProp 𝕄 :=
  iprop((dats m hO 0 c).Φ t.succ ∗ (dats m hO 0 c).owesAt () t.succ
    ∗ buf m hO c 0 t ((dats m hO 0 c).after 0 t) ∗ buf m hO c 1 t ((dats m hO 0 c).after 1 t)
    ∗ buf m hO c 2 t ((dats m hO 0 c).after 2 t) ∗ buf m hO c 3 t ((dats m hO 0 c).after 3 t))

theorem kept_of (t : Fin (cfgM m hO).N) (s : Vec F S2048x1024 .bf16)
    (h : inUse m hO c t → s = k0_pay1 (iblk m hO c 1 t)) : kept m hO c t.succ s := by
  intro t' ht'
  obtain rfl : t' = t := Fin.ext (by rw [Fin.val_succ] at ht'; omega)
  exact h

set_option maxHeartbeats 2000000 in
/-- What the body hands back is what is asked, whatever it leaves of the right kind. -/
theorem close (t : Fin (cfgM m hO).N) (o : Vec F S512x1024 .f32) (s : Vec F S2048x1024 .bf16) (ho : o = leaves m hO c t) (hs : kept m hO c t.succ s) :
    iprop((tbPt c (Memref.whole main_v56) (tbl m 0) ∗ tbPt c (Memref.whole main_v58) (tbl m 1) ∗ tbPt c (Memref.whole main_v21) (tbl m 2) ∗ tbPt c (Memref.whole main_v41) (tbl m 3)) ∗ (∃ r, prngReg c r) ∗ (dats m hO 0 c).owesAt () t.castSucc
      ∗ ends (spec0_0.stage ((cfgM m hO).slots t 0)) (spec0_1.stage ((cfgM m hO).slots t 1)) (spec0_2.stage ((cfgM m hO).slots t 2)) (spec0_3.stage ((cfgM m hO).slots t 3)) (Memref.whole cc0_scratch0) c (tbl m 4) (iblk m hO c 0 t) (iblk m hO c 1 t) (iblk m hO c 2 t) o s)
      ⊢ post m hO c t := by
  obtain ⟨a0, a1, a2⟩ := after_in m hO c t
  unfold post ends ins
  rw [Φ_eq, show (dats m hO 0 c).owesAt () t.succ = (dats m hO 0 c).owesAt () t.castSucc from rfl, a0, a1, a2, after_out, PhiT_eq, ho]
  iintro ⟨⟨HT0, HT1, HT2, HT3⟩, Hg, Ho, ⟨HT4, ⟨H0, H1, H2⟩, H5, HS⟩⟩
  isplitl [HS HT0 HT1 HT2 HT3 HT4 Hg]
  · isplitl [HS]
    · iexists _; isplitr; swap
      · iexact HS
      ipureintro; exact hs
    isplitl [HT0 HT1 HT2 HT3 HT4]
    · isplitl [HT0]; · iexact HT0
      isplitl [HT1]; · iexact HT1
      isplitl [HT2]; · iexact HT2
      isplitl [HT3]; · iexact HT3
      iexact HT4
    iexact Hg
  isplitl [Ho]; · iexact Ho
  isplitl [H0]; · iexact H0
  isplitl [H1]; · iexact H1
  isplitl [H2]; · iexact H2
  iexact H5

set_option maxHeartbeats 2000000 in
/-- The body at any point of the grid. -/
theorem sound (hS : Steps m hO c) (t : Fin (cfgM m hO).N) :
    pre m hO c t ⊢ wp frame (wpE (defs₀ (F := F)) Variants.none c none) Set.univ (bodyAt (adm m hO) t) (fun _ => post m hO c t) := by
  unfold pre bodyAt
  obtain ⟨b0, b1, b2⟩ := before_in m hO c t
  simp only [b0, b1, b2]
  rw [Φ_eq, PhiT_eq]
  iintro ⟨⟨⟨%s, %hk, HS⟩, ⟨HT0, HT1, HT2, HT3, HT4⟩, Hg⟩, Ho, ⟨%d0, H0⟩, ⟨%d1, H1⟩, ⟨%d2, H2⟩, ⟨%d3, H3⟩⟩
  by_cases h : inUse m hO c t
  · have hn : ¬ k0_cond3 (flag m hO c t) = 1#1 := fun e => (cond_iff _).mp e h
    by_cases h3 : isThree (flag m hO c t)
    · iapply (body_first _ _ _ _ _ _ _ _ _ _ _ _ _ _ _ _ _ _ c (grid0.coords t) (tbl m 4) (iblk m hO c 0 t) (iblk m hO c 1 t) (iblk m hO c 2 t) h h3 hn Set.univ _)
      isplitl [HT4]; · iexact HT4
      isplitl [H0 H1 H2]
      · unfold ins
        isplitl [H0]; · iexact H0
        isplitl [H1]; · iexact H1
        iexact H2
      isplitl [H3]; · iexists _; iexact H3
      isplitl [HS]; · iexists _; iexact HS
      iintro HE
      iapply (close m hO c t _ _ (by unfold leaves; rw [if_pos h]) (kept_of m hO c t _ fun _ => rfl))
      isplitl [HT0 HT1 HT2 HT3]
      · isplitl [HT0]; · iexact HT0
        isplitl [HT1]; · iexact HT1
        isplitl [HT2]; · iexact HT2
        iexact HT3
      isplitl [Hg]; · iexact Hg
      isplitl [Ho]; · iexact Ho
      iexact HE
    · have hs : s = k0_pay1 (iblk m hO c 1 t) := by
        obtain ⟨t', ht', hu, e1⟩ := hS t h h3
        rw [← e1]; exact hk t' ht' hu
      iapply (body_later _ _ _ _ _ _ _ _ _ _ _ _ _ _ _ _ _ _ c (grid0.coords t) (tbl m 4) (iblk m hO c 0 t) (iblk m hO c 1 t) (iblk m hO c 2 t) s h h3 hn Set.univ _)
      isplitl [HT4]; · iexact HT4
      isplitl [H0 H1 H2]
      · unfold ins
        isplitl [H0]; · iexact H0
        isplitl [H1]; · iexact H1
        iexact H2
      isplitl [H3]; · iexists _; iexact H3
      isplitl [HS]; · iexact HS
      iintro HE
      iapply (close m hO c t _ _ (by unfold leaves; rw [if_pos h, ← hs]) (kept_of m hO c t _ fun _ => hs))
      isplitl [HT0 HT1 HT2 HT3]
      · isplitl [HT0]; · iexact HT0
        isplitl [HT1]; · iexact HT1
        isplitl [HT2]; · iexact HT2
        iexact HT3
      isplitl [Hg]; · iexact Hg
      isplitl [Ho]; · iexact Ho
      iexact HE
  · have hn : k0_cond3 (flag m hO c t) = 1#1 := (cond_iff _).mpr h
    iapply (body_spare _ _ _ _ _ _ _ _ _ _ _ _ _ _ _ _ _ _ c (grid0.coords t) (tbl m 4) (iblk m hO c 0 t) (iblk m hO c 1 t) (iblk m hO c 2 t) s h hn Set.univ _)
    isplitl [HT4]; · iexact HT4
    isplitl [H0 H1 H2]
    · unfold ins
      isplitl [H0]; · iexact H0
      isplitl [H1]; · iexact H1
      iexact H2
    isplitl [H3]; · iexists _; iexact H3
    isplitl [HS]; · iexact HS
    iintro HE
    iapply (close m hO c t _ _ (by unfold leaves; rw [if_neg h]) (kept_of m hO c t _ fun e => absurd e h))
    isplitl [HT0 HT1 HT2 HT3]
    · isplitl [HT0]; · iexact HT0
      isplitl [HT1]; · iexact HT1
      isplitl [HT2]; · iexact HT2
      iexact HT3
    isplitl [Hg]; · iexact Hg
    isplitl [Ho]; · iexact Ho
    iexact HE

theorem row (t : Fin (cfgM m hO).N) :
    defs₀ (F := F) .tc (cfgM m hO).body ((cfgM m hO).bodyArgs t ((cfgM m hO).slots t)) = bodyAt (adm m hO) t := by
  unfold defs₀; rw [Defs.onTc_tc]

/-- The obligation the pipeline's rule asks of the body. -/
theorem obligation (hS : Steps m hO c) : BodyObligation (dats m hO 0 c) (defs₀ (F := F)) Variants.none () Set.univ := fun t => by
  rw [bigSep_W0, bigSep_W0, row, live_out]
  exact triple_restated (sound m hO c hS t) rfl .rfl fun _ => .rfl

/-- Before the first point the scratch holds anything. -/
theorem start : iprop(Pipeline.ΦA spec0 c ∗ Pipeline.ΦT pre0 (tbl m) c) ⊢ (dats m hO 0 c).Φ 0 := by
  rw [Φ_eq]; unfold Pipeline.ΦA; rw [scopedRest0_eq]; simp only [owns_whole]
  iintro ⟨⟨⟨%f, H1⟩, Hg⟩, HT⟩
  isplitl [H1]
  · iexists f; isplitr
    · ipureintro; intro t ht; exact absurd ht (Nat.succ_ne_zero _)
    iexact H1
  isplitl [HT]; · iexact HT
  iexact Hg

/-- After the last point its contents are forgotten. -/
theorem finish : (dats m hO 0 c).Φ (Fin.last (cfgM m hO).N) ⊢ (Pipeline.ΦA spec0 c : sProp 𝕄) := by
  rw [Φ_eq]; unfold Pipeline.ΦA; rw [scopedRest0_eq]; simp only [owns_whole]
  iintro ⟨⟨%f, -, H1⟩, -, Hg⟩
  isplitl [H1]
  · iexists f; iexact H1
  iexact Hg

omit c

set_option backward.isDefEq.respectTransparency.types false in
/-- The launch: every execution ends, with the arrays at what the proof data name and every counter at zero. -/
theorem launch_run (hS : ∀ c, Steps m hO c) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) 0 launch0 defs₀ Variants.none m ρ main
    (hbody := fun c => (obligation m hO c (hS c)).loose) (hshare := fun c => (dats m hO 0 c).share_full fun _ => rfl)
    (howed := fun _ _ => rfl) (V := V m) (hmain := hmain m Variants.none) (hA := fun c => A_eq m hO c) (hpf := V_pre m) (hin := start m hO) (hout := finish m hO)

/-- The arguments end as launched. -/
theorem args_kept {r : PUnit × MemSt nD τ sig (Elt F)} (h : Pipeline.FramePost (Pipeline.pin pcfgs fun _ => adm m hO) (dats m hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨v0, v1, v2, v3⟩ := V_args m c
  exact ⟨((h c).2 main_arg0 (by decide : main_arg0 ∈ Pipeline.restRefs sig spec0)).trans v0,
    ((h c).1 0).trans (((dats m hO 0 c).arrAt_in 0 rfl _).trans ((A_eq m hO c 0).trans v1)),
    ((h c).1 1).trans (((dats m hO 0 c).arrAt_in 1 rfl _).trans ((A_eq m hO c 1).trans v2)),
    ((h c).2 main_arg3 (by decide : main_arg3 ∈ Pipeline.restRefs sig spec0)).trans v3⟩

end Cert.MoeDownIdeal.Run
-- ==== Proof.MoeDown.Host.lean ====
/- The tables of the experts' down product: the same functions of the numbers of blocks as for the gate and up product. -/
module

public import proofs.«01_k».proof.Proof.MoeDown.Run
public import proofs.«01_k».proof.Proof.MoeUp.Grid
public import Idealize.ShloMosaic.Lib.StableHlo.RunRead

@[expose] public section

set_option maxRecDepth 16384

noncomputable section

namespace Cert.MoeDownIdeal.Run

open Cert.MoeDownIdeal Cert.MoeDownIdeal.Gen
open Idealize.ShloMosaic Idealize.ShloMosaic.TcCoe Idealize.SL.Sem
open Idealize.ShloMosaic.StableHlo (after)
open Cert.MoeUpIdeal.Run (spread const iotas cums firsts total items live item expert look place width floorDiv remDown colTbl rowIn spare rowTbl outTbl flagTbl)

section any
variable {F : FTy → Type} [FloatOps F]
variable (m : (ℓ : Loc nD τ sig) → Buf (Elt F) ℓ) (c : Dev nD)

/-- The experts' numbers of blocks. -/
def nblk : IVec S32 32 := m ((c.tc : Thread nD τ).loc main_arg0)

section stages

attribute [local irreducible] Host.reduceWindow Host.reduce Host.gather Host.divsi Host.remsi

variable (U : (b : DevRef τ sig) → b.ty.Contents (Elt F)) (x : IVec S32 32)

/-! The buffers after each line of operations, from those before it. -/

theorem stage_0 (harg0 : (U main_arg0 : IVec S32 32) = x) :
    (after (hostOps0 (F := F)) U main_v0 : IVec S32 32) = cums x
    ∧ (after (hostOps0 (F := F)) U main_arg0 : IVec S32 32) = x := by
  refine ⟨?_, ?_⟩ <;> after_reads_simp <;> first | assumption | ((try simp only [StableHlo.TRef.toBuf, StableHlo.TRef.ofBuf, cast_eq]); (try rw [harg0]); first | done | rfl)

theorem stage_1 (hv0 : (U main_v0 : IVec S32 32) = cums x) (harg0 : (U main_arg0 : IVec S32 32) = x) :
    (after (hostOps0_1 (F := F)) U main_v1 : IVec S32 32) = firsts x
    ∧ (after (hostOps0_1 (F := F)) U main_v2 : IVec S388 32) = iotas
    ∧ (after (hostOps0_1 (F := F)) U main_v3 : IVec S_ 32) = total x
    ∧ (after (hostOps0_1 (F := F)) U main_v4 : IVec S_ 32) = items x
    ∧ (after (hostOps0_1 (F := F)) U main_v6 : IVec S388 1) = live x
    ∧ (after (hostOps0_1 (F := F)) U main_v9 : IVec S388 32) = item x
    ∧ (after (hostOps0_1 (F := F)) U main_arg0 : IVec S32 32) = x := by
  refine ⟨?_, ?_, ?_, ?_, ?_, ?_, ?_⟩ <;> after_reads_simp <;> first | assumption | ((try simp only [StableHlo.TRef.toBuf, StableHlo.TRef.ofBuf, cast_eq]); (try rw [hv0]); (try rw [harg0]); first | done | rfl)

theorem stage_2 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv9 : (U main_v9 : IVec S388 32) = item x) (harg0 : (U main_arg0 : IVec S32 32) = x) :
    (after (hostOps0_2 (F := F)) U main_v1 : IVec S32 32) = firsts x
    ∧ (after (hostOps0_2 (F := F)) U main_v2 : IVec S388 32) = iotas
    ∧ (after (hostOps0_2 (F := F)) U main_v3 : IVec S_ 32) = total x
    ∧ (after (hostOps0_2 (F := F)) U main_v4 : IVec S_ 32) = items x
    ∧ (after (hostOps0_2 (F := F)) U main_v6 : IVec S388 1) = live x
    ∧ (after (hostOps0_2 (F := F)) U main_v9 : IVec S388 32) = item x
    ∧ (after (hostOps0_2 (F := F)) U main_v10 : IVec S32 32) = cums x
    ∧ (after (hostOps0_2 (F := F)) U main_arg0 : IVec S32 32) = x := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv9]); (try rw [harg0]); first | done | rfl)

theorem stage_3 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv9 : (U main_v9 : IVec S388 32) = item x) (hv10 : (U main_v10 : IVec S32 32) = cums x) (harg0 : (U main_arg0 : IVec S32 32) = x) :
    (after (hostOps0_3 (F := F)) U main_v1 : IVec S32 32) = firsts x
    ∧ (after (hostOps0_3 (F := F)) U main_v2 : IVec S388 32) = iotas
    ∧ (after (hostOps0_3 (F := F)) U main_v3 : IVec S_ 32) = total x
    ∧ (after (hostOps0_3 (F := F)) U main_v4 : IVec S_ 32) = items x
    ∧ (after (hostOps0_3 (F := F)) U main_v6 : IVec S388 1) = live x
    ∧ (after (hostOps0_3 (F := F)) U main_v21 : IVec S388 32) = expert x
    ∧ (after (hostOps0_3 (F := F)) U main_v31 : IVec S388 32) = place x
    ∧ (after (hostOps0_3 (F := F)) U main_v40 : IVec S388 32) = width x := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv9]); (try rw [hv10]); (try rw [harg0]); first | done | rfl)

attribute [local irreducible] place width expert cums total live

theorem stage_4 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv21 : (U main_v21 : IVec S388 32) = expert x) (hv31 : (U main_v31 : IVec S388 32) = place x) (hv40 : (U main_v40 : IVec S388 32) = width x) :
    (after (hostOps0_4 (F := F)) U main_v1 : IVec S32 32) = firsts x
    ∧ (after (hostOps0_4 (F := F)) U main_v2 : IVec S388 32) = iotas
    ∧ (after (hostOps0_4 (F := F)) U main_v3 : IVec S_ 32) = total x
    ∧ (after (hostOps0_4 (F := F)) U main_v4 : IVec S_ 32) = items x
    ∧ (after (hostOps0_4 (F := F)) U main_v6 : IVec S388 1) = live x
    ∧ (after (hostOps0_4 (F := F)) U main_v21 : IVec S388 32) = expert x
    ∧ (after (hostOps0_4 (F := F)) U main_v31 : IVec S388 32) = place x
    ∧ (after (hostOps0_4 (F := F)) U main_v40 : IVec S388 32) = width x
    ∧ (after (hostOps0_4 (F := F)) U main_v41 : IVec S388 32) = colTbl x := by
  refine ⟨?_, ?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv21]); (try rw [hv31]); (try rw [hv40]); first | done | rfl)

theorem stage_5 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv21 : (U main_v21 : IVec S388 32) = expert x) (hv31 : (U main_v31 : IVec S388 32) = place x) (hv40 : (U main_v40 : IVec S388 32) = width x) (hv41 : (U main_v41 : IVec S388 32) = colTbl x) :
    (after (hostOps0_5 (F := F)) U main_v1 : IVec S32 32) = firsts x
    ∧ (after (hostOps0_5 (F := F)) U main_v2 : IVec S388 32) = iotas
    ∧ (after (hostOps0_5 (F := F)) U main_v3 : IVec S_ 32) = total x
    ∧ (after (hostOps0_5 (F := F)) U main_v4 : IVec S_ 32) = items x
    ∧ (after (hostOps0_5 (F := F)) U main_v6 : IVec S388 1) = live x
    ∧ (after (hostOps0_5 (F := F)) U main_v21 : IVec S388 32) = expert x
    ∧ (after (hostOps0_5 (F := F)) U main_v41 : IVec S388 32) = colTbl x
    ∧ (after (hostOps0_5 (F := F)) U main_v42 : IVec S388 32) = rowIn x := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv21]); (try rw [hv31]); (try rw [hv40]); (try rw [hv41]); first | done | rfl)

theorem stage_6 (hv1 : (U main_v1 : IVec S32 32) = firsts x) (hv2 : (U main_v2 : IVec S388 32) = iotas) (hv3 : (U main_v3 : IVec S_ 32) = total x) (hv4 : (U main_v4 : IVec S_ 32) = items x) (hv6 : (U main_v6 : IVec S388 1) = live x) (hv21 : (U main_v21 : IVec S388 32) = expert x) (hv41 : (U main_v41 : IVec S388 32) = colTbl x) (hv42 : (U main_v42 : IVec S388 32) = rowIn x) :
    (after (hostOps0_6 (F := F)) U main_v3 : IVec S_ 32) = total x
    ∧ (after (hostOps0_6 (F := F)) U main_v6 : IVec S388 1) = live x
    ∧ (after (hostOps0_6 (F := F)) U main_v21 : IVec S388 32) = expert x
    ∧ (after (hostOps0_6 (F := F)) U main_v41 : IVec S388 32) = colTbl x
    ∧ (after (hostOps0_6 (F := F)) U main_v42 : IVec S388 32) = rowIn x
    ∧ (after (hostOps0_6 (F := F)) U main_v44 : IVec S388 32) = spare x
    ∧ (after (hostOps0_6 (F := F)) U main_v52 : IVec S388 32) = addi (look x (firsts x)) (rowIn x)
    ∧ (after (hostOps0_6 (F := F)) U main_c_13 : IVec S_ 32) = constantI S_ 32 4#32 := by
  refine ⟨?_, ?_, ?_, ?_, ?_, ?_, ?_, ?_⟩ <;> after_reads_simp <;> first | assumption | ((try simp only [StableHlo.TRef.toBuf, StableHlo.TRef.ofBuf, cast_eq]); (try rw [hv1]); (try rw [hv2]); (try rw [hv3]); (try rw [hv4]); (try rw [hv6]); (try rw [hv21]); (try rw [hv41]); (try rw [hv42]); first | done | rfl)

attribute [local irreducible] spare

theorem stage_7 (hv3 : (U main_v3 : IVec S_ 32) = total x) (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv52 : (U main_v52 : IVec S388 32) = addi (look x (firsts x)) (rowIn x)) (h_c_13 : (U main_c_13 : IVec S_ 32) = constantI S_ 32 4#32) :
    (after (hostOps0_7 (F := F)) U main_v3 : IVec S_ 32) = total x
    ∧ (after (hostOps0_7 (F := F)) U main_v6 : IVec S388 1) = live x
    ∧ (after (hostOps0_7 (F := F)) U main_v21 : IVec S388 32) = expert x
    ∧ (after (hostOps0_7 (F := F)) U main_v41 : IVec S388 32) = colTbl x
    ∧ (after (hostOps0_7 (F := F)) U main_v42 : IVec S388 32) = rowIn x
    ∧ (after (hostOps0_7 (F := F)) U main_v44 : IVec S388 32) = spare x
    ∧ (after (hostOps0_7 (F := F)) U main_v52 : IVec S388 32) = addi (look x (firsts x)) (rowIn x)
    ∧ (after (hostOps0_7 (F := F)) U main_v53 : IVec S388 32) = floorDiv (spare x) (const 4#32) := by
  refine ⟨?_, ?_, ?_, ?_, ?_, ?_, ?_, ?_⟩ <;> after_reads_simp <;> first | assumption | ((try simp only [StableHlo.TRef.toBuf, StableHlo.TRef.ofBuf, cast_eq]); (try rw [hv3]); (try rw [hv6]); (try rw [hv21]); (try rw [hv41]); (try rw [hv42]); (try rw [hv44]); (try rw [hv52]); (try rw [h_c_13]); first | done | rfl)

theorem stage_8 (hv3 : (U main_v3 : IVec S_ 32) = total x) (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv52 : (U main_v52 : IVec S388 32) = addi (look x (firsts x)) (rowIn x)) (hv53 : (U main_v53 : IVec S388 32) = floorDiv (spare x) (const 4#32)) :
    (after (hostOps0_8 (F := F)) U main_v6 : IVec S388 1) = live x
    ∧ (after (hostOps0_8 (F := F)) U main_v21 : IVec S388 32) = expert x
    ∧ (after (hostOps0_8 (F := F)) U main_v41 : IVec S388 32) = colTbl x
    ∧ (after (hostOps0_8 (F := F)) U main_v42 : IVec S388 32) = rowIn x
    ∧ (after (hostOps0_8 (F := F)) U main_v44 : IVec S388 32) = spare x
    ∧ (after (hostOps0_8 (F := F)) U main_v52 : IVec S388 32) = addi (look x (firsts x)) (rowIn x)
    ∧ (after (hostOps0_8 (F := F)) U main_v55 : IVec S388 32) = addi (spread (total x)) (floorDiv (spare x) (const 4#32)) := by
  refine ⟨?_, ?_, ?_, ?_, ?_, ?_, ?_⟩ <;> after_reads_simp <;> first | assumption | ((try simp only [StableHlo.TRef.toBuf, StableHlo.TRef.ofBuf, cast_eq]); (try rw [hv3]); (try rw [hv6]); (try rw [hv21]); (try rw [hv41]); (try rw [hv42]); (try rw [hv44]); (try rw [hv52]); (try rw [hv53]); first | done | rfl)

theorem stage_9 (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv52 : (U main_v52 : IVec S388 32) = addi (look x (firsts x)) (rowIn x)) (hv55 : (U main_v55 : IVec S388 32) = addi (spread (total x)) (floorDiv (spare x) (const 4#32))) :
    (after (hostOps0_9 (F := F)) U main_v6 : IVec S388 1) = live x
    ∧ (after (hostOps0_9 (F := F)) U main_v21 : IVec S388 32) = expert x
    ∧ (after (hostOps0_9 (F := F)) U main_v41 : IVec S388 32) = colTbl x
    ∧ (after (hostOps0_9 (F := F)) U main_v42 : IVec S388 32) = rowIn x
    ∧ (after (hostOps0_9 (F := F)) U main_v44 : IVec S388 32) = spare x
    ∧ (after (hostOps0_9 (F := F)) U main_v56 : IVec S388 32) = rowTbl x := by
  refine ⟨?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv44]); (try rw [hv52]); (try rw [hv55]); first | done | rfl)

theorem stage_10 (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv56 : (U main_v56 : IVec S388 32) = rowTbl x) :
    (after (hostOps0_10 (F := F)) U main_v6 : IVec S388 1) = live x
    ∧ (after (hostOps0_10 (F := F)) U main_v21 : IVec S388 32) = expert x
    ∧ (after (hostOps0_10 (F := F)) U main_v41 : IVec S388 32) = colTbl x
    ∧ (after (hostOps0_10 (F := F)) U main_v42 : IVec S388 32) = rowIn x
    ∧ (after (hostOps0_10 (F := F)) U main_v44 : IVec S388 32) = spare x
    ∧ (after (hostOps0_10 (F := F)) U main_v56 : IVec S388 32) = rowTbl x
    ∧ (after (hostOps0_10 (F := F)) U main_c_14 : IVec S_ 32) = constantI S_ 32 4#32 := by
  refine ⟨?_, ?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv44]); (try rw [hv56]); first | done | rfl)

theorem stage_11 (hv6 : (U main_v6 : IVec S388 1) = live x) (hv21 : (U main_v21 : IVec S388 32) = expert x) (hv41 : (U main_v41 : IVec S388 32) = colTbl x) (hv42 : (U main_v42 : IVec S388 32) = rowIn x) (hv44 : (U main_v44 : IVec S388 32) = spare x) (hv56 : (U main_v56 : IVec S388 32) = rowTbl x) (h_c_14 : (U main_c_14 : IVec S_ 32) = constantI S_ 32 4#32) :
    (after (hostOps0_11 (F := F)) U main_v6 : IVec S388 1) = live x
    ∧ (after (hostOps0_11 (F := F)) U main_v21 : IVec S388 32) = expert x
    ∧ (after (hostOps0_11 (F := F)) U main_v41 : IVec S388 32) = colTbl x
    ∧ (after (hostOps0_11 (F := F)) U main_v42 : IVec S388 32) = rowIn x
    ∧ (after (hostOps0_11 (F := F)) U main_v56 : IVec S388 32) = rowTbl x
    ∧ (after (hostOps0_11 (F := F)) U main_v57 : IVec S388 32) = remDown (spare x) (const 4#32) := by
  refine ⟨?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv44]); (try rw [hv56]); (try rw [h_c_14]); first | done | rfl)

theorem stage_12 (hv6 : (U main_v6 : IVec S388 1) = live x) (hv21 : (U main_v21 : IVec S388 32) = expert x) (hv41 : (U main_v41 : IVec S388 32) = colTbl x) (hv42 : (U main_v42 : IVec S388 32) = rowIn x) (hv56 : (U main_v56 : IVec S388 32) = rowTbl x) (hv57 : (U main_v57 : IVec S388 32) = remDown (spare x) (const 4#32)) :
    (after (hostOps0_12 (F := F)) U main_v6 : IVec S388 1) = live x
    ∧ (after (hostOps0_12 (F := F)) U main_v21 : IVec S388 32) = expert x
    ∧ (after (hostOps0_12 (F := F)) U main_v41 : IVec S388 32) = colTbl x
    ∧ (after (hostOps0_12 (F := F)) U main_v42 : IVec S388 32) = rowIn x
    ∧ (after (hostOps0_12 (F := F)) U main_v56 : IVec S388 32) = rowTbl x
    ∧ (after (hostOps0_12 (F := F)) U main_v58 : IVec S388 32) = outTbl x := by
  refine ⟨?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv56]); (try rw [hv57]); first | done | rfl)

theorem stage_13 (hv6 : (U main_v6 : IVec S388 1) = live x) (hv21 : (U main_v21 : IVec S388 32) = expert x) (hv41 : (U main_v41 : IVec S388 32) = colTbl x) (hv42 : (U main_v42 : IVec S388 32) = rowIn x) (hv56 : (U main_v56 : IVec S388 32) = rowTbl x) (hv58 : (U main_v58 : IVec S388 32) = outTbl x) :
    (after (hostOps0_13 (F := F)) U main_v6 : IVec S388 1) = live x
    ∧ (after (hostOps0_13 (F := F)) U main_v21 : IVec S388 32) = expert x
    ∧ (after (hostOps0_13 (F := F)) U main_v41 : IVec S388 32) = colTbl x
    ∧ (after (hostOps0_13 (F := F)) U main_v56 : IVec S388 32) = rowTbl x
    ∧ (after (hostOps0_13 (F := F)) U main_v58 : IVec S388 32) = outTbl x
    ∧ (after (hostOps0_13 (F := F)) U main_v63 : IVec S388 32) = addi (const 2#32) (extui 32 (cmpi .eq (rowIn x) (const 0#32)) natLt_1_32)
    ∧ (after (hostOps0_13 (F := F)) U main_c_17 : IVec S_ 32) = constantI S_ 32 0#32 := by
  refine ⟨?_, ?_, ?_, ?_, ?_, ?_, ?_⟩ <;> after_reads_simp <;> first | assumption | ((try simp only [StableHlo.TRef.toBuf, StableHlo.TRef.ofBuf, cast_eq]); (try rw [hv6]); (try rw [hv21]); (try rw [hv41]); (try rw [hv42]); (try rw [hv56]); (try rw [hv58]); first | done | rfl)

theorem stage_14 (hv6 : (U main_v6 : IVec S388 1) = live x) (hv21 : (U main_v21 : IVec S388 32) = expert x) (hv41 : (U main_v41 : IVec S388 32) = colTbl x) (hv56 : (U main_v56 : IVec S388 32) = rowTbl x) (hv58 : (U main_v58 : IVec S388 32) = outTbl x) (hv63 : (U main_v63 : IVec S388 32) = addi (const 2#32) (extui 32 (cmpi .eq (rowIn x) (const 0#32)) natLt_1_32)) (h_c_17 : (U main_c_17 : IVec S_ 32) = constantI S_ 32 0#32) :
    (after (hostOps0_14 (F := F)) U main_v21 : IVec S388 32) = expert x
    ∧ (after (hostOps0_14 (F := F)) U main_v41 : IVec S388 32) = colTbl x
    ∧ (after (hostOps0_14 (F := F)) U main_v56 : IVec S388 32) = rowTbl x
    ∧ (after (hostOps0_14 (F := F)) U main_v58 : IVec S388 32) = outTbl x
    ∧ (after (hostOps0_14 (F := F)) U main_v64 : IVec S388 32) = flagTbl x := by
  refine ⟨?_, ?_, ?_, ?_, ?_⟩ <;> after_reads_simp <;> first | assumption | ((try simp only [StableHlo.TRef.toBuf, StableHlo.TRef.ofBuf, cast_eq]); (try rw [hv6]); (try rw [hv21]); (try rw [hv41]); (try rw [hv56]); (try rw [hv58]); (try rw [hv63]); (try rw [h_c_17]); first | done | rfl)

theorem stage_15 (hv21 : (U main_v21 : IVec S388 32) = expert x) (hv41 : (U main_v41 : IVec S388 32) = colTbl x) (hv56 : (U main_v56 : IVec S388 32) = rowTbl x) (hv58 : (U main_v58 : IVec S388 32) = outTbl x) (hv64 : (U main_v64 : IVec S388 32) = flagTbl x) :
    (after (hostOps0_15 (F := F)) U main_v21 : IVec S388 32) = expert x
    ∧ (after (hostOps0_15 (F := F)) U main_v41 : IVec S388 32) = colTbl x
    ∧ (after (hostOps0_15 (F := F)) U main_v56 : IVec S388 32) = rowTbl x
    ∧ (after (hostOps0_15 (F := F)) U main_v58 : IVec S388 32) = outTbl x
    ∧ (after (hostOps0_15 (F := F)) U main_v65 : IVec S388 32) = flagTbl x := by
  refine ⟨?_, ?_, ?_, ?_, ?_⟩ <;> after_reads_simp <;> first | assumption | ((try simp only [StableHlo.TRef.toBuf, StableHlo.TRef.ofBuf, cast_eq]); (try rw [hv21]); (try rw [hv41]); (try rw [hv56]); (try rw [hv58]); (try rw [hv64]); first | done | rfl)

end stages

/-- The tables when the grid is entered. -/
theorem V_tables : (V m c main_v21 : IVec S388 32) = expert (nblk m c) ∧ (V m c main_v41 : IVec S388 32) = colTbl (nblk m c)
    ∧ (V m c main_v56 : IVec S388 32) = rowTbl (nblk m c) ∧ (V m c main_v58 : IVec S388 32) = outTbl (nblk m c)
    ∧ (V m c main_v65 : IVec S388 32) = flagTbl (nblk m c) := by
  unfold V
  simp only [hostLines, List.flatten_cons, List.flatten_nil, List.append_nil, StableHlo.after_append]
  obtain ⟨p0, p1⟩ := stage_0 (fun b => m (c, b)) (nblk m c) rfl
  obtain ⟨p0, p1, p2, p3, p4, p5, p6⟩ := stage_1 _ _ p0 p1
  obtain ⟨p0, p1, p2, p3, p4, p5, p6, p7⟩ := stage_2 _ _ p0 p1 p2 p3 p4 p5 p6
  obtain ⟨p0, p1, p2, p3, p4, p5, p6, p7⟩ := stage_3 _ _ p0 p1 p2 p3 p4 p5 p6 p7
  obtain ⟨p0, p1, p2, p3, p4, p5, p6, p7, p8⟩ := stage_4 _ _ p0 p1 p2 p3 p4 p5 p6 p7
  obtain ⟨p0, p1, p2, p3, p4, p5, p6, p7⟩ := stage_5 _ _ p0 p1 p2 p3 p4 p5 p6 p7 p8
  obtain ⟨p0, p1, p2, p3, p4, p5, p6, p7⟩ := stage_6 _ _ p0 p1 p2 p3 p4 p5 p6 p7
  obtain ⟨p0, p1, p2, p3, p4, p5, p6, p7⟩ := stage_7 _ _ p0 p1 p2 p3 p4 p5 p6 p7
  obtain ⟨p0, p1, p2, p3, p4, p5, p6⟩ := stage_8 _ _ p0 p1 p2 p3 p4 p5 p6 p7
  obtain ⟨p0, p1, p2, p3, p4, p5⟩ := stage_9 _ _ p0 p1 p2 p3 p4 p5 p6
  obtain ⟨p0, p1, p2, p3, p4, p5, p6⟩ := stage_10 _ _ p0 p1 p2 p3 p4 p5
  obtain ⟨p0, p1, p2, p3, p4, p5⟩ := stage_11 _ _ p0 p1 p2 p3 p4 p5 p6
  obtain ⟨p0, p1, p2, p3, p4, p5⟩ := stage_12 _ _ p0 p1 p2 p3 p4 p5
  obtain ⟨p0, p1, p2, p3, p4, p5, p6⟩ := stage_13 _ _ p0 p1 p2 p3 p4 p5
  obtain ⟨p0, p1, p2, p3, p4⟩ := stage_14 _ _ p0 p1 p2 p3 p4 p5 p6
  exact stage_15 _ _ p0 p1 p2 p3 p4

end any

end Cert.MoeDownIdeal.Run
-- ==== Proof.MoeDown.Grid.lean ====
/- The blocks each step of the down product takes. -/
module

public import proofs.«01_k».proof.Proof.MoeDown.Host
public import Idealize.ShloMosaic.Lib.Pipeline.ValueKit

@[expose] public section

set_option maxRecDepth 16384

noncomputable section

namespace Cert.MoeDownIdeal.Run

open Cert.MoeDownIdeal Cert.MoeDownIdeal.Gen
open Idealize.ShloMosaic Idealize.ShloMosaic.TcCoe Idealize.SL.Sem
open Cert.MoeUpIdeal.Blk (upTo pt ex pl col rowI exOf)
open Cert.MoeUpIdeal.Run (expert colTbl rowTbl outTbl flagTbl rowTbl_at outTbl_at expert_at colTbl_at flagTbl_at toNat_small ix2_ext ix4_ext rowIx words_even inb2 inb4 expOf colOf outOf)

variable {F : FTy → Type} [FloatOps F]

/-! ## Reading the tables -/

theorem off_eq (i : grid0.Coords) : k0_off1 i = ![(i 0).val] := by
  have h : (i 0).val < 388 := (i 0).isLt
  unfold k0_off1
  simp only [Scalar.indexCast, BitVec.toNat_ofNat]
  rw [Nat.mod_eq_of_lt (by omega)]

/-- A point's place among the 388. -/
def pnt (i : grid0.Coords) : Fin 388 := ⟨(i 0).val, (i 0).isLt⟩
theorem pnt_val (i : grid0.Coords) : (pnt i).val = (i 0).val := rfl

theorem pick (i : grid0.Coords) (off : Fin 1 → ℕ) (ho : off = k0_off1 i) (h : ∀ a, off a + S1.size a ≤ S388.size a) (y : (Rect.unit (s := S388) off S1.size h).shape.Idx) :
    (Rect.unit (s := S388) off S1.size h).emb y = (ValueIdx.ix1 (pnt i) : S388.Idx) := by
  subst ho
  funext a
  apply Fin.ext
  fin_cases a
  have hy : (y 0).val < 1 := (y 0).isLt
  have ho : k0_off1 i 0 = (i 0).val := by rw [off_eq]; rfl
  show k0_off1 i 0 + 1 * (y 0).val = (i 0).val
  omega

/-- A point's number. -/
theorem coords_val : ∀ t : Fin grid0.N, (grid0.coords t 0).val = t.val := by decide +kernel

variable (m : (ℓ : Loc nD τ sig) → Buf (Elt F) ℓ)

section tables
variable (i : grid0.Coords)

theorem tbl_row (r : Rect S388) (h1) (hr : ∀ y, r.emb y = (ValueIdx.ix1 (pnt i) : S388.Idx)) : (tbl m).at 0 r h1 = rowTbl (nblk m 0) (ValueIdx.ix1 (pnt i)) := by
  refine (congrArg (tbl m 0) (hr _)).trans ?_
  exact congrFun (V_tables m 0).2.2.1 _
theorem tbl_out (r : Rect S388) (h1) (hr : ∀ y, r.emb y = (ValueIdx.ix1 (pnt i) : S388.Idx)) : (tbl m).at 1 r h1 = outTbl (nblk m 0) (ValueIdx.ix1 (pnt i)) := by
  refine (congrArg (tbl m 1) (hr _)).trans ?_
  exact congrFun (V_tables m 0).2.2.2.1 _
theorem tbl_expert (r : Rect S388) (h1) (hr : ∀ y, r.emb y = (ValueIdx.ix1 (pnt i) : S388.Idx)) : (tbl m).at 2 r h1 = expert (nblk m 0) (ValueIdx.ix1 (pnt i)) := by
  refine (congrArg (tbl m 2) (hr _)).trans ?_
  exact congrFun (V_tables m 0).1 _
theorem tbl_col (r : Rect S388) (h1) (hr : ∀ y, r.emb y = (ValueIdx.ix1 (pnt i) : S388.Idx)) : (tbl m).at 3 r h1 = colTbl (nblk m 0) (ValueIdx.ix1 (pnt i)) := by
  refine (congrArg (tbl m 3) (hr _)).trans ?_
  exact congrFun (V_tables m 0).2.1 _

theorem flagOf_eq (c : Dev nD) : flagOf c i (tbl m 4) = flagTbl (nblk m 0) (ValueIdx.ix1 (pnt i)) := by
  refine (congrArg (tbl m 4) (pick i _ rfl _ _)).trans ?_
  exact congrFun (V_tables m 0).2.2.2.2 _

end tables

/-- Column `k` of column block `C`. -/
def colIx (C : Fin 4) (k : Fin 1024) : Fin 4096 := ⟨C.val * 1024 + k.val, by omega⟩

/-- A row block of the input, a column block of an expert's weights, and one of its biases. -/
def xBlk {α : Type} (X : S49664x2048.Idx → α) (R : Fin 97) : S512x2048.Idx → α := fun y => X (ix2 (rowIx R (y 0)) (y 1))
def wBlk {α : Type} (X : S2x32x2048x4096.Idx → α) (E : Fin 32) (C : Fin 4) : S1x1x2048x1024.Idx → α := fun y => X (ix4 0 E (y 2) (colIx C (y 3)))
def bBlk {α : Type} (X : S2x32x1x4096.Idx → α) (E : Fin 32) (C : Fin 4) : S1x1x1x1024.Idx → α := fun y => X (ix4 0 E 0 (colIx C (y 3)))

/-! A window's block index, as printed. -/
section windows
variable (a : (pcfg0 (F := F)).Adm) (t : Fin (cfg0 a).N)
theorem index0 : (win0 a 0).index t = cc0_transform_0 k0_off1_inb numel1_S1 a.1 (grid0.coords t) := rfl
theorem index1 : (win0 a 1).index t = cc0_transform_1 k0_off1_inb numel1_S1 a.1 (grid0.coords t) := rfl
theorem index2 : (win0 a 2).index t = cc0_transform_2 k0_off1_inb numel1_S1 a.1 (grid0.coords t) := rfl
theorem index3 : (win0 a 3).index t = cc0_transform_3 k0_off1_inb numel1_S1 a.1 (grid0.coords t) := rfl

/-! A window's block as entries of its array, by the block's index. -/

theorem emb3 {R : Fin 97} {C : Fin 4} (hi : (win0 a 3).index t = ![R.val, C.val]) (r : Fin 512) (k : Fin 1024) :
    ((win0 a 3).blk t).view.emb (ix2 r k : S512x1024.Idx) = (ix2 (rowIx R r) (colIx C k) : S49664x4096.Idx) :=
  ix2_ext (by blk_simp [hi]; rfl) (by blk_simp [hi]; rfl)

theorem rd0 {R : Fin 97} (hi : (win0 a 0).index t = ![R.val, 0]) (X : S49664x2048.Idx → Elt F .bf16) :
    (((win0 a 0).blk t).view.read (Elt F) X : S512x2048.Idx → Elt F .bf16) = xBlk X R := by
  funext y
  refine congrArg X ?_
  refine ix2_ext ?_ ?_
  · blk_simp [hi]; rfl
  · blk_simp [hi]
theorem rd1 {E : Fin 32} {C : Fin 4} (hi : (win0 a 1).index t = ![0, E.val, 0, C.val]) (X : S2x32x2048x4096.Idx → Elt F .f32) :
    (((win0 a 1).blk t).view.read (Elt F) X : S1x1x2048x1024.Idx → Elt F .f32) = wBlk X E C := by
  funext y
  refine congrArg X ?_
  refine ix4_ext ?_ ?_ ?_ ?_
  · blk_simp [hi]; try rfl
  · blk_simp [hi]; try rfl
  · blk_simp [hi]; try rfl
  · blk_simp [hi]; try rfl
theorem rd2 {E : Fin 32} {C : Fin 4} (hi : (win0 a 2).index t = ![0, E.val, 0, C.val]) (X : S2x32x1x4096.Idx → Elt F .f32) :
    (((win0 a 2).blk t).view.read (Elt F) X : S1x1x1x1024.Idx → Elt F .f32) = bBlk X E C := by
  funext y
  refine congrArg X ?_
  refine ix4_ext ?_ ?_ ?_ ?_
  · blk_simp [hi]; try rfl
  · blk_simp [hi]; try rfl
  · blk_simp [hi]; try rfl
  · blk_simp [hi]; try rfl
/-- The result's blocks cover its array as soon as every block is some point's. -/
theorem covers_of (h : ∀ b o : ℕ, b < 97 → o < 4 → ∃ t : Fin (cfg0 a).N, (win0 a 3).index t = ![b, o]) : (win0 a 3).Covers := by
  have last : ∀ k (t : Fin (cfg0 a).N), (cfg0 a).N - t.val = k → ∃ t' : Fin (cfg0 a).N, (win0 a 3).flush t' = true ∧ (win0 a 3).index t' = (win0 a 3).index t := by
    intro k
    induction k with
    | zero => intro t ht; exact absurd t.isLt (by omega)
    | succ k ih =>
      intro t ht
      by_cases hf : (win0 a 3).flush t = true
      · exact ⟨t, hf, rfl⟩
      · have hf' : ¬ (t.val + 1 = (cfg0 a).N ∨ ∃ h : t.val + 1 < (cfg0 a).N, (win0 a 3).index ⟨t.val + 1, h⟩ ≠ (win0 a 3).index t) := by
          intro e; apply hf
          show (true && (t.val + 1 = (cfg0 a).N || decide (∃ h : t.val + 1 < (cfg0 a).N, (win0 a 3).index ⟨t.val + 1, h⟩ ≠ (win0 a 3).index t))) = true
          simpa using e
        have h1 : t.val + 1 < (cfg0 a).N := by
          have := t.isLt
          exact Nat.lt_of_le_of_ne this fun e => hf' (.inl e)
        have h2 : (win0 a 3).index ⟨t.val + 1, h1⟩ = (win0 a 3).index t := by
          by_contra e; exact hf' (.inr ⟨h1, e⟩)
        obtain ⟨t', p, q⟩ := ih ⟨t.val + 1, h1⟩ (by show (cfg0 a).N - (t.val + 1) = k; omega)
        exact ⟨t', p, q.trans h2⟩
  refine ⟨fun b => by fin_cases b; exacts [Nat.succ_pos 511, Nat.succ_pos 1023], fun β => ?_⟩
  obtain ⟨t, ht⟩ := h (β 0).val (β 1).val (lt_of_lt_of_eq (β 0).isLt (show (49664 + 512 - 1) / 512 = 97 from rfl)) (lt_of_lt_of_eq (β 1).isLt (show (4096 + 1024 - 1) / 1024 = 4 from rfl))
  obtain ⟨t', hf, hi⟩ := last _ t rfl
  refine ⟨t', hf, fun b => ⟨?_, .inl rfl⟩⟩
  rw [hi, ht]
  fin_cases b <;> rfl
end windows

/-! ## The blocks in use -/

section blocks
variable (n : ℕ → ℕ) (hx : ∀ i : Fin 32, nblk m 0 (ValueIdx.ix1 i) = BitVec.ofNat 32 (n i.val)) (hT : 1 ≤ upTo n 32) (h97 : upTo n 32 ≤ 97)
include hx hT h97

/-- The box of a point's entry in the tables. -/
abbrev entry (i : grid0.Coords) : Rect S388 := Rect.unit (s := S388) (k0_off1 i) S1.size (k0_off1_inb i)

theorem row_word (i : grid0.Coords) : ((tbl m).at 0 (entry i) numel1_S1).toNat = Cert.MoeUpIdeal.Blk.row n (i 0).val := by
  have h := Cert.MoeUpIdeal.Blk.row_lt n hT h97 (i 0).val (i 0).isLt
  rw [tbl_row m i (entry i) numel1_S1 (pick i _ rfl _), rowTbl_at _ n hx hT h97, pnt_val, toNat_small (by omega)]
theorem out_word (i : grid0.Coords) : ((tbl m).at 1 (entry i) numel1_S1).toNat = Cert.MoeUpIdeal.Blk.out n (i 0).val := by
  have h := Cert.MoeUpIdeal.Blk.out_lt n hT (i 0).val
  rw [tbl_out m i (entry i) numel1_S1 (pick i _ rfl _), outTbl_at _ n hx hT h97, pnt_val, toNat_small (by omega)]
theorem expert_word (i : grid0.Coords) : ((tbl m).at 2 (entry i) numel1_S1).toNat = ex n (i 0).val := by
  have h := (Cert.MoeUpIdeal.Blk.ex_spec n hT (i 0).val).1
  rw [tbl_expert m i (entry i) numel1_S1 (pick i _ rfl _), expert_at _ n hx hT h97, pnt_val, toNat_small (by omega)]
theorem col_word (i : grid0.Coords) : ((tbl m).at 3 (entry i) numel1_S1).toNat = col n (i 0).val := by
  have h := Cert.MoeUpIdeal.Blk.col_lt n hT (i 0).val
  rw [tbl_col m i (entry i) numel1_S1 (pick i _ rfl _), colTbl_at _ n hx hT h97, pnt_val, toNat_small (by omega)]

theorem tr0 (i : grid0.Coords) : cc0_transform_0 k0_off1_inb numel1_S1 (tbl m) i = ![Cert.MoeUpIdeal.Blk.row n (i 0).val, 0] :=
  congrArg (fun a : ℕ => (![a, 0] : Fin 2 → ℕ)) (row_word m n hx hT h97 i)

theorem tr3 (i : grid0.Coords) : cc0_transform_3 k0_off1_inb numel1_S1 (tbl m) i = ![Cert.MoeUpIdeal.Blk.row n (i 0).val, Cert.MoeUpIdeal.Blk.out n (i 0).val] :=
  congrArg₂ (fun a b : ℕ => (![a, b] : Fin 2 → ℕ)) (row_word m n hx hT h97 i) (out_word m n hx hT h97 i)

theorem trW (i : grid0.Coords) : cc0_transform_1 k0_off1_inb numel1_S1 (tbl m) i = ![0, ex n (i 0).val, 0, col n (i 0).val]
    ∧ cc0_transform_2 k0_off1_inb numel1_S1 (tbl m) i = ![0, ex n (i 0).val, 0, col n (i 0).val] := by
  have e := congrArg₂ (fun a b : ℕ => (![0, a, 0, b] : Fin 4 → ℕ)) (expert_word m n hx hT h97 i) (col_word m n hx hT h97 i)
  exact ⟨e, e⟩

/-- Every block the tables name lies inside its array. -/
theorem ok_tbl : Ok m := by
  have hr := fun i : grid0.Coords => Cert.MoeUpIdeal.Blk.row_lt n hT h97 (i 0).val (i 0).isLt
  have ho := fun i : grid0.Coords => Cert.MoeUpIdeal.Blk.out_lt n hT (i 0).val
  have he := fun i : grid0.Coords => (Cert.MoeUpIdeal.Blk.ex_spec n hT (i 0).val).1
  have hc := fun i : grid0.Coords => Cert.MoeUpIdeal.Blk.col_lt n hT (i 0).val
  refine ⟨fun i => ?_, fun i => ?_, fun i => ?_, fun i => ?_⟩
  · rw [tr0 m n hx hT h97 i]
    exact ⟨inb2 (by have := hr i; omega) (by omega), .inr (words_even _ (by decide) _)⟩
  · rw [(trW m n hx hT h97 i).1]
    exact ⟨inb4 (by omega) (by have := he i; omega) (by omega) (by have := hc i; omega), .inl rfl⟩
  · rw [(trW m n hx hT h97 i).2]
    exact ⟨inb4 (by omega) (by have := he i; omega) (by omega) (by have := hc i; omega), .inl rfl⟩
  · rw [tr3 m n hx hT h97 i]
    exact ⟨inb2 (by have := hr i; omega) (by have := ho i; omega), .inl rfl⟩

variable (hO : Ok m) (c : Dev nD)

/-! The windows' blocks at a point. -/

theorem idx0 (t : Fin (cfgM m hO).N) : (win0 (adm m hO) 0).index t = ![Cert.MoeUpIdeal.Blk.row n t.val, 0] :=
  (index0 (adm m hO) t).trans ((tr0 m n hx hT h97 (grid0.coords t)).trans (by rw [coords_val]))
theorem idx1 (t : Fin (cfgM m hO).N) : (win0 (adm m hO) 1).index t = ![0, ex n t.val, 0, col n t.val] :=
  (index1 (adm m hO) t).trans ((trW m n hx hT h97 (grid0.coords t)).1.trans (by rw [coords_val]))
theorem idx2 (t : Fin (cfgM m hO).N) : (win0 (adm m hO) 2).index t = ![0, ex n t.val, 0, col n t.val] :=
  (index2 (adm m hO) t).trans ((trW m n hx hT h97 (grid0.coords t)).2.trans (by rw [coords_val]))
theorem idx3 (t : Fin (cfgM m hO).N) : (win0 (adm m hO) 3).index t = ![Cert.MoeUpIdeal.Blk.row n t.val, Cert.MoeUpIdeal.Blk.out n t.val] :=
  (index3 (adm m hO) t).trans ((tr3 m n hx hT h97 (grid0.coords t)).trans (by rw [coords_val]))

theorem flag_eq (t : Fin (cfgM m hO).N) : flag m hO c t = if t.val < 4 * upTo n 32 then (if rowI n t.val = 0 then 3#32 else 2#32) else 0#32 := by
  have hc : (grid0.coords t 0).val = t.val := coords_val t
  refine (flagOf_eq m (grid0.coords t) c).trans ?_
  have := flagTbl_at _ n hx hT h97 (pnt (grid0.coords t))
  rw [pnt_val, hc] at this
  exact this

theorem inUse_iff (t : Fin (cfgM m hO).N) : inUse m hO c t ↔ t.val < 4 * upTo n 32 := by
  unfold inUse
  rw [flag_eq m n hx hT h97]
  by_cases h : t.val < 4 * upTo n 32
  · rw [if_pos h]; split <;> exact ⟨fun _ => h, fun _ => by decide⟩
  · rw [if_neg h]; exact ⟨fun e => absurd e (by decide), fun e => absurd e h⟩

theorem not_three (t : Fin (cfgM m hO).N) (h : t.val < 4 * upTo n 32) (h3 : ¬ isThree (flag m hO c t)) : rowI n t.val ≠ 0 := by
  intro e
  apply h3
  rw [flag_eq m n hx hT h97, if_pos h, if_pos e]
  decide

theorem lt388 (t : Fin (cfgM m hO).N) : t.val < 388 := lt_of_lt_of_eq t.isLt N_0

theorem iblk0 (t : Fin (cfgM m hO).N) (R : Fin 97) (hR : R.val = Cert.MoeUpIdeal.Blk.row n t.val) : (iblk m hO c 0 t : S512x2048.Idx → Elt F .bf16) = xBlk (V m c main_arg1) R := by
  have h : (win0 (adm m hO) 0).index t = ![R.val, 0] := by rw [idx0 m n hx hT h97 hO t, hR]
  exact rd0 (adm m hO) t h (V m c main_arg1)
theorem iblk1 (t : Fin (cfgM m hO).N) : (iblk m hO c 1 t : S1x1x2048x1024.Idx → Elt F .f32) = wBlk (V m c main_arg2) (expOf n hT t.val) (colOf n hT t.val) :=
  rd1 (adm m hO) t (E := expOf n hT t.val) (C := colOf n hT t.val) (idx1 m n hx hT h97 hO t) (V m c main_arg2)
theorem iblk2 (t : Fin (cfgM m hO).N) : (iblk m hO c 2 t : S1x1x1x1024.Idx → Elt F .f32) = bBlk (V m c main_v66) (expOf n hT t.val) (colOf n hT t.val) :=
  rd2 (adm m hO) t (E := expOf n hT t.val) (C := colOf n hT t.val) (idx2 m n hx hT h97 hO t) (V m c main_v66)
/-- Where a point's weights are not its own, they are those of the point before. -/
theorem steps : Steps m hO c := by
  intro t hu h3
  have hu' := (inUse_iff m n hx hT h97 hO c t).mp hu
  obtain ⟨s, hs, he, hc⟩ := Cert.MoeUpIdeal.Blk.before n hT t.val hu' (not_three m n hx hT h97 hO c t hu' h3)
  have hlt : s < (cfgM m hO).N := by have := t.isLt; omega
  have e1 : expOf n hT s = expOf n hT t.val := Fin.ext he
  have e2 : colOf n hT s = colOf n hT t.val := Fin.ext hc
  refine ⟨⟨s, hlt⟩, hs, (inUse_iff m n hx hT h97 hO c _).mpr (by show s < _; omega), ?_⟩
  exact (iblk1 m n hx hT h97 hO c ⟨s, hlt⟩).trans ((by rw [e1, e2] : _ = _).trans (iblk1 m n hx hT h97 hO c t).symm)

theorem covers : (win0 (adm m hO) 3).Covers := by
  refine covers_of (adm m hO) fun b o hb ho => ?_
  obtain ⟨s, hs, hr, ho'⟩ := Cert.MoeUpIdeal.Blk.covers n hT h97 b o hb ho
  refine ⟨⟨s, lt_of_lt_of_eq hs N_0.symm⟩, (idx3 m n hx hT h97 hO _).trans ?_⟩
  rw [show Cert.MoeUpIdeal.Blk.row n _ = b from hr, show Cert.MoeUpIdeal.Blk.out n _ = o from ho']

end blocks

end Cert.MoeDownIdeal.Run
-- ==== Proof.MoeDown.Value.lean ====
/- The down product's result, entry by entry. -/
module

public import proofs.«01_k».proof.Proof.MoeDown.Grid
public import proofs.«01_k».proof.Proof.MoeUp.Value
public import Idealize.ShloMosaic.Lib.VecWindow
public import Idealize.ShloMosaic.Lib.Pipeline.ValueKit

@[expose] public section

set_option maxRecDepth 16384

noncomputable section

namespace Cert.MoeDownIdeal.Run

open Cert.MoeDownIdeal Cert.MoeDownIdeal.Gen
open Idealize.ShloMosaic Idealize.ShloMosaic.TcCoe Idealize.SL.Sem
open Idealize.ShloMosaic.StableHlo (after)
open Idealize.ShloMosaic.Pipeline (Dat)
open Cert.MoeUpIdeal.Blk (upTo exOf)
open Cert.MoeUpIdeal.Run (rowIx rowB rowR rowB_ix rowR_ix blkE expOf colOf)

/-! ## The biases -/

section biases
variable {F : FTy → Type} [FloatOps F]

/-- The biases with a row axis of length one. -/
def biasRows (b : S2x32x4096.Idx → Elt F .f32) : S2x32x1x4096.Idx → Elt F .f32 :=
  shapeCast S2x32x1x4096 (b : Vec F S2x32x4096 .f32) shapeCasts_S2x32x4096_S2x32x1x4096

theorem last_line (U : (b : DevRef τ sig) → b.ty.Contents (Elt F)) :
    (after (hostOps0_15 (F := F)) U main_arg3 : S2x32x4096.Idx → Elt F .f32) = U main_arg3
    ∧ (after (hostOps0_15 (F := F)) U main_v66 : S2x32x1x4096.Idx → Elt F .f32) = biasRows (U main_arg3) := by
  refine ⟨?_, ?_⟩ <;> after_reads_simp <;> rfl

variable (m : (ℓ : Loc nD τ sig) → Buf (Elt F) ℓ) (c : Dev nD)

theorem V_bias : (V m c main_v66 : S2x32x1x4096.Idx → Elt F .f32) = biasRows (m ((c.tc : Thread nD τ).loc main_arg3)) := by
  obtain ⟨-, -, -, h3⟩ := V_args m c
  obtain ⟨U, hU⟩ : ∃ U : (b : DevRef τ sig) → b.ty.Contents (Elt F), ∀ b : Ref sig .tc, V m c b = after (hostOps0_15 (F := F)) U b := by
    unfold V
    simp only [hostLines, List.flatten_cons, List.flatten_nil, List.append_nil, StableHlo.after_append]
    exact ⟨_, fun _ => rfl⟩
  obtain ⟨k3, k66⟩ := last_line U
  exact (hU _).trans (k66.trans (congrArg biasRows (k3.symm.trans ((hU _).symm.trans h3))))

end biases

/-! ## The array, over the extended reals -/

/-- What the body computes, entry by entry. -/
theorem pay_at (x : Vec Ideal S512x2048 .bf16) (w : Vec Ideal S1x1x2048x1024 .f32) (b : Vec Ideal S1x1x1x1024 .f32) (r : Fin 512) (k : Fin 1024) :
    k0_pay2 (F := Ideal) x (k0_pay1 (F := Ideal) w) b (ix2 r k) = (∑ q : Fin 2048, x (ix2 r q) * w (ix4 0 0 q k)) + b (ix4 0 0 0 k) := by
  pointwise [k0_pay2, k0_pay1]

theorem rest_at (r : Fin 512) (k : Fin 1024) : k0_pay3 (F := Ideal) (ix2 r k) = 0 := by
  pointwise [k0_pay3]

theorem bias_at (b : S2x32x4096.Idx → EReal) (E : Fin 32) (N : Fin 4096) :
    biasRows (F := Ideal) b (ix4 0 E 0 N) = b (ix3 0 E N) := by
  unfold biasRows
  pointwise

/-- The result, entry by entry: a row block in use is its expert's, the others are zero. -/
def down (n : ℕ → ℕ) (x : S49664x2048.Idx → EReal) (w : S2x32x2048x4096.Idx → EReal) (v : S2x32x4096.Idx → EReal) (b : Fin 97) (r : Fin 512) (N : Fin 4096) : EReal :=
  if b.val < upTo n 32 then (∑ q : Fin 2048, x (ix2 (rowIx b r) q) * w (ix4 0 (blkE n b.val) q N)) + v (ix3 0 (blkE n b.val) N) else 0

/-- The result's block at a point, where it sits in the array. -/
theorem point3 (a : (pcfg0 (F := Ideal)).Adm) (t : Fin (cfg0 a).N) {R : Fin 97} {C : Fin 4} (hi : (win0 a 3).index t = ![R.val, C.val])
    (L : S512x1024.Idx → EReal) (G : S49664x4096.Idx → EReal) (h : ∀ (r : Fin 512) (k : Fin 1024), L (ix2 r k) = G (ix2 (rowIx R r) (colIx C k)))
    (y : (((cfg0 a).win 3).xblock ((cfg0 a).grid.coords t)).Idx) :
    L (((cfg0 a).win 3).xinj ((cfg0 a).grid.coords t) y) = G ((((cfg0 a).win 3).blk t).view.emb y) := by
  obtain ⟨y, rfl⟩ : ∃ z : S512x1024.Idx, z = y := ⟨y, rfl⟩
  obtain ⟨r, k, rfl⟩ : ∃ r k, y = (ix2 r k : S512x1024.Idx) := ⟨y 0, y 1, eq_ix2 y⟩
  exact (h r k).trans (congrArg G (emb3 a t hi r k)).symm

/-- The result's array, where every point leaves its part of `G`. -/
theorem arr_of (a : (pcfg0 (F := Ideal)).Adm) (c : Dev nD) (D : Dat τ (Elt Ideal) Unit ℕ (UR sig nD τ) ℕ (cfg0 a) c)
    (L : Fin (cfg0 a).N → Vec Ideal S512x1024 .f32) (hL : ∀ t, D.after 3 t = L t) (hc : (win0 a 3).Covers) (row out : ℕ → ℕ)
    (hi : ∀ t : Fin (cfg0 a).N, (win0 a 3).index t = ![row t.val, out t.val]) (hrow : ∀ s, s < 388 → row s < 97) (hout : ∀ s, out s < 4)
    (G : S49664x4096.Idx → EReal)
    (h : ∀ (t : Fin (cfg0 a).N) (R : Fin 97), R.val = row t.val → ∀ C : Fin 4, C.val = out t.val → ∀ (r : Fin 512) (k : Fin 1024), L t (ix2 r k) = G (ix2 (rowIx R r) (colIx C k))) :
    D.arrAt 3 (cfg0 a).N = G := by
  refine D.arrAt_eq_of_covers 3 _ hc fun t hf y => ?_
  have hs : t.val < 388 := lt_of_lt_of_eq t.isLt N_0
  rw [hL]
  exact point3 a t (R := ⟨row t.val, hrow _ hs⟩) (C := ⟨out t.val, hout _⟩) (hi t) (L t) G (h t _ rfl _ rfl) y

/-- The result's array, from the arguments. -/
def out3 (m : (ℓ : Loc nD τ sig) → Buf (Elt Ideal) ℓ) (n : ℕ → ℕ) (c : Dev nD) : S49664x4096.Idx → EReal := fun j =>
  down n (m ((c.tc : Thread nD τ).loc main_arg1)) (m ((c.tc : Thread nD τ).loc main_arg2)) (m ((c.tc : Thread nD τ).loc main_arg3)) (rowB (j 0)) (rowR (j 0)) (j 1)

section array
variable (m : (ℓ : Loc nD τ sig) → Buf (Elt Ideal) ℓ)
variable (n : ℕ → ℕ) (hx : ∀ i : Fin 32, nblk m 0 (ValueIdx.ix1 i) = BitVec.ofNat 32 (n i.val)) (hT : 1 ≤ upTo n 32) (h97 : upTo n 32 ≤ 97)
variable (hO : Ok m) (c : Dev nD)
include hx hT h97

/-- What a point leaves in the result's buffer. -/
theorem leaves_at (t : Fin (cfgM m hO).N) (R : Fin 97) (hR : R.val = Cert.MoeUpIdeal.Blk.row n t.val) (C : Fin 4) (hC : C.val = Cert.MoeUpIdeal.Blk.out n t.val) (r : Fin 512) (k : Fin 1024) :
    (leaves m hO c t : S512x1024.Idx → EReal) (ix2 r k)
      = down n (m ((c.tc : Thread nD τ).loc main_arg1)) (m ((c.tc : Thread nD τ).loc main_arg2)) (m ((c.tc : Thread nD τ).loc main_arg3)) R r (colIx C k) := by
  unfold leaves down
  have hiff := inUse_iff m n hx hT h97 hO c t
  by_cases hu : t.val < 4 * upTo n 32
  · obtain ⟨hr, he⟩ := Cert.MoeUpIdeal.Blk.row_use n hT t.val hu
    rw [if_pos (hiff.mpr hu), if_pos (show R.val < upTo n 32 by rw [hR]; exact hr)]
    refine (pay_at _ _ _ r k).trans ?_
    rw [iblk0 m n hx hT h97 hO c t R hR, iblk1 m n hx hT h97 hO c t, iblk2 m n hx hT h97 hO c t]
    obtain ⟨-, v1, v2, -⟩ := V_args m c
    rw [v1, v2, V_bias m c]
    have hE : blkE n R.val = expOf n hT t.val := Fin.ext (by
      have := (Cert.MoeUpIdeal.Blk.ex_spec n hT t.val).1
      show min (exOf n R.val) 31 = Cert.MoeUpIdeal.Blk.ex n t.val
      rw [hR]
      omega)
    have hC' : C = colOf n hT t.val := Fin.ext (hC.trans (by
      show Cert.MoeUpIdeal.Blk.out n t.val = Cert.MoeUpIdeal.Blk.col n t.val
      unfold Cert.MoeUpIdeal.Blk.out; rw [if_pos hu]))
    rw [hE, hC']
    exact congrArg (_ + ·) (bias_at _ (expOf n hT t.val) (colIx (colOf n hT t.val) k))
  · rw [if_neg (fun h => hu (hiff.mp h)), if_neg (show ¬ R.val < upTo n 32 by
      rw [hR]; unfold Cert.MoeUpIdeal.Blk.row; rw [if_neg hu]; omega)]
    exact rest_at r k

/-- The result's array after the run. -/
theorem arr3 : (dats m hO 0 c).arrAt 3 (cfgM m hO).N = out3 m n c := by
  refine arr_of (adm m hO) c (dats m hO 0 c) (leaves m hO c) (after_out m hO c) (covers m n hx hT h97 hO) (Cert.MoeUpIdeal.Blk.row n) (Cert.MoeUpIdeal.Blk.out n)
    (idx3 m n hx hT h97 hO) (fun s hs => Cert.MoeUpIdeal.Blk.row_lt n hT h97 s hs) (fun s => Cert.MoeUpIdeal.Blk.out_lt n hT s) (out3 m n c) fun t R hR C hC r k => ?_
  refine (leaves_at m n hx hT h97 hO c t R hR C hC r k).trans ?_
  show _ = down _ _ _ _ (rowB (rowIx R r)) (rowR (rowIx R r)) (colIx C k)
  rw [rowB_ix, rowR_ix]

end array

end Cert.MoeDownIdeal.Run
-- ==== Proof.MoeDown.Reference.lean ====
/- The down product's reference, entry by entry; its blocks' experts are as for the gate and up product. -/
module

public import proofs.«01_k».proof.Proof.MoeDown.Value
public import proofs.«01_k».proof.Proof.MoeUp.RefWords
public import proofs.«01_k».proof.Proof.Gen.MoeDownReferenceIdeal

@[expose] public section

set_option maxRecDepth 16384

noncomputable section

namespace Cert.MoeDownReferenceIdeal.Ref

open Cert.MoeDownReferenceIdeal Cert.MoeDownReferenceIdeal.Gen
open Idealize.ShloMosaic Idealize.ShloMosaic.TcCoe Idealize.SL.Sem
open Idealize.ShloMosaic.StableHlo.Predicate
open Cert.MoeUpIdeal.Blk (upTo)
open Cert.MoeUpIdeal.Run (blkE rowIx rowB rowR)
open Cert.MoeDownIdeal.Run (down)
open Cert.MoeUpReferenceIdeal.Ref (picks used picks_at used_at)

/-! ## The reference's lines -/

/-- The weights of each block's expert. -/
def rowsW (w : FVec Ideal S2x32x2048x4096 .f32) (p : IVec S97x1 32) : FVec Ideal S97x2048x4096 .f32 :=
  Host.gather gather_S32x2048x4096_S97x1_S97x2048x4096_12_0_n_n_0_1_120484096
    (shapeCast S32x2048x4096 (extractStridedSlice S1x32x2048x4096 ![0, 0, 0, 0] w slices_S2x32x2048x4096_S1x32x2048x4096_0_0_0_0) shapeCasts_S1x32x2048x4096_S32x2048x4096) p

/-- The bias of each block's expert. -/
def rowsB (b : FVec Ideal S2x32x4096 .f32) (p : IVec S97x1 32) : FVec Ideal S97x4096 .f32 :=
  Host.gather gather_S32x4096_S97x1_S97x4096_1_0_n_n_0_1_14096
    (shapeCast S32x4096 (extractStridedSlice S1x32x4096 ![0, 0, 0] b slices_S2x32x4096_S1x32x4096_0_0_0) shapeCasts_S1x32x4096_S32x4096) p

/-- A product with its bias. -/
def linear (x : FVec Ideal S49664x2048 .bf16) (W : FVec Ideal S97x2048x4096 .f32) (B : FVec Ideal S97x4096 .f32) : FVec Ideal S97x512x4096 .f32 :=
  addf (Host.dotGeneral dot_S97x512x2048_S97x2048x4096_S97x512x4096_2_1_1_2_0_0 none (shapeCast S97x512x2048 (extf .f32 x bitsLt_bf16_f32) shapeCasts_S49664x2048_S97x512x2048) W)
    (broadcastInDim S97x512x4096 ![0, 1, 2] bcast_S97x1x4096_S97x512x4096_0_1_2 (broadcastInDim S97x1x4096 ![0, 2] bcast_S97x4096_S97x1x4096_0_2 B))

def zeros : FVec Ideal S97x512x4096 .f32 := broadcastInDim S97x512x4096 ![] bcast_S_S97x512x4096 (constant S_ .f32 0x00000000#32)

/-- The reference's result. -/
def result (x : IVec S32 32) (X : FVec Ideal S49664x2048 .bf16) (w : FVec Ideal S2x32x2048x4096 .f32) (v : FVec Ideal S2x32x4096 .f32) : FVec Ideal S49664x4096 .f32 :=
  shapeCast S49664x4096
    (select (broadcastInDim S97x512x4096 ![0, 1, 2] bcast_S97x1x1_S97x512x4096_0_1_2 (broadcastInDim S97x1x1 ![0] bcast_S97_S97x1x1_0 (used x)))
      (linear X (rowsW w (picks x)) (rowsB v (picks x))) zeros) shapeCasts_S97x512x4096_S49664x4096

/-! ## The gathered rows -/

/-- The weights' gather takes the row its index names. -/
theorem rowsW_at (w : FVec Ideal S2x32x2048x4096 .f32) (p : IVec S97x1 32) (b : Fin 97) (E : Fin 32) (h : p (ValueIdx.ix2 b 0) = BitVec.ofNat 32 E.val) (q : Fin 2048) (N : Fin 4096) :
    rowsW w p (ix3 b q N) = w (ix4 0 E q N) := by
  have hr : ∀ T : FVec Ideal S32x2048x4096 .f32,
      Host.gather gather_S32x2048x4096_S97x1_S97x2048x4096_12_0_n_n_0_1_120484096 T p (ix3 b q N) = T (ix3 E q N) := fun T => by
    unfold Host.gather
    refine congrArg T (funext fun a => Fin.ext ?_)
    match a with
    | ⟨0, _⟩ =>
      have hi : gather_S32x2048x4096_S97x1_S97x2048x4096_12_0_n_n_0_1_120484096.siIdx (ix3 b q N) ⟨0, by decide⟩ = ValueIdx.ix2 b 0 := by
        funext c
        match c with
        | ⟨0, _⟩ => rfl
        | ⟨1, _⟩ => rfl
      have hE := E.isLt
      show min (p (gather_S32x2048x4096_S97x1_S97x2048x4096_12_0_n_n_0_1_120484096.siIdx (ix3 b q N) ⟨0, by decide⟩)).toInt.toNat (32 - 1) + 0 + 0 = E.val
      rw [hi, h, toInt_ofNat_small _ (by omega)]
      omega
    | ⟨1, _⟩ =>
      show 0 + 0 + q.val = q.val
      omega
    | ⟨2, _⟩ =>
      show 0 + 0 + N.val = N.val
      omega
  refine (hr _).trans ?_
  pointwise

theorem rowsB_at (v : FVec Ideal S2x32x4096 .f32) (p : IVec S97x1 32) (b : Fin 97) (E : Fin 32) (h : p (ValueIdx.ix2 b 0) = BitVec.ofNat 32 E.val) (N : Fin 4096) :
    rowsB v p (ix2 b N) = v (ix3 0 E N) := by
  rw [ix2_eq_valueIdx]
  refine (Routing.gather_row _ rfl rfl rfl rfl rfl _ p b N E h (by decide)).trans ?_
  rw [← ix2_eq_valueIdx]
  pointwise

/-! ## The result -/

theorem linear_at (x : FVec Ideal S49664x2048 .bf16) (W : FVec Ideal S97x2048x4096 .f32) (B : FVec Ideal S97x4096 .f32) (b : Fin 97) (r : Fin 512) (N : Fin 4096) :
    linear x W B (ix3 b r N) = (∑ q : Fin 2048, x (ix2 (rowIx b r) q) * W (ix3 b q N)) + B (ix2 b N) := by
  unfold linear
  pointwise
  rfl

theorem place_at (T : FVec Ideal S97x512x4096 .f32) (R : Fin 49664) (N : Fin 4096) :
    shapeCast S49664x4096 T shapeCasts_S97x512x4096_S49664x4096 (ix2 R N) = T (ix3 (rowB R) (rowR R) N) := by
  pointwise
  rfl

theorem spread_at (v : IVec S97 1) (b : Fin 97) (r : Fin 512) (N : Fin 4096) :
    broadcastInDim S97x512x4096 ![0, 1, 2] bcast_S97x1x1_S97x512x4096_0_1_2 (broadcastInDim S97x1x1 ![0] bcast_S97_S97x1x1_0 v) (ix3 b r N) = v (ValueIdx.ix1 b) := by
  rw [← ix1_eq_valueIdx]
  pointwise

theorem zeros_at (b : Fin 97) (r : Fin 512) (N : Fin 4096) : zeros (ix3 b r N) = 0 := by
  unfold zeros
  pointwise

/-- The reference's result at a row and a column. -/
theorem result_at (x : IVec S32 32) (n : ℕ → ℕ) (hx : ∀ i : Fin 32, x (ValueIdx.ix1 i) = BitVec.ofNat 32 (n i.val)) (h97 : upTo n 32 ≤ 97)
    (X : FVec Ideal S49664x2048 .bf16) (w : FVec Ideal S2x32x2048x4096 .f32) (v : FVec Ideal S2x32x4096 .f32) (R : Fin 49664) (N : Fin 4096) :
    result x X w v (ix2 R N) = down n X w v (rowB R) (rowR R) N := by
  have hp := picks_at x n hx h97 (rowB R)
  have hu := used_at x n hx h97 (rowB R)
  refine (place_at _ R N).trans ?_
  show (if _ = 1#1 then linear _ _ _ (ix3 (rowB R) (rowR R) N) else zeros (ix3 (rowB R) (rowR R) N)) = _
  rw [spread_at, zeros_at, linear_at, rowsB_at v _ _ _ hp, Finset.sum_congr rfl fun q _ => congrArg (_ * ·) (rowsW_at w _ _ _ hp q N)]
  unfold MoeDownIdeal.Run.down
  by_cases h : (rowB R).val < upTo n 32
  · rw [if_pos (hu.mpr h), if_pos h]
  · rw [if_neg fun e => h (hu.mp e), if_neg h]

end Cert.MoeDownReferenceIdeal.Ref
-- ==== Proof.MoeDown.Claims.lean ====
/- The claims about the experts' down product. -/
module

public import proofs.«01_k».proof.Defs
public import proofs.«01_k».proof.Proof.Gen.MoeDown
public import proofs.«01_k».proof.Proof.Gen.MoeDownReferenceIdeal.Run
public import proofs.«01_k».proof.Proof.Gen.Pre_down_blocks
public import proofs.«01_k».proof.Proof.MoeDown.Reference
public import proofs.«01_k».proof.Proof.MoeUp.Claims
public import Idealize.ShloMosaic.Adequacy

@[expose] public section

set_option maxRecDepth 16384

noncomputable section

namespace Cert.Proof.MoeDown

open Idealize.ShloMosaic Idealize.ShloMosaic.TcCoe Idealize.SL.Sem
open Cert.MoeDownIdeal.Run
open Cert.MoeUpIdeal.Blk (upTo)
open Cert.MoeUpIdeal.Run (rowB rowR)
open Cert.Proof.MoeUp (num num_at all_at sum_le)

attribute [local instance] Cert.MoeDown.Gen.facts Cert.MoeDownIdeal.Gen.facts Cert.MoeDownReferenceIdeal.Gen.facts Cert.Pre_down_blocks.Gen.facts

/-- What the precondition says: the numbers of blocks are naturals, and there are from 1 to 97 blocks. -/
theorem blocks_of {F : FTy → Type} [FloatOps F] (x : IVec Cert.Pre_down_blocks.S32 32) (a1 : FVec F Cert.Pre_down_blocks.S49664x2048 .bf16)
    (a2 : FVec F Cert.Pre_down_blocks.S2x32x2048x4096 .f32) (a3 : FVec F Cert.Pre_down_blocks.S2x32x4096 .f32)
    (h : Cert.Pre_down_blocks.fn (F := F) x a1 a2 a3 = fun _ => 1#1) :
    ∃ n : ℕ → ℕ, (∀ i : Fin 32, x (ValueIdx.ix1 i) = BitVec.ofNat 32 (n i.val)) ∧ 1 ≤ upTo n 32 ∧ upTo n 32 ≤ 97 := by
  obtain ⟨h1, hle⟩ := IntOp.andi_eq_one.1 (congrFun h ValueIdx.ix0)
  obtain ⟨hall, hge⟩ := IntOp.andi_eq_one.1 h1
  exact ⟨num x, num_at x, sum_le x (fun i => all_at x i hall) hge hle⟩

/-- The two programs' body tables agree. -/
theorem bodies_eq {F : FTy → Type} [FloatOps F] : Cert.MoeDownIdeal.defs₀ (F := F) = Cert.MoeDown.defs₀ (F := F) := by
  unfold Cert.MoeDown.defs₀ Cert.MoeDownIdeal.defs₀
  congr 1
  funext a b
  obtain rfl : a = 0 := Fin.ext (by have : a.val < 1 := a.isLt; show a.val = 0; omega)
  rfl

/-- The two programs' tables agree. -/
theorem defs_eq {F : FTy → Type} [FloatOps F] : Cert.MoeDownIdeal.defs (F := F) = Cert.MoeDown.defs (F := F) :=
  congrArg (Pipeline.defs (Cert.MoeDownIdeal.pcfgs (F := F))) bodies_eq

/-- The run at any floats keeps the arguments, from a memory the precondition holds of. -/
theorem kept {F : FTy → Type} [FloatOps F] (m : (ℓ : Loc Cert.MoeDownIdeal.nD Cert.MoeDownIdeal.τ Cert.MoeDownIdeal.sig) → Buf (Elt F) ℓ) (ρ : Dev Cert.MoeDownIdeal.nD → PrngReg)
    (hpre : ∀ c : Dev Cert.MoeDownIdeal.nD, Cert.Pre_down_blocks.fn (F := F) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) = fun _ => 1#1) :
    θ_run (Cert.MoeDownIdeal.defs (F := F)) (onTc (τ := Cert.MoeDownIdeal.τ) (Cert.MoeDownIdeal.main (F := F))) ⟨m, fun _ => 0, ρ⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0) := by
  obtain ⟨n, hx, hT, h97⟩ := blocks_of _ _ _ _ (hpre 0)
  have hO := ok_tbl m n hx hT h97
  exact (θ_run (Cert.MoeDownIdeal.defs (F := F)) _ _).mono (fun r h => ⟨fun c => args_kept m hO h.1 c, h.2⟩)
    (launch_run m ρ hO fun c => steps m n hx hT h97 hO c)

set_option maxHeartbeats 4000000 in
/-- The kernel at bit patterns keeps its arguments: the two programs have the same text. -/
theorem frame_kernel : Cert.quiescent_MoeDown := fun m ρ hpre => by
  have h := kept (F := Bits) m ρ hpre
  rw [defs_eq] at h
  exact h

/-- The kernel at extended reals keeps its arguments. -/
theorem frame_ideal : Cert.quiescent_MoeDownIdeal := fun m ρ hpre => kept (F := Ideal) m ρ hpre

/-- The reference keeps its arguments; it declares no semaphore. -/
theorem frame_ref : Cert.quiescent_MoeDownReferenceIdeal := fun m ρ _ =>
  (θ_run Cert.MoeDownReferenceIdeal.defs _ _).mono
    (fun r h => ⟨fun c => (h c).2, Idealize.ShloMosaic.sem_eq_zero_of_no_sems (by decide) r.2⟩)
    (Cert.MoeDownReferenceIdeal.Value.run (F := Ideal) m ρ)

/-- The reference's composed result is the one of its lines. -/
theorem composed (m : (ℓ : Loc Cert.MoeDownReferenceIdeal.nD Cert.MoeDownReferenceIdeal.τ Cert.MoeDownReferenceIdeal.sig) → Buf (Elt Ideal) ℓ) (c : Dev Cert.MoeDownReferenceIdeal.nD) :
    Cert.MoeDownReferenceIdeal.Value.res_out0 (F := Ideal) m c = Cert.MoeDownReferenceIdeal.Ref.result (m ((c.tc : Thread Cert.MoeDownReferenceIdeal.nD Cert.MoeDownReferenceIdeal.τ).loc Cert.MoeDownReferenceIdeal.main_arg0))
      (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2))
      (m ((c.tc : Thread Cert.MoeDownReferenceIdeal.nD Cert.MoeDownReferenceIdeal.τ).loc Cert.MoeDownReferenceIdeal.main_arg3)) := rfl

/-- The reference's result, where the numbers of blocks are as in the kernel's. -/
theorem ref_eq (x : IVec Cert.MoeDownReferenceIdeal.S32 32) (n : ℕ → ℕ) (hx : ∀ i : Fin 32, x (ValueIdx.ix1 i) = BitVec.ofNat 32 (n i.val)) (h97 : upTo n 32 ≤ 97)
    (X : FVec Ideal Cert.MoeDownReferenceIdeal.S49664x2048 .bf16) (w : FVec Ideal Cert.MoeDownReferenceIdeal.S2x32x2048x4096 .f32) (v : FVec Ideal Cert.MoeDownReferenceIdeal.S2x32x4096 .f32) :
    Cert.MoeDownReferenceIdeal.Ref.result x X w v = fun j => down n X w v (rowB (j 0)) (rowR (j 0)) (j 1) := by
  funext j
  obtain ⟨R, N, rfl⟩ : ∃ R N, j = (ix2 R N : Cert.MoeDownReferenceIdeal.S49664x4096.Idx) := ⟨j 0, j 1, eq_ix2 j⟩
  exact Cert.MoeDownReferenceIdeal.Ref.result_at x n hx h97 X w v R N

/-- Over the extended reals the kernel's result is the reference's. -/
theorem value : Cert.algebraic_MoeDownIdeal_MoeDownReferenceIdeal := fun m ρ m' ρ' hpre hag => by
  obtain ⟨n, hx, hT, h97⟩ := blocks_of _ _ _ _ (hpre 0)
  have hO := ok_tbl m n hx hT h97
  refine ⟨fun c => out3 m n c,
    (θ_run (Cert.MoeDownIdeal.defs (F := Ideal)) _ _).mono
      (fun r h c => ⟨((h.1 c).1 3).trans (arr3 m n hx hT h97 hO c), args_kept m hO h.1 c⟩)
      (launch_run m ρ hO fun c => steps m n hx hT h97 hO c),
    (θ_run (Cert.MoeDownReferenceIdeal.defs (F := Ideal)) _ _).mono
      (fun r h c => by
        obtain rfl : c = 0 := Subsingleton.elim _ _
        obtain ⟨e0, e1, e2, e3⟩ := hag 0
        refine ⟨(h 0).1.trans ((composed m' 0).trans ?_), (h 0).2⟩
        refine (ref_eq _ n (fun i => (congrFun e0 _).trans (hx i)) h97 _ _ _).trans ?_
        rw [e1, e2, e3]
        rfl)
      (Cert.MoeDownReferenceIdeal.Value.run (F := Ideal) m' ρ')⟩

end Cert.Proof.MoeDown

end
-- ==== Proof.SampleProj.Run.lean ====
module
public import proofs.«01_k».proof.Proof.Gen.SampleProj
public import proofs.«01_k».proof.Proof.Gen.SampleProjIdeal
public import proofs.«01_k».proof.Proof.Gen.SampleProjIdeal.Frame
public import proofs.«01_k».proof.Proof.Gen.SampleProjIdeal.Skeleton
public import Idealize.ShloMosaic.Lib.Claim
public import Idealize.ShloMosaic.Lib.Exec
public import Idealize.ShloMosaic.Lib.VecWindow
public import Idealize.ShloMosaic.Lib.Pipeline.DatRel
public import Idealize.ShloMosaic.Lib.Pipeline.ArrRel
@[expose] public section
set_option maxRecDepth 16384
noncomputable section
namespace Cert.SampleProjIdeal.Run
open Cert.SampleProjIdeal Cert.SampleProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The test of the body's one branch: the row block is the first. -/
abbrev firstRow (i : grid0.Coords) : Prop := (Scalar.cmpi .ne (Scalar.extui (Scalar.cmpi .eq (BitVec.ofNat 32 (i 1).val) 0#32)) 0#32) = 1#1

/-- All rows are one block, so it holds at every point. -/
theorem firstRow_all (t : Fin cfg0.N) : firstRow (grid0.coords t) := by
  have e1 : (grid0.coords t 1).val = t.val / 1 % 1 := Pipeline.Grid.coords_val t 1 (by decide) rfl
  simp only [firstRow, e1]
  word_cmp

set_option maxHeartbeats 1000000 in
/-- The body: the rounded weight block is put in the scratch and used. -/
theorem body_first (c : Dev nD) (i : grid0.Coords) (arg2 : Memref sig .tc .vmem S32x4096 .bf16) (harg2 : arg2.IsWhole) (arg3 : Memref sig .tc .vmem S4096x512 .f32) (harg3 : arg3.IsWhole) (arg4 : Memref sig .tc .vmem S32x512 .f32) (harg4 : arg4.IsWhole) (arg5 : Memref sig .tc .vmem S4096x512 .bf16) (harg5 : arg5.IsWhole) (hc : firstRow i)
    (x : Vec F S32x4096 .bf16) (w : Vec F S4096x512 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ (iprop(owns (c : Thread nD τ) arg2 fullShare x ∗ owns (c : Thread nD τ) arg3 fullShare w ∗ owns (c : Thread nD τ) arg4 fullShare (k0_pay2 x (k0_pay1 w)) ∗ owns (c : Thread nD τ) arg5 fullShare (k0_pay1 w)) -∗ K ⟨⟩))
      ⊢ wp frame (wpE (defs₀ (F := F)) Variants.none c none) E (cc0_dense_matmul i arg2 harg2 arg3 harg3 arg4 harg4 arg5 harg5) K := by
  simp only [cc0_dense_matmul_eq_skeleton]; unfold cc0_dense_matmul_skel
  unfold owns
  iintro ⟨⟨%f0, %hf0, H0⟩, ⟨%f1, %hf1, H1⟩, ⟨%d2, %f2, -, H2⟩, ⟨%ds, %fs, -, HS⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap
    · iexact H2
    ipureintro
    refine (View.read_writes_full _ _ _ _ _).trans ?_
    unfold body_first.sl.v5 body_first.sl.HS_1
    rw [View.readAt_full, View.readAt_full, View.readCov_full, harg2.read_unread, harg3.read_unread]
  iexists _; isplitr; swap
  · iexact HS
  ipureintro
  unfold body_first.sl.HS_1
  refine (View.read_writes_full _ _ _ _ _).trans ?_
  rw [View.readAt_full, harg3.read_unread]

/-! ## The proof data -/

/-- The weight block of point `t` filled out past the array's end with `d`. -/
def wfill (c : Dev nD) (t : Fin cfg0.N) (d : S4096x512.Idx → Elt F .f32) : S4096x512.Idx → Elt F .f32 :=
  win0_1.fill (grid0.coords t) d (iblk m c 1 t)

/-- What the body may leave in the result's buffer at point `t`: the product of the two blocks, whatever lies past the
    weights' end. -/
def leavesOut (c : Dev nD) (t : Fin cfg0.N) (X : S32x512.Idx → Elt F .f32) : Prop :=
  ∃ d, X = k0_pay2 (iblk m c 0 t) (k0_pay1 (wfill m c t d))

/-- The proof data: the arrays as launched, the inputs' buffers at their blocks; the scratch holds anything,
    as each point fills it anew. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t (fun _ => Scalar.ofBits .f32 0#32)
    | ⟨2, h⟩ => Pipeline.Dat.unnamed (cfg := cfg0) ⟨2, h⟩ t
  Φ n := iprop((∃ S, owns (c : Thread nD τ) (Memref.whole cc0_scratch0) fullShare S) ∗ (∃ r, prngReg c r))
  q _ := fullShare
  owed _ := 0

/-- The window held to a predicate: the result's. -/
def isOut : Fin 3 → Bool := fun w => w.val == 2

/-- The predicate, window by window. -/
def Rl (c : Dev nD) (w : Fin cfg0.W) (t : Fin cfg0.N) : ((cfg0.win w).block.Idx → Elt F (cfg0.win w).elt) → Prop :=
  match w with
    | ⟨0, _⟩ => fun _ => True
    | ⟨1, _⟩ => fun _ => True
    | ⟨2, _⟩ => leavesOut m c t

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wfill m c t (fun _ => Scalar.ofBits .f32 0#32) := by
  dsimp only [dats]

theorem before_0 (c : Dev nD) (t : Fin cfg0.N) (d) : (dats m 0 c).before 0 t d = iblk m c 0 t :=
  before0_0_of m (dats m 0 c) (A_eq m c 0) (after_0 m c) t d

/-- The weights' cuts are a function of the block index. -/
theorem clip_eq (t t' : Fin cfg0.N) (h : (cfg0.win 1).index t = (cfg0.win 1).index t') :
    (cfg0.win 1).clip (cfg0.grid.coords t) = (cfg0.win 1).clip (cfg0.grid.coords t') :=
  congrArg (fun ix : Fin 2 → Nat => fun a => Pipeline.Clip.of (ix a) (S4096x512.size a) (S4096x24656.size a)) h

theorem fetched_1 (c : Dev nD) (t : Fin cfg0.N) (d) : (dats m 0 c).fetched 1 t d = wfill m c t d := by
  unfold Dat.fetched Dat.blockOf; rw [A_eq]; rfl

theorem before_1 (c : Dev nD) (t : Fin cfg0.N) (d) : (dats m 0 c).before 1 t d = wfill m c t d :=
  ((dats m 0 c).before_in_eq_fetched 1 rfl (fun _ => rfl) clip_eq
    (fun t => by rw [after_1]; unfold Dat.blockOf; rw [A_eq]; exact win0_1.cut_fill _ _ _) t d).trans (fetched_1 m c t d)

/-! ## The obligation -/

abbrev ms0 (t : Fin cfg0.N) : Memref sig .tc .vmem S32x4096 .bf16 := win0_0.stage (cfg0.slots t 0)
abbrev ms1 (t : Fin cfg0.N) : Memref sig .tc .vmem S4096x512 .f32 := win0_1.stage (cfg0.slots t 1)
abbrev ms2 (t : Fin cfg0.N) : Memref sig .tc .vmem S32x512 .f32 := win0_2.stage (cfg0.slots t 2)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ Y, ⌜((dats m 0 c).toRRel isOut (Rl m c)).Finds 2 t Y⌝ ∗ owns (c : Thread nD τ) (ms2 t) fullShare Y))

/-- What it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ (∃ X, ⌜leavesOut m c t X⌝ ∗ owns (c : Thread nD τ) (ms2 t) fullShare X))

theorem Φ_eq (c : Dev nD) (n : Fin (cfg0.N + 1)) : (dats m 0 c).Φ n = iprop((∃ S, owns (c : Thread nD τ) (Memref.whole cc0_scratch0) fullShare S) ∗ (∃ r, prngReg c r)) := by
  dsimp only [dats]

set_option maxHeartbeats 800000 in
/-- The body at any point of the grid. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1]
  rw [Φ_eq, Φ_eq,
    show (dats m 0 c).owesAt () t.succ = (dats m 0 c).owesAt () t.castSucc from rfl, after_0, after_1,
    show win0_1.cut (grid0.coords t) (wfill m c t (fun _ => Scalar.ofBits .f32 0#32)) = iblk m c 1 t from win0_1.cut_fill _ _ _]
  iintro ⟨⟨⟨%S, HS⟩, Hg⟩, Ho, ⟨%d0, H0⟩, ⟨%d1, H1⟩, ⟨%Y, -, H2⟩⟩
  iapply (body_first c (grid0.coords t) _ _ _ _ _ _ _ _ (firstRow_all t) (iblk m c 0 t) (wfill m c t d1) Set.univ _)
  isplitl [H0]; · iexact H0
  isplitl [H1]; · iexact H1
  isplitl [H2]; · iexists _; iexact H2
  isplitl [HS]; · iexists _; iexact HS
  iintro ⟨H0, H1, H2, HS⟩
  isplitl [HS Hg]
  · isplitl [HS]
    · iexists _; iexact HS
    iexact Hg
  isplitl [Ho]; · iexact Ho
  isplitl [H0]; · iexact H0
  isplitl [H1]; · iexists d1; iexact H1
  iexists _; isplitr; swap
  · iexact H2
  ipureintro; exact ⟨d1, rfl⟩

theorem row (t : Fin cfg0.N) :
    defs₀ (F := F) .tc cfg0.body (cfg0.bodyArgs t (cfg0.slots t)) = bodyAt0 t := by
  unfold defs₀; rw [Defs.onTc_tc]

/-- The obligation the pipeline's rule asks of the body. -/
theorem obligation (c : Dev nD) : BodyObligationRel (dats (F := F) m 0 c) (defs₀ (F := F)) Variants.none () Set.univ isOut (Rl m c) := fun t => by
  rw [bigSep_W0, bigSep_W0, row]
  exact triple_restated (sound m c t) rfl .rfl fun _ => .rfl

/-- Between two points the scratch holds anything, as before the first and after the last. -/
theorem phi_eq (c : Dev nD) (n : Fin (cfg0.N + 1)) : (Pipeline.ΦA spec0 c : sProp 𝕄) = (dats m 0 c).Φ n := by
  rw [Φ_eq]; unfold Pipeline.ΦA; rw [scopedRest0_eq]; simp only [owns_whole]

set_option backward.isDefEq.respectTransparency.types false in
/-- The launch: every execution ends, with the arrays at what the proof data allow and every counter at zero. -/
theorem launch_run : θ_run defs (onTc (τ := τ) (main (F := F))) (s₀ m ρ) (fun r => (Pipeline.RDat.FramePost (cfgs 0) (fun c => (dats m 0 c).toRRel isOut (Rl m c)) (V m)) r ∧ r.2.sem = fun _ => 0) :=
  Pipeline.RDat.θ_run_frame_track (Q' := _) cfgs (0 : Fin 1) launch0 defs₀ Variants.none (fun c => (dats m 0 c).toRRel isOut (Rl m c)) m ρ main
    (hbody := fun c => (obligation m c).toRRel) (hshare := fun c => (dats m 0 c).share_full fun _ => rfl)
    (howed := fun _ _ => rfl) (V := V m) (hmain := hmain m Variants.none) (hA := A_eq m) (hin := fun c => Entails.of_eq (phi_eq m c 0)) (hout := fun c => Entails.of_eq (phi_eq m c (Fin.last cfg0.N)).symm)

end Cert.SampleProjIdeal.Run
-- ==== Proof.SampleProj.Value.lean ====
module

public import proofs.«01_k».proof.Proof.SampleProj.Run
public import Idealize.ShloMosaic.Lib.Pipeline.ValueKit
public import Idealize.ShloMosaic.Lib.Pipeline.Covers

@[expose] public section

set_option maxRecDepth 16384

noncomputable section

namespace Cert.SampleProjIdeal.Run

open Cert.SampleProjIdeal Cert.SampleProjIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product of two matrices, entry by entry. -/
def mulMat (X : S32x4096.Idx → EReal) (W : S4096x24656.Idx → EReal) : S32x24656.Idx → EReal :=
  fun j => ∑ k : Fin 4096, X (ix2 (j 0) k) * W (ix2 k (j 1))

/-- The rows of all sequences one below the other. -/
def rowsOf (X : S8x4x4096.Idx → EReal) : S32x4096.Idx → EReal :=
  shapeCast S32x4096 (X : FVec Ideal S8x4x4096 .f32) shapeCasts_S8x4x4096_S32x4096

/-- The rounding of the activations is the identity on extended reals. -/
theorem V_x : (V m c main_v1 : S32x4096.Idx → EReal) = rowsOf (m ((c.tc : Thread nD τ).loc main_arg0)) := by
  dsimp only [V, hostOps0, List.flatten_cons, List.flatten_nil, List.cons_append, List.nil_append, List.append_nil]
  after_results; try rfl

/-- What the body computes, entry by entry. -/
theorem pay_at (x : Vec Ideal S32x4096 .bf16) (w : Vec Ideal S4096x512 .f32) (r : Fin 32) (n : Fin 512) :
    k0_pay2 (F := Ideal) x (k0_pay1 (F := Ideal) w) (ix2 r n) = ∑ k : Fin 4096, x (ix2 r k) * w (ix2 k n) := by
  pointwise [k0_pay2, k0_pay1]

/-- Where each window's block sits. -/
theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- How much of a block the transfers move. -/
theorem xsz : ∀ t : Fin cfg0.N, win0_1.xsize (grid0.coords t) 0 = 4096 ∧ win0_1.xsize (grid0.coords t) 1 = win0_2.xsize (grid0.coords t) 1
    ∧ win0_2.xsize (grid0.coords t) 0 = 32 ∧ win0_2.xsize (grid0.coords t) 1 ≤ 512 ∧ (grid0.coords t 0).val * 512 + win0_2.xsize (grid0.coords t) 1 ≤ 24656 :=
  (by decide +kernel : ∀ t : Fin grid0.N, _)

theorem emb0 (t : Fin cfg0.N) (r : Fin 32) (k : Fin 4096) (R : Fin 32) (hR : R.val = (grid0.coords t 1).val * 32 + r.val) :
    (win0_0.blk t).view.emb (ix2 r k : S32x4096.Idx) = (ix2 R k : S32x4096.Idx) := by
  funext a
  apply Fin.ext
  fin_cases a <;> blk_simp [idx t]
  all_goals (simp [hR]; try omega)

theorem emb1 (t : Fin cfg0.N) (z : (win0_1.xblock (grid0.coords t)).Idx) (k : Fin 4096) (N : Fin 24656)
    (h0 : (z 0).val = k.val) (h1 : N.val = (grid0.coords t 0).val * 512 + (z 1).val) :
    (win0_1.blk t).view.emb z = (ix2 k N : S4096x24656.Idx) := by
  funext a
  apply Fin.ext
  fin_cases a <;> blk_simp [idx t]
  all_goals (simp [h0, h1]; try omega)

theorem emb2 (t : Fin cfg0.N) (y : (win0_2.xblock (grid0.coords t)).Idx) (R : Fin 32) (N : Fin 24656)
    (h0 : R.val = (grid0.coords t 1).val * 32 + (y 0).val) (h1 : N.val = (grid0.coords t 0).val * 512 + (y 1).val) :
    (win0_2.blk t).view.emb y = (ix2 R N : S32x24656.Idx) := by
  funext a
  apply Fin.ext
  fin_cases a <;> blk_simp [idx t]
  all_goals (simp [h0, h1]; try omega)

/-- The activations' block, entry by entry. -/
theorem x_at (t : Fin cfg0.N) (r : Fin 32) (k : Fin 4096) (R : Fin 32) (hR : R.val = (grid0.coords t 1).val * 32 + r.val) :
    (iblk m c 0 t : S32x4096.Idx → EReal) (ix2 r k) = (V m c main_v1 : S32x4096.Idx → EReal) (ix2 R k) :=
  congrArg (V m c main_v1 : S32x4096.Idx → EReal) (emb0 t r k R hR)

/-- The weights' block, entry by entry: the moved columns are the array's, whatever fills the others. -/
theorem w_at (t : Fin cfg0.N) (d : S4096x512.Idx → EReal) (k : Fin 4096) (n : Fin 512) (N : Fin 24656)
    (hn : n.val < win0_2.xsize (grid0.coords t) 1) (hN : N.val = (grid0.coords t 0).val * 512 + n.val) :
    wfill (F := Ideal) m c t d (ix2 k n) = (V m c main_arg1 : S4096x24656.Idx → EReal) (ix2 k N) := by
  obtain ⟨e0, e1, -, -, -⟩ := xsz t
  let z : (win0_1.xblock (grid0.coords t)).Idx := fun a => match a with
    | ⟨0, _⟩ => ⟨k.val, by show k.val < win0_1.xsize (grid0.coords t) 0; rw [e0]; exact k.isLt⟩
    | ⟨1, _⟩ => ⟨n.val, by show n.val < win0_1.xsize (grid0.coords t) 1; rw [e1]; exact hn⟩
  have hz : (ix2 k n : S4096x512.Idx) = win0_1.xinj (grid0.coords t) z := by
    funext a; apply Fin.ext; fin_cases a <;> rfl
  unfold wfill
  rw [hz, Pipeline.Window.fill_xinj]
  exact congrArg (V m c main_arg1 : S4096x24656.Idx → EReal) (emb1 t z k N rfl hN)

theorem covers : (cfg0.win 2).Covers := by decide +kernel

/-- The result's array after any of the runs. -/
theorem arr2 (after : (w : Fin cfg0.W) → Fin cfg0.N → (cfg0.win w).block.Idx → Elt Ideal (cfg0.win w).elt)
    (h : ∀ t, leavesOut m c t (after 2 t)) :
    (((dats m 0 c).toRRel isOut (Rl m c)).withAfter after).arrAt 2 cfg0.N = mulMat (V m c main_v1) (V m c main_arg1) := by
  refine (((dats m 0 c).toRRel isOut (Rl m c)).withAfter after).arrAt_eq_of_covers 2 _ covers fun t hf y => ?_
  obtain ⟨d, hd⟩ := h t
  obtain ⟨-, -, e0, e1, e2⟩ := xsz t
  have hy0 : (y 0).val < 32 := lt_of_lt_of_eq (y 0).isLt e0
  have hy1' : (y 1).val < win0_2.xsize (grid0.coords t) 1 := (y 1).isLt
  have hy1 : (y 1).val < 512 := lt_of_lt_of_le (y 1).isLt e1
  have hi : (grid0.coords t 1).val < 1 := (grid0.coords t 1).isLt
  have hR : (grid0.coords t 1).val * 32 + (y 0).val < 32 := by omega
  have hN : (grid0.coords t 0).val * 512 + (y 1).val < 24656 := by omega
  have hx : win0_2.xinj (grid0.coords t) y = (ix2 (⟨(y 0).val, hy0⟩ : Fin 32) (⟨(y 1).val, hy1⟩ : Fin 512) : S32x512.Idx) := by
    funext a; apply Fin.ext; fin_cases a <;> rfl
  have he := emb2 t y ⟨_, hR⟩ ⟨_, hN⟩ rfl rfl
  refine Eq.trans ?_ (congrArg (mulMat (V m c main_v1) (V m c main_arg1)) he).symm
  show after 2 t (win0_2.xinj (grid0.coords t) y) = _
  rw [hd]
  refine (congrArg _ hx).trans ?_
  refine (pay_at _ _ _ _).trans ?_
  unfold mulMat
  refine Finset.sum_congr rfl fun k _ => ?_
  exact congrArg₂ (· * ·) (x_at m c t _ k ⟨_, hR⟩ rfl) (w_at m c t d k _ ⟨_, hN⟩ hy1' rfl)

end Cert.SampleProjIdeal.Run
end
-- ==== Proof.SampleProj.Claims.lean ====
/- The claims about the projection of the sample's activations. -/
module

public import proofs.«01_k».proof.Defs
public import proofs.«01_k».proof.Proof.Gen.SampleProj
public import proofs.«01_k».proof.Proof.Gen.SampleProjReferenceIdeal.Run
public import proofs.«01_k».proof.Proof.SampleProj.Value
public import Idealize.ShloMosaic.Adequacy

@[expose] public section

set_option maxRecDepth 16384

noncomputable section

namespace Cert.Proof.SampleProj

open Idealize.ShloMosaic Idealize.ShloMosaic.TcCoe Idealize.SL.Sem
open Cert.SampleProjIdeal.Run

attribute [local instance] Cert.SampleProj.Gen.facts Cert.SampleProjIdeal.Gen.facts Cert.SampleProjReferenceIdeal.Gen.facts

/-- What a run leaves in the arguments. -/
theorem kept {F : FTy → Type} [FloatOps F] (m : (ℓ : Loc Cert.SampleProjIdeal.nD Cert.SampleProjIdeal.τ Cert.SampleProjIdeal.sig) → Buf (Elt F) ℓ)
    (r : PUnit × MemSt Cert.SampleProjIdeal.nD Cert.SampleProjIdeal.τ Cert.SampleProjIdeal.sig (Elt F))
    (h : Pipeline.RDat.FramePost (Cert.SampleProjIdeal.cfgs 0) (fun c => (dats m 0 c).toRRel isOut (Rl m c)) (Cert.SampleProjIdeal.Gen.V m) r) (c : Dev Cert.SampleProjIdeal.nD) :
    r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1) :=
  ⟨((h c).2 Cert.SampleProjIdeal.main_arg0 (Pipeline.mem_restRefs_of Cert.SampleProjIdeal.main_arg0 (by decide) (by decide))).trans (Cert.SampleProjIdeal.Gen.V_main_arg0 m c),
    (Pipeline.RDat.FramePost.arr_in h c 1 rfl).trans (Cert.SampleProjIdeal.Gen.V_main_arg1 m c)⟩

/-- The kernel keeps its arguments and ends with every counter at zero, whatever the floats are. -/
theorem frame_any {F : FTy → Type} [FloatOps F] (m : (ℓ : Loc Cert.SampleProjIdeal.nD Cert.SampleProjIdeal.τ Cert.SampleProjIdeal.sig) → Buf (Elt F) ℓ)
    (ρ : Dev Cert.SampleProjIdeal.nD → PrngReg) :
    θ_run (Cert.SampleProjIdeal.defs (F := F)) (onTc (τ := Cert.SampleProjIdeal.τ) (Cert.SampleProjIdeal.main (F := F))) ⟨m, fun _ => 0, ρ⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0) ∧
      r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)) ∧ r.2.sem = fun _ => 0) :=
  (θ_run Cert.SampleProjIdeal.defs _ _).mono (fun r h => ⟨fun c => kept m r h.1 c, h.2⟩) (launch_run m ρ)

/-- The two programs' body tables agree. -/
theorem bodies_eq {F : FTy → Type} [FloatOps F] : Cert.SampleProjIdeal.defs₀ (F := F) = Cert.SampleProj.defs₀ (F := F) := by
  unfold Cert.SampleProj.defs₀ Cert.SampleProjIdeal.defs₀
  congr 1
  funext a b
  obtain rfl : a = 0 := Fin.ext (by have : a.val < 1 := a.isLt; show a.val = 0; omega)
  rfl

/-- The two programs' tables agree. -/
theorem defs_eq {F : FTy → Type} [FloatOps F] : Cert.SampleProjIdeal.defs (F := F) = Cert.SampleProj.defs (F := F) :=
  congrArg (Pipeline.defs (Cert.SampleProjIdeal.pcfgs (F := F))) bodies_eq

/-- The kernel at bit patterns keeps its arguments: the two programs have the same text. -/
theorem frame_kernel : Cert.quiescent_SampleProj := fun m ρ _ => by
  have h := frame_any (F := Bits) m ρ
  rw [defs_eq] at h
  exact h

/-- The kernel at extended reals keeps its arguments. -/
theorem frame_ideal : Cert.quiescent_SampleProjIdeal := fun m ρ _ => frame_any (F := Ideal) m ρ

/-- The reference keeps its arguments; it declares no semaphore. -/
theorem frame_ref : Cert.quiescent_SampleProjReferenceIdeal := fun m ρ _ =>
  (θ_run Cert.SampleProjReferenceIdeal.defs _ _).mono
    (fun r h => ⟨fun c => (h c).2, Idealize.ShloMosaic.sem_eq_zero_of_no_sems (by decide) r.2⟩)
    (Cert.SampleProjReferenceIdeal.Value.run (F := Ideal) m ρ)

/-- The reference's product of all rows is the matrix product of the rows one below the other. -/
theorem ref_eq (X : FVec Ideal Cert.SampleProjReferenceIdeal.S8x4x4096 .f32) (W : FVec Ideal Cert.SampleProjReferenceIdeal.S4096x24656 .f32) :
    shapeCast Cert.SampleProjReferenceIdeal.S32x24656 (Host.dotGeneral Cert.SampleProjReferenceIdeal.dot_S8x4x4096_S4096x24656_S8x4x24656_2_0_01_1_n_n none X W)
        Cert.SampleProjReferenceIdeal.Facts₀.shapeCasts_S8x4x24656_S32x24656
      = mulMat (rowsOf X) W := by
  funext j
  obtain ⟨R, N, rfl⟩ : ∃ R N, j = (ix2 R N : Cert.SampleProjReferenceIdeal.S32x24656.Idx) := ⟨j 0, j 1, eq_ix2 j⟩
  unfold mulMat rowsOf
  pointwise

/-- The kernel's result is the reference's. -/
theorem value : Cert.algebraic_SampleProjIdeal_SampleProjReferenceIdeal := fun m ρ m' ρ' _ hag =>
  ⟨fun c => mulMat (rowsOf (m ((c.tc : Thread Cert.SampleProjIdeal.nD Cert.SampleProjIdeal.τ).loc Cert.SampleProjIdeal.main_arg0))) (m ((c.tc : Thread Cert.SampleProjIdeal.nD Cert.SampleProjIdeal.τ).loc Cert.SampleProjIdeal.main_arg1)),
    (θ_run Cert.SampleProjIdeal.defs _ _).mono
      (fun r h c => ⟨by
        obtain ⟨after, hl, ha⟩ := Pipeline.RDat.FramePost.exists_exact h.1 c
        refine (ha 2).trans ((arr2 m c after fun t => ?_).trans ?_)
        · exact (dats m 0 c).toRRel_leaves (w := 2) rfl (hl 2 t (Cert.SampleProjIdeal.Gen.flush0_2 t))
        · rw [V_x, Cert.SampleProjIdeal.Gen.V_main_arg1], kept m r h.1 c⟩)
      (launch_run m ρ),
    (θ_run Cert.SampleProjReferenceIdeal.defs _ _).mono
      (fun r h c => ⟨(h c).1.trans ((ref_eq _ _).trans (by rw [(hag c).1, (hag c).2])), (h c).2⟩)
      (Cert.SampleProjReferenceIdeal.Value.run (F := Ideal) m' ρ')⟩

end Cert.Proof.SampleProj

end
-- ==== Proof.SampleGdn.Spec.lean ====
/- The recurrence's one chunk of each sample: all heads' outputs and states after it. -/
module

public import proofs.«01_k».proof.Proof.Gdn.Spec

@[expose] public section

noncomputable section

namespace Cert.SampleGdnSpec

open Idealize.ShloMosaic Cert.GdnSpec

/-- The output at position `r` in channel `x` of the rows of all heads. -/
def outAt (H : Fin 8 → Fin 8 → Head) (b : Fin 8) (r : Fin 64) (x : Fin 1024) : EReal :=
  (H b ⟨x.val / 128, by omega⟩).out 0 (H b ⟨x.val / 128, by omega⟩).s r ⟨x.val % 128, by omega⟩

/-- All heads' outputs of the one chunk, the heads' channels side by side in a position's row. -/
def outs (H : Fin 8 → Fin 8 → Head) (y : (⟨3, ![8, 64, 1024]⟩ : Shape).Idx) : EReal := outAt H (y 0) (y 1) (y 2)

theorem outAt_eq (H : Fin 8 → Fin 8 → Head) (b : Fin 8) (i : Fin 64) (h : Fin 8) (e : Fin 128) :
    outAt H b i (ch8 h e) = (H b h).out 0 (H b h).s i e := by
  unfold outAt
  have h1 : ∀ hh, (⟨(ch8 h e).val / 128, hh⟩ : Fin 8) = h := fun hh => Fin.ext (by simp only [ch8]; omega)
  have h2 : ∀ hh, (⟨(ch8 h e).val % 128, hh⟩ : Fin 128) = e := fun hh => Fin.ext (by simp only [ch8]; omega)
  rw [h1, h2]

theorem outs_at (H : Fin 8 → Fin 8 → Head) (b : Fin 8) (i : Fin 64) (h : Fin 8) (e : Fin 128) :
    outs H (ix3 b i (ch8 h e)) = (H b h).out 0 (H b h).s i e := outAt_eq H b i h e

/-- All heads' states after the one chunk. -/
def states (H : Fin 8 → Fin 8 → Head) (y : (⟨4, ![8, 8, 128, 128]⟩ : Shape).Idx) : EReal :=
  (H (y 0) (y 1)).next 0 (H (y 0) (y 1)).s (y 2) (y 3)

theorem states_at (H : Fin 8 → Fin 8 → Head) (b h : Fin 8) (d e : Fin 128) :
    states H (ix4 b h d e) = (H b h).next 0 (H b h).s d e := rfl

/-- Every index of the outputs is a position and a channel of a head. -/
theorem idx_split (y : (⟨3, ![8, 64, 1024]⟩ : Shape).Idx) : ∃ b i h e, y = ix3 b i (ch8 h e) := by
  have h2 : (y 2).val < 1024 := (y 2).isLt
  refine ⟨y 0, y 1, ⟨(y 2).val / 128, by omega⟩, ⟨(y 2).val % 128, by omega⟩, ?_⟩
  refine (eq_ix3 y).trans ((ix3_inj ..).2 ⟨rfl, rfl, Fin.ext ?_⟩)
  show (y 2).val = 128 * ((y 2).val / 128) + (y 2).val % 128; omega

end Cert.SampleGdnSpec
-- ==== Proof.SampleGdn.Head.lean ====
module

public import proofs.«01_k».proof.Proof.Gen.SampleKernelIdeal.Frame
public import proofs.«01_k».proof.Proof.SampleGdn.Spec
public import Idealize.ShloMosaic.Lib.WritesUnit
public import Idealize.ShloMosaic.Lib.WholeRead
public import Idealize.ShloMosaic.Lib.Pipeline.ValueKit
public import Idealize.ShloMosaic.Lib.Pointwise

@[expose] public section

set_option maxRecDepth 16384

noncomputable section

namespace Cert.SampleKernelIdeal.Gdn

open Cert.SampleKernelIdeal Cert.SampleKernelIdeal.Gen
open Cert.GdnSpec (Head)
open Idealize.ShloMosaic Idealize.ShloMosaic.TcCoe

/-- Where the body's loads and stores begin, in numerals: there is one chunk only. -/
theorem off1_eq : k0_off1 = ![0, 0, 0] := by decide +kernel
theorem off2_eq : k0_off2 = ![0, 0, 0, 0] := by decide +kernel
theorem off3_eq : k0_off3 = ![0, 0, 0, 0] := by decide +kernel
theorem off4_eq : k0_off4 = ![0, 0, 128] := by decide +kernel
theorem off5_eq : k0_off5 = ![0, 1, 0, 0] := by decide +kernel
theorem off6_eq : k0_off6 = ![0, 1, 0, 0] := by decide +kernel

/-- Channel `d` of the block's head `p`. -/
def ch (p : Fin 2) (d : Fin 128) : Fin 256 := ⟨128 * p.val + d.val, by omega⟩

section Loads
variable {s : Shape} {a : Memref sig .tc .vmem s .f32} (ha : a.IsWhole)

/-- A load of a whole buffer's rectangle reads the buffer at the rectangle's offset. -/
theorem load_at (x : FVec Ideal s .f32) {off off' size : Fin s.rank → ℕ} (inb : ∀ k, off k + size k ≤ s.size k) (he : off = off')
    (y : (Rect.unit off size inb).shape.Idx) (z : s.Idx) (hz : ∀ k, off' k + (y k).val = (z k).val) :
    View.readAt (Elt Ideal) a.view (Rect.unit off size inb).toLoadRect (ha.unread x) y = x z := by
  subst he
  refine (ha.readAt_unread _ _ _).trans (congrArg x (funext fun k => Fin.ext ?_))
  show off k + 1 * (y k).val = (z k).val
  rw [Nat.one_mul]
  exact hz k
end Loads

section Pays
variable {P0 P1 P2 P3 : FVec Ideal S1x64x128 .f32} {G : FVec Ideal S1x1x64x1 .f32} {R : FVec Ideal S1x1x1x64 .f32}
  {A : FVec Ideal S1x1x64x64 .f32} {T : FVec Ideal S1x1x128x128 .f32}

/-- What the body computes for a head's outputs. -/
theorem pay_o (H : Head) (i : Fin 64) (e : Fin 128) (h0 : ∀ i d, P0 (ix3 0 i d) = H.q 0 i d) (h2 : ∀ i d, P2 (ix3 0 i d) = H.u 0 i d)
    (h3 : ∀ i d, P3 (ix3 0 i d) = H.w 0 i d) (hG : ∀ i, G (ix4 0 0 i 0) = H.g 0 i) (hA : ∀ i j, A (ix4 0 0 i j) = H.a 0 i j)
    (hT : ∀ d e, T (ix4 0 0 d e) = H.s d e) :
    k0_pay10 (F := Ideal) (k0_pay2 P0) (k0_pay4 G) (k0_pay6 T) (k0_pay7 P2) (k0_pay8 T P3) A (ix3 0 i e) = H.out 0 H.s i e := by
  have h : k0_pay10 (F := Ideal) (k0_pay2 P0) (k0_pay4 G) (k0_pay6 T) (k0_pay7 P2) (k0_pay8 T P3) A (ix3 0 i e)
      = (∑ d : Fin 128, P0 (ix3 0 i d) * Ideal.exp (G (ix4 0 0 i 0)) * T (ix4 0 0 d e))
        + ∑ j : Fin 64, A (ix4 0 0 i j) * (P2 (ix3 0 j e) - ∑ d : Fin 128, P3 (ix3 0 j d) * T (ix4 0 0 d e)) := by
    pointwise [k0_pay10, k0_pay9, k0_pay8, k0_pay7, k0_pay6, k0_pay4, k0_pay2]
    try simp only [zero_add]
  rw [h]
  simp only [h0, h2, h3, hG, hA, hT]
  rfl

theorem pay_o' : k0_pay18 (F := Ideal) (k0_pay12 P0) G T P2 P3 A = k0_pay10 (k0_pay2 P0) (k0_pay4 G) (k0_pay6 T) (k0_pay7 P2) (k0_pay8 T P3) A := rfl

/-- What the body computes for a head's state. -/
theorem pay_s (H : Head) (d e : Fin 128) (h1 : ∀ i d, P1 (ix3 0 i d) = H.k 0 i d) (h2 : ∀ i d, P2 (ix3 0 i d) = H.u 0 i d)
    (h3 : ∀ i d, P3 (ix3 0 i d) = H.w 0 i d) (hG : ∀ i, G (ix4 0 0 i 0) = H.g 0 i) (hR : ∀ i, R (ix4 0 0 0 i) = H.g 0 i)
    (hT : ∀ d e, T (ix4 0 0 d e) = H.s d e) :
    k0_pay11 (F := Ideal) (k0_pay3 P1) (k0_pay4 G) (k0_pay5 R) (k0_pay6 T) (k0_pay7 P2) (k0_pay8 T P3) (ix4 0 0 d e) = H.next 0 H.s d e := by
  have h : k0_pay11 (F := Ideal) (k0_pay3 P1) (k0_pay4 G) (k0_pay5 R) (k0_pay6 T) (k0_pay7 P2) (k0_pay8 T P3) (ix4 0 0 d e)
      = T (ix4 0 0 d e) * Ideal.exp (R (ix4 0 0 0 63))
        + ∑ i : Fin 64, P1 (ix3 0 i d) * Ideal.exp (R (ix4 0 0 0 63) - G (ix4 0 0 i 0)) * (P2 (ix3 0 i e) - ∑ d : Fin 128, P3 (ix3 0 i d) * T (ix4 0 0 d e)) := by
    pointwise [k0_pay11, k0_pay9, k0_pay8, k0_pay7, k0_pay6, k0_pay5, k0_pay4, k0_pay3]
    try simp only [zero_add]
  rw [h]
  simp only [h1, h2, h3, hG, hR, hT]
  rfl

theorem pay_s' : k0_pay1 (F := Ideal) (k0_pay13 P1) (k0_pay15 R) (k0_pay16 T) (k0_pay17 T P2 P3) (k0_pay19 G R)
    = k0_pay11 (k0_pay3 P1) (k0_pay4 G) (k0_pay5 R) (k0_pay6 T) (k0_pay7 P2) (k0_pay8 T P3) := rfl
end Pays

variable (c : Dev nD) (g : grid0.Coords) (arg2 : Memref sig .tc .vmem S1x64x256 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x2x64x64 .f32) (harg6 : arg6.IsWhole) (arg7 : Memref sig .tc .vmem S1x2x64x1 .f32) (harg7 : arg7.IsWhole) (arg8 : Memref sig .tc .vmem S1x2x1x64 .f32) (harg8 : arg8.IsWhole) (arg9 : Memref sig .tc .vmem S1x2x128x128 .f32) (harg9 : arg9.IsWhole) (arg10 : Memref sig .tc .vmem S1x64x256 .f32) (harg10 : arg10.IsWhole) (arg11 : Memref sig .tc .vmem S1x2x128x128 .f32) (harg11 : arg11.IsWhole)
  (x0 x1 x2 x3 : FVec Ideal S1x64x256 .f32) (x4 : FVec Ideal S1x2x64x64 .f32) (x5 : FVec Ideal S1x2x64x1 .f32)
  (x6 : FVec Ideal S1x2x1x64 .f32) (x7 : FVec Ideal S1x2x128x128 .f32)

/-- Head `p` of a block. -/
def headOf (p : Fin 2) : Head where
  q _ i d := x0 (ix3 0 i (ch p d))
  k _ i d := x1 (ix3 0 i (ch p d))
  u _ i d := x2 (ix3 0 i (ch p d))
  w _ i d := x3 (ix3 0 i (ch p d))
  a _ i j := x4 (ix4 0 p i j)
  g _ i := x5 (ix4 0 p i 0)
  s d e := x7 (ix4 0 p d e)

/-- A load of a head's rows. -/
theorem rowsA {a : Memref sig .tc .vmem S1x64x256 .f32} (ha : a.IsWhole) (x : FVec Ideal S1x64x256 .f32) (i : Fin 64) (d : Fin 128) :
    View.readAt (Elt Ideal) a.view (Rect.unit (s := S1x64x256) k0_off1 S1x64x128.size k0_off1_inb).toLoadRect (ha.unread x) (ix3 0 i d) = x (ix3 0 i (ch 0 d)) := by
  refine load_at ha x _ off1_eq _ _ fun k => ?_
  fin_cases k
  · rfl
  · show 0 + i.val = i.val; omega
  · show 0 + d.val = 128 * 0 + d.val; omega
theorem rowsB {a : Memref sig .tc .vmem S1x64x256 .f32} (ha : a.IsWhole) (x : FVec Ideal S1x64x256 .f32) (i : Fin 64) (d : Fin 128) :
    View.readAt (Elt Ideal) a.view (Rect.unit (s := S1x64x256) k0_off4 S1x64x128.size k0_off4_inb).toLoadRect (ha.unread x) (ix3 0 i d) = x (ix3 0 i (ch 1 d)) := by
  refine load_at ha x _ off4_eq _ _ fun k => ?_
  fin_cases k
  · rfl
  · show 0 + i.val = i.val; omega
  · show 128 + d.val = 128 * 1 + d.val; omega

/-- A load of one head of an array of two. -/
theorem half_at {n k : ℕ} {a : Memref sig .tc .vmem (⟨4, ![1, 2, n, k]⟩ : Shape) .f32} (ha : a.IsWhole) (x : FVec Ideal (⟨4, ![1, 2, n, k]⟩ : Shape) .f32) (p : Fin 2)
    {off : Fin 4 → ℕ} (inb : ∀ q, off q + (![1, 1, n, k] : Fin 4 → ℕ) q ≤ (⟨4, ![1, 2, n, k]⟩ : Shape).size q) (he : off = ![0, p.val, 0, 0]) (i : Fin n) (j : Fin k) :
    View.readAt (Elt Ideal) a.view (Rect.unit (s := (⟨4, ![1, 2, n, k]⟩ : Shape)) off ![1, 1, n, k] inb).toLoadRect (ha.unread x) (ix4 0 0 i j : (⟨4, ![1, 1, n, k]⟩ : Shape).Idx) = x (ix4 0 p i j) := by
  refine load_at ha x _ he _ _ fun q => ?_
  fin_cases q
  · rfl
  · show p.val + 0 = p.val; omega
  · show 0 + i.val = i.val; omega
  · show 0 + j.val = j.val; omega

/-- A load of the whole block of states. -/
theorem whole_at {a : Memref sig .tc .vmem S1x2x128x128 .f32} (ha : a.IsWhole) (x : FVec Ideal S1x2x128x128 .f32) (p : Fin 2) (d e : Fin 128) :
    View.readAt (Elt Ideal) a.view (Rect.unit (s := S1x2x128x128) ![0, 0, 0, 0] S1x2x128x128.size inb_S1x2x128x128_S1x2x128x128_0_0_0_0).toLoadRect (ha.unread x) (ix4 0 p d e) = x (ix4 0 p d e) := by
  refine load_at ha x _ rfl _ _ fun q => ?_
  fin_cases q
  · rfl
  · show 0 + p.val = p.val; omega
  · show 0 + d.val = d.val; omega
  · show 0 + e.val = e.val; omega

/-- The first head's state as the body finds it: the block copied over just before. -/
theorem stateA (d e : Fin 128) : kernelRun0_A.sl.v17 (F := Ideal) c arg9 harg9 arg11 x7 (ix4 0 0 d e) = x7 (ix4 0 0 d e) := by
  unfold kernelRun0_A.sl.v17 kernelRun0_A.sl.H9_1
  refine (View.read_writes_cons_unit_of_mem _ _ _ _ _ _ (ix4 0 0 d e) rfl fun q => ?_).trans (whole_at harg9 x7 0 d e)
  fin_cases q
  · rfl
  · rfl
  · show 0 + 1 * d.val = 0 + d.val; omega
  · show 0 + 1 * e.val = 0 + e.val; omega

/-- The second head's state as the body finds it: the first head's update leaves it. -/
theorem stateB (d e : Fin 128) : kernelRun0_A.sl.v74 (F := Ideal) c arg3 harg3 arg4 harg4 arg5 harg5 arg7 harg7 arg8 harg8 arg9 harg9 arg11 x1 x2 x3 x5 x6 x7 (ix4 0 0 d e) = x7 (ix4 0 1 d e) := by
  unfold kernelRun0_A.sl.v74 kernelRun0_A.sl.H9_2 kernelRun0_A.sl.H9_1
  refine (View.read_writes_cons_unit_of_not_mem _ _ _ _ _ _ rfl (1 : Fin 4) (Or.inr (by show 0 + 1 ≤ 1 + 1 * 0; omega))).trans ?_
  refine (View.read_writes_cons_unit_of_mem _ _ _ _ _ _ (ix4 0 1 d e) rfl fun q => ?_).trans (whole_at harg9 x7 1 d e)
  fin_cases q
  · rfl
  · rfl
  · show 0 + 1 * d.val = 0 + d.val; omega
  · show 0 + 1 * e.val = 0 + e.val; omega

/-- What the body leaves in the outputs' buffer. -/
theorem outO_at (p : Fin 2) (i : Fin 64) (e : Fin 128) :
    out0_A_8 (F := Ideal) c g arg2 harg2 arg3 harg3 arg4 harg4 arg5 harg5 arg6 harg6 arg7 harg7 arg8 harg8 arg9 harg9 arg10 harg10 arg11 harg11 x0 x1 x2 x3 x4 x5 x6 x7 (ix3 0 i (ch p e))
      = (headOf x0 x1 x2 x3 x4 x5 x7 p).out 0 (headOf x0 x1 x2 x3 x4 x5 x7 p).s i e := by
  unfold out0_A_8 kernelRun0_A
  dsimp only
  by_cases hp : p = 1
  · subst hp
    refine (View.read_writes_cons_unit_of_mem _ _ _ _ _ _ (ix3 0 i e) off4_eq fun q => ?_).trans ?_
    · fin_cases q
      · rfl
      · show i.val = 0 + i.val; omega
      · show 128 * 1 + e.val = 128 + e.val; omega
    · unfold kernelRun0_A.sl.r_7
      refine (congrFun pay_o' _).trans (pay_o _ i e ?_ ?_ ?_ ?_ ?_ ?_)
      · exact fun i d => rowsB harg2 x0 i d
      · exact fun i d => rowsB harg4 x2 i d
      · exact fun i d => rowsB harg5 x3 i d
      · exact fun i => half_at harg7 x5 1 _ off5_eq i 0
      · exact fun i j => half_at harg6 x4 1 _ off6_eq i j
      · exact fun d e => stateB c arg3 harg3 arg4 harg4 arg5 harg5 arg7 harg7 arg8 harg8 arg9 harg9 arg11 x1 x2 x3 x5 x6 x7 d e
  · obtain rfl : p = 0 := by omega
    refine (View.read_writes_cons_unit_of_not_mem _ _ _ _ _ _ off4_eq (2 : Fin 3) (Or.inl (by show 128 * 0 + e.val < 128; omega))).trans ?_
    refine (View.read_writes_cons_unit_of_mem _ _ _ _ _ _ (ix3 0 i e) off1_eq fun q => ?_).trans ?_
    · fin_cases q
      · rfl
      · show i.val = 0 + i.val; omega
      · show 128 * 0 + e.val = 0 + e.val; omega
    · unfold kernelRun0_A.sl.r kernelRun0_A.sl.r_2 kernelRun0_A.sl.r_4 kernelRun0_A.sl.r_5 kernelRun0_A.sl.r_6
      refine pay_o _ i e ?_ ?_ ?_ ?_ ?_ ?_
      · exact fun i d => rowsA harg2 x0 i d
      · exact fun i d => rowsA harg4 x2 i d
      · exact fun i d => rowsA harg5 x3 i d
      · exact fun i => half_at harg7 x5 0 _ off2_eq i 0
      · exact fun i j => half_at harg6 x4 0 _ off3_eq i j
      · exact fun d e => stateA c arg9 harg9 arg11 x7 d e

/-- What the body leaves in the states' buffer, where the gates' sums as a row and as a column agree. -/
theorem outS_at (hx : ∀ p i, x6 (ix4 0 p 0 i) = x5 (ix4 0 p i 0)) (p : Fin 2) (d e : Fin 128) :
    out0_A_9 (F := Ideal) c g arg2 harg2 arg3 harg3 arg4 harg4 arg5 harg5 arg6 harg6 arg7 harg7 arg8 harg8 arg9 harg9 arg10 harg10 arg11 harg11 x0 x1 x2 x3 x4 x5 x6 x7 (ix4 0 p d e)
      = (headOf x0 x1 x2 x3 x4 x5 x7 p).next 0 (headOf x0 x1 x2 x3 x4 x5 x7 p).s d e := by
  unfold out0_A_9 kernelRun0_A
  dsimp only
  by_cases hp : p = 1
  · subst hp
    refine (View.read_writes_cons_unit_of_mem _ _ _ _ _ _ (ix4 0 0 d e) rfl fun q => ?_).trans ?_
    · fin_cases q
      · rfl
      · rfl
      · show d.val = 0 + d.val; omega
      · show e.val = 0 + e.val; omega
    · unfold kernelRun0_A.sl.r_8 kernelRun0_A.sl.r_9 kernelRun0_A.sl.r_10 kernelRun0_A.sl.r_11 kernelRun0_A.sl.r_12
      refine (congrFun pay_s' _).trans (pay_s _ d e ?_ ?_ ?_ ?_ ?_ ?_)
      · exact fun i d => rowsB harg3 x1 i d
      · exact fun i d => rowsB harg4 x2 i d
      · exact fun i d => rowsB harg5 x3 i d
      · exact fun i => half_at harg7 x5 1 _ off5_eq i 0
      · exact fun i => (half_at harg8 x6 1 _ rfl 0 i).trans (hx 1 i)
      · exact fun d e => stateB c arg3 harg3 arg4 harg4 arg5 harg5 arg7 harg7 arg8 harg8 arg9 harg9 arg11 x1 x2 x3 x5 x6 x7 d e
  · obtain rfl : p = 0 := by omega
    refine (View.read_writes_cons_unit_of_not_mem _ _ _ _ _ _ rfl (1 : Fin 4) (Or.inl (by show 0 < 1; omega))).trans ?_
    unfold kernelRun0_A.sl.H9_2
    refine (View.read_writes_cons_unit_of_mem _ _ _ _ _ _ (ix4 0 0 d e) rfl fun q => ?_).trans ?_
    · fin_cases q
      · rfl
      · rfl
      · show d.val = 0 + d.val; omega
      · show e.val = 0 + e.val; omega
    · unfold kernelRun0_A.sl.r_1 kernelRun0_A.sl.r_2 kernelRun0_A.sl.r_3 kernelRun0_A.sl.r_4 kernelRun0_A.sl.r_5 kernelRun0_A.sl.r_6
      refine pay_s _ d e ?_ ?_ ?_ ?_ ?_ ?_
      · exact fun i d => rowsA harg3 x1 i d
      · exact fun i d => rowsA harg4 x2 i d
      · exact fun i d => rowsA harg5 x3 i d
      · exact fun i => half_at harg7 x5 0 _ off2_eq i 0
      · exact fun i => (half_at harg8 x6 0 _ rfl 0 i).trans (hx 0 i)
      · exact fun d e => stateA c arg9 harg9 arg11 x7 d e

end Cert.SampleKernelIdeal.Gdn
-- ==== Proof.SampleGdn.Value.lean ====
module

public import proofs.«01_k».proof.Proof.Gen.SampleKernelIdeal.Frame
public import proofs.«01_k».proof.Proof.SampleGdn.Head
public import proofs.«01_k».proof.Proof.Gdn.Value
public import Idealize.ShloMosaic.Lib.Pipeline.ValueKit

@[expose] public section

set_option maxRecDepth 16384

noncomputable section

namespace Cert.SampleKernelIdeal.Gdn

open Cert.SampleKernelIdeal Cert.SampleKernelIdeal.Gen Cert.SampleGdnSpec
open Cert.GdnSpec (Head csum foldl_eq_csum ch8)
open Idealize.ShloMosaic Idealize.ShloMosaic.TcCoe Idealize.SL.Sem
open Idealize.ShloMosaic.Pipeline (Dat)

variable (m : (ℓ : Loc nD τ sig) → Buf (Elt Ideal) ℓ) (c : Dev nD)

/-- The host's rows of all heads side by side. -/
theorem V_v4 : V m c main_v4 = shapeCast S8x64x1024 (m ((c.tc : Thread nD τ).loc main_arg0)) shapeCasts_S8x64x8x128_S8x64x1024 := by
  dsimp only [V, hostOps0, hostOps0_1, hostOps0_2, List.flatten_cons, List.flatten_nil, List.cons_append, List.nil_append, List.append_nil]
  after_results; try rfl
theorem V_v5 : V m c main_v5 = shapeCast S8x64x1024 (m ((c.tc : Thread nD τ).loc main_arg1)) shapeCasts_S8x64x8x128_S8x64x1024 := by
  dsimp only [V, hostOps0, hostOps0_1, hostOps0_2, List.flatten_cons, List.flatten_nil, List.cons_append, List.nil_append, List.append_nil]
  after_results; try rfl
theorem V_v6 : V m c main_v6 = shapeCast S8x64x1024 (m ((c.tc : Thread nD τ).loc main_arg2)) shapeCasts_S8x64x8x128_S8x64x1024 := by
  dsimp only [V, hostOps0, hostOps0_1, hostOps0_2, List.flatten_cons, List.flatten_nil, List.cons_append, List.nil_append, List.append_nil]
  after_results; try rfl
theorem V_v7 : V m c main_v7 = shapeCast S8x64x1024 (m ((c.tc : Thread nD τ).loc main_arg3)) shapeCasts_S8x64x8x128_S8x64x1024 := by
  dsimp only [V, hostOps0, hostOps0_1, hostOps0_2, List.flatten_cons, List.flatten_nil, List.cons_append, List.nil_append, List.append_nil]
  after_results; try rfl

/-- The host's running sums of the gates, of each sample. -/
def gsum (x5 : FVec Ideal S8x64x8 .f32) : FVec Ideal S8x1x64x8 .f32 :=
  Host.reduceWindowAdd ![1, 1, 64, 1] ![1, 1, 1, 1] ![0, 0, 63, 0] ![0, 0, 0, 0] (shapeCast S8x1x64x8 x5 shapeCasts_S8x64x8_S8x1x64x8) (broadcastInDim S_ ![] bcast_S_S_ (constant S_ .f32 0x00000000#32)) reduceWindows_S8x1x64x8_S8x1x64x8_w1s1p0_0_w1s1p0_0_w64s1p63_0_w1s1p0_0 h_S_

theorem V_v2 : V m c main_v2 = transpose S8x8x1x64 [0, 3, 1, 2] (gsum (m ((c.tc : Thread nD τ).loc main_arg5))) transposes_S8x1x64x8_S8x8x1x64_0_3_1_2 := by
  dsimp only [V, hostOps0, hostOps0_1, hostOps0_2, List.flatten_cons, List.flatten_nil, List.cons_append, List.nil_append, List.append_nil]
  after_results; try rfl
theorem V_v3 : V m c main_v3 = shapeCast S8x8x64x1 (transpose S8x8x1x64 [0, 3, 1, 2] (gsum (m ((c.tc : Thread nD τ).loc main_arg5))) transposes_S8x1x64x8_S8x8x1x64_0_3_1_2) shapeCasts_S8x8x1x64_S8x8x64x1 := by
  dsimp only [V, hostOps0, hostOps0_1, hostOps0_2, List.flatten_cons, List.flatten_nil, List.cons_append, List.nil_append, List.append_nil]
  after_results; try rfl

/-- Where each window's block sits. -/
theorem idx : ∀ t : Fin cfg0.N, win0_0.index t = ![(grid0.coords t 0).val, 0, (grid0.coords t 1).val] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, (grid0.coords t 1).val, 0, 0] ∧ win0_5.index t = ![(grid0.coords t 0).val, (grid0.coords t 1).val, 0, 0]
    ∧ win0_6.index t = ![(grid0.coords t 0).val, (grid0.coords t 1).val, 0, 0] ∧ win0_7.index t = ![(grid0.coords t 0).val, (grid0.coords t 1).val, 0, 0]
    ∧ win0_8.index t = ![(grid0.coords t 0).val, 0, (grid0.coords t 1).val] ∧ win0_9.index t = ![(grid0.coords t 0).val, (grid0.coords t 1).val, 0, 0] :=
  (by decide +kernel : ∀ t : Fin grid0.N, _)

/-- The sequence of point `t`. -/
def tb (t : Fin cfg0.N) : Fin 8 := ⟨(grid0.coords t 0).val, (grid0.coords t 0).isLt⟩
/-- Head `p` of point `t`. -/
def th (t : Fin cfg0.N) (p : Fin 2) : Fin 8 := ⟨2 * (grid0.coords t 1).val + p.val, by have : (grid0.coords t 1).val < 4 := (grid0.coords t 1).isLt; omega⟩

variable (t : Fin cfg0.N) (i j : Fin 64) (p : Fin 2) (d e : Fin 128)

theorem emb0 : (win0_0.blk t).view.emb (ix3 0 i (ch p d) : S1x64x256.Idx) = (ix3 (tb t) i (ch8 (th t p) d) : S8x64x1024.Idx) := by
  funext a
  apply Fin.ext
  fin_cases a <;> blk_simp [idx t]
  all_goals (simp [tb, th, ch, ch8]; try omega)

theorem emb1 : (win0_1.blk t).view.emb (ix3 0 i (ch p d) : S1x64x256.Idx) = (ix3 (tb t) i (ch8 (th t p) d) : S8x64x1024.Idx) := by
  funext a
  apply Fin.ext
  fin_cases a <;> blk_simp [idx t]
  all_goals (simp [tb, th, ch, ch8]; try omega)

theorem emb2 : (win0_2.blk t).view.emb (ix3 0 i (ch p d) : S1x64x256.Idx) = (ix3 (tb t) i (ch8 (th t p) d) : S8x64x1024.Idx) := by
  funext a
  apply Fin.ext
  fin_cases a <;> blk_simp [idx t]
  all_goals (simp [tb, th, ch, ch8]; try omega)

theorem emb3 : (win0_3.blk t).view.emb (ix3 0 i (ch p d) : S1x64x256.Idx) = (ix3 (tb t) i (ch8 (th t p) d) : S8x64x1024.Idx) := by
  funext a
  apply Fin.ext
  fin_cases a <;> blk_simp [idx t]
  all_goals (simp [tb, th, ch, ch8]; try omega)

theorem emb8 : (win0_8.blk t).view.emb (ix3 0 i (ch p d) : S1x64x256.Idx) = (ix3 (tb t) i (ch8 (th t p) d) : S8x64x1024.Idx) := by
  funext a
  apply Fin.ext
  fin_cases a <;> blk_simp [idx t]
  all_goals (simp [tb, th, ch, ch8]; try omega)

theorem emb4 : (win0_4.blk t).view.emb (ix4 0 p i j : S1x2x64x64.Idx) = (ix4 (tb t) (th t p) i j : S8x8x64x64.Idx) := by
  funext a
  apply Fin.ext
  fin_cases a <;> blk_simp [idx t]
  all_goals (simp [tb, th, ch, ch8]; try omega)

theorem emb5 : (win0_5.blk t).view.emb (ix4 0 p i 0 : S1x2x64x1.Idx) = (ix4 (tb t) (th t p) i 0 : S8x8x64x1.Idx) := by
  funext a
  apply Fin.ext
  fin_cases a <;> blk_simp [idx t]
  all_goals (simp [tb, th, ch, ch8]; try omega)

theorem emb6 : (win0_6.blk t).view.emb (ix4 0 p 0 i : S1x2x1x64.Idx) = (ix4 (tb t) (th t p) 0 i : S8x8x1x64.Idx) := by
  funext a
  apply Fin.ext
  fin_cases a <;> blk_simp [idx t]
  all_goals (simp [tb, th, ch, ch8]; try omega)

theorem emb7 : (win0_7.blk t).view.emb (ix4 0 p d e : S1x2x128x128.Idx) = (ix4 (tb t) (th t p) d e : S8x8x128x128.Idx) := by
  funext a
  apply Fin.ext
  fin_cases a <;> blk_simp [idx t]
  all_goals (simp [tb, th, ch, ch8]; try omega)

theorem emb9 : (win0_9.blk t).view.emb (ix4 0 p d e : S1x2x128x128.Idx) = (ix4 (tb t) (th t p) d e : S8x8x128x128.Idx) := by
  funext a
  apply Fin.ext
  fin_cases a <;> blk_simp [idx t]
  all_goals (simp [tb, th, ch, ch8]; try omega)

theorem rows_at (X : FVec Ideal S8x64x8x128 .f32) (b : Fin 8) (r : Fin 64) (h : Fin 8) :
    shapeCast S8x64x1024 X shapeCasts_S8x64x8x128_S8x64x1024 (ix3 b r (ch8 h d)) = X (ix4 b r h d) := by
  pointwise
  refine congrArg X ((ix4_inj ..).2 ⟨rfl, rfl, Fin.ext ?_, Fin.ext ?_⟩)
  all_goals (simp [ch8]; try omega)

/-- What one position of the running sum's window reads. -/
theorem window4 (X : FVec Ideal S8x1x64x8 .f32) (b : Fin 8) (i m : Fin 64) (h : Fin 8) (v : EReal) (hv : v = 0) (p : Fin 4 → ℕ)
    (hp : ∀ a, p a = (![b.val * 1 + 0, (0 : Fin 1).val * 1 + 0, i.val * 1 + m.val, h.val * 1 + 0] : Fin 4 → ℕ) a)
    (D : Decidable (∀ a : Fin 4, (![0, 0, 63, 0] : Fin 4 → ℕ) a ≤ p a ∧ p a - (![0, 0, 63, 0] : Fin 4 → ℕ) a < S8x1x64x8.size a)) :
    @dite EReal _ D (fun hin => X (fun a => ⟨p a - (![0, 0, 63, 0] : Fin 4 → ℕ) a, (hin a).2⟩)) (fun _ => v)
      = if hm : 63 ≤ i.val + m.val then X (ix4 b 0 (⟨i.val + m.val - 63, by omega⟩ : Fin 64) h) else 0 := by
  obtain rfl := funext hp
  by_cases hm : 63 ≤ i.val + m.val
  · rw [dif_pos hm, dif_pos]
    · refine congrArg X ?_
      funext a
      apply Fin.ext
      fin_cases a
      · show b.val * 1 + 0 - 0 = b.val; omega
      · rfl
      · show i.val * 1 + m.val - 63 = i.val + m.val - 63; omega
      · show h.val * 1 + 0 - 0 = h.val; omega
    · intro a
      fin_cases a
      · show 0 ≤ b.val * 1 + 0 ∧ b.val * 1 + 0 - 0 < 8; omega
      · exact ⟨Nat.zero_le _, Nat.zero_lt_one⟩
      · show 63 ≤ i.val * 1 + m.val ∧ i.val * 1 + m.val - 63 < 64; omega
      · show 0 ≤ h.val * 1 + 0 ∧ h.val * 1 + 0 - 0 < 8; omega
  · rw [dif_neg hm, dif_neg, hv]
    intro hall
    have h3 : 63 ≤ i.val * 1 + m.val := (hall 2).1
    omega

/-- The host's running sums of the gates are each sample's. -/
theorem gsum_at (x5 : FVec Ideal S8x64x8 .f32) (b : Fin 8) (h : Fin 8) :
    gsum x5 (ix4 b 0 i h) = csum (fun j => x5 (ix3 b j h)) i := by
  unfold gsum Host.reduceWindowAdd
  show Ideal.hostReduceWindowAdd _ _ _ _ _ _ _ _ = _
  unfold Ideal.hostReduceWindowAdd Host.reduceWindow
  refine foldl_eq_csum (by decide) _ _ _ _ (by pointwise) fun r m => ?_
  dsimp only
  congr 1
  refine (window4 (shapeCast S8x1x64x8 x5 shapeCasts_S8x64x8_S8x1x64x8) b i m h _ ?_ _ ?_ _).trans ?_
  · pointwise
  · intro a
    fin_cases a
    · exact congrArg (b.val * 1 + ·) (Cert.KernelIdeal.Gdn.pos4 m 0)
    · exact congrArg ((0 : Fin 1).val * 1 + ·) (Cert.KernelIdeal.Gdn.pos4 m 1)
    · exact congrArg (i.val * 1 + ·) (Cert.KernelIdeal.Gdn.pos4 m 2)
    · exact congrArg (h.val * 1 + ·) (Cert.KernelIdeal.Gdn.pos4 m 3)
  · by_cases hm : 63 ≤ i.val + m.val
    · rw [dif_pos hm, dif_pos hm]
      pointwise
    · rw [dif_neg hm, dif_neg hm]

theorem gcol_at (Y : FVec Ideal S8x1x64x8 .f32) (b : Fin 8) (h : Fin 8) :
    shapeCast S8x8x64x1 (transpose S8x8x1x64 [0, 3, 1, 2] Y transposes_S8x1x64x8_S8x8x1x64_0_3_1_2) shapeCasts_S8x8x1x64_S8x8x64x1 (ix4 b h i 0)
      = Y (ix4 b 0 i h) := by
  pointwise

theorem grow_at (Y : FVec Ideal S8x1x64x8 .f32) (b : Fin 8) (h : Fin 8) :
    transpose S8x8x1x64 [0, 3, 1, 2] Y transposes_S8x1x64x8_S8x8x1x64_0_3_1_2 (ix4 b h 0 i) = Y (ix4 b 0 i h) := by
  pointwise

theorem blk0 : (iblk m c 0 t : FVec Ideal S1x64x256 .f32) (ix3 0 i (ch p d)) = (m ((c.tc : Thread nD τ).loc main_arg0) : FVec Ideal S8x64x8x128 .f32) (ix4 (tb t) i (th t p) d) := by
  unfold iblk
  show ((cfg0.win 0).blk t).view.read (Elt Ideal) (V m c main_v4) _ = _
  rw [V_v4]
  blk_simp
  refine (congrArg _ (emb0 t i p d)).trans ?_
  exact rows_at ..

theorem blk1 : (iblk m c 1 t : FVec Ideal S1x64x256 .f32) (ix3 0 i (ch p d)) = (m ((c.tc : Thread nD τ).loc main_arg1) : FVec Ideal S8x64x8x128 .f32) (ix4 (tb t) i (th t p) d) := by
  unfold iblk
  show ((cfg0.win 1).blk t).view.read (Elt Ideal) (V m c main_v5) _ = _
  rw [V_v5]
  blk_simp
  refine (congrArg _ (emb1 t i p d)).trans ?_
  exact rows_at ..

theorem blk2 : (iblk m c 2 t : FVec Ideal S1x64x256 .f32) (ix3 0 i (ch p d)) = (m ((c.tc : Thread nD τ).loc main_arg2) : FVec Ideal S8x64x8x128 .f32) (ix4 (tb t) i (th t p) d) := by
  unfold iblk
  show ((cfg0.win 2).blk t).view.read (Elt Ideal) (V m c main_v6) _ = _
  rw [V_v6]
  blk_simp
  refine (congrArg _ (emb2 t i p d)).trans ?_
  exact rows_at ..

theorem blk3 : (iblk m c 3 t : FVec Ideal S1x64x256 .f32) (ix3 0 i (ch p d)) = (m ((c.tc : Thread nD τ).loc main_arg3) : FVec Ideal S8x64x8x128 .f32) (ix4 (tb t) i (th t p) d) := by
  unfold iblk
  show ((cfg0.win 3).blk t).view.read (Elt Ideal) (V m c main_v7) _ = _
  rw [V_v7]
  blk_simp
  refine (congrArg _ (emb3 t i p d)).trans ?_
  exact rows_at ..

theorem blk4 : (iblk m c 4 t : FVec Ideal S1x2x64x64 .f32) (ix4 0 p i j) = (m ((c.tc : Thread nD τ).loc main_arg4) : FVec Ideal S8x8x64x64 .f32) (ix4 (tb t) (th t p) i j) := by
  unfold iblk
  show ((cfg0.win 4).blk t).view.read (Elt Ideal) (V m c main_arg4) _ = _
  rw [V_main_arg4]
  blk_simp
  exact congrArg _ (emb4 t i j p)

theorem blk5 : (iblk m c 5 t : FVec Ideal S1x2x64x1 .f32) (ix4 0 p i 0) = gsum (m ((c.tc : Thread nD τ).loc main_arg5)) (ix4 (tb t) 0 i (th t p)) := by
  unfold iblk
  show ((cfg0.win 5).blk t).view.read (Elt Ideal) (V m c main_v3) _ = _
  rw [V_v3]
  blk_simp
  refine (congrArg _ (emb5 t i p)).trans ?_
  exact gcol_at ..

theorem blk6 : (iblk m c 6 t : FVec Ideal S1x2x1x64 .f32) (ix4 0 p 0 i) = gsum (m ((c.tc : Thread nD τ).loc main_arg5)) (ix4 (tb t) 0 i (th t p)) := by
  unfold iblk
  show ((cfg0.win 6).blk t).view.read (Elt Ideal) (V m c main_v2) _ = _
  rw [V_v2]
  blk_simp
  refine (congrArg _ (emb6 t i p)).trans ?_
  exact grow_at ..

theorem blk7 : (iblk m c 7 t : FVec Ideal S1x2x128x128 .f32) (ix4 0 p d e) = (m ((c.tc : Thread nD τ).loc main_arg6) : FVec Ideal S8x8x128x128 .f32) (ix4 (tb t) (th t p) d e) := by
  unfold iblk
  show ((cfg0.win 7).blk t).view.read (Elt Ideal) (V m c main_arg6) _ = _
  rw [V_main_arg6]
  blk_simp
  exact congrArg _ (emb7 t p d e)

/-- Head `h` of sequence `b` of the arguments in memory. -/
def headM (b : Fin 8) (h : Fin 8) : Head where
  q n i d := (m ((c.tc : Thread nD τ).loc main_arg0) : FVec Ideal S8x64x8x128 .f32) (ix4 b i h d)
  k n i d := (m ((c.tc : Thread nD τ).loc main_arg1) : FVec Ideal S8x64x8x128 .f32) (ix4 b i h d)
  u n i d := (m ((c.tc : Thread nD τ).loc main_arg2) : FVec Ideal S8x64x8x128 .f32) (ix4 b i h d)
  w n i d := (m ((c.tc : Thread nD τ).loc main_arg3) : FVec Ideal S8x64x8x128 .f32) (ix4 b i h d)
  a n i j := (m ((c.tc : Thread nD τ).loc main_arg4) : FVec Ideal S8x8x64x64 .f32) (ix4 b h i j)
  g n i := csum (fun j => (m ((c.tc : Thread nD τ).loc main_arg5) : FVec Ideal S8x64x8 .f32) (ix3 b j h)) i
  s d e := (m ((c.tc : Thread nD τ).loc main_arg6) : FVec Ideal S8x8x128x128 .f32) (ix4 b h d e)

/-- A block's head is the head of the arguments at its place. -/
theorem headOf_blk : headOf (iblk m c 0 t) (iblk m c 1 t) (iblk m c 2 t) (iblk m c 3 t) (iblk m c 4 t) (iblk m c 5 t) (iblk m c 7 t) p = headM m c (tb t) (th t p) := by
  unfold headOf headM
  simp only [Head.mk.injEq]
  refine ⟨?_, ?_, ?_, ?_, ?_, ?_, ?_⟩
  · funext n i d; exact blk0 m c t i p d
  · funext n i d; exact blk1 m c t i p d
  · funext n i d; exact blk2 m c t i p d
  · funext n i d; exact blk3 m c t i p d
  · funext n i j; exact blk4 m c t i j p
  · funext n i; exact (blk5 m c t i p).trans (gsum_at ..)
  · funext d e; exact blk7 m c t p d e

theorem row_eq_col (p : Fin 2) (i : Fin 64) : (iblk m c 6 t : FVec Ideal S1x2x1x64 .f32) (ix4 0 p 0 i) = (iblk m c 5 t : FVec Ideal S1x2x64x1 .f32) (ix4 0 p i 0) :=
  (blk6 m c t i p).trans (blk5 m c t i p).symm

/-- Every index of an output block is a position and a channel of one of its heads. -/
theorem blk_split (y : S1x64x256.Idx) : ∃ i p e, y = ix3 0 i (ch p e) := by
  have h0 : (y 0).val < 1 := (y 0).isLt
  have h2 : (y 2).val < 256 := (y 2).isLt
  refine ⟨y 1, ⟨(y 2).val / 128, by omega⟩, ⟨(y 2).val % 128, by omega⟩, ?_⟩
  refine (eq_ix3 y).trans ((ix3_inj ..).2 ⟨Fin.ext ?_, rfl, Fin.ext ?_⟩)
  · show (y 0).val = 0; omega
  · show (y 2).val = 128 * ((y 2).val / 128) + (y 2).val % 128; omega

/-- The array of outputs after the run. -/
theorem arr8 : (dats m 0 c).arrAt 8 cfg0.N = outs (headM m c) := by
  refine (dats m 0 c).arrAt_eq_of_covers 8 _ (by decide +kernel) fun t hf y => ?_
  blk_simp
  rw [after0_8]
  unfold outsAt0
  dsimp only
  obtain ⟨i, p, e, rfl⟩ := blk_split y
  refine (outO_at c _ _ _ _ _ _ _ _ _ _ _ _ _ _ _ _ _ _ _ _ _ _ _ _ _ _ _ _ _ p i e).trans ?_
  rw [headOf_blk]
  refine (outs_at (headM m c) (tb t) i (th t p) e).symm.trans ?_
  exact congrArg (outs (headM m c)) (emb8 t i p e).symm

/-- The array of states after the run. -/
theorem arr9 : (dats m 0 c).arrAt 9 cfg0.N = states (headM m c) := by
  refine (dats m 0 c).arrAt_eq_of_covers 9 _ (by decide +kernel) fun t hf y => ?_
  blk_simp
  rw [after0_9]
  unfold outsAt0
  dsimp only
  obtain ⟨p, d, e, rfl⟩ : ∃ p d e, y = (ix4 0 p d e : S1x2x128x128.Idx) := by
    have h0 : (y 0).val < 1 := (y 0).isLt
    refine ⟨y 1, y 2, y 3, (eq_ix4 y).trans ((ix4_inj ..).2 ⟨Fin.ext ?_, rfl, rfl, rfl⟩)⟩
    show (y 0).val = 0; omega
  refine (outS_at c _ _ _ _ _ _ _ _ _ _ _ _ _ _ _ _ _ _ _ _ _ _ _ _ _ _ _ _ _ (row_eq_col m c t) p d e).trans ?_
  rw [headOf_blk]
  refine (states_at (headM m c) (tb t) (th t p) d e).symm.trans ?_
  exact congrArg (states (headM m c)) (emb9 t p d e).symm

end Cert.SampleKernelIdeal.Gdn
-- ==== Proof.SampleGdn.RefIter.lean ====
module

public import proofs.«01_k».proof.Proof.Gen.SampleReferenceIdeal.Run
public import proofs.«01_k».proof.Proof.Gen.SampleReferenceIdeal.Step

@[expose] public section

noncomputable section

namespace Cert.SampleReferenceIdeal.Gdn

open Idealize.ShloMosaic Idealize.ShloMosaic.TcCoe Idealize.SL.Sem Idealize.ShloMosaic.StableHlo
open Cert.SampleReferenceIdeal Cert.SampleReferenceIdeal.Gen Cert.SampleReferenceIdeal.Value
open Cert.SampleReferenceIdeal.Step

variable {F : FTy → Type} [FloatOps F]
variable (V0 : Valuation τ sig (Elt F)) (s : State F) (j : ℕ)

/-- The loop's buffers hold the state `s`, the arrays the loop slices and the trip's number `j`. -/
structure At : Prop where
  S : V0 (Proc.devRef .tc main_v13_7) = s.main_v13_7
  o : V0 (Proc.devRef .tc main_v13_8) = s.main_v13_8
  q : V0 (Proc.devRef .tc main_v13_0) = s.main_v13_0
  k : V0 (Proc.devRef .tc main_v13_1) = s.main_v13_1
  u : V0 (Proc.devRef .tc main_v13_2) = s.main_v13_2
  w : V0 (Proc.devRef .tc main_v13_3) = s.main_v13_3
  a : V0 (Proc.devRef .tc main_v13_4) = s.main_v13_4
  g : V0 (Proc.devRef .tc main_v13_5) = s.main_v13_5
  n : V0 (Proc.devRef .tc main_v13_6) = constantI S_ 32 (BitVec.ofNat 32 j)

variable {V0 s j}

set_option maxRecDepth 16384 in
/-- The running sums of the chunk's gates. -/
theorem gates (h : At V0 s j) : res_main_while0b_v22 V0 = b37 j s := by
  unfold res_main_while0b_v22; rw [h.g, h.n]; rfl

set_option maxRecDepth 16384 in
/-- The chunk's corrected values. -/
theorem vnew (h : At V0 s j) : res_main_while0b_v24 V0 = b39 j s := by
  unfold res_main_while0b_v24; rw [h.u, h.w, h.S, h.n]; rfl

/-- The gates' last running sum. -/
theorem glast (h : At V0 s j) : res_main_while0b_v33 V0 = b48 j s := by
  unfold res_main_while0b_v33; rw [gates h]; rfl

set_option maxRecDepth 16384 in
/-- The trip's new state. -/
theorem newS (h : At V0 s j) : Value.step_main_v13_7 V0 = b61 j s := by
  unfold Value.step_main_v13_7; dsimp only [id]; rw [gates h, vnew h, glast h, h.k, h.S, h.n]; rfl

set_option maxRecDepth 16384 in
/-- The trip's outputs, put in their place. -/
theorem newO (h : At V0 s j) : Value.step_main_v13_8 V0 = b67 j s := by
  unfold Value.step_main_v13_8; dsimp only [id]; rw [gates h, vnew h, h.q, h.a, h.S, h.n, h.o]; rfl

theorem newN (h : At V0 s j) : Value.step_main_v13_6 V0 = constantI S_ 32 (BitVec.ofNat 32 (j + 1)) := by
  unfold step_main_v13_6
  rw [h.n]
  funext i
  show BitVec.ofNat 32 j + 1#32 = BitVec.ofNat 32 (j + 1)
  simp only [BitVec.ofNat_add]

/-- One trip goes on to the next state. -/
theorem At.next (h : At V0 s j) : At (STEP V0) (step j s) (j + 1) where
  S := (STEP_main_v13_7 V0).trans (newS h)
  o := (STEP_main_v13_8 V0).trans (newO h)
  n := (STEP_main_v13_6 V0).trans (newN h)
  q := (STEP_main_v13_0 V0).trans h.q
  k := (STEP_main_v13_1 V0).trans h.k
  u := (STEP_main_v13_2 V0).trans h.u
  w := (STEP_main_v13_3 V0).trans h.w
  a := (STEP_main_v13_4 V0).trans h.a
  g := (STEP_main_v13_5 V0).trans h.g

variable (m : (ℓ : Loc nD τ sig) → Buf (Elt F) ℓ) (ρ : Dev nD → PrngReg) (c : Dev nD)

/-- The state before the first trip, and after `n` of them. -/
def it : ℕ → State F
  | 0 => init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
  | n + 1 => step n (it n)

set_option maxRecDepth 65536 in
set_option maxHeartbeats 800000 in
theorem at_start : At (entryContents preI m c) (it m c 0) 0 := by
  constructor <;> (simp only [entryContents, afterL_cons, afterL_nil]; after_reads_simp) <;> rfl

theorem at_iter : ∀ k, At (STEP^[k] (entryContents preI m c)) (it m c k) k
  | 0 => at_start m c
  | k + 1 => by
    rw [Function.iterate_succ_apply']
    exact (at_iter k).next

/-- The reference ends with its outputs and states those of its one trip, its arguments unchanged. -/
theorem run : θ_run (defs (F := F)) (onTc (τ := τ) (main (F := F))) ⟨m, fun _ => 0, ρ⟩ fun r => ∀ c : Dev nD,
      r.2.mem ((c.tc : Thread nD τ).loc main_v15) = R_main_v15 (it m c 1)
      ∧ r.2.mem ((c.tc : Thread nD τ).loc main_v13_7) = (it m c 1).main_v13_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (by unfold out_main_v15 R_main_v15; rw [(at_iter m c 1).o]; rfl), (h c).2.1.trans (at_iter m c 1).S, (h c).2.2⟩) (Value.run m ρ)

end Cert.SampleReferenceIdeal.Gdn
-- ==== Proof.SampleGdn.RefHead.lean ====
module

public import proofs.«01_k».proof.Proof.SampleGdn.RefIter
public import proofs.«01_k».proof.Proof.SampleGdn.Spec
public import proofs.«01_k».proof.Proof.Gdn.RefHead
public import Idealize.ShloMosaic.Lib.Pointwise

@[expose] public section

set_option maxRecDepth 16384

noncomputable section

namespace Cert.SampleReferenceIdeal.Gdn

open Idealize.ShloMosaic Idealize.ShloMosaic.TcCoe Idealize.SL.Sem Idealize.ShloMosaic.StableHlo
open Cert.SampleReferenceIdeal Cert.SampleReferenceIdeal.Gen Cert.SampleReferenceIdeal.Value
open Cert.SampleReferenceIdeal.Step Cert.SampleGdnSpec
open Cert.GdnSpec (Head csum foldl_eq_csum ch8)

variable (x0 x1 x2 x3 : FVec Ideal S8x64x8x128 .f32) (x4 : FVec Ideal S8x8x64x64 .f32) (x5 : FVec Ideal S8x64x8 .f32)
  (x6 : FVec Ideal S8x8x128x128 .f32) (b h : Fin 8)

/-- Head `h` of sample `b`: there is one chunk only. -/
def headOf : Head where
  q _ i d := x0 (ix4 b i h d)
  k _ i d := x1 (ix4 b i h d)
  u _ i d := x2 (ix4 b i h d)
  w _ i d := x3 (ix4 b i h d)
  a _ i j := x4 (ix4 b h i j)
  g _ i := csum (fun j => x5 (ix3 b j h)) i
  s d e := x6 (ix4 b h d e)

variable (i j : Fin 64) (d e : Fin 128)

theorem q_at : A_main_v1 (F := Ideal) x0 x1 x2 x3 x4 x5 (ix5 0 b h i d) = x0 (ix4 b i h d) := by
  pointwise [A_main_v1, A_main_v0]

theorem w_at : A_main_v7 (F := Ideal) x0 x1 x2 x3 x4 x5 (ix5 0 b h i d) = x3 (ix4 b i h d) := by
  pointwise [A_main_v7, A_main_v6]

theorem u_at : A_main_v5 (F := Ideal) x0 x1 x2 x3 x4 x5 (ix5 0 b h i d) = x2 (ix4 b i h d) := by
  pointwise [A_main_v5, A_main_v4]

theorem k_at : A_main_v3 (F := Ideal) x0 x1 x2 x3 x4 x5 (ix5 0 b h i d) = x1 (ix4 b i h d) := by
  pointwise [A_main_v3, A_main_v2]

theorem a_at : A_main_v11 (F := Ideal) x0 x1 x2 x3 x4 x5 (ix5 0 b h i j) = x4 (ix4 b h i j) := by
  pointwise [A_main_v11, A_main_v10]

theorem g_at : A_main_v9 (F := Ideal) x0 x1 x2 x3 x4 x5 (ix4 0 b h i) = x5 (ix3 b i h) := by
  pointwise [A_main_v9, A_main_v8]

section Trip

/-- Where the one trip slices the arrays: at their beginning. -/
theorem at5 : ∀ (hr) (a : Fin 5), Host.clampedStart S1x8x8x64x128 S1x8x8x64x128 hr (fun k => BitVec.toInt
    (![constantI S_ 32 (BitVec.ofNat 32 0), constantI S_ 32 0#32, constantI S_ 32 0#32, constantI S_ 32 0#32, constantI S_ 32 0#32] k (Shape.Idx.first h_S_))) a
    = 0 := by
  decide +kernel
theorem at5' : ∀ (hr) (a : Fin 5), Host.clampedStart S1x8x8x64x64 S1x8x8x64x64 hr (fun k => BitVec.toInt
    (![constantI S_ 32 (BitVec.ofNat 32 0), constantI S_ 32 0#32, constantI S_ 32 0#32, constantI S_ 32 0#32, constantI S_ 32 0#32] k (Shape.Idx.first h_S_))) a
    = 0 := by
  decide +kernel
theorem at4 : ∀ (hr) (a : Fin 4), Host.clampedStart S1x8x8x64 S1x8x8x64 hr (fun k => BitVec.toInt
    (![constantI S_ 32 (BitVec.ofNat 32 0), constantI S_ 32 0#32, constantI S_ 32 0#32, constantI S_ 32 0#32] k (Shape.Idx.first h_S_))) a
    = 0 := by
  decide +kernel

variable (s : State Ideal)

theorem b5_at : b5 (F := Ideal) 0 s (ix4 b h i d) = s.main_v13_0 (ix5 0 b h i d) := by
  pointwise [b5, b4, b0, b1, b2, b3]
  refine congrArg s.main_v13_0 ((ix5_inj ..).2 ⟨Fin.ext ?_, Fin.ext ?_, Fin.ext ?_, Fin.ext ?_, Fin.ext ?_⟩)
  all_goals (dsimp only <;> rw [at5] <;> try simp)

theorem b11_at : b11 (F := Ideal) 0 s (ix4 b h i d) = s.main_v13_1 (ix5 0 b h i d) := by
  pointwise [b11, b10, b6, b7, b8, b9]
  refine congrArg s.main_v13_1 ((ix5_inj ..).2 ⟨Fin.ext ?_, Fin.ext ?_, Fin.ext ?_, Fin.ext ?_, Fin.ext ?_⟩)
  all_goals (dsimp only <;> rw [at5] <;> try simp)

theorem b17_at : b17 (F := Ideal) 0 s (ix4 b h i d) = s.main_v13_2 (ix5 0 b h i d) := by
  pointwise [b17, b16, b12, b13, b14, b15]
  refine congrArg s.main_v13_2 ((ix5_inj ..).2 ⟨Fin.ext ?_, Fin.ext ?_, Fin.ext ?_, Fin.ext ?_, Fin.ext ?_⟩)
  all_goals (dsimp only <;> rw [at5] <;> try simp)

theorem b23_at : b23 (F := Ideal) 0 s (ix4 b h i d) = s.main_v13_3 (ix5 0 b h i d) := by
  pointwise [b23, b22, b18, b19, b20, b21]
  refine congrArg s.main_v13_3 ((ix5_inj ..).2 ⟨Fin.ext ?_, Fin.ext ?_, Fin.ext ?_, Fin.ext ?_, Fin.ext ?_⟩)
  all_goals (dsimp only <;> rw [at5] <;> try simp)

theorem b29_at : b29 (F := Ideal) 0 s (ix4 b h i j) = s.main_v13_4 (ix5 0 b h i j) := by
  pointwise [b29, b28, b24, b25, b26, b27]
  refine congrArg s.main_v13_4 ((ix5_inj ..).2 ⟨Fin.ext ?_, Fin.ext ?_, Fin.ext ?_, Fin.ext ?_, Fin.ext ?_⟩)
  all_goals (dsimp only <;> rw [at5'] <;> try simp)

theorem b34_at : b34 (F := Ideal) 0 s (ix3 b h i) = s.main_v13_5 (ix4 0 b h i) := by
  pointwise [b34, b33, b30, b31, b32]
  refine congrArg s.main_v13_5 ((ix4_inj ..).2 ⟨Fin.ext ?_, Fin.ext ?_, Fin.ext ?_, Fin.ext ?_⟩)
  all_goals (dsimp only <;> rw [at4] <;> try simp)

theorem b39_at : b39 (F := Ideal) 0 s (ix4 b h i e)
    = b17 (F := Ideal) 0 s (ix4 b h i e) - ∑ d : Fin 128, b23 (F := Ideal) 0 s (ix4 b h i d) * s.main_v13_7 (ix4 b h d e) := by
  pointwise [b39, b38]

theorem b46_at : b46 (F := Ideal) 0 s (ix4 b h i e)
    = (∑ d : Fin 128, b5 (F := Ideal) 0 s (ix4 b h i d) * Ideal.exp (b37 (F := Ideal) 0 s (ix3 b h i)) * s.main_v13_7 (ix4 b h d e))
      + ∑ j : Fin 64, b29 (F := Ideal) 0 s (ix4 b h i j) * b39 (F := Ideal) 0 s (ix4 b h j e) := by
  pointwise [b46, b45, b44, b43, b42, b41, b40]

theorem b61_at : b61 (F := Ideal) 0 s (ix4 b h d e)
    = s.main_v13_7 (ix4 b h d e) * Ideal.exp (b37 (F := Ideal) 0 s (ix3 b h 63))
      + ∑ i : Fin 64, b11 (F := Ideal) 0 s (ix4 b h i d) * Ideal.exp (b37 (F := Ideal) 0 s (ix3 b h 63) - b37 (F := Ideal) 0 s (ix3 b h i)) * b39 (F := Ideal) 0 s (ix4 b h i e) := by
  pointwise [b61, b60, b59, b58, b57, b56, b55, b54, b53, b52, b51, b50, b49, b48, b47]

theorem b67_at : b67 (F := Ideal) 0 s (ix5 0 b h i e) = b46 (F := Ideal) 0 s (ix4 b h i e) := by
  pointwise [b67, b62, b63, b64, b65, b66]
  rw [dif_pos (by simp only [at5]; refine ⟨⟨le_refl _, by decide⟩, Nat.zero_le _, Nat.zero_le _, Nat.zero_le _, Nat.zero_le _⟩)]
  refine congrArg (b46 0 s) ((ix4_inj ..).2 ⟨Fin.ext ?_, Fin.ext ?_, Fin.ext ?_, Fin.ext ?_⟩)
  all_goals (dsimp only; rw [at5]; simp)

/-- What one position of the running sum's window reads. -/
theorem window3 (X : FVec Ideal S8x8x64 .f32) (b h : Fin 8) (i m : Fin 64) (v : EReal) (hv : v = 0) (p : Fin 3 → ℕ)
    (hp : ∀ a, p a = (![b.val * 1 + 0, h.val * 1 + 0, i.val * 1 + m.val] : Fin 3 → ℕ) a)
    (D : Decidable (∀ a : Fin 3, (![0, 0, 63] : Fin 3 → ℕ) a ≤ p a ∧ p a - (![0, 0, 63] : Fin 3 → ℕ) a < S8x8x64.size a)) :
    @dite EReal _ D (fun hin => X (fun a => ⟨p a - (![0, 0, 63] : Fin 3 → ℕ) a, (hin a).2⟩)) (fun _ => v)
      = if hm : 63 ≤ i.val + m.val then X (ix3 b h (⟨i.val + m.val - 63, by omega⟩ : Fin 64)) else 0 := by
  obtain rfl := funext hp
  by_cases hm : 63 ≤ i.val + m.val
  · rw [dif_pos hm, dif_pos]
    · refine congrArg X ?_
      funext a
      apply Fin.ext
      fin_cases a
      · show b.val * 1 + 0 - 0 = b.val; omega
      · show h.val * 1 + 0 - 0 = h.val; omega
      · show i.val * 1 + m.val - 63 = i.val + m.val - 63; omega
    · intro a
      fin_cases a
      · show 0 ≤ b.val * 1 + 0 ∧ b.val * 1 + 0 - 0 < 8; omega
      · show 0 ≤ h.val * 1 + 0 ∧ h.val * 1 + 0 - 0 < 8; omega
      · show 63 ≤ i.val * 1 + m.val ∧ i.val * 1 + m.val - 63 < 64; omega
  · rw [dif_neg hm, dif_neg, hv]
    intro hall
    have h3 : 63 ≤ i.val * 1 + m.val := (hall 2).1
    omega

theorem b37_at : b37 (F := Ideal) 0 s (ix3 b h i) = csum (fun j => b34 (F := Ideal) 0 s (ix3 b h j)) i := by
  unfold b37 Host.reduceWindowAdd
  show Ideal.hostReduceWindowAdd _ _ _ _ _ _ _ _ = _
  unfold Ideal.hostReduceWindowAdd Host.reduceWindow
  refine foldl_eq_csum (by decide) _ _ _ _ (by pointwise [b36, b35]) fun r m => ?_
  dsimp only
  congr 1
  refine window3 (b34 0 s) b h i m _ ?_ _ ?_ _
  · pointwise [b36, b35]
  · intro a
    fin_cases a
    · exact congrArg (b.val * 1 + ·) (Cert.ReferenceIdeal.Gdn.pos3 m 0)
    · exact congrArg (h.val * 1 + ·) (Cert.ReferenceIdeal.Gdn.pos3 m 1)
    · exact congrArg (i.val * 1 + ·) (Cert.ReferenceIdeal.Gdn.pos3 m 2)

end Trip

section Iter
variable (m : (ℓ : Loc nD τ sig) → Buf (Elt Ideal) ℓ) (c : Dev nD)

/-- Head `h` of sample `b` of the arguments in memory. -/
def headM : Head := headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b h

theorem it_one : it m c 1 = step 0 (it m c 0) := rfl

theorem trip_g : b37 (F := Ideal) 0 (it m c 0) (ix3 b h i) = (headM b h m c).g 0 i := by
  rw [b37_at]
  have e : (headM b h m c).g 0 i = csum (fun j => (m ((c.tc : Thread nD τ).loc main_arg5) : FVec Ideal S8x64x8 .f32) (ix3 b j h)) i := rfl
  rw [e]
  refine congrArg (fun f => csum f i) (funext fun j => ?_)
  rw [b34_at]
  exact g_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _

theorem trip_v : b39 (F := Ideal) 0 (it m c 0) (ix4 b h i e) = (headM b h m c).vnew 0 (headM b h m c).s i e := by
  rw [b39_at]
  refine congrArg₂ (· - ·) ?_ (Finset.sum_congr rfl fun d _ => congrArg (· * _) ?_)
  · rw [b17_at]; exact u_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _
  · rw [b23_at]; exact w_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _

/-- The reference's final states. -/
theorem ref_S : (it m c 1).main_v13_7 (ix4 b h d e) = (headM b h m c).next 0 (headM b h m c).s d e := by
  refine (b61_at b h d e (it m c 0)).trans ?_
  simp only [trip_g, trip_v]
  unfold Cert.GdnSpec.Head.next
  refine congrArg₂ (· + ·) rfl (Finset.sum_congr rfl fun i _ => congrArg (· * _) (congrArg (· * _) ?_))
  rw [b11_at]; exact k_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _

/-- The reference's outputs. -/
theorem ref_O : R_main_v15 (it m c 1) (ix3 b i (ch8 h e)) = (headM b h m c).out 0 (headM b h m c).s i e := by
  have hO : (it m c 1).main_v13_8 (ix5 0 b h i e) = (headM b h m c).out 0 (headM b h m c).s i e := by
    refine (b67_at b h i e (it m c 0)).trans ((b46_at b h i e (it m c 0)).trans ?_)
    simp only [trip_g, trip_v]
    unfold Cert.GdnSpec.Head.out
    refine congrArg₂ (· + ·) (Finset.sum_congr rfl fun d _ => congrArg (· * _) (congrArg (· * _) ?_)) (Finset.sum_congr rfl fun j _ => congrArg (· * _) ?_)
    · rw [b5_at]; exact q_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _
    · rw [b29_at]; exact a_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _ _ _ _
  rw [← hO]
  pointwise [R_main_v15]
  refine congrArg (it m c 1).main_v13_8 ((ix5_inj ..).2 ⟨Fin.ext ?_, Fin.ext ?_, Fin.ext ?_, Fin.ext ?_, Fin.ext ?_⟩)
  all_goals (simp [ch8]; try omega)

/-- The reference's two results. -/
theorem ref_out : R_main_v15 (it m c 1) = outs (fun b h => headM b h m c) := by
  funext y
  obtain ⟨b, i, h, e, rfl⟩ := idx_split y
  rw [outs_at]
  exact ref_O b h i e m c

theorem ref_state : (it m c 1).main_v13_7 = states (fun b h => headM b h m c) := by
  funext y
  rw [eq_ix4 y]
  exact ref_S (y 0) (y 1) (y 2) (y 3) m c
end Iter

end Cert.SampleReferenceIdeal.Gdn
-- ==== Proof.SampleGdn.Claims.lean ====
/- The claims about the gated delta rule's recurrence at the sample's shapes. -/
module

public import proofs.«01_k».proof.Defs
public import proofs.«01_k».proof.Proof.Gen.SampleKernel
public import proofs.«01_k».proof.Proof.Gen.SampleKernelIdeal.Frame
public import proofs.«01_k».proof.Proof.Gen.SampleKernelIdeal.Value
public import proofs.«01_k».proof.Proof.SampleGdn.Value
public import proofs.«01_k».proof.Proof.SampleGdn.RefHead
public import Idealize.ShloMosaic.Adequacy

@[expose] public section

noncomputable section

namespace Cert.Proof.SampleGdn

open Idealize.ShloMosaic Idealize.ShloMosaic.TcCoe Idealize.SL.Sem
open Cert.SampleGdnSpec

attribute [local instance] Cert.SampleKernel.Gen.facts Cert.SampleKernelIdeal.Gen.facts Cert.SampleReferenceIdeal.Gen.facts

/-- The two programs' body tables agree. -/
theorem bodies_eq {F : FTy → Type} [FloatOps F] : Cert.SampleKernelIdeal.defs₀ (F := F) = Cert.SampleKernel.defs₀ (F := F) := by
  unfold Cert.SampleKernel.defs₀ Cert.SampleKernelIdeal.defs₀
  congr 1
  funext a b
  obtain rfl : a = 0 := Fin.ext (by have : a.val < 1 := a.isLt; show a.val = 0; omega)
  rfl

/-- The two programs' tables agree. -/
theorem defs_eq {F : FTy → Type} [FloatOps F] : Cert.SampleKernelIdeal.defs (F := F) = Cert.SampleKernel.defs (F := F) :=
  congrArg (Pipeline.defs (Cert.SampleKernelIdeal.pcfgs (F := F))) bodies_eq

/-- The kernel at bit patterns keeps its arguments: the two programs have the same text. -/
theorem frame_kernel : Cert.quiescent_SampleKernel := fun m ρ _ => by
  have h := Cert.SampleKernelIdeal.Gen.frame (F := Bits) m ρ
  rw [defs_eq] at h
  exact h

/-- The kernel at extended reals keeps its arguments. -/
theorem frame_ideal : Cert.quiescent_SampleKernelIdeal := fun m ρ _ => Cert.SampleKernelIdeal.Gen.frame (F := Ideal) m ρ

/-- The reference keeps its arguments; it declares no semaphore. -/
theorem frame_ref : Cert.quiescent_SampleReferenceIdeal := fun m ρ _ =>
  (θ_run Cert.SampleReferenceIdeal.defs _ _).mono
    (fun r h => ⟨fun c => (h c).2.2, Idealize.ShloMosaic.sem_eq_zero_of_no_sems (by decide) r.2⟩)
    (Cert.SampleReferenceIdeal.Gdn.run (F := Ideal) m ρ)

/-- From memories that agree on the arguments the heads are the same. -/
theorem heads_eq (m : (ℓ : Loc Cert.SampleKernelIdeal.nD Cert.SampleKernelIdeal.τ Cert.SampleKernelIdeal.sig) → Buf (Elt Ideal) ℓ)
    (m' : (ℓ : Loc Cert.SampleReferenceIdeal.nD Cert.SampleReferenceIdeal.τ Cert.SampleReferenceIdeal.sig) → Buf (Elt Ideal) ℓ) (c : Dev Cert.SampleKernelIdeal.nD)
    (h0 : m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0))
    (h1 : m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1))
    (h2 : m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2))
    (h3 : m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3))
    (h4 : m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4))
    (h5 : m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5))
    (h6 : m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6)) :
    (fun b h => Cert.SampleReferenceIdeal.Gdn.headM b h m' c) = Cert.SampleKernelIdeal.Gdn.headM m c := by
  funext b h
  unfold Cert.SampleReferenceIdeal.Gdn.headM
  rw [h0, h1, h2, h3, h4, h5, h6]
  rfl

/-- The kernel's results are the reference's: the outputs of every sample's chunk and the states after it. -/
theorem value : Cert.algebraic_SampleKernelIdeal_SampleReferenceIdeal := fun m ρ m' ρ' _ hag =>
  ⟨fun c => outs (Cert.SampleKernelIdeal.Gdn.headM m c), fun c => states (Cert.SampleKernelIdeal.Gdn.headM m c),
    (θ_run Cert.SampleKernelIdeal.defs _ _).mono
      (fun r h c => ⟨(h c).1.trans (Cert.SampleKernelIdeal.Gdn.arr8 m c), (h c).2.1.trans (Cert.SampleKernelIdeal.Gdn.arr9 m c), (h c).2.2⟩)
      (Cert.SampleKernelIdeal.Value.run_blocks (F := Ideal) m ρ),
    (θ_run Cert.SampleReferenceIdeal.defs _ _).mono
      (fun r h c => by
        obtain ⟨a0, a1, a2, a3, a4, a5, a6⟩ := hag c
        have e := heads_eq m m' c a0 a1 a2 a3 a4 a5 a6
        exact ⟨(h c).1.trans ((Cert.SampleReferenceIdeal.Gdn.ref_out m' c).trans (congrArg outs e)),
          (h c).2.1.trans ((Cert.SampleReferenceIdeal.Gdn.ref_state m' c).trans (congrArg states e)), (h c).2.2⟩)
      (Cert.SampleReferenceIdeal.Gdn.run (F := Ideal) m' ρ')⟩

end Cert.Proof.SampleGdn

end
-- ==== Proof.lean ====
/- The claims of `Cert.Claim`, put together. -/
module

public import proofs.«01_k».proof.Defs
public import proofs.«01_k».proof.Proof.Gdn.Claims
public import proofs.«01_k».proof.Proof.Proj.Claims
public import proofs.«01_k».proof.Proof.Merge.Claims
public import proofs.«01_k».proof.Proof.Out.Claims
public import proofs.«01_k».proof.Proof.MoeUp.Claims
public import proofs.«01_k».proof.Proof.MoeDown.Claims
public import proofs.«01_k».proof.Proof.SampleProj.Claims
public import proofs.«01_k».proof.Proof.SampleGdn.Claims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Proj.Gen.facts, Cert.ProjIdeal.Gen.facts, Cert.ProjReferenceIdeal.Gen.facts,
    Cert.Merge.Gen.facts, Cert.MergeIdeal.Gen.facts, Cert.MergeReferenceIdeal.Gen.facts,
    Cert.Out.Gen.facts, Cert.OutIdeal.Gen.facts, Cert.OutReferenceIdeal.Gen.facts,
    Cert.MoeUp.Gen.facts, Cert.MoeUpIdeal.Gen.facts, Cert.MoeUpReferenceIdeal.Gen.facts,
    Cert.MoeDown.Gen.facts, Cert.MoeDownIdeal.Gen.facts, Cert.MoeDownReferenceIdeal.Gen.facts,
    Cert.SampleProj.Gen.facts, Cert.SampleProjIdeal.Gen.facts, Cert.SampleProjReferenceIdeal.Gen.facts,
    Cert.SampleKernel.Gen.facts, Cert.SampleKernelIdeal.Gen.facts, Cert.SampleReferenceIdeal.Gen.facts,
    Cert.Pre_up_blocks.Gen.facts, Cert.Pre_down_blocks.Gen.facts,
    Gdn.frame_kernel, Gdn.frame_ideal, Gdn.frame_ref, Proj.frame_kernel, Proj.frame_ideal, Proj.frame_ref,
    Merge.frame_kernel, Merge.frame_ideal, Merge.frame_ref, Out.frame_kernel, Out.frame_ideal, Out.frame_ref,
    MoeUp.frame_kernel, MoeUp.frame_ideal, MoeUp.frame_ref, MoeDown.frame_kernel, MoeDown.frame_ideal, MoeDown.frame_ref,
    SampleProj.frame_kernel, SampleProj.frame_ideal, SampleProj.frame_ref,
    SampleGdn.frame_kernel, SampleGdn.frame_ideal, SampleGdn.frame_ref,
    trivial, Gdn.value, trivial, Proj.value, trivial, Merge.value, trivial, Out.value,
    trivial, MoeUp.value, trivial, MoeDown.value, trivial, SampleProj.value, trivial, SampleGdn.value⟩

end Cert.Proof

end
